-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "neg" .f32 0xF149F2CA#32 ⊥
  ∧ IdealRules.named_const.Statement Cert.Kernel2Ideal.κ "log2e" .f32 0x3FB8AA3B#32 (((Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_v39) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_v4) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1_0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v42) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_3)) (v2 : (c : Dev Cert.Kernel10Ideal.nD) → Buf (Elt Ideal) ((c.tc : Thread Cert.Kernel10Ideal.nD Cert.Kernel10Ideal.τ).loc Cert.Kernel10Ideal.main_v3_4)) (v3 : (c : Dev Cert.Kernel10Ideal.nD) → Buf (Elt Ideal) ((c.tc : Thread Cert.Kernel10Ideal.nD Cert.Kernel10Ideal.τ).loc Cert.Kernel10Ideal.main_v3_7)) (v4 : (c : Dev Cert.Kernel10Ideal.nD) → Buf (Elt Ideal) ((c.tc : Thread Cert.Kernel10Ideal.nD Cert.Kernel10Ideal.τ).loc Cert.Kernel10Ideal.main_v3_8)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_3) = v1 c
          ∧ r.2.mem ((c.tc : Thread Cert.Kernel10Ideal.nD Cert.Kernel10Ideal.τ).loc Cert.Kernel10Ideal.main_v3_4) = v2 c
          ∧ r.2.mem ((c.tc : Thread Cert.Kernel10Ideal.nD Cert.Kernel10Ideal.τ).loc Cert.Kernel10Ideal.main_v3_7) = v3 c
          ∧ r.2.mem ((c.tc : Thread Cert.Kernel10Ideal.nD Cert.Kernel10Ideal.τ).loc Cert.Kernel10Ideal.main_v3_8) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v60) = v0 c
          ∧ r.2.mem ((c.tc : Thread Cert.Reference10Ideal.nD Cert.Reference10Ideal.τ).loc Cert.Reference10Ideal.main_v70) = v1 c
          ∧ r.2.mem ((c.tc : Thread Cert.Reference10Ideal.nD Cert.Reference10Ideal.τ).loc Cert.Reference10Ideal.main_v71) = v2 c
          ∧ r.2.mem ((c.tc : Thread Cert.Reference10Ideal.nD Cert.Reference10Ideal.τ).loc Cert.Reference10Ideal.main_v65) = v3 c
          ∧ r.2.mem ((c.tc : Thread Cert.Reference10Ideal.nD Cert.Reference10Ideal.τ).loc Cert.Reference10Ideal.main_v72) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S8192x8x192 : Shape := ⟨3, ![8192, 8, 192]⟩
abbrev S8192x8x128 : Shape := ⟨3, ![8192, 8, 128]⟩
abbrev S_ : Shape := ⟨0, ![]⟩

class Facts : Prop where
  bcast_S_S8192x8x192 : S_.BroadcastsInDim S8192x8x192 (![] : Fin 0 → Fin S8192x8x192.rank)
  bcast_S_S8192x8x128 : S_.BroadcastsInDim S8192x8x128 (![] : Fin 0 → Fin S8192x8x128.rank)

variable [Facts]

def fn {F : FTy → Type} [FloatOps F] (main_arg0 : FVec F S8192x8x192 .f32) (main_arg1 : FVec F S8192x8x192 .f32) (main_arg2 : FVec F S8192x8x128 .f32) (main_arg3 : FVec F S8192x8x128 .f32) : IVec S8192x8x192 1 × IVec S8192x8x192 1 × IVec S8192x8x128 1 × IVec S8192x8x128 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_v3 : FVec F S8192x8x192 .f32 := Host.absf main_arg1
  let main_cst_0 : FVec F S_ .f32 := constant S_ .f32 0x7F800000#32
  let main_v4 : FVec F S8192x8x192 .f32 := broadcastInDim S8192x8x192 ![] bcast_S_S8192x8x192 main_cst_0
  let main_v5 : IVec S8192x8x192 1 := cmpf .olt main_v3 main_v4
  let main_v6 : FVec F S8192x8x128 .f32 := Host.absf main_arg2
  let main_cst_1 : FVec F S_ .f32 := constant S_ .f32 0x7F800000#32
  let main_v7 : FVec F S8192x8x128 .f32 := broadcastInDim S8192x8x128 ![] bcast_S_S8192x8x128 main_cst_1
  let main_v8 : IVec S8192x8x128 1 := cmpf .olt main_v6 main_v7
  let main_v9 : FVec F S8192x8x128 .f32 := Host.absf main_arg3
  let main_cst_2 : FVec F S_ .f32 := constant S_ .f32 0x7F800000#32
  let main_v10 : FVec F S8192x8x128 .f32 := broadcastInDim S8192x8x128 ![] bcast_S_S8192x8x128 main_cst_2
  let main_v11 : IVec S8192x8x128 1 := cmpf .olt main_v9 main_v10
  (main_v2, main_v5, main_v8, main_v11)
-- ==== Pre_finite2.lean ====
abbrev S8192x8x192 : Shape := ⟨3, ![8192, 8, 192]⟩
abbrev S8192x8x128 : Shape := ⟨3, ![8192, 8, 128]⟩
abbrev S_ : Shape := ⟨0, ![]⟩

class Facts : Prop where
  bcast_S_S8192x8x192 : S_.BroadcastsInDim S8192x8x192 (![] : Fin 0 → Fin S8192x8x192.rank)
  bcast_S_S8192x8x128 : S_.BroadcastsInDim S8192x8x128 (![] : Fin 0 → Fin S8192x8x128.rank)

variable [Facts]

def fn {F : FTy → Type} [FloatOps F] (main_arg0 : FVec F S8192x8x192 .f32) (main_arg1 : FVec F S8192x8x192 .f32) (main_arg2 : FVec F S8192x8x128 .f32) : IVec S8192x8x192 1 × IVec S8192x8x192 1 × IVec S8192x8x128 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_v3 : FVec F S8192x8x192 .f32 := Host.absf main_arg1
  let main_cst_0 : FVec F S_ .f32 := constant S_ .f32 0x7F800000#32
  let main_v4 : FVec F S8192x8x192 .f32 := broadcastInDim S8192x8x192 ![] bcast_S_S8192x8x192 main_cst_0
  let main_v5 : IVec S8192x8x192 1 := cmpf .olt main_v3 main_v4
  let main_v6 : FVec F S8192x8x128 .f32 := Host.absf main_arg2
  let main_cst_1 : FVec F S_ .f32 := constant S_ .f32 0x7F800000#32
  let main_v7 : FVec F S8192x8x128 .f32 := broadcastInDim S8192x8x128 ![] bcast_S_S8192x8x128 main_cst_1
  let main_v8 : IVec S8192x8x128 1 := cmpf .olt main_v6 main_v7
  (main_v2, main_v5, main_v8)
-- ==== Kernel.lean ====
abbrev S8192x8x192 : Shape := ⟨3, ![8192, 8, 192]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x8 : Shape := ⟨2, ![8192, 8]⟩
abbrev S8x8192x192 : Shape := ⟨3, ![8, 8192, 192]⟩
abbrev S8x8192x256 : Shape := ⟨3, ![8, 8192, 256]⟩
abbrev S8x8192x128 : Shape := ⟨3, ![8, 8192, 128]⟩
abbrev S8192x1024 : Shape := ⟨2, ![8192, 1024]⟩
abbrev S8x8x1024 : Shape := ⟨3, ![8, 8, 1024]⟩
abbrev S1x8192x256 : Shape := ⟨3, ![1, 8192, 256]⟩
abbrev S1x2048x256 : Shape := ⟨3, ![1, 2048, 256]⟩
abbrev S1x2048x128 : Shape := ⟨3, ![1, 2048, 128]⟩
abbrev S8192x128 : Shape := ⟨2, ![8192, 128]⟩
abbrev S1x8x1024 : Shape := ⟨3, ![1, 8, 1024]⟩
abbrev S8192x256 : Shape := ⟨2, ![8192, 256]⟩
abbrev S1x1024x256 : Shape := ⟨3, ![1, 1024, 256]⟩
abbrev S1024x256 : Shape := ⟨2, ![1024, 256]⟩
abbrev S1x1024x128 : Shape := ⟨3, ![1, 1024, 128]⟩
abbrev S1024x128 : Shape := ⟨2, ![1024, 128]⟩
abbrev S1x1x1024 : Shape := ⟨3, ![1, 1, 1024]⟩
abbrev S1x1024 : Shape := ⟨2, ![1, 1024]⟩
abbrev S512x256 : Shape := ⟨2, ![512, 256]⟩
abbrev S512x128 : Shape := ⟨2, ![512, 128]⟩
abbrev S1x512x256 : Shape := ⟨3, ![1, 512, 256]⟩
abbrev S1x512 : Shape := ⟨2, ![1, 512]⟩
abbrev S512x512 : Shape := ⟨2, ![512, 512]⟩
abbrev S1024x1024 : Shape := ⟨2, ![1024, 1024]⟩

abbrev nBuf : Space → Nat
  | .hbm => 70
  | .vmem => 19
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x8x128, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8x8192x1, .f32⟩
  | .hbm, ⟨34, _⟩ => ⟨S8x8192x1, .f32⟩
  | .hbm, ⟨35, _⟩ => ⟨S_, .f32⟩
  | .hbm, ⟨36, _⟩ => ⟨S8x8192x1, .f32⟩
  | .hbm, ⟨37, _⟩ => ⟨S8x8192x1, .f32⟩
  | .hbm, ⟨38, _⟩ => ⟨S8x8192x8192, .f32⟩
  | .hbm, ⟨39, _⟩ => ⟨S8x8192x8192, .f32⟩
  | .hbm, ⟨40, _⟩ => ⟨S8x128x8192, .f32⟩
  | .hbm, ⟨41, _⟩ => ⟨S8192x8x128, .f32⟩
  | .hbm, ⟨42, _⟩ => ⟨S8192x8x128, .f32⟩
  | .hbm, ⟨43, _⟩ => ⟨S_, .f32⟩
  | .hbm, ⟨44, _⟩ => ⟨S8192x8, .f32⟩
  | .hbm, ⟨45, _⟩ => ⟨S8x8192, .f32⟩
  | .hbm, ⟨46, _⟩ => ⟨S8x8192x192, .f32⟩
  | .hbm, ⟨47, _⟩ => ⟨S_, .i32⟩
  | .hbm, ⟨48, _⟩ => ⟨S_, .f32⟩
  | .hbm, ⟨49, _⟩ => ⟨S8x8192x256, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S8x8192x256, .f32⟩
  | .hbm, ⟨54, _⟩ => ⟨S8x8192x256, .f32⟩
  | .hbm, ⟨55, _⟩ => ⟨S8x8192x256, .bf16⟩
  | .hbm, ⟨56, _⟩ => ⟨S8x8192x192, .f32⟩
  | .hbm, ⟨57, _⟩ => ⟨S_, .i32⟩
  | .hbm, ⟨58, _⟩ => ⟨S_, .f32⟩
  | .hbm, ⟨59, _⟩ => ⟨S8x8192x256, .f32⟩
  | .hbm, ⟨60, _⟩ => ⟨S8x8192x256, .bf16⟩
  | .hbm, ⟨61, _⟩ => ⟨S8x8192x128, .f32⟩
  | .hbm, ⟨62, _⟩ => ⟨S8x8192x128, .bf16⟩
  | .hbm, ⟨63, _⟩ => ⟨S8192x1024, .f32⟩
  | .hbm, ⟨64, _⟩ => ⟨S8192x1024, .bf16⟩
  | .hbm, ⟨65, _⟩ => ⟨S8x8x1024, .f32⟩
  | .hbm, ⟨66, _⟩ => ⟨S8x8x1024, .f32⟩
  | .hbm, ⟨67, _⟩ => ⟨S8x8192x256, .bf16⟩
  | .hbm, ⟨68, _⟩ => ⟨S8x8192x256, .bf16⟩
  | .hbm, ⟨69, _⟩ => ⟨S8x8192x128, .bf16⟩
  | .local _ .vmem, ⟨0, _⟩ => ⟨S1x8192x256, .bf16⟩
  | .local _ .vmem, ⟨1, _⟩ => ⟨S1x8192x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x128, .bf16⟩
  | .local _ .vmem, ⟨5, _⟩ => ⟨S1x2048x128, .bf16⟩
  | .local _ .vmem, ⟨6, _⟩ => ⟨S8192x128, .bf16⟩
  | .local _ .vmem, ⟨7, _⟩ => ⟨S8192x128, .bf16⟩
  | .local _ .vmem, ⟨8, _⟩ => ⟨S1x8x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x8192x256, .bf16⟩
  | .local _ .vmem, ⟨13, _⟩ => ⟨S1x8192x256, .bf16⟩
  | .local _ .vmem, ⟨14, _⟩ => ⟨S1x2048x256, .bf16⟩
  | .local _ .vmem, ⟨15, _⟩ => ⟨S1x2048x256, .bf16⟩
  | .local _ .vmem, ⟨16, _⟩ => ⟨S1x2048x128, .bf16⟩
  | .local _ .vmem, ⟨17, _⟩ => ⟨S1x2048x128, .bf16⟩
  | .local _ .vmem, ⟨18, _⟩ => ⟨S8192x256, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c : Ref sig .tc := ⟨.hbm, 47, rfl⟩
abbrev main_call1_v0 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_7 : Ref sig .tc := ⟨.hbm, 57, rfl⟩
abbrev main_call2_v0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48_0 : Ref sig .tc := ⟨.hbm, 67, rfl⟩
abbrev main_v48_1 : Ref sig .tc := ⟨.hbm, 68, rfl⟩
abbrev main_v48_2 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def k0_off1 (i : grid0.Coords) (c1_i32 : BitVec 32) : Fin 3 → Nat :=
  let c0_5 : Index := 0#32
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let v5 : BitVec 32 := Scalar.addi v4 c1_i32
  let v10 : Index := Scalar.indexCast v5
  let c0_6 : Index := 0#32
  ![0, v10.toNat, 0]
def k0_mult1 (i : grid0.Coords) : BitVec 32 :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1024_i32 : BitVec 32 := 1024#32
  let v16 : BitVec 32 := Scalar.muli v5 c1024_i32
  let c0_i32_9 : BitVec 32 := 0#32
  let v17 : BitVec 32 := Scalar.addi v16 c0_i32_9
  v17
def k0_off2 (i : grid0.Coords) (c1_i32 : BitVec 32) (c0_i32_9 : BitVec 32) : Fin 3 → Nat :=
  let c0_10 : Index := 0#32
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let v5 : BitVec 32 := Scalar.addi v4 c1_i32
  let c1024_i32 : BitVec 32 := 1024#32
  let v16 : BitVec 32 := Scalar.muli v5 c1024_i32
  let v17 : BitVec 32 := Scalar.addi v16 c0_i32_9
  let v18 : BitVec 32 := v17
  let v21 : Index := Scalar.indexCast v18
  let c0_11 : Index := 0#32
  ![0, v21.toNat, 0]
def k0_off3 (i : grid0.Coords) (c1_i32 : BitVec 32) (c0_i32_9 : BitVec 32) : Fin 2 → Nat :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let v5 : BitVec 32 := Scalar.addi v4 c1_i32
  let c1024_i32 : BitVec 32 := 1024#32
  let v16 : BitVec 32 := Scalar.muli v5 c1024_i32
  let v17 : BitVec 32 := Scalar.addi v16 c0_i32_9
  let v18 : BitVec 32 := v17
  let v24 : Index := Scalar.indexCast v18
  let c0_12 : Index := 0#32
  ![v24.toNat, 0]
def k0_off4 (i : grid0.Coords) (c1_i32 : BitVec 32) (c0_i32_9 : BitVec 32) : Fin 2 → Nat :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let v5 : BitVec 32 := Scalar.addi v4 c1_i32
  let c1024_i32 : BitVec 32 := 1024#32
  let v16 : BitVec 32 := Scalar.muli v5 c1024_i32
  let v17 : BitVec 32 := Scalar.addi v16 c0_i32_9
  let v18 : BitVec 32 := v17
  let v47 : Index := Scalar.indexCast v18
  let c0_18 : Index := 0#32
  ![v47.toNat, 0]
def k0_mult2 (i : grid0.Coords) : BitVec 32 :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1024_i32_20 : BitVec 32 := 1024#32
  let v54 : BitVec 32 := Scalar.muli v5 c1024_i32_20
  let c512_i32 : BitVec 32 := 512#32
  let v55 : BitVec 32 := Scalar.addi v54 c512_i32
  v55
def k0_mult3 (i : grid0.Coords) : BitVec 32 :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1024_i32_31 : BitVec 32 := 1024#32
  let v87 : BitVec 32 := Scalar.muli v5 c1024_i32_31
  let c512_i32_32 : BitVec 32 := 512#32
  let v88 : BitVec 32 := Scalar.addi v87 c512_i32_32
  v88
@[reducible] def k0_t1_loop (i : grid0.Coords) : Scf.Loop 32 :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c8_i32 : BitVec 32 := 8#32
  let v130 : BitVec 32 := Scalar.subi c8_i32 v129
  let c1_i32_45 : BitVec 32 := 1#32
  let v132 : BitVec 32 := Scalar.divsi v130 c1_i32_45
  let v133 : BitVec 32 := Scalar.muli v132 c1_i32_45
  let v134 : BitVec 32 := Scalar.addi v129 v133
  let c1_i32_46 : BitVec 32 := 1#32
  ⟨v129, v134, c1_i32_46⟩
def k0_mult4 (i : grid0.Coords) (k0_t1 : Fin (k0_t1_loop i).trips) : BitVec 32 :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c1_i32_46 : BitVec 32 := 1#32
  let arg12 : BitVec 32 := Scf.iv v129 c1_i32_46 k0_t1
  let c1024_i32_119 : BitVec 32 := 1024#32
  let v293 : BitVec 32 := Scalar.muli arg12 c1024_i32_119
  v293
def k0_off5 (i : grid0.Coords) (k0_t1 : Fin (k0_t1_loop i).trips) : Fin 3 → Nat :=
  let c0_120 : Index := 0#32
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c1_i32_46 : BitVec 32 := 1#32
  let arg12 : BitVec 32 := Scf.iv v129 c1_i32_46 k0_t1
  let c1024_i32_119 : BitVec 32 := 1024#32
  let v293 : BitVec 32 := Scalar.muli arg12 c1024_i32_119
  let v294 : BitVec 32 := v293
  let v295 : Index := Scalar.indexCast v294
  let c0_121 : Index := 0#32
  ![0, v295.toNat, 0]
def k0_off6 (i : grid0.Coords) (k0_t1 : Fin (k0_t1_loop i).trips) : Fin 2 → Nat :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c1_i32_46 : BitVec 32 := 1#32
  let arg12 : BitVec 32 := Scf.iv v129 c1_i32_46 k0_t1
  let c1024_i32_119 : BitVec 32 := 1024#32
  let v293 : BitVec 32 := Scalar.muli arg12 c1024_i32_119
  let v294 : BitVec 32 := v293
  let v298 : Index := Scalar.indexCast v294
  let c0_122 : Index := 0#32
  ![v298.toNat, 0]
def k0_off7 (i : grid0.Coords) (k0_t1 : Fin (k0_t1_loop i).trips) : Fin 3 → Nat :=
  let c0_123 : Index := 0#32
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c1_i32_46 : BitVec 32 := 1#32
  let arg12 : BitVec 32 := Scf.iv v129 c1_i32_46 k0_t1
  let v301 : Index := Scalar.indexCast arg12
  let c0_124 : Index := 0#32
  ![0, v301.toNat, 0]
def k0_off8 (i : grid0.Coords) (k0_t1 : Fin (k0_t1_loop i).trips) : Fin 2 → Nat :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c1_i32_46 : BitVec 32 := 1#32
  let arg12 : BitVec 32 := Scf.iv v129 c1_i32_46 k0_t1
  let c1024_i32_119 : BitVec 32 := 1024#32
  let v293 : BitVec 32 := Scalar.muli arg12 c1024_i32_119
  let v294 : BitVec 32 := v293
  let v320 : Index := Scalar.indexCast v294
  let c0_132 : Index := 0#32
  ![v320.toNat, 0]
@[reducible] def k0_t2_loop (i : grid0.Coords) : Scf.Loop 32 :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c8_i32 : BitVec 32 := 8#32
  let v130 : BitVec 32 := Scalar.subi c8_i32 v129
  let c1_i32_45 : BitVec 32 := 1#32
  let v132 : BitVec 32 := Scalar.divsi v130 c1_i32_45
  let v133 : BitVec 32 := Scalar.muli v132 c1_i32_45
  let v134 : BitVec 32 := Scalar.addi v129 v133
  let v131 : BitVec 32 := Scalar.addi v129 v130
  let c1_i32_47 : BitVec 32 := 1#32
  ⟨v134, v131, c1_i32_47⟩
def k0_mult5 (i : grid0.Coords) (k0_t2 : Fin (k0_t2_loop i).trips) : BitVec 32 :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c8_i32 : BitVec 32 := 8#32
  let v130 : BitVec 32 := Scalar.subi c8_i32 v129
  let c1_i32_45 : BitVec 32 := 1#32
  let v132 : BitVec 32 := Scalar.divsi v130 c1_i32_45
  let v133 : BitVec 32 := Scalar.muli v132 c1_i32_45
  let v134 : BitVec 32 := Scalar.addi v129 v133
  let c1_i32_47 : BitVec 32 := 1#32
  let arg12 : BitVec 32 := Scf.iv v134 c1_i32_47 k0_t2
  let c1024_i32_119 : BitVec 32 := 1024#32
  let v293 : BitVec 32 := Scalar.muli arg12 c1024_i32_119
  v293
def k0_off9 (i : grid0.Coords) (k0_t2 : Fin (k0_t2_loop i).trips) : Fin 3 → Nat :=
  let c0_120 : Index := 0#32
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c8_i32 : BitVec 32 := 8#32
  let v130 : BitVec 32 := Scalar.subi c8_i32 v129
  let c1_i32_45 : BitVec 32 := 1#32
  let v132 : BitVec 32 := Scalar.divsi v130 c1_i32_45
  let v133 : BitVec 32 := Scalar.muli v132 c1_i32_45
  let v134 : BitVec 32 := Scalar.addi v129 v133
  let c1_i32_47 : BitVec 32 := 1#32
  let arg12 : BitVec 32 := Scf.iv v134 c1_i32_47 k0_t2
  let c1024_i32_119 : BitVec 32 := 1024#32
  let v293 : BitVec 32 := Scalar.muli arg12 c1024_i32_119
  let v294 : BitVec 32 := v293
  let v295 : Index := Scalar.indexCast v294
  let c0_121 : Index := 0#32
  ![0, v295.toNat, 0]
def k0_off10 (i : grid0.Coords) (k0_t2 : Fin (k0_t2_loop i).trips) : Fin 2 → Nat :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c8_i32 : BitVec 32 := 8#32
  let v130 : BitVec 32 := Scalar.subi c8_i32 v129
  let c1_i32_45 : BitVec 32 := 1#32
  let v132 : BitVec 32 := Scalar.divsi v130 c1_i32_45
  let v133 : BitVec 32 := Scalar.muli v132 c1_i32_45
  let v134 : BitVec 32 := Scalar.addi v129 v133
  let c1_i32_47 : BitVec 32 := 1#32
  let arg12 : BitVec 32 := Scf.iv v134 c1_i32_47 k0_t2
  let c1024_i32_119 : BitVec 32 := 1024#32
  let v293 : BitVec 32 := Scalar.muli arg12 c1024_i32_119
  let v294 : BitVec 32 := v293
  let v298 : Index := Scalar.indexCast v294
  let c0_122 : Index := 0#32
  ![v298.toNat, 0]
def k0_off11 (i : grid0.Coords) (k0_t2 : Fin (k0_t2_loop i).trips) : Fin 3 → Nat :=
  let c0_123 : Index := 0#32
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c8_i32 : BitVec 32 := 8#32
  let v130 : BitVec 32 := Scalar.subi c8_i32 v129
  let c1_i32_45 : BitVec 32 := 1#32
  let v132 : BitVec 32 := Scalar.divsi v130 c1_i32_45
  let v133 : BitVec 32 := Scalar.muli v132 c1_i32_45
  let v134 : BitVec 32 := Scalar.addi v129 v133
  let c1_i32_47 : BitVec 32 := 1#32
  let arg12 : BitVec 32 := Scf.iv v134 c1_i32_47 k0_t2
  let v301 : Index := Scalar.indexCast arg12
  let c0_124 : Index := 0#32
  ![0, v301.toNat, 0]
def k0_off12 (i : grid0.Coords) (k0_t2 : Fin (k0_t2_loop i).trips) : Fin 2 → Nat :=
  let c3_i32 : BitVec 32 := 3#32
  let arg1 : BitVec 32 := BitVec.ofNat 32 (i 1).val
  let v0 : BitVec 32 := Scalar.subi c3_i32 arg1
  let c2_i32 : BitVec 32 := 2#32
  let v4 : BitVec 32 := Scalar.muli v0 c2_i32
  let c1_i32 : BitVec 32 := 1#32
  let v5 : BitVec 32 := Scalar.addi v4 c1_i32
  let c1_i32_44 : BitVec 32 := 1#32
  let v129 : BitVec 32 := Scalar.addi v5 c1_i32_44
  let c8_i32 : BitVec 32 := 8#32
  let v130 : BitVec 32 := Scalar.subi c8_i32 v129
  let c1_i32_45 : BitVec 32 := 1#32
  let v132 : BitVec 32 := Scalar.divsi v130 c1_i32_45
  let v133 : BitVec 32 := Scalar.muli v132 c1_i32_45
  let v134 : BitVec 32 := Scalar.addi v129 v133
  let c1_i32_47 : BitVec 32 := 1#32
  let arg12 : BitVec 32 := Scf.iv v134 c1_i32_47 k0_t2
  let c1024_i32_119 : BitVec 32 := 1024#32
  let v293 : BitVec 32 := Scalar.muli arg12 c1024_i32_119
  let v294 : BitVec 32 := v293
  let v320 : Index := Scalar.indexCast v294
  let c0_132 : Index := 0#32
  ![v320.toNat, 0]
def k0_mult6 (i : grid0.Coords) : BitVec 32 :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1024_i32_67 : BitVec 32 := 1024#32
  let v159 : BitVec 32 := Scalar.muli v148 c1024_i32_67
  let c0_i32_68 : BitVec 32 := 0#32
  let v160 : BitVec 32 := Scalar.addi v159 c0_i32_68
  v160
def k0_mult7 (i : grid0.Coords) : BitVec 32 :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1024_i32_80 : BitVec 32 := 1024#32
  let v197 : BitVec 32 := Scalar.muli v148 c1024_i32_80
  let c512_i32_81 : BitVec 32 := 512#32
  let v198 : BitVec 32 := Scalar.addi v197 c512_i32_81
  v198
def k0_mult8 (i : grid0.Coords) : BitVec 32 :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1024_i32_92 : BitVec 32 := 1024#32
  let v230 : BitVec 32 := Scalar.muli v148 c1024_i32_92
  let c512_i32_93 : BitVec 32 := 512#32
  let v231 : BitVec 32 := Scalar.addi v230 c512_i32_93
  v231
@[reducible] def k0_t3_loop (i : grid0.Coords) : Scf.Loop 32 :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c8_i32_106 : BitVec 32 := 8#32
  let v273 : BitVec 32 := Scalar.subi c8_i32_106 v272
  let c1_i32_107 : BitVec 32 := 1#32
  let v275 : BitVec 32 := Scalar.divsi v273 c1_i32_107
  let v276 : BitVec 32 := Scalar.muli v275 c1_i32_107
  let v277 : BitVec 32 := Scalar.addi v272 v276
  let c1_i32_108 : BitVec 32 := 1#32
  ⟨v272, v277, c1_i32_108⟩
def k0_mult9 (i : grid0.Coords) (k0_t3 : Fin (k0_t3_loop i).trips) : BitVec 32 :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c1_i32_108 : BitVec 32 := 1#32
  let arg12 : BitVec 32 := Scf.iv v272 c1_i32_108 k0_t3
  let c1024_i32_119 : BitVec 32 := 1024#32
  let v293 : BitVec 32 := Scalar.muli arg12 c1024_i32_119
  v293
def k0_off13 (i : grid0.Coords) (k0_t3 : Fin (k0_t3_loop i).trips) : Fin 3 → Nat :=
  let c0_120 : Index := 0#32
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c1_i32_108 : BitVec 32 := 1#32
  let arg12 : BitVec 32 := Scf.iv v272 c1_i32_108 k0_t3
  let c1024_i32_119 : BitVec 32 := 1024#32
  let v293 : BitVec 32 := Scalar.muli arg12 c1024_i32_119
  let v294 : BitVec 32 := v293
  let v295 : Index := Scalar.indexCast v294
  let c0_121 : Index := 0#32
  ![0, v295.toNat, 0]
def k0_off14 (i : grid0.Coords) (k0_t3 : Fin (k0_t3_loop i).trips) : Fin 2 → Nat :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c1_i32_108 : BitVec 32 := 1#32
  let arg12 : BitVec 32 := Scf.iv v272 c1_i32_108 k0_t3
  let c1024_i32_119 : BitVec 32 := 1024#32
  let v293 : BitVec 32 := Scalar.muli arg12 c1024_i32_119
  let v294 : BitVec 32 := v293
  let v298 : Index := Scalar.indexCast v294
  let c0_122 : Index := 0#32
  ![v298.toNat, 0]
def k0_off15 (i : grid0.Coords) (k0_t3 : Fin (k0_t3_loop i).trips) : Fin 3 → Nat :=
  let c0_123 : Index := 0#32
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c1_i32_108 : BitVec 32 := 1#32
  let arg12 : BitVec 32 := Scf.iv v272 c1_i32_108 k0_t3
  let v301 : Index := Scalar.indexCast arg12
  let c0_124 : Index := 0#32
  ![0, v301.toNat, 0]
def k0_off16 (i : grid0.Coords) (k0_t3 : Fin (k0_t3_loop i).trips) : Fin 2 → Nat :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c1_i32_108 : BitVec 32 := 1#32
  let arg12 : BitVec 32 := Scf.iv v272 c1_i32_108 k0_t3
  let c1024_i32_119 : BitVec 32 := 1024#32
  let v293 : BitVec 32 := Scalar.muli arg12 c1024_i32_119
  let v294 : BitVec 32 := v293
  let v320 : Index := Scalar.indexCast v294
  let c0_132 : Index := 0#32
  ![v320.toNat, 0]
@[reducible] def k0_t4_loop (i : grid0.Coords) : Scf.Loop 32 :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c8_i32_106 : BitVec 32 := 8#32
  let v273 : BitVec 32 := Scalar.subi c8_i32_106 v272
  let c1_i32_107 : BitVec 32 := 1#32
  let v275 : BitVec 32 := Scalar.divsi v273 c1_i32_107
  let v276 : BitVec 32 := Scalar.muli v275 c1_i32_107
  let v277 : BitVec 32 := Scalar.addi v272 v276
  let v274 : BitVec 32 := Scalar.addi v272 v273
  let c1_i32_109 : BitVec 32 := 1#32
  ⟨v277, v274, c1_i32_109⟩
def k0_mult10 (i : grid0.Coords) (k0_t4 : Fin (k0_t4_loop i).trips) : BitVec 32 :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c8_i32_106 : BitVec 32 := 8#32
  let v273 : BitVec 32 := Scalar.subi c8_i32_106 v272
  let c1_i32_107 : BitVec 32 := 1#32
  let v275 : BitVec 32 := Scalar.divsi v273 c1_i32_107
  let v276 : BitVec 32 := Scalar.muli v275 c1_i32_107
  let v277 : BitVec 32 := Scalar.addi v272 v276
  let c1_i32_109 : BitVec 32 := 1#32
  let arg12 : BitVec 32 := Scf.iv v277 c1_i32_109 k0_t4
  let c1024_i32_119 : BitVec 32 := 1024#32
  let v293 : BitVec 32 := Scalar.muli arg12 c1024_i32_119
  v293
def k0_off17 (i : grid0.Coords) (k0_t4 : Fin (k0_t4_loop i).trips) : Fin 3 → Nat :=
  let c0_120 : Index := 0#32
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c8_i32_106 : BitVec 32 := 8#32
  let v273 : BitVec 32 := Scalar.subi c8_i32_106 v272
  let c1_i32_107 : BitVec 32 := 1#32
  let v275 : BitVec 32 := Scalar.divsi v273 c1_i32_107
  let v276 : BitVec 32 := Scalar.muli v275 c1_i32_107
  let v277 : BitVec 32 := Scalar.addi v272 v276
  let c1_i32_109 : BitVec 32 := 1#32
  let arg12 : BitVec 32 := Scf.iv v277 c1_i32_109 k0_t4
  let c1024_i32_119 : BitVec 32 := 1024#32
  let v293 : BitVec 32 := Scalar.muli arg12 c1024_i32_119
  let v294 : BitVec 32 := v293
  let v295 : Index := Scalar.indexCast v294
  let c0_121 : Index := 0#32
  ![0, v295.toNat, 0]
def k0_off18 (i : grid0.Coords) (k0_t4 : Fin (k0_t4_loop i).trips) : Fin 2 → Nat :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c8_i32_106 : BitVec 32 := 8#32
  let v273 : BitVec 32 := Scalar.subi c8_i32_106 v272
  let c1_i32_107 : BitVec 32 := 1#32
  let v275 : BitVec 32 := Scalar.divsi v273 c1_i32_107
  let v276 : BitVec 32 := Scalar.muli v275 c1_i32_107
  let v277 : BitVec 32 := Scalar.addi v272 v276
  let c1_i32_109 : BitVec 32 := 1#32
  let arg12 : BitVec 32 := Scf.iv v277 c1_i32_109 k0_t4
  let c1024_i32_119 : BitVec 32 := 1024#32
  let v293 : BitVec 32 := Scalar.muli arg12 c1024_i32_119
  let v294 : BitVec 32 := v293
  let v298 : Index := Scalar.indexCast v294
  let c0_122 : Index := 0#32
  ![v298.toNat, 0]
def k0_off19 (i : grid0.Coords) (k0_t4 : Fin (k0_t4_loop i).trips) : Fin 3 → Nat :=
  let c0_123 : Index := 0#32
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c8_i32_106 : BitVec 32 := 8#32
  let v273 : BitVec 32 := Scalar.subi c8_i32_106 v272
  let c1_i32_107 : BitVec 32 := 1#32
  let v275 : BitVec 32 := Scalar.divsi v273 c1_i32_107
  let v276 : BitVec 32 := Scalar.muli v275 c1_i32_107
  let v277 : BitVec 32 := Scalar.addi v272 v276
  let c1_i32_109 : BitVec 32 := 1#32
  let arg12 : BitVec 32 := Scf.iv v277 c1_i32_109 k0_t4
  let v301 : Index := Scalar.indexCast arg12
  let c0_124 : Index := 0#32
  ![0, v301.toNat, 0]
def k0_off20 (i : grid0.Coords) (k0_t4 : Fin (k0_t4_loop i).trips) : Fin 2 → Nat :=
  let c3_i32 : BitVec 32 := 3#32
  let arg1 : BitVec 32 := BitVec.ofNat 32 (i 1).val
  let v0 : BitVec 32 := Scalar.subi c3_i32 arg1
  let c2_i32_55 : BitVec 32 := 2#32
  let v147 : BitVec 32 := Scalar.muli v0 c2_i32_55
  let c0_i32_56 : BitVec 32 := 0#32
  let v148 : BitVec 32 := Scalar.addi v147 c0_i32_56
  let c1_i32_105 : BitVec 32 := 1#32
  let v272 : BitVec 32 := Scalar.addi v148 c1_i32_105
  let c8_i32_106 : BitVec 32 := 8#32
  let v273 : BitVec 32 := Scalar.subi c8_i32_106 v272
  let c1_i32_107 : BitVec 32 := 1#32
  let v275 : BitVec 32 := Scalar.divsi v273 c1_i32_107
  let v276 : BitVec 32 := Scalar.muli v275 c1_i32_107
  let v277 : BitVec 32 := Scalar.addi v272 v276
  let c1_i32_109 : BitVec 32 := 1#32
  let arg12 : BitVec 32 := Scf.iv v277 c1_i32_109 k0_t4
  let c1024_i32_119 : BitVec 32 := 1024#32
  let v293 : BitVec 32 := Scalar.muli arg12 c1024_i32_119
  let v294 : BitVec 32 := v293
  let v320 : Index := Scalar.indexCast v294
  let c0_132 : Index := 0#32
  ![v320.toNat, 0]
def k0_cond2 (i : grid0.Coords) : BitVec 1 :=
  let c3_i32 : BitVec 32 := 3#32
  let arg1 : BitVec 32 := BitVec.ofNat 32 (i 1).val
  let v0 : BitVec 32 := Scalar.subi c3_i32 arg1
  let c0_i32_117 : BitVec 32 := 0#32
  let v290 : BitVec 1 := Scalar.cmpi .eq v0 c0_i32_117
  let v291 : BitVec 32 := Scalar.extui v290
  let c0_i32_118 : BitVec 32 := 0#32
  let v292 : BitVec 1 := Scalar.cmpi .ne v291 c0_i32_118
  v292

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![arg0.toNat, v0.toNat, c0_i32.toNat]

abbrev stage0_0 : Fin 2 → Memref sig .tc .vmem S1x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S8192x8x192 : Shape := ⟨3, ![8192, 8, 192]⟩
abbrev S8192x8x128 : Shape := ⟨3, ![8192, 8, 128]⟩
abbrev S_ : Shape := ⟨0, ![]⟩
abbrev S8x8192x8192 : Shape := ⟨3, ![8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x192 : Shape := ⟨3, ![8, 8192, 192]⟩
abbrev S8x8192x256 : Shape := ⟨3, ![8, 8192, 256]⟩
abbrev S8x8192x128 : Shape := ⟨3, ![8, 8192, 128]⟩

abbrev nBuf : Space → Nat
  | .hbm => 99
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x8x128, .f32⟩
  | .hbm, ⟨4, _⟩ => ⟨S_, .f32⟩
  | .hbm, ⟨5, _⟩ => ⟨S8192x8x192, .f32⟩
  | .hbm, ⟨6, _⟩ => ⟨S8192x8x192, .f32⟩
  | .hbm, ⟨7, _⟩ => ⟨S8x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .i1⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .i1⟩
  | .hbm, ⟨36, _⟩ => ⟨S_, .f32⟩
  | .hbm, ⟨37, _⟩ => ⟨S8x8192, .f32⟩
  | .hbm, ⟨38, _⟩ => ⟨S8x8192, .i1⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S8x128x8192, .f32⟩
  | .hbm, ⟨61, _⟩ => ⟨S8192x8x128, .f32⟩
  | .hbm, ⟨62, _⟩ => ⟨S8x128x8192, .f32⟩
  | .hbm, ⟨63, _⟩ => ⟨S8x8192x8192, .f32⟩
  | .hbm, ⟨64, _⟩ => ⟨S8x128x8192, .f32⟩
  | .hbm, ⟨65, _⟩ => ⟨S8192x8x128, .f32⟩
  | .hbm, ⟨66, _⟩ => ⟨S8x8192x8192, .f32⟩
  | .hbm, ⟨67, _⟩ => ⟨S8x8192x8192, .f32⟩
  | .hbm, ⟨68, _⟩ => ⟨S8x8192x8192, .f32⟩
  | .hbm, ⟨69, _⟩ => ⟨S_, .f32⟩
  | .hbm, ⟨70, _⟩ => ⟨S8x8192, .f32⟩
  | .hbm, ⟨71, _⟩ => ⟨S8x8192x1, .f32⟩
  | .hbm, ⟨72, _⟩ => ⟨S8x8192x1, .f32⟩
  | .hbm, ⟨73, _⟩ => ⟨S8x8192x8192, .f32⟩
  | .hbm, ⟨74, _⟩ => ⟨S8x8192x8192, .f32⟩
  | .hbm, ⟨75, _⟩ => ⟨S_, .f32⟩
  | .hbm, ⟨76, _⟩ => ⟨S8x8192, .f32⟩
  | .hbm, ⟨77, _⟩ => ⟨S8x8192x8192, .f32⟩
  | .hbm, ⟨78, _⟩ => ⟨S8x8192x8192, .f32⟩
  | .hbm, ⟨79, _⟩ => ⟨S8x8192x8192, .f32⟩
  | .hbm, ⟨80, _⟩ => ⟨S_, .f32⟩
  | .hbm, ⟨81, _⟩ => ⟨S8x8192x8192, .f32⟩
  | .hbm, ⟨82, _⟩ => ⟨S8x8192x8192, .f32⟩
  | .hbm, ⟨83, _⟩ => ⟨S8x8192x192, .f32⟩
  | .hbm, ⟨84, _⟩ => ⟨S8192x8x192, .f32⟩
  | .hbm, ⟨85, _⟩ => ⟨S8x8192x192, .f32⟩
  | .hbm, ⟨86, _⟩ => ⟨S8192x8x192, .f32⟩
  | .hbm, ⟨87, _⟩ => ⟨S8x8192x192, .f32⟩
  | .hbm, ⟨88, _⟩ => ⟨S_, .i32⟩
  | .hbm, ⟨89, _⟩ => ⟨S_, .f32⟩
  | .hbm, ⟨90, _⟩ => ⟨S8x8192x256, .f32⟩
  | .hbm, ⟨91, _⟩ => ⟨S8x8192x256, .bf16⟩
  | .hbm, ⟨92, _⟩ => ⟨S8x8192x192, .f32⟩
  | .hbm, ⟨93, _⟩ => ⟨S_, .i32⟩
  | .hbm, ⟨94, _⟩ => ⟨S_, .f32⟩
  | .hbm, ⟨95, _⟩ => ⟨S8x8192x256, .f32⟩
  | .hbm, ⟨96, _⟩ => ⟨S8x8192x256, .bf16⟩
  | .hbm, ⟨97, _⟩ => ⟨S8x8192x128, .f32⟩
  | .hbm, ⟨98, _⟩ => ⟨S8x8192x128, .bf16⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c : Ref sig .tc := ⟨.hbm, 88, rfl⟩
abbrev main_call2_v0 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_call3_v0 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]
-- ==== Kernel2.lean ====
abbrev S8192x8x192 : Shape := ⟨3, ![8192, 8, 192]⟩
abbrev S8192x8x128 : Shape := ⟨3, ![8192, 8, 128]⟩
abbrev S_ : Shape := ⟨0, ![]⟩
abbrev S8x8192x128 : Shape := ⟨3, ![8, 8192, 128]⟩
abbrev S8x8192x192 : Shape := ⟨3, ![8, 8192, 192]⟩
abbrev S8x8192x256 : Shape := ⟨3, ![8, 8192, 256]⟩
abbrev S8192x1024 : Shape := ⟨2, ![8192, 1024]⟩
abbrev S8x1x8192 : Shape := ⟨3, ![8, 1, 8192]⟩
abbrev S1x1024x256 : Shape := ⟨3, ![1, 1024, 256]⟩
abbrev S1x8192x256 : Shape := ⟨3, ![1, 8192, 256]⟩
abbrev S1024x128 : Shape := ⟨2, ![1024, 128]⟩
abbrev S1x1x1024 : Shape := ⟨3, ![1, 1, 1024]⟩
abbrev S1x256x256 : Shape := ⟨3, ![1, 256, 256]⟩
abbrev S256x256 : Shape := ⟨2, ![256, 256]⟩
abbrev S256x1 : Shape := ⟨2, ![256, 1]⟩
abbrev S1x512x256 : Shape := ⟨3, ![1, 512, 256]⟩
abbrev S512x256 : Shape := ⟨2, ![512, 256]⟩
abbrev S256x512 : Shape := ⟨2, ![256, 512]⟩
abbrev S256 : Shape := ⟨1, ![256]⟩
abbrev S256x128 : Shape := ⟨2, ![256, 128]⟩
abbrev S128x256 : Shape := ⟨2, ![128, 256]⟩
abbrev S1x256 : Shape := ⟨2, ![1, 256]⟩
abbrev S1x1x256 : Shape := ⟨3, ![1, 1, 256]⟩

abbrev nBuf : Space → Nat
  | .hbm => 29
  | .vmem => 10
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x8192x128, .f32⟩
  | .hbm, ⟨8, _⟩ => ⟨S8x8192x192, .f32⟩
  | .hbm, ⟨9, _⟩ => ⟨S_, .i32⟩
  | .hbm, ⟨10, _⟩ => ⟨S_, .f32⟩
  | .hbm, ⟨11, _⟩ => ⟨S8x8192x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x8192x256, .f32⟩
  | .hbm, ⟨16, _⟩ => ⟨S8x8192x256, .f32⟩
  | .hbm, ⟨17, _⟩ => ⟨S8x8192x256, .bf16⟩
  | .hbm, ⟨18, _⟩ => ⟨S8x8192x192, .f32⟩
  | .hbm, ⟨19, _⟩ => ⟨S_, .i32⟩
  | .hbm, ⟨20, _⟩ => ⟨S_, .f32⟩
  | .hbm, ⟨21, _⟩ => ⟨S8x8192x256, .f32⟩
  | .hbm, ⟨22, _⟩ => ⟨S8x8192x256, .bf16⟩
  | .hbm, ⟨23, _⟩ => ⟨S_, .f32⟩
  | .hbm, ⟨24, _⟩ => ⟨S8x8192x128, .f32⟩
  | .hbm, ⟨25, _⟩ => ⟨S8x8192x256, .f32⟩
  | .hbm, ⟨26, _⟩ => ⟨S8x8192x256, .bf16⟩
  | .hbm, ⟨27, _⟩ => ⟨S8192x1024, .bf16⟩
  | .hbm, ⟨28, _⟩ => ⟨S8x1x8192, .f32⟩
  | .local _ .vmem, ⟨0, _⟩ => ⟨S1x1024x256, .bf16⟩
  | .local _ .vmem, ⟨1, _⟩ => ⟨S1x1024x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S1024x128, .bf16⟩
  | .local _ .vmem, ⟨7, _⟩ => ⟨S1024x128, .bf16⟩
  | .local _ .vmem, ⟨8, _⟩ => ⟨S1x1x1024, .f32⟩
  | .local _ .vmem, ⟨9, _⟩ => ⟨S1x1x1024, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_9 : BitVec 32 := 1#32
  ⟨c0_i32, v14, c1_i32_9⟩
def k0_mult1 (i : grid0.Coords) (k0_t1 : Fin (k0_t1_loop i).trips) : BitVec 32 :=
  let c2_i32_100 : BitVec 32 := 2#32
  let c0_i32 : BitVec 32 := 0#32
  let c1_i32_9 : BitVec 32 := 1#32
  let arg7 : BitVec 32 := Scf.iv c0_i32 c1_i32_9 k0_t1
  let v257 : BitVec 32 := Scalar.muli c2_i32_100 arg7
  let c0_i32_101 : BitVec 32 := 0#32
  let v258 : BitVec 32 := Scalar.addi v257 c0_i32_101
  let c512_i32_102 : BitVec 32 := 512#32
  let v259 : BitVec 32 := Scalar.muli v258 c512_i32_102
  v259
def k0_off1 (i : grid0.Coords) (k0_t1 : Fin (k0_t1_loop i).trips) (c0_i32_101 : BitVec 32) : Fin 3 → Nat :=
  let c0_103 : Index := 0#32
  let c2_i32_100 : BitVec 32 := 2#32
  let c0_i32 : BitVec 32 := 0#32
  let c1_i32_9 : BitVec 32 := 1#32
  let arg7 : BitVec 32 := Scf.iv c0_i32 c1_i32_9 k0_t1
  let v257 : BitVec 32 := Scalar.muli c2_i32_100 arg7
  let v258 : BitVec 32 := Scalar.addi v257 c0_i32_101
  let c512_i32_102 : BitVec 32 := 512#32
  let v259 : BitVec 32 := Scalar.muli v258 c512_i32_102
  let v260 : BitVec 32 := v259
  let v261 : Index := Scalar.indexCast v260
  let c0_104 : Index := 0#32
  ![0, v261.toNat, 0]
def k0_mult2 (i : grid0.Coords) (k0_t1 : Fin (k0_t1_loop i).trips) : BitVec 32 :=
  let c2_i32_110 : BitVec 32 := 2#32
  let c0_i32 : BitVec 32 := 0#32
  let c1_i32_9 : BitVec 32 := 1#32
  let arg7 : BitVec 32 := Scf.iv c0_i32 c1_i32_9 k0_t1
  let v281 : BitVec 32 := Scalar.muli c2_i32_110 arg7
  let c0_i32_111 : BitVec 32 := 0#32
  let v282 : BitVec 32 := Scalar.addi v281 c0_i32_111
  let c512_i32_112 : BitVec 32 := 512#32
  let v283 : BitVec 32 := Scalar.muli v282 c512_i32_112
  v283
def k0_mult3 (i : grid0.Coords) (k0_t1 : Fin (k0_t1_loop i).trips) : BitVec 32 :=
  let c2_i32_120 : BitVec 32 := 2#32
  let c0_i32 : BitVec 32 := 0#32
  let c1_i32_9 : BitVec 32 := 1#32
  let arg7 : BitVec 32 := Scf.iv c0_i32 c1_i32_9 k0_t1
  let v305 : BitVec 32 := Scalar.muli c2_i32_120 arg7
  let c0_i32_121 : BitVec 32 := 0#32
  let v306 : BitVec 32 := Scalar.addi v305 c0_i32_121
  let c512_i32_122 : BitVec 32 := 512#32
  let v307 : BitVec 32 := Scalar.muli v306 c512_i32_122
  v307
def k0_mult4 (i : grid0.Coords) (k0_t1 : Fin (k0_t1_loop i).trips) : BitVec 32 :=
  let c2_i32_130 : BitVec 32 := 2#32
  let c0_i32 : BitVec 32 := 0#32
  let c1_i32_9 : BitVec 32 := 1#32
  let arg7 : BitVec 32 := Scf.iv c0_i32 c1_i32_9 k0_t1
  let v329 : BitVec 32 := Scalar.muli c2_i32_130 arg7
  let c0_i32_131 : BitVec 32 := 0#32
  let v330 : BitVec 32 := Scalar.addi v329 c0_i32_131
  let c512_i32_132 : BitVec 32 := 512#32
  let v331 : BitVec 32 := Scalar.muli v330 c512_i32_132
  v331
def k0_mult5 (i : grid0.Coords) (k0_t1 : Fin (k0_t1_loop i).trips) : BitVec 32 :=
  let c2_i32_140 : BitVec 32 := 2#32
  let c0_i32 : BitVec 32 := 0#32
  let c1_i32_9 : BitVec 32 := 1#32
  let arg7 : BitVec 32 := Scf.iv c0_i32 c1_i32_9 k0_t1
  let v353 : BitVec 32 := Scalar.muli c2_i32_140 arg7
  let c1_i32_141 : BitVec 32 := 1#32
  let v354 : BitVec 32 := Scalar.addi v353 c1_i32_141
  let c512_i32_142 : BitVec 32 := 512#32
  let v355 : BitVec 32 := Scalar.muli v354 c512_i32_142
  v355
def k0_mult6 (i : grid0.Coords) (k0_t1 : Fin (k0_t1_loop i).trips) : BitVec 32 :=
  let c2_i32_150 : BitVec 32 := 2#32
  let c0_i32 : BitVec 32 := 0#32
  let c1_i32_9 : BitVec 32 := 1#32
  let arg7 : BitVec 32 := Scf.iv c0_i32 c1_i32_9 k0_t1
  let v377 : BitVec 32 := Scalar.muli c2_i32_150 arg7
  let c1_i32_151 : BitVec 32 := 1#32
  let v378 : BitVec 32 := Scalar.addi v377 c1_i32_151
  let c512_i32_152 : BitVec 32 := 512#32
  let v379 : BitVec 32 := Scalar.muli v378 c512_i32_152
  v379
def k0_mult7 (i : grid0.Coords) (k0_t1 : Fin (k0_t1_loop i).trips) : BitVec 32 :=
  let c2_i32_160 : BitVec 32 := 2#32
  let c0_i32 : BitVec 32 := 0#32
  let c1_i32_9 : BitVec 32 := 1#32
  let arg7 : BitVec 32 := Scf.iv c0_i32 c1_i32_9 k0_t1
  let v401 : BitVec 32 := Scalar.muli c2_i32_160 arg7
  let c1_i32_161 : BitVec 32 := 1#32
  let v402 : BitVec 32 := Scalar.addi v401 c1_i32_161
  let c512_i32_162 : BitVec 32 := 512#32
  let v403 : BitVec 32 := Scalar.muli v402 c512_i32_162
  v403
def k0_mult8 (i : grid0.Coords) (k0_t1 : Fin (k0_t1_loop i).trips) : BitVec 32 :=
  let c2_i32_170 : BitVec 32 := 2#32
  let c0_i32 : BitVec 32 := 0#32
  let c1_i32_9 : BitVec 32 := 1#32
  let arg7 : BitVec 32 := Scf.iv c0_i32 c1_i32_9 k0_t1
  let v425 : BitVec 32 := Scalar.muli c2_i32_170 arg7
  let c1_i32_171 : BitVec 32 := 1#32
  let v426 : BitVec 32 := Scalar.addi v425 c1_i32_171
  let c512_i32_172 : BitVec 32 := 512#32
  let v427 : BitVec 32 := Scalar.muli v426 c512_i32_172
  v427
@[reducible] def k0_t2_loop (i : grid0.Coords) : Scf.Loop 32 :=
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let v11 : BitVec 32 := Scalar.addi c0_i32 v10
  let c1_i32_10 : BitVec 32 := 1#32
  ⟨v14, v11, c1_i32_10⟩
def k0_mult9 (i : grid0.Coords) (k0_t2 : Fin (k0_t2_loop i).trips) : BitVec 32 :=
  let c2_i32_100 : BitVec 32 := 2#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v257 : BitVec 32 := Scalar.muli c2_i32_100 arg7
  let c0_i32_101 : BitVec 32 := 0#32
  let v258 : BitVec 32 := Scalar.addi v257 c0_i32_101
  let c512_i32_102 : BitVec 32 := 512#32
  let v259 : BitVec 32 := Scalar.muli v258 c512_i32_102
  v259
def k0_off2 (i : grid0.Coords) (k0_t2 : Fin (k0_t2_loop i).trips) (c0_i32_101 : BitVec 32) : Fin 3 → Nat :=
  let c0_103 : Index := 0#32
  let c2_i32_100 : BitVec 32 := 2#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v257 : BitVec 32 := Scalar.muli c2_i32_100 arg7
  let v258 : BitVec 32 := Scalar.addi v257 c0_i32_101
  let c512_i32_102 : BitVec 32 := 512#32
  let v259 : BitVec 32 := Scalar.muli v258 c512_i32_102
  let v260 : BitVec 32 := v259
  let v261 : Index := Scalar.indexCast v260
  let c0_104 : Index := 0#32
  ![0, v261.toNat, 0]
def k0_mult10 (i : grid0.Coords) (k0_t2 : Fin (k0_t2_loop i).trips) : BitVec 32 :=
  let c2_i32_110 : BitVec 32 := 2#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v281 : BitVec 32 := Scalar.muli c2_i32_110 arg7
  let c0_i32_111 : BitVec 32 := 0#32
  let v282 : BitVec 32 := Scalar.addi v281 c0_i32_111
  let c512_i32_112 : BitVec 32 := 512#32
  let v283 : BitVec 32 := Scalar.muli v282 c512_i32_112
  v283
def k0_mult11 (i : grid0.Coords) (k0_t2 : Fin (k0_t2_loop i).trips) : BitVec 32 :=
  let c2_i32_120 : BitVec 32 := 2#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v305 : BitVec 32 := Scalar.muli c2_i32_120 arg7
  let c0_i32_121 : BitVec 32 := 0#32
  let v306 : BitVec 32 := Scalar.addi v305 c0_i32_121
  let c512_i32_122 : BitVec 32 := 512#32
  let v307 : BitVec 32 := Scalar.muli v306 c512_i32_122
  v307
def k0_mult12 (i : grid0.Coords) (k0_t2 : Fin (k0_t2_loop i).trips) : BitVec 32 :=
  let c2_i32_130 : BitVec 32 := 2#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v329 : BitVec 32 := Scalar.muli c2_i32_130 arg7
  let c0_i32_131 : BitVec 32 := 0#32
  let v330 : BitVec 32 := Scalar.addi v329 c0_i32_131
  let c512_i32_132 : BitVec 32 := 512#32
  let v331 : BitVec 32 := Scalar.muli v330 c512_i32_132
  v331
def k0_mult13 (i : grid0.Coords) (k0_t2 : Fin (k0_t2_loop i).trips) : BitVec 32 :=
  let c2_i32_140 : BitVec 32 := 2#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v353 : BitVec 32 := Scalar.muli c2_i32_140 arg7
  let c1_i32_141 : BitVec 32 := 1#32
  let v354 : BitVec 32 := Scalar.addi v353 c1_i32_141
  let c512_i32_142 : BitVec 32 := 512#32
  let v355 : BitVec 32 := Scalar.muli v354 c512_i32_142
  v355
def k0_mult14 (i : grid0.Coords) (k0_t2 : Fin (k0_t2_loop i).trips) : BitVec 32 :=
  let c2_i32_150 : BitVec 32 := 2#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v377 : BitVec 32 := Scalar.muli c2_i32_150 arg7
  let c1_i32_151 : BitVec 32 := 1#32
  let v378 : BitVec 32 := Scalar.addi v377 c1_i32_151
  let c512_i32_152 : BitVec 32 := 512#32
  let v379 : BitVec 32 := Scalar.muli v378 c512_i32_152
  v379
def k0_mult15 (i : grid0.Coords) (k0_t2 : Fin (k0_t2_loop i).trips) : BitVec 32 :=
  let c2_i32_160 : BitVec 32 := 2#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v401 : BitVec 32 := Scalar.muli c2_i32_160 arg7
  let c1_i32_161 : BitVec 32 := 1#32
  let v402 : BitVec 32 := Scalar.addi v401 c1_i32_161
  let c512_i32_162 : BitVec 32 := 512#32
  let v403 : BitVec 32 := Scalar.muli v402 c512_i32_162
  v403
def k0_mult16 (i : grid0.Coords) (k0_t2 : Fin (k0_t2_loop i).trips) : BitVec 32 :=
  let c2_i32_170 : BitVec 32 := 2#32
  let c0_i32 : BitVec 32 := 0#32
  let arg1 : BitVec 32 := BitVec.ofNat 32 (i 1).val
  let v10 : BitVec 32 := Scalar.subi arg1 c0_i32
  let c1_i32 : BitVec 32 := 1#32
  let v12 : BitVec 32 := Scalar.divsi v10 c1_i32
  let v13 : BitVec 32 := Scalar.muli v12 c1_i32
  let v14 : BitVec 32 := Scalar.addi c0_i32 v13
  let c1_i32_10 : BitVec 32 := 1#32
  let arg7 : BitVec 32 := Scf.iv v14 c1_i32_10 k0_t2
  let v425 : BitVec 32 := Scalar.muli c2_i32_170 arg7
  let c1_i32_171 : BitVec 32 := 1#32
  let v426 : BitVec 32 := Scalar.addi v425 c1_i32_171
  let c512_i32_172 : BitVec 32 := 512#32
  let v427 : BitVec 32 := Scalar.muli v426 c512_i32_172
  v427
def k0_mult17 (i : grid0.Coords) : BitVec 32 :=
  let c2_i32 : BitVec 32 := 2#32
  let arg1 : BitVec 32 := BitVec.ofNat 32 (i 1).val
  let v17 : BitVec 32 := Scalar.muli c2_i32 arg1
  let c0_i32_11 : BitVec 32 := 0#32
  let v18 : BitVec 32 := Scalar.addi v17 c0_i32_11
  let c512_i32 : BitVec 32 := 512#32
  let v19 : BitVec 32 := Scalar.muli v18 c512_i32
  v19
def k0_off3 (i : grid0.Coords) (c0_i32_11 : BitVec 32) : Fin 3 → Nat :=
  let c0_12 : Index := 0#32
  let c2_i32 : BitVec 32 := 2#32
  let arg1 : BitVec 32 := BitVec.ofNat 32 (i 1).val
  let v17 : BitVec 32 := Scalar.muli c2_i32 arg1
  let v18 : BitVec 32 := Scalar.addi v17 c0_i32_11
  let c512_i32 : BitVec 32 := 512#32
  let v19 : BitVec 32 := Scalar.muli v18 c512_i32
  let v20 : BitVec 32 := v19
  let v21 : Index := Scalar.indexCast v20
  let c0_13 : Index := 0#32
  ![0, v21.toNat, 0]
def k0_mult18 (i : grid0.Coords) : BitVec 32 :=
  let c2_i32_21 : BitVec 32 := 2#32
  let arg1 : BitVec 32 := BitVec.ofNat 32 (i 1).val
  let v48 : BitVec 32 := Scalar.muli c2_i32_21 arg1
  let c0_i32_22 : BitVec 32 := 0#32
  let v49 : BitVec 32 := Scalar.addi v48 c0_i32_22
  let c512_i32_23 : BitVec 32 := 512#32
  let v50 : BitVec 32 := Scalar.muli v49 c512_i32_23
  v50
def k0_mult19 (i : grid0.Coords) : BitVec 32 :=
  let c2_i32_32 : BitVec 32 := 2#32
  let arg1 : BitVec 32 := BitVec.ofNat 32 (i 1).val
  let v79 : BitVec 32 := Scalar.muli c2_i32_32 arg1
  let c0_i32_33 : BitVec 32 := 0#32
  let v80 : BitVec 32 := Scalar.addi v79 c0_i32_33
  let c512_i32_34 : BitVec 32 := 512#32
  let v81 : BitVec 32 := Scalar.muli v80 c512_i32_34
  v81
def k0_mult20 (i : grid0.Coords) : BitVec 32 :=
  let c2_i32_42 : BitVec 32 := 2#32
  let arg1 : BitVec 32 := BitVec.ofNat 32 (i 1).val
  let v103 : BitVec 32 := Scalar.muli c2_i32_42 arg1
  let c0_i32_43 : BitVec 32 := 0#32
  let v104 : BitVec 32 := Scalar.addi v103 c0_i32_43
  let c512_i32_44 : BitVec 32 := 512#32
  let v105 : BitVec 32 := Scalar.muli v104 c512_i32_44
  v105
def k0_mult21 (i : grid0.Coords) : BitVec 32 :=
  let c2_i32_52 : BitVec 32 := 2#32
  let arg1 : BitVec 32 := BitVec.ofNat 32 (i 1).val
  let v127 : BitVec 32 := Scalar.muli c2_i32_52 arg1
  let c1_i32_53 : BitVec 32 := 1#32
  let v128 : BitVec 32 := Scalar.addi v127 c1_i32_53
  let c512_i32_54 : BitVec 32 := 512#32
  let v129 : BitVec 32 := Scalar.muli v128 c512_i32_54
  v129
def k0_mult22 (i : grid0.Coords) : BitVec 32 :=
  let c2_i32_64 : BitVec 32 := 2#32
  let arg1 : BitVec 32 := BitVec.ofNat 32 (i 1).val
  let v158 : BitVec 32 := Scalar.muli c2_i32_64 arg1
  let c1_i32_65 : BitVec 32 := 1#32
  let v159 : BitVec 32 := Scalar.addi v158 c1_i32_65
  let c512_i32_66 : BitVec 32 := 512#32
  let v160 : BitVec 32 := Scalar.muli v159 c512_i32_66
  v160
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "log2e" => some (((Real.log 2)⁻¹ : ℝ) : EReal)
  | "neg" => some ⊥
  | _ => none
-- ==== Reference2Ideal.lean ====
abbrev S8192x8x192 : Shape := ⟨3, ![8192, 8, 192]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x1024 : Shape := ⟨2, ![8192, 1024]⟩
abbrev S8x1x8192 : Shape := ⟨3, ![8, 1, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8x8192x8192, .f32⟩
  | .hbm, ⟨4, _⟩ => ⟨S_, .f32⟩
  | .hbm, ⟨5, _⟩ => ⟨S8x8192x8192, .f32⟩
  | .hbm, ⟨6, _⟩ => ⟨S8x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S1x8192x8192, .i1⟩
  | .hbm, ⟨14, _⟩ => ⟨S_, .f32⟩
  | .hbm, ⟨15, _⟩ => ⟨S_, .f32⟩
  | .hbm, ⟨16, _⟩ => ⟨S8x8192x8192, .i1⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S_, .f32⟩
  | .hbm, ⟨22, _⟩ => ⟨S8x8192, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S8x8192x8192, .f32⟩
  | .hbm, ⟨32, _⟩ => ⟨S8x8192x8192, .f32⟩
  | .hbm, ⟨33, _⟩ => ⟨S8x128x8192, .f32⟩
  | .hbm, ⟨34, _⟩ => ⟨S8192x8x128, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S8x8192x1, .f32⟩
  | .hbm, ⟨45, _⟩ => ⟨S8x8192x1, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8x8192x1, .f32⟩
  | .hbm, ⟨50, _⟩ => ⟨S8x8192x1, .f32⟩
  | .hbm, ⟨51, _⟩ => ⟨S8192x1024, .f32⟩
  | .hbm, ⟨52, _⟩ => ⟨S8192x1024, .bf16⟩
  | .hbm, ⟨53, _⟩ => ⟨S8x1x8192, .f32⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel3.lean ====
abbrev S8192x2048 : Shape := ⟨2, ![8192, 2048]⟩
abbrev S8192x6144 : Shape := ⟨2, ![8192, 6144]⟩
abbrev S2048x8192 : Shape := ⟨2, ![2048, 8192]⟩
abbrev S2048x6144 : Shape := ⟨2, ![2048, 6144]⟩
abbrev S512x8192 : Shape := ⟨2, ![512, 8192]⟩
abbrev S8192x768 : Shape := ⟨2, ![8192, 768]⟩
abbrev S512x768 : Shape := ⟨2, ![512, 768]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x6144, .f32⟩
  | .hbm, ⟨2, _⟩ => ⟨S2048x8192, .f32⟩
  | .hbm, ⟨3, _⟩ => ⟨S2048x8192, .bf16⟩
  | .hbm, ⟨4, _⟩ => ⟨S8192x6144, .bf16⟩
  | .hbm, ⟨5, _⟩ => ⟨S2048x6144, .bf16⟩
  | .local _ .vmem, ⟨0, _⟩ => ⟨S512x8192, .bf16⟩
  | .local _ .vmem, ⟨1, _⟩ => ⟨S512x8192, .bf16⟩
  | .local _ .vmem, ⟨2, _⟩ => ⟨S8192x768, .bf16⟩
  | .local _ .vmem, ⟨3, _⟩ => ⟨S8192x768, .bf16⟩
  | .local _ .vmem, ⟨4, _⟩ => ⟨S512x768, .bf16⟩
  | .local _ .vmem, ⟨5, _⟩ => ⟨S512x768, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8192x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S8192x2048 : Shape := ⟨2, ![8192, 2048]⟩
abbrev S8192x6144 : Shape := ⟨2, ![8192, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x6144, .f32⟩
  | .hbm, ⟨2, _⟩ => ⟨S_, .f32⟩
  | .hbm, ⟨3, _⟩ => ⟨S2048x6144, .f32⟩
  | .hbm, ⟨4, _⟩ => ⟨S8192x6144, .f32⟩
  | .hbm, ⟨5, _⟩ => ⟨S6144x2048, .f32⟩
  | .hbm, ⟨6, _⟩ => ⟨S2048x6144, .f32⟩
  | .hbm, ⟨7, _⟩ => ⟨S2048x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8x2048 : Shape := ⟨2, ![8, 2048]⟩
abbrev S8x768 : Shape := ⟨2, ![8, 768]⟩
abbrev S2048x8 : Shape := ⟨2, ![2048, 8]⟩
abbrev S2048x768 : Shape := ⟨2, ![2048, 768]⟩
abbrev S2048x1 : Shape := ⟨2, ![2048, 1]⟩
abbrev S1x768 : Shape := ⟨2, ![1, 768]⟩

abbrev nBuf : Space → Nat
  | .hbm => 4
  | .vmem => 3
  | .smem => 0
  | _ => 0

abbrev bufTy : (tb : Table) → Fin (tcTables nBuf tb) → BufTy
  | .hbm, ⟨0, _⟩ => ⟨S8x2048, .f32⟩
  | .hbm, ⟨1, _⟩ => ⟨S8x768, .f32⟩
  | .hbm, ⟨2, _⟩ => ⟨S2048x8, .f32⟩
  | .hbm, ⟨3, _⟩ => ⟨S2048x768, .f32⟩
  | .local _ .vmem, ⟨0, _⟩ => ⟨S2048x8, .f32⟩
  | .local _ .vmem, ⟨1, _⟩ => ⟨S8x768, .f32⟩
  | .local _ .vmem, ⟨2, _⟩ => ⟨S2048x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2048x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference4Ideal.lean ====
abbrev S8x2048 : Shape := ⟨2, ![8, 2048]⟩
abbrev S8x768 : Shape := ⟨2, ![8, 768]⟩
abbrev S_ : Shape := ⟨0, ![]⟩
abbrev S2048x768 : Shape := ⟨2, ![2048, 768]⟩
abbrev S1x768 : Shape := ⟨2, ![1, 768]⟩
abbrev S768x2048 : Shape := ⟨2, ![768, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x768, .f32⟩
  | .hbm, ⟨2, _⟩ => ⟨S_, .f32⟩
  | .hbm, ⟨3, _⟩ => ⟨S2048x768, .f32⟩
  | .hbm, ⟨4, _⟩ => ⟨S_, .f32⟩
  | .hbm, ⟨5, _⟩ => ⟨S1x768, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S8x768, .f32⟩
  | .hbm, ⟨16, _⟩ => ⟨S8x768, .f32⟩
  | .hbm, ⟨17, _⟩ => ⟨S8x768, .f32⟩
  | .hbm, ⟨18, _⟩ => ⟨S768x2048, .f32⟩
  | .hbm, ⟨19, _⟩ => ⟨S2048x768, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]
-- ==== Kernel5.lean ====
abbrev S2048x768 : Shape := ⟨2, ![2048, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel6.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference6Ideal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S256x2048 : Shape := ⟨2, ![256, 2048]⟩

abbrev nBuf : Space → Nat
  | .hbm => 7
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference7Ideal.lean ====
abbrev S256x2048 : Shape := ⟨2, ![256, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256x2048, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S512x192 : Shape := ⟨2, ![512, 192]⟩
abbrev S192x512 : Shape := ⟨2, ![192, 512]⟩

abbrev nBuf : Space → Nat
  | .hbm => 11
  | .vmem => 7
  | .smem => 0
  | _ => 0

abbrev bufTy : (tb : Table) → Fin (tcTables nBuf tb) → BufTy
  | .hbm, ⟨0, _⟩ => ⟨S512x192, .f32⟩
  | .hbm, ⟨1, _⟩ => ⟨S512x192, .f32⟩
  | .hbm, ⟨2, _⟩ => ⟨S512x192, .f32⟩
  | .hbm, ⟨3, _⟩ => ⟨S512x192, .f32⟩
  | .hbm, ⟨4, _⟩ => ⟨S192x512, .f32⟩
  | .hbm, ⟨5, _⟩ => ⟨S192x512, .f32⟩
  | .hbm, ⟨6, _⟩ => ⟨S192x512, .f32⟩
  | .hbm, ⟨7, _⟩ => ⟨S192x512, .f32⟩
  | .hbm, ⟨8, _⟩ => ⟨S192x512, .f32⟩
  | .hbm, ⟨9, _⟩ => ⟨S192x512, .f32⟩
  | .hbm, ⟨10, _⟩ => ⟨S192x512, .f32⟩
  | .local _ .vmem, ⟨0, _⟩ => ⟨S192x512, .f32⟩
  | .local _ .vmem, ⟨1, _⟩ => ⟨S192x512, .f32⟩
  | .local _ .vmem, ⟨2, _⟩ => ⟨S192x512, .f32⟩
  | .local _ .vmem, ⟨3, _⟩ => ⟨S192x512, .f32⟩
  | .local _ .vmem, ⟨4, _⟩ => ⟨S192x512, .f32⟩
  | .local _ .vmem, ⟨5, _⟩ => ⟨S192x512, .f32⟩
  | .local _ .vmem, ⟨6, _⟩ => ⟨S192x512, .f32⟩
  | _, _ => ⟨S512x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S192x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S192x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S192x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S192x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S192x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S192x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference8Ideal.lean ====
abbrev S512x192 : Shape := ⟨2, ![512, 192]⟩
abbrev S_ : Shape := ⟨0, ![]⟩
abbrev S192x512 : Shape := ⟨2, ![192, 512]⟩

abbrev nBuf : Space → Nat
  | .hbm => 40
  | .vmem => 0
  | .smem => 0
  | _ => 0

abbrev bufTy : (tb : Table) → Fin (tcTables nBuf tb) → BufTy
  | .hbm, ⟨0, _⟩ => ⟨S512x192, .f32⟩
  | .hbm, ⟨1, _⟩ => ⟨S512x192, .f32⟩
  | .hbm, ⟨2, _⟩ => ⟨S512x192, .f32⟩
  | .hbm, ⟨3, _⟩ => ⟨S512x192, .f32⟩
  | .hbm, ⟨4, _⟩ => ⟨S_, .f32⟩
  | .hbm, ⟨5, _⟩ => ⟨S512x192, .f32⟩
  | .hbm, ⟨6, _⟩ => ⟨S512x192, .f32⟩
  | .hbm, ⟨7, _⟩ => ⟨S_, .f32⟩
  | .hbm, ⟨8, _⟩ => ⟨S512x192, .f32⟩
  | .hbm, ⟨9, _⟩ => ⟨S512x192, .f32⟩
  | .hbm, ⟨10, _⟩ => ⟨S512x192, .f32⟩
  | .hbm, ⟨11, _⟩ => ⟨S_, .f32⟩
  | .hbm, ⟨12, _⟩ => ⟨S512x192, .f32⟩
  | .hbm, ⟨13, _⟩ => ⟨S512x192, .f32⟩
  | .hbm, ⟨14, _⟩ => ⟨S512x192, .f32⟩
  | .hbm, ⟨15, _⟩ => ⟨S_, .f32⟩
  | .hbm, ⟨16, _⟩ => ⟨S512x192, .f32⟩
  | .hbm, ⟨17, _⟩ => ⟨S512x192, .f32⟩
  | .hbm, ⟨18, _⟩ => ⟨S512x192, .f32⟩
  | .hbm, ⟨19, _⟩ => ⟨S_, .f32⟩
  | .hbm, ⟨20, _⟩ => ⟨S512x192, .f32⟩
  | .hbm, ⟨21, _⟩ => ⟨S512x192, .f32⟩
  | .hbm, ⟨22, _⟩ => ⟨S_, .f32⟩
  | .hbm, ⟨23, _⟩ => ⟨S512x192, .f32⟩
  | .hbm, ⟨24, _⟩ => ⟨S512x192, .f32⟩
  | .hbm, ⟨25, _⟩ => ⟨S512x192, .f32⟩
  | .hbm, ⟨26, _⟩ => ⟨S_, .f32⟩
  | .hbm, ⟨27, _⟩ => ⟨S512x192, .f32⟩
  | .hbm, ⟨28, _⟩ => ⟨S512x192, .f32⟩
  | .hbm, ⟨29, _⟩ => ⟨S512x192, .f32⟩
  | .hbm, ⟨30, _⟩ => ⟨S_, .f32⟩
  | .hbm, ⟨31, _⟩ => ⟨S512x192, .f32⟩
  | .hbm, ⟨32, _⟩ => ⟨S512x192, .f32⟩
  | .hbm, ⟨33, _⟩ => ⟨S512x192, .f32⟩
  | .hbm, ⟨34, _⟩ => ⟨S_, .f32⟩
  | .hbm, ⟨35, _⟩ => ⟨S512x192, .f32⟩
  | .hbm, ⟨36, _⟩ => ⟨S512x192, .f32⟩
  | .hbm, ⟨37, _⟩ => ⟨S192x512, .f32⟩
  | .hbm, ⟨38, _⟩ => ⟨S192x512, .f32⟩
  | .hbm, ⟨39, _⟩ => ⟨S192x512, .f32⟩
  | _, _ => ⟨S512x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel9.lean ====
abbrev S8192x2048 : Shape := ⟨2, ![8192, 2048]⟩
abbrev S1x2048 : Shape := ⟨2, ![1, 2048]⟩
abbrev S1x6144 : Shape := ⟨2, ![1, 6144]⟩
abbrev S512x2048 : Shape := ⟨2, ![512, 2048]⟩
abbrev S8x2048 : Shape := ⟨2, ![8, 2048]⟩
abbrev S16x2048 : Shape := ⟨2, ![16, 2048]⟩
abbrev S16 : Shape := ⟨1, ![16]⟩
abbrev S16x1 : Shape := ⟨2, ![16, 1]⟩
abbrev S2048 : Shape := ⟨1, ![2048]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x6144, .f32⟩
  | .hbm, ⟨5, _⟩ => ⟨S8192x2048, .bf16⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x6144, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32 : BitVec 32 := 4#32
  let v20 : BitVec 32 := Scalar.muli arg10 c4_i32
  let c0_i32_10 : BitVec 32 := 0#32
  let v21 : BitVec 32 := Scalar.addi v20 c0_i32_10
  let c16_i32 : BitVec 32 := 16#32
  let v22 : BitVec 32 := Scalar.muli v21 c16_i32
  v22
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_11 : BitVec 32 := 4#32
  let v24 : BitVec 32 := Scalar.muli arg10 c4_i32_11
  let c1_i32_12 : BitVec 32 := 1#32
  let v25 : BitVec 32 := Scalar.addi v24 c1_i32_12
  let c16_i32_13 : BitVec 32 := 16#32
  let v26 : BitVec 32 := Scalar.muli v25 c16_i32_13
  v26
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_14 : BitVec 32 := 4#32
  let v28 : BitVec 32 := Scalar.muli arg10 c4_i32_14
  let c2_i32 : BitVec 32 := 2#32
  let v29 : BitVec 32 := Scalar.addi v28 c2_i32
  let c16_i32_15 : BitVec 32 := 16#32
  let v30 : BitVec 32 := Scalar.muli v29 c16_i32_15
  v30
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c4_i32_16 : BitVec 32 := 4#32
  let v32 : BitVec 32 := Scalar.muli arg10 c4_i32_16
  let c3_i32 : BitVec 32 := 3#32
  let v33 : BitVec 32 := Scalar.addi v32 c3_i32
  let c16_i32_17 : BitVec 32 := 16#32
  let v34 : BitVec 32 := Scalar.muli v33 c16_i32_17
  v34
def k0_off1 (k0_t1 : Fin k0_t1_loop.trips) (c0_i32_10 : BitVec 32) : Fin 2 → Nat :=
  let c0_i32 : BitVec 32 := 0#32
  let c1_i32 : BitVec 32 := 1#32
  let arg10 : BitVec 32 := Scf.iv c0_i32 c1_i32 k0_t1
  let c4_i32 : BitVec 32 := 4#32
  let v20 : BitVec 32 := Scalar.muli arg10 c4_i32
  let v21 : BitVec 32 := Scalar.addi v20 c0_i32_10
  let c16_i32 : BitVec 32 := 16#32
  let v22 : BitVec 32 := Scalar.muli v21 c16_i32
  let v23 : BitVec 32 := v22
  let v36 : Index := Scalar.indexCast v23
  let c0_18 : Index := 0#32
  ![v36.toNat, 0]
def k0_cond1 (i : grid0.Coords) : BitVec 1 :=
  let arg0 : BitVec 32 := BitVec.ofNat 32 (i 0).val
  let c0_i32_6 : BitVec 32 := 0#32
  let v14 : BitVec 1 := Scalar.cmpi .eq arg0 c0_i32_6
  let v15 : BitVec 32 := Scalar.extui v14
  let c0_i32_7 : BitVec 32 := 0#32
  let v16 : BitVec 1 := Scalar.cmpi .ne v15 c0_i32_7
  v16

def k0_cond2 (i : grid0.Coords) : BitVec 1 :=
  let arg0 : BitVec 32 := BitVec.ofNat 32 (i 0).val
  let c0_i32_8 : BitVec 32 := 0#32
  let v17 : BitVec 1 := Scalar.cmpi .sgt arg0 c0_i32_8
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S8192x2048 : Shape := ⟨2, ![8192, 2048]⟩
abbrev S1x2048 : Shape := ⟨2, ![1, 2048]⟩
abbrev S1x6144 : Shape := ⟨2, ![1, 6144]⟩
abbrev S_ : Shape := ⟨0, ![]⟩
abbrev S8192 : Shape := ⟨1, ![8192]⟩
abbrev S8192x1 : Shape := ⟨2, ![8192, 1]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S1x6144, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel10.lean ====
abbrev S8192x2048 : Shape := ⟨2, ![8192, 2048]⟩
abbrev S8192x1024 : Shape := ⟨2, ![8192, 1024]⟩
abbrev S8192x6144 : Shape := ⟨2, ![8192, 6144]⟩
abbrev S1x6144 : Shape := ⟨2, ![1, 6144]⟩
abbrev S2048x2048 : Shape := ⟨2, ![2048, 2048]⟩
abbrev S3x1024 : Shape := ⟨2, ![3, 1024]⟩
abbrev S2048x8192 : Shape := ⟨2, ![2048, 8192]⟩
abbrev S8x1x8192 : Shape := ⟨3, ![8, 1, 8192]⟩
abbrev S1x2048 : Shape := ⟨2, ![1, 2048]⟩
abbrev S1x128 : Shape := ⟨2, ![1, 128]⟩
abbrev S256x2048 : Shape := ⟨2, ![256, 2048]⟩
abbrev S256x1024 : Shape := ⟨2, ![256, 1024]⟩
abbrev S16x1024 : Shape := ⟨2, ![16, 1024]⟩
abbrev S2048x256 : Shape := ⟨2, ![2048, 256]⟩
abbrev S8x1x256 : Shape := ⟨3, ![8, 1, 256]⟩
abbrev S256x1152 : Shape := ⟨2, ![256, 1152]⟩
abbrev S1024x2048 : Shape := ⟨2, ![1024, 2048]⟩
abbrev S272x1024 : Shape := ⟨2, ![272, 1024]⟩
abbrev S1x1024 : Shape := ⟨2, ![1, 1024]⟩
abbrev S1024x256 : Shape := ⟨2, ![1024, 256]⟩
abbrev S128x256 : Shape := ⟨2, ![128, 256]⟩
abbrev S256 : Shape := ⟨1, ![256]⟩
abbrev S1x256 : Shape := ⟨2, ![1, 256]⟩
abbrev S1x1x256 : Shape := ⟨3, ![1, 1, 256]⟩
abbrev S2048 : Shape := ⟨1, ![2048]⟩
abbrev S1 : Shape := ⟨1, ![1]⟩
abbrev S1x1 : Shape := ⟨2, ![1, 1]⟩

abbrev nBuf : Space → Nat
  | .hbm => 19
  | .vmem => 39
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S8192x6144, .f32⟩
  | .hbm, ⟨4, _⟩ => ⟨S1x6144, .f32⟩
  | .hbm, ⟨5, _⟩ => ⟨S2048x2048, .f32⟩
  | .hbm, ⟨6, _⟩ => ⟨S3x1024, .f32⟩
  | .hbm, ⟨7, _⟩ => ⟨S8192x1024, .bf16⟩
  | .hbm, ⟨8, _⟩ => ⟨S8192x6144, .bf16⟩
  | .hbm, ⟨9, _⟩ => ⟨S2048x2048, .bf16⟩
  | .hbm, ⟨10, _⟩ => ⟨S8192x2048, .f32⟩
  | .hbm, ⟨11, _⟩ => ⟨S8192x2048, .bf16⟩
  | .hbm, ⟨12, _⟩ => ⟨S2048x8192, .bf16⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8x1x8192, .f32⟩
  | .hbm, ⟨17, _⟩ => ⟨S1x2048, .f32⟩
  | .hbm, ⟨18, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S1x6144, .f32⟩
  | .local _ .vmem, ⟨9, _⟩ => ⟨S2048x2048, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S16x1024, .bf16⟩
  | .local _ .vmem, ⟨19, _⟩ => ⟨S16x1024, .bf16⟩
  | .local _ .vmem, ⟨20, _⟩ => ⟨S16x1024, .bf16⟩
  | .local _ .vmem, ⟨21, _⟩ => ⟨S16x1024, .bf16⟩
  | .local _ .vmem, ⟨22, _⟩ => ⟨S3x1024, .f32⟩
  | .local _ .vmem, ⟨23, _⟩ => ⟨S256x2048, .f32⟩
  | .local _ .vmem, ⟨24, _⟩ => ⟨S256x2048, .f32⟩
  | .local _ .vmem, ⟨25, _⟩ => ⟨S256x2048, .bf16⟩
  | .local _ .vmem, ⟨26, _⟩ => ⟨S256x2048, .bf16⟩
  | .local _ .vmem, ⟨27, _⟩ => ⟨S2048x256, .bf16⟩
  | .local _ .vmem, ⟨28, _⟩ => ⟨S2048x256, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S8x1x256, .f32⟩
  | .local _ .vmem, ⟨36, _⟩ => ⟨S8x1x256, .f32⟩
  | .local _ .vmem, ⟨37, _⟩ => ⟨S1x2048, .f32⟩
  | .local _ .vmem, ⟨38, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_v3_6 : Ref sig .tc := ⟨.hbm, 16, rfl⟩
abbrev main_v3_7 : Ref sig .tc := ⟨.hbm, 17, rfl⟩
abbrev main_v3_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg21_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem21_0 : DmaSem sig := 38

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_79 : BitVec 32 := 0#32
  let v177 : BitVec 1 := Scalar.cmpi .eq arg0 c0_i32_79
  let v178 : BitVec 32 := Scalar.extui v177
  let c0_i32_80 : BitVec 32 := 0#32
  let v179 : BitVec 1 := Scalar.cmpi .ne v178 c0_i32_80
  v179

def k0_cond2 (i : grid0.Coords) : BitVec 1 :=
  let arg0 : BitVec 32 := BitVec.ofNat 32 (i 0).val
  let c0_i32_81 : BitVec 32 := 0#32
  let v180 : BitVec 1 := Scalar.cmpi .sgt arg0 c0_i32_81
  let v181 : BitVec 32 := Scalar.extui v180
  let c0_i32_82 : BitVec 32 := 0#32
  let v182 : BitVec 1 := Scalar.cmpi .ne v181 c0_i32_82
  v182

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_10 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S8x1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Reference10Ideal.lean ====
abbrev S8192x2048 : Shape := ⟨2, ![8192, 2048]⟩
abbrev S8192x1024 : Shape := ⟨2, ![8192, 1024]⟩
abbrev S8192x6144 : Shape := ⟨2, ![8192, 6144]⟩
abbrev S1x6144 : Shape := ⟨2, ![1, 6144]⟩
abbrev S2048x2048 : Shape := ⟨2, ![2048, 2048]⟩
abbrev S3x1024 : Shape := ⟨2, ![3, 1024]⟩
abbrev S8192x512 : Shape := ⟨2, ![8192, 512]⟩
abbrev S8192x256 : Shape := ⟨2, ![8192, 256]⟩
abbrev S8192x64 : Shape := ⟨2, ![8192, 64]⟩
abbrev S8192x192 : Shape := ⟨2, ![8192, 192]⟩
abbrev S1x2048 : Shape := ⟨2, ![1, 2048]⟩
abbrev S_ : Shape := ⟨0, ![]⟩
abbrev S8194x1024 : Shape := ⟨2, ![8194, 1024]⟩
abbrev S1x1024 : Shape := ⟨2, ![1, 1024]⟩
abbrev S1024 : Shape := ⟨1, ![1024]⟩
abbrev S8192 : Shape := ⟨1, ![8192]⟩
abbrev S2048 : Shape := ⟨1, ![2048]⟩
abbrev S1x128 : Shape := ⟨2, ![1, 128]⟩

abbrev nBuf : Space → Nat
  | .hbm => 108
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1024, .f32⟩
  | .hbm, ⟨3, _⟩ => ⟨S8192x6144, .f32⟩
  | .hbm, ⟨4, _⟩ => ⟨S1x6144, .f32⟩
  | .hbm, ⟨5, _⟩ => ⟨S2048x2048, .f32⟩
  | .hbm, ⟨6, _⟩ => ⟨S3x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x512, .f32⟩
  | .hbm, ⟨12, _⟩ => ⟨S8192x256, .f32⟩
  | .hbm, ⟨13, _⟩ => ⟨S8192x64, .f32⟩
  | .hbm, ⟨14, _⟩ => ⟨S8192x1024, .f32⟩
  | .hbm, ⟨15, _⟩ => ⟨S8192x192, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S8192x1024, .f32⟩
  | .hbm, ⟨20, _⟩ => ⟨S_, .i32⟩
  | .hbm, ⟨21, _⟩ => ⟨S_, .f32⟩
  | .hbm, ⟨22, _⟩ => ⟨S8194x1024, .f32⟩
  | .hbm, ⟨23, _⟩ => ⟨S1x1024, .f32⟩
  | .hbm, ⟨24, _⟩ => ⟨S1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S_, .f32⟩
  | .hbm, ⟨75, _⟩ => ⟨S8192x2048, .f32⟩
  | .hbm, ⟨76, _⟩ => ⟨S8192x2048, .f32⟩
  | .hbm, ⟨77, _⟩ => ⟨S_, .f32⟩
  | .hbm, ⟨78, _⟩ => ⟨S8192, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S8192, .f32⟩
  | .hbm, ⟨90, _⟩ => ⟨S_, .f32⟩
  | .hbm, ⟨91, _⟩ => ⟨S8192, .f32⟩
  | .hbm, ⟨92, _⟩ => ⟨S8192, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S_, .f32⟩
  | .hbm, ⟨99, _⟩ => ⟨S2048, .f32⟩
  | .hbm, ⟨100, _⟩ => ⟨S1x2048, .f32⟩
  | .hbm, ⟨101, _⟩ => ⟨S8192x2048, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .bf16⟩
  | .hbm, ⟨106, _⟩ => ⟨S8192x1024, .bf16⟩
  | .hbm, ⟨107, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v37 : Ref sig .tc := ⟨.hbm, 55, rfl⟩
abbrev main_v38 : Ref sig .tc := ⟨.hbm, 56, rfl⟩
abbrev main_call2_v0 : Ref sig .tc := ⟨.hbm, 57, rfl⟩
abbrev main_call2_v1 : Ref sig .tc := ⟨.hbm, 58, rfl⟩
abbrev main_call2_cst : Ref sig .tc := ⟨.hbm, 59, rfl⟩
abbrev main_call2_v2 : Ref sig .tc := ⟨.hbm, 60, rfl⟩
abbrev main_call2_v3 : Ref sig .tc := ⟨.hbm, 61, rfl⟩
abbrev main_call2_cst_0 : Ref sig .tc := ⟨.hbm, 62, rfl⟩
abbrev main_call2_v4 : Ref sig .tc := ⟨.hbm, 63, rfl⟩
abbrev main_call2_v5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_0 : Ref sig .tc := ⟨.hbm, 74, rfl⟩
abbrev main_v48 : Ref sig .tc := ⟨.hbm, 75, rfl⟩
abbrev main_v49 : Ref sig .tc := ⟨.hbm, 76, rfl⟩
abbrev main_cst_1 : Ref sig .tc := ⟨.hbm, 77, rfl⟩
abbrev main_v50 : Ref sig .tc := ⟨.hbm, 78, rfl⟩
abbrev main_cst_2 : Ref sig .tc := ⟨.hbm, 79, rfl⟩
abbrev main_v51 : Ref sig .tc := ⟨.hbm, 80, rfl⟩
abbrev main_v52 : Ref sig .tc := ⟨.hbm, 81, rfl⟩
abbrev main_cst_3 : Ref sig .tc := ⟨.hbm, 82, rfl⟩
abbrev main_v53 : Ref sig .tc := ⟨.hbm, 83, rfl⟩
abbrev main_cst_4 : Ref sig .tc := ⟨.hbm, 84, rfl⟩
abbrev main_v54 : Ref sig .tc := ⟨.hbm, 85, rfl⟩
abbrev main_cst_5 : Ref sig .tc := ⟨.hbm, 86, rfl⟩
abbrev main_cst_6 : Ref sig .tc := ⟨.hbm, 87, rfl⟩
abbrev main_v55 : Ref sig .tc := ⟨.hbm, 88, rfl⟩
abbrev main_v56 : Ref sig .tc := ⟨.hbm, 89, rfl⟩
abbrev main_cst_7 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_8 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩

abbrev nD : Nat := 1
abbrev τ : Topo := Topo.v7x

variable {F : FTy → Type} [FloatOps F]
-- ==== Kernel11.lean ====
abbrev S16x2048 : Shape := ⟨2, ![16, 2048]⟩
abbrev S2048x768 : Shape := ⟨2, ![2048, 768]⟩
abbrev S1x768 : Shape := ⟨2, ![1, 768]⟩
abbrev S16x768 : Shape := ⟨2, ![16, 768]⟩

abbrev nBuf : Space → Nat
  | .hbm => 4
  | .vmem => 4
  | .smem => 0
  | _ => 0

abbrev bufTy : (tb : Table) → Fin (tcTables nBuf tb) → BufTy
  | .hbm, ⟨0, _⟩ => ⟨S16x2048, .f32⟩
  | .hbm, ⟨1, _⟩ => ⟨S2048x768, .f32⟩
  | .hbm, ⟨2, _⟩ => ⟨S1x768, .f32⟩
  | .hbm, ⟨3, _⟩ => ⟨S16x768, .f32⟩
  | .local _ .vmem, ⟨0, _⟩ => ⟨S16x2048, .f32⟩
  | .local _ .vmem, ⟨1, _⟩ => ⟨S2048x768, .f32⟩
  | .local _ .vmem, ⟨2, _⟩ => ⟨S1x768, .f32⟩
  | .local _ .vmem, ⟨3, _⟩ => ⟨S16x768, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference11Ideal.lean ====
abbrev S16x2048 : Shape := ⟨2, ![16, 2048]⟩
abbrev S2048x768 : Shape := ⟨2, ![2048, 768]⟩
abbrev S1x768 : Shape := ⟨2, ![1, 768]⟩
abbrev S_ : Shape := ⟨0, ![]⟩
abbrev S16x768 : Shape := ⟨2, ![16, 768]⟩

abbrev nBuf : Space → Nat
  | .hbm => 15
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x768, .f32⟩
  | .hbm, ⟨2, _⟩ => ⟨S1x768, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x768, .f32⟩
  | .hbm, ⟨13, _⟩ => ⟨S16x768, .f32⟩
  | .hbm, ⟨14, _⟩ => ⟨S16x768, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Proof.Model.lean ====
/-
  What the backward kernel of the attention computes, block of keys by block of keys, as plain functions of the arrays
  it reads. Nothing here runs a program: rows of an array, rows put into an array, one step of the loop over the blocks
  of queries, the loop, the block on the diagonal, and one point of the grid.
-/
module

public import proofs.«01_k».proof.Proof.Gen.KernelIdeal.Skeleton
public import Idealize.ShloMosaic.Lib.VecWindow
public import Idealize.ShloMosaic.Lib.ValueIdxCore

@[expose] public section

set_option maxRecDepth 16384

noncomputable section

namespace Cert.KernelIdeal.Model

open Cert.KernelIdeal Cert.KernelIdeal.Gen
open Idealize.ShloMosaic Idealize.ShloMosaic.TcCoe
open Idealize.SL.Sem
open Idealize.ShloMosaic.ValueIdx (ix2 ix3 eq_ix2 eq_ix3)

/-! ## Rows of an array -/

section Rows

variable {α : Type} {N M : ℕ}

/-- The `n` rows from row `r` on of a slab of `N` rows. Every use stays inside the slab; past its end the rows start again. -/
def slabRows [NeZero N] (x : (⟨3, ![1, N, M]⟩ : Shape).Idx → α) (r n : ℕ) : (⟨3, ![1, n, M]⟩ : Shape).Idx → α :=
  fun y => x (ix3 (y 0) (Fin.ofNat N (r + (y 1).val)) (y 2))

/-- The `n` rows from row `r` on of a matrix of `N` rows. -/
def matRows [NeZero N] (x : (⟨2, ![N, M]⟩ : Shape).Idx → α) (r n : ℕ) : (⟨2, ![n, M]⟩ : Shape).Idx → α :=
  fun y => x (ix2 (Fin.ofNat N (r + (y 0).val)) (y 1))

/-- A matrix with the rows `w` in the place of its `n` rows from row `r` on. -/
def putRows (x : (⟨2, ![N, M]⟩ : Shape).Idx → α) (r n : ℕ) (w : (⟨2, ![n, M]⟩ : Shape).Idx → α) : (⟨2, ![N, M]⟩ : Shape).Idx → α :=
  VecWindow.put x ![r, 0] ![n, M] w

/-- A slab with the rows `w` in the place of its `n` rows from row `r` on. -/
def putSlab (x : (⟨3, ![1, N, M]⟩ : Shape).Idx → α) (r n : ℕ) (w : (⟨3, ![1, n, M]⟩ : Shape).Idx → α) : (⟨3, ![1, N, M]⟩ : Shape).Idx → α :=
  VecWindow.put x ![0, r, 0] ![1, n, M] w

/-- Two slabs of `n` rows, one under the other. -/
def stack {n : ℕ} (lo hi : (⟨3, ![1, n, M]⟩ : Shape).Idx → α) : (⟨3, ![1, n + n, M]⟩ : Shape).Idx → α :=
  fun y => if h : (y 1).val < n then lo (ix3 (y 0) ⟨(y 1).val, h⟩ (y 2))
    else hi (ix3 (y 0) ⟨(y 1).val - n, by have h2 : (y 1).val < n + n := (y 1).isLt; omega⟩ (y 2))

/-- A window of a slab at its own rows, whole in the last axis, is those rows. -/
theorem window_slab [NeZero N] (x : (⟨3, ![1, N, M]⟩ : Shape).Idx → α) (r n : ℕ) (inb : ∀ a, ![0, r, 0] a + ![1, n, M] a ≤ (⟨3, ![1, N, M]⟩ : Shape).size a) :
    VecWindow.window x ![0, r, 0] ![1, n, M] inb = slabRows x r n := by
  funext y
  have h1 : r + n ≤ N := inb 1
  have hy : (y 1).val < n := (y 1).isLt
  refine congrArg x (funext fun a => Fin.ext ?_)
  match a with
  | ⟨0, _⟩ => show 0 + 1 * (y 0).val = (y 0).val; omega
  | ⟨1, _⟩ => show r + 1 * (y 1).val = (r + (y 1).val) % N; rw [Nat.mod_eq_of_lt (by omega)]; omega
  | ⟨2, _⟩ => show 0 + 1 * (y 2).val = (y 2).val; omega

/-- A window of a matrix at its own rows, whole in the last axis, is those rows. -/
theorem window_mat [NeZero N] (x : (⟨2, ![N, M]⟩ : Shape).Idx → α) (r n : ℕ) (inb : ∀ a, ![r, 0] a + ![n, M] a ≤ (⟨2, ![N, M]⟩ : Shape).size a) :
    VecWindow.window x ![r, 0] ![n, M] inb = matRows x r n := by
  funext y
  have h1 : r + n ≤ N := inb 0
  have hy : (y 0).val < n := (y 0).isLt
  refine congrArg x (funext fun a => Fin.ext ?_)
  match a with
  | ⟨0, _⟩ => show r + 1 * (y 0).val = (r + (y 0).val) % N; rw [Nat.mod_eq_of_lt (by omega)]; omega
  | ⟨1, _⟩ => show 0 + 1 * (y 1).val = (y 1).val; omega

end Rows

/-! ## One block of keys -/

section Block

variable {F : FTy → Type} [FloatOps F] [Named F]

/-- The sums a block of keys carries: of the keys' gradient and of the values' gradient. -/
abbrev Sums (F : FTy → Type) : Type := FVec F S1024x256 .f32 × FVec F S1024x128 .f32

variable (Q : Vec F S1x8192x256 .bf16) (D : Vec F S8192x128 .bf16) (L DL : Vec F S1x8x1024 .f32)

/-- One step of the loop: the block of queries `r` against the block of keys `K`, `V`. -/
def stepOf (K : FVec F S1024x256 .bf16) (V : FVec F S1024x128 .bf16) (r : ℕ) (s : Sums F × Vec F S8192x256 .f32) : Sums F × Vec F S8192x256 .f32 :=
  ((k0_pay46 K V s.1.1 (slabRows Q (1024 * r) 1024) (matRows D (1024 * r) 1024) (slabRows L r 1) (slabRows DL r 1),
    k0_pay47 K s.1.2 (slabRows Q (1024 * r) 1024) (matRows D (1024 * r) 1024) (slabRows L r 1)),
   putRows s.2 (1024 * r) 1024 (k0_pay45 K V (slabRows Q (1024 * r) 1024) (matRows D (1024 * r) 1024) (slabRows L r 1) (slabRows DL r 1) (matRows s.2 (1024 * r) 1024)))

/-- The first `n` steps of the loop that follows the block `j`: the blocks of queries `j + 1`, `j + 2` and so on. -/
def loopOf (K : FVec F S1024x256 .bf16) (V : FVec F S1024x128 .bf16) (j : ℕ) (s : Sums F × Vec F S8192x256 .f32) : ℕ → Sums F × Vec F S8192x256 .f32
  | 0 => s
  | n + 1 => stepOf Q D L DL K V (j + 1 + n) (loopOf K V j s n)

variable (k : Vec F S1x1024x256 .bf16) (v : Vec F S1x1024x128 .bf16) (j : ℕ)

/-- The gradient's array after the first tile of the diagonal: the block's first half of queries, first half of keys. -/
def diagA (X : Vec F S8192x256 .f32) : Vec F S8192x256 .f32 :=
  putRows X (1024 * j) 512 (k0_pay20 (k0_pay9 k) (k0_pay10 v) (k0_pay12 (matRows D (1024 * j) 512)) (k0_pay13 (slabRows DL j 1))
    (k0_pay14 k (slabRows L j 1) (slabRows Q (1024 * j) 512)) k0_pay15 (matRows X (1024 * j) 512))

/-- after the second: the second half of queries, the first half of keys; -/
def diagB (X : Vec F S8192x256 .f32) : Vec F S8192x256 .f32 :=
  putRows X (1024 * j + 512) 512 (k0_pay29 (k0_pay27 (k0_pay5 k) (k0_pay6 v) (k0_pay7 (slabRows L j 1)) (k0_pay8 (slabRows DL j 1))
    (slabRows Q (1024 * j + 512) 512) (matRows D (1024 * j + 512) 512)) (matRows X (1024 * j + 512) 512))

/-- and after the third: the second half of queries, the second half of keys. -/
def diagC (X : Vec F S8192x256 .f32) : Vec F S8192x256 .f32 :=
  putRows X (1024 * j + 512) 512 (k0_pay38 (k0_pay37 (k0_pay5 k) (k0_pay6 v) (k0_pay7 (slabRows L j 1)) (k0_pay8 (slabRows DL j 1))
    (slabRows Q (1024 * j + 512) 512) (matRows D (1024 * j + 512) 512) (matRows X (1024 * j + 512) 512)))

/-- The sums after the diagonal, of the keys' gradient -/
def diagK : FVec F S1024x256 .f32 :=
  k0_pay39
    (k0_pay19 (k0_pay10 v) (k0_pay11 (slabRows Q (1024 * j) 512)) (k0_pay12 (matRows D (1024 * j) 512)) (k0_pay13 (slabRows DL j 1))
      (k0_pay14 k (slabRows L j 1) (slabRows Q (1024 * j) 512)) k0_pay15)
    (k0_pay28 (k0_pay22 (slabRows Q (1024 * j + 512) 512)) (k0_pay26 (k0_pay5 k) (k0_pay6 v) (k0_pay7 (slabRows L j 1)) (k0_pay8 (slabRows DL j 1))
      (slabRows Q (1024 * j + 512) 512) (matRows D (1024 * j + 512) 512)))
    (k0_pay36 (k0_pay5 k) (k0_pay6 v) (k0_pay7 (slabRows L j 1)) (k0_pay8 (slabRows DL j 1)) (slabRows Q (1024 * j + 512) 512) (matRows D (1024 * j + 512) 512))

/-- and of the values' gradient. -/
def diagV : FVec F S1024x128 .f32 :=
  k0_pay40
    (k0_pay17 (k0_pay12 (matRows D (1024 * j) 512)) (k0_pay14 k (slabRows L j 1) (slabRows Q (1024 * j) 512)) k0_pay15)
    (k0_pay25 (k0_pay5 k) (k0_pay7 (slabRows L j 1)) (slabRows Q (1024 * j + 512) 512) (matRows D (1024 * j + 512) 512))
    (k0_pay34 (k0_pay5 k) (k0_pay7 (slabRows L j 1)) (slabRows Q (1024 * j + 512) 512) (matRows D (1024 * j + 512) 512))

/-- The block of keys `j`: its diagonal, then the blocks of queries past it. -/
def blockOf (X : Vec F S8192x256 .f32) : Sums F × Vec F S8192x256 .f32 :=
  loopOf Q D L DL (k0_pay5 k) (k0_pay6 v) j
    ((diagK Q D L DL k v j, diagV Q D L k j), diagC Q D L DL k v j (diagB Q D L DL k v j (diagA Q D L DL k v j X))) (7 - j)

end Block

/-! ## One point of the grid -/

section Point

variable {F : FTy → Type} [FloatOps F] [Named F]
variable (Q : Vec F S1x8192x256 .bf16) (K : Vec F S1x2048x256 .bf16) (V : Vec F S1x2048x128 .bf16) (D : Vec F S8192x128 .bf16) (L DL : Vec F S1x8x1024 .f32)

/-- What the point starts from: zero at a head's first point, and what the head's point before left at the others. -/
def startOf (a : ℕ) (X : Vec F S8192x256 .f32) : Vec F S8192x256 .f32 := if a = 0 then k0_pay4 else X

/-- The second of the point's two blocks of keys, which is taken first; -/
def hiOf (a : ℕ) (X : Vec F S8192x256 .f32) : Sums F × Vec F S8192x256 .f32 :=
  blockOf Q D L DL (slabRows K 1024 1024) (slabRows V 1024 1024) (2 * (3 - a) + 1) (startOf a X)

/-- and the first, which is taken second. -/
def loOf (a : ℕ) (X : Vec F S8192x256 .f32) : Sums F × Vec F S8192x256 .f32 :=
  blockOf Q D L DL (slabRows K 0 1024) (slabRows V 0 1024) (2 * (3 - a)) (hiOf Q K V D L DL a X).2

/-- The running gradient of the queries after the point; -/
def accOf (a : ℕ) (X : Vec F S8192x256 .f32) : Vec F S8192x256 .f32 := (loOf Q K V D L DL a X).2

/-- the block of the keys' gradient the point leaves; -/
def dkOf (a : ℕ) (X : Vec F S8192x256 .f32) : Vec F S1x2048x256 .bf16 :=
  stack (n := 1024) (k0_pay1 (k0_pay102 (loOf Q K V D L DL a X).1.1)) (k0_pay55 (hiOf Q K V D L DL a X).1.1)

/-- and the block of the values' gradient. -/
def dvOf (a : ℕ) (X : Vec F S8192x256 .f32) : Vec F S1x2048x128 .bf16 :=
  stack (n := 1024) (k0_pay2 (loOf Q K V D L DL a X).1.2) (k0_pay56 (hiOf Q K V D L DL a X).1.2)

end Point

end Cert.KernelIdeal.Model
-- ==== Proof.Offsets.lean ====
/-
  Where the kernel reads and writes: the offsets and the bounds of its loops, which the program computes in 32-bit
  words from the point's second coordinate, as numbers.
-/
module

public import proofs.«01_k».proof.Proof.Model

@[expose] public section

set_option maxRecDepth 16384

noncomputable section

namespace Cert.KernelIdeal.Offsets

open Cert.KernelIdeal Cert.KernelIdeal.Gen
open Idealize.ShloMosaic Idealize.ShloMosaic.TcCoe

/-- The block of keys of the point's second half, -/
def hiBlock (i : grid0.Coords) : ℕ := 2 * (3 - (i 1).val) + 1
/-- and of its first. -/
def loBlock (i : grid0.Coords) : ℕ := 2 * (3 - (i 1).val)

theorem coord_lt (i : grid0.Coords) : (i 1).val < 4 := (i 1).isLt

/-- A statement about the second coordinate that holds at its four values. -/
theorem by_coord {P : ℕ → Prop} (h : ∀ a < 4, P a) (i : grid0.Coords) : P (i 1).val := h _ (coord_lt i)

theorem off1_hi (i : grid0.Coords) : k0_off1 i 1#32 = ![0, hiBlock i, 0] := by
  unfold k0_off1 hiBlock
  exact by_coord (P := fun a => (![0, (Scalar.indexCast (Scalar.addi (Scalar.muli (Scalar.subi 3#32 (BitVec.ofNat 32 a)) 2#32) 1#32)).toNat, 0] : Fin 3 → ℕ) = ![0, 2 * (3 - a) + 1, 0]) (by decide +kernel) i

theorem off1_lo (i : grid0.Coords) : k0_off1 i 0#32 = ![0, loBlock i, 0] := by
  unfold k0_off1 loBlock
  exact by_coord (P := fun a => (![0, (Scalar.indexCast (Scalar.addi (Scalar.muli (Scalar.subi 3#32 (BitVec.ofNat 32 a)) 2#32) 0#32)).toNat, 0] : Fin 3 → ℕ) = ![0, 2 * (3 - a), 0]) (by decide +kernel) i

/-- The first row of a half block of queries on the diagonal, as the program computes it. -/
def rowWord (a : ℕ) (b h : BitVec 32) : ℕ :=
  (Scalar.indexCast (Scalar.addi (Scalar.muli (Scalar.addi (Scalar.muli (Scalar.subi 3#32 (BitVec.ofNat 32 a)) 2#32) b) 1024#32) h)).toNat

theorem rowWord_hi0 (i : grid0.Coords) : rowWord (i 1).val 1#32 0#32 = 1024 * hiBlock i :=
  by_coord (P := fun a => rowWord a 1#32 0#32 = 1024 * (2 * (3 - a) + 1)) (by decide +kernel) i
theorem rowWord_hi1 (i : grid0.Coords) : rowWord (i 1).val 1#32 512#32 = 1024 * hiBlock i + 512 :=
  by_coord (P := fun a => rowWord a 1#32 512#32 = 1024 * (2 * (3 - a) + 1) + 512) (by decide +kernel) i
theorem rowWord_lo0 (i : grid0.Coords) : rowWord (i 1).val 0#32 0#32 = 1024 * loBlock i :=
  by_coord (P := fun a => rowWord a 0#32 0#32 = 1024 * (2 * (3 - a))) (by decide +kernel) i
theorem rowWord_lo1 (i : grid0.Coords) : rowWord (i 1).val 0#32 512#32 = 1024 * loBlock i + 512 :=
  by_coord (P := fun a => rowWord a 0#32 512#32 = 1024 * (2 * (3 - a)) + 512) (by decide +kernel) i

theorem off2_eq (i : grid0.Coords) (b h : BitVec 32) {r : ℕ} (e : rowWord (i 1).val b h = r) : k0_off2 i b h = ![0, r, 0] := e ▸ rfl
theorem off3_eq (i : grid0.Coords) (b h : BitVec 32) {r : ℕ} (e : rowWord (i 1).val b h = r) : k0_off3 i b h = ![r, 0] := e ▸ rfl
theorem off4_eq (i : grid0.Coords) (b h : BitVec 32) {r : ℕ} (e : rowWord (i 1).val b h = r) : k0_off4 i b h = ![r, 0] := e ▸ rfl

/-! ## The loops -/

theorem trips1 (i : grid0.Coords) : (k0_t1_loop i).trips = 7 - hiBlock i :=
  by_coord (P := fun a => Scf.trips (Scalar.addi (Scalar.addi (Scalar.muli (Scalar.subi 3#32 (BitVec.ofNat 32 a)) 2#32) 1#32) 1#32)
    (Scalar.addi (Scalar.addi (Scalar.addi (Scalar.muli (Scalar.subi 3#32 (BitVec.ofNat 32 a)) 2#32) 1#32) 1#32)
      (Scalar.muli (Scalar.divsi (Scalar.subi 8#32 (Scalar.addi (Scalar.addi (Scalar.muli (Scalar.subi 3#32 (BitVec.ofNat 32 a)) 2#32) 1#32) 1#32)) 1#32) 1#32)) 1#32
    = 7 - (2 * (3 - a) + 1)) (by decide +kernel) i

theorem trips3 (i : grid0.Coords) : (k0_t3_loop i).trips = 7 - loBlock i :=
  by_coord (P := fun a => Scf.trips (Scalar.addi (Scalar.addi (Scalar.muli (Scalar.subi 3#32 (BitVec.ofNat 32 a)) 2#32) 0#32) 1#32)
    (Scalar.addi (Scalar.addi (Scalar.addi (Scalar.muli (Scalar.subi 3#32 (BitVec.ofNat 32 a)) 2#32) 0#32) 1#32)
      (Scalar.muli (Scalar.divsi (Scalar.subi 8#32 (Scalar.addi (Scalar.addi (Scalar.muli (Scalar.subi 3#32 (BitVec.ofNat 32 a)) 2#32) 0#32) 1#32)) 1#32) 1#32)) 1#32
    = 7 - (2 * (3 - a))) (by decide +kernel) i

/-- Nothing is left for the loop that would take the steps a division leaves over, -/
theorem trips2 (i : grid0.Coords) : (k0_t2_loop i).trips = 0 :=
  by_coord (P := fun a => Scf.trips
    (Scalar.addi (Scalar.addi (Scalar.addi (Scalar.muli (Scalar.subi 3#32 (BitVec.ofNat 32 a)) 2#32) 1#32) 1#32)
      (Scalar.muli (Scalar.divsi (Scalar.subi 8#32 (Scalar.addi (Scalar.addi (Scalar.muli (Scalar.subi 3#32 (BitVec.ofNat 32 a)) 2#32) 1#32) 1#32)) 1#32) 1#32))
    (Scalar.addi (Scalar.addi (Scalar.addi (Scalar.muli (Scalar.subi 3#32 (BitVec.ofNat 32 a)) 2#32) 1#32) 1#32)
      (Scalar.subi 8#32 (Scalar.addi (Scalar.addi (Scalar.muli (Scalar.subi 3#32 (BitVec.ofNat 32 a)) 2#32) 1#32) 1#32))) 1#32 = 0) (by decide +kernel) i

/-- of either block. -/
theorem trips4 (i : grid0.Coords) : (k0_t4_loop i).trips = 0 :=
  by_coord (P := fun a => Scf.trips
    (Scalar.addi (Scalar.addi (Scalar.addi (Scalar.muli (Scalar.subi 3#32 (BitVec.ofNat 32 a)) 2#32) 0#32) 1#32)
      (Scalar.muli (Scalar.divsi (Scalar.subi 8#32 (Scalar.addi (Scalar.addi (Scalar.muli (Scalar.subi 3#32 (BitVec.ofNat 32 a)) 2#32) 0#32) 1#32)) 1#32) 1#32))
    (Scalar.addi (Scalar.addi (Scalar.addi (Scalar.muli (Scalar.subi 3#32 (BitVec.ofNat 32 a)) 2#32) 0#32) 1#32)
      (Scalar.subi 8#32 (Scalar.addi (Scalar.addi (Scalar.muli (Scalar.subi 3#32 (BitVec.ofNat 32 a)) 2#32) 0#32) 1#32))) 1#32 = 0) (by decide +kernel) i

/-- The block of queries of a step of the loop, as the program computes it. -/
def blockWord (a : ℕ) (b : BitVec 32) (n : ℕ) : BitVec 32 :=
  Scf.iv (Scalar.addi (Scalar.addi (Scalar.muli (Scalar.subi 3#32 (BitVec.ofNat 32 a)) 2#32) b) 1#32) 1#32 n

theorem blockWord_hi (i : grid0.Coords) (n : ℕ) (hn : n < 7) :
    (Scalar.indexCast (blockWord (i 1).val 1#32 n)).toNat = hiBlock i + 1 + n ∧ (Scalar.indexCast (Scalar.muli (blockWord (i 1).val 1#32 n) 1024#32)).toNat = 1024 * (hiBlock i + 1 + n) :=
  by_coord (P := fun a => ∀ n < 7, (Scalar.indexCast (blockWord a 1#32 n)).toNat = 2 * (3 - a) + 1 + 1 + n
    ∧ (Scalar.indexCast (Scalar.muli (blockWord a 1#32 n) 1024#32)).toNat = 1024 * (2 * (3 - a) + 1 + 1 + n)) (by decide +kernel) i n hn

theorem blockWord_lo (i : grid0.Coords) (n : ℕ) (hn : n < 8) :
    (Scalar.indexCast (blockWord (i 1).val 0#32 n)).toNat = loBlock i + 1 + n ∧ (Scalar.indexCast (Scalar.muli (blockWord (i 1).val 0#32 n) 1024#32)).toNat = 1024 * (loBlock i + 1 + n) :=
  by_coord (P := fun a => ∀ n < 8, (Scalar.indexCast (blockWord a 0#32 n)).toNat = 2 * (3 - a) + 1 + n
    ∧ (Scalar.indexCast (Scalar.muli (blockWord a 0#32 n) 1024#32)).toNat = 1024 * (2 * (3 - a) + 1 + n)) (by decide +kernel) i n hn

theorem lt1 (i : grid0.Coords) (n : Fin (k0_t1_loop i).trips) : n.val < 7 := by
  have h := n.isLt; have e := trips1 i; omega
theorem lt3 (i : grid0.Coords) (n : Fin (k0_t3_loop i).trips) : n.val < 8 := by
  have h := n.isLt; have e := trips3 i; omega

theorem off5_eq (i : grid0.Coords) (n : Fin (k0_t1_loop i).trips) : k0_off5 i n = ![0, 1024 * (hiBlock i + 1 + n.val), 0] := by
  rw [← (blockWord_hi i n.val (lt1 i n)).2]; rfl
theorem off6_eq (i : grid0.Coords) (n : Fin (k0_t1_loop i).trips) : k0_off6 i n = ![1024 * (hiBlock i + 1 + n.val), 0] := by
  rw [← (blockWord_hi i n.val (lt1 i n)).2]; rfl
theorem off7_eq (i : grid0.Coords) (n : Fin (k0_t1_loop i).trips) : k0_off7 i n = ![0, hiBlock i + 1 + n.val, 0] := by
  rw [← (blockWord_hi i n.val (lt1 i n)).1]; rfl
theorem off8_eq (i : grid0.Coords) (n : Fin (k0_t1_loop i).trips) : k0_off8 i n = ![1024 * (hiBlock i + 1 + n.val), 0] := by
  rw [← (blockWord_hi i n.val (lt1 i n)).2]; rfl
theorem off13_eq (i : grid0.Coords) (n : Fin (k0_t3_loop i).trips) : k0_off13 i n = ![0, 1024 * (loBlock i + 1 + n.val), 0] := by
  rw [← (blockWord_lo i n.val (lt3 i n)).2]; rfl
theorem off14_eq (i : grid0.Coords) (n : Fin (k0_t3_loop i).trips) : k0_off14 i n = ![1024 * (loBlock i + 1 + n.val), 0] := by
  rw [← (blockWord_lo i n.val (lt3 i n)).2]; rfl
theorem off15_eq (i : grid0.Coords) (n : Fin (k0_t3_loop i).trips) : k0_off15 i n = ![0, loBlock i + 1 + n.val, 0] := by
  rw [← (blockWord_lo i n.val (lt3 i n)).1]; rfl
theorem off16_eq (i : grid0.Coords) (n : Fin (k0_t3_loop i).trips) : k0_off16 i n = ![1024 * (loBlock i + 1 + n.val), 0] := by
  rw [← (blockWord_lo i n.val (lt3 i n)).2]; rfl

/-! ## The two conditions -/

/-- The running gradient is set to zero at a head's first point, -/
theorem cond_first (i : grid0.Coords) :
    Scalar.cmpi .ne (Scalar.extui (Scalar.cmpi .eq (Scalar.subi 3#32 (BitVec.ofNat 32 (i 1).val)) 3#32) : BitVec 32) 0#32 = 1#1 ↔ (i 1).val = 0 :=
  by_coord (P := fun a => Scalar.cmpi .ne (Scalar.extui (Scalar.cmpi .eq (Scalar.subi 3#32 (BitVec.ofNat 32 a)) 3#32) : BitVec 32) 0#32 = 1#1 ↔ a = 0) (by decide +kernel) i

/-- and goes out at its last. -/
theorem cond_last (i : grid0.Coords) : k0_cond2 i = 1#1 ↔ (i 1).val = 3 :=
  by_coord (P := fun a => Scalar.cmpi .ne (Scalar.extui (Scalar.cmpi .eq (Scalar.subi 3#32 (BitVec.ofNat 32 a)) 0#32) : BitVec 32) 0#32 = 1#1 ↔ a = 3) (by decide +kernel) i

end Cert.KernelIdeal.Offsets
-- ==== Proof.Parts.lean ====
/-
  What each part of the kernel's body does: from the six arrays it reads and the running gradient, the values it hands
  on and the running gradient it leaves.
-/
module

public import proofs.«01_k».proof.Proof.Offsets
public import proofs.«01_k».proof.Proof.Gen.KernelIdeal.Frame

@[expose] public section

set_option maxRecDepth 16384

noncomputable section

namespace Cert.KernelIdeal.Parts

open Cert.KernelIdeal Cert.KernelIdeal.Gen Cert.KernelIdeal.Model Cert.KernelIdeal.Offsets
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## Reading rows of a whole array -/

theorem read_slab {n N M : ℕ} [NeZero N] {e : EltTy} (m : Memref sig .tc .vmem ⟨3, ![1, N, M]⟩ e) (h : m.IsWhole) (x : Vec F ⟨3, ![1, N, M]⟩ e)
    {off : Fin 3 → ℕ} (inb : ∀ a, off a + (![1, n, M] : Fin 3 → ℕ) a ≤ (⟨3, ![1, N, M]⟩ : Shape).size a) (r : ℕ) (ho : off = ![0, r, 0]) :
    View.readAt (Elt F) m.view (Rect.unit (s := ⟨3, ![1, N, M]⟩) off ![1, n, M] inb).toLoadRect (h.unread x) = slabRows x r n := by
  subst ho
  rw [View.readAt_unit m.view _ inb rfl inb, h.read_unread]
  exact window_slab x r n inb

theorem read_mat {n N M : ℕ} [NeZero N] {e : EltTy} (m : Memref sig .tc .vmem ⟨2, ![N, M]⟩ e) (f : m.view.ty.Contents (Elt F))
    {off : Fin 2 → ℕ} (inb : ∀ a, off a + (![n, M] : Fin 2 → ℕ) a ≤ (⟨2, ![N, M]⟩ : Shape).size a) (r : ℕ) (ho : off = ![r, 0]) :
    View.readAt (Elt F) m.view (Rect.unit (s := ⟨2, ![N, M]⟩) off ![n, M] inb).toLoadRect f = matRows (m.view.read (Elt F) f) r n := by
  subst ho
  rw [View.readAt_unit m.view _ inb rfl inb]
  exact window_mat _ r n inb

theorem read_put {n N M : ℕ} {e : EltTy} (m : Memref sig .tc .vmem ⟨2, ![N, M]⟩ e) (h : m.IsWhole) (x : Vec F ⟨2, ![N, M]⟩ e)
    {off : Fin 2 → ℕ} (inb : ∀ a, off a + (![n, M] : Fin 2 → ℕ) a ≤ (⟨2, ![N, M]⟩ : Shape).size a) (w : Vec F ⟨2, ![n, M]⟩ e) (r : ℕ) (ho : off = ![r, 0]) :
    m.view.read (Elt F) (m.view.writes (Elt F) (h.unread x) [⟨Rect.unit (s := ⟨2, ![N, M]⟩) off ![n, M] inb, w⟩]) = putRows x r n w := by
  rw [View.read_writes_cons_put m.view _ inb w [] ho, View.writes_nil, h.read_unread]
  rfl

section Body

variable (c : Dev nD) (i : grid0.Coords) (arg2 : Memref sig .tc .vmem S1x8192x256 .bf16) (harg2 : arg2.IsWhole) (arg3 : Memref sig .tc .vmem S1x2048x256 .bf16) (harg3 : arg3.IsWhole) (arg4 : Memref sig .tc .vmem S1x2048x128 .bf16) (harg4 : arg4.IsWhole) (arg5 : Memref sig .tc .vmem S8192x128 .bf16) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8192x256 .bf16) (harg8 : arg8.IsWhole) (arg9 : Memref sig .tc .vmem S1x2048x256 .bf16) (harg9 : arg9.IsWhole) (arg10 : Memref sig .tc .vmem S1x2048x128 .bf16) (harg10 : arg10.IsWhole) (arg11 : Memref sig .tc .vmem S8192x256 .f32) (harg11 : arg11.IsWhole)
variable (Q : Vec F S1x8192x256 .bf16) (K : Vec F S1x2048x256 .bf16) (V : Vec F S1x2048x128 .bf16) (D : Vec F S8192x128 .bf16) (L DL : Vec F S1x8x1024 .f32) (X : Vec F S8192x256 .f32)

/-- A whole array that a core holds at its values. -/
abbrev raw {s : Shape} {e : EltTy} (m : Memref sig .tc .vmem s e) (h : m.IsWhole) (x : Vec F s e) : sProp 𝕄 :=
  (m.view.loc (c : Thread nD τ)) ↦[m.view.set]{fullShare} h.unread x

/-- What every part of the body holds: the six arrays it reads, and the running gradient at `X`. -/
abbrev st (X : Vec F S8192x256 .f32) : sProp 𝕄 :=
  iprop(raw c arg2 harg2 Q ∗ raw c arg3 harg3 K ∗ raw c arg4 harg4 V ∗ raw c arg5 harg5 D ∗ raw c arg6 harg6 L ∗ raw c arg7 harg7 DL ∗ raw c arg11 harg11 X)

/-! ### The loads -/

theorem ldQ (b h : BitVec 32) (inb : ∀ a, k0_off2 i b h a + S1x512x256.size a ≤ S1x8192x256.size a) {r : ℕ} (e : rowWord (i 1).val b h = r) :
    View.readAt (Elt F) arg2.view (Rect.unit (s := S1x8192x256) (k0_off2 i b h) S1x512x256.size inb).toLoadRect (harg2.unread Q) = slabRows Q r 512 :=
  read_slab arg2 harg2 Q inb r (off2_eq i b h e)

theorem ldD (b h : BitVec 32) (inb : ∀ a, k0_off3 i b h a + S512x128.size a ≤ S8192x128.size a) {r : ℕ} (e : rowWord (i 1).val b h = r) :
    View.readAt (Elt F) arg5.view (Rect.unit (s := S8192x128) (k0_off3 i b h) S512x128.size inb).toLoadRect (harg5.unread D) = matRows D r 512 :=
  (read_mat arg5 _ inb r (off3_eq i b h e)).trans (congrArg (fun x => matRows x r 512) (harg5.read_unread D))

theorem ldL (m : Memref sig .tc .vmem S1x8x1024 .f32) (hm : m.IsWhole) (x : Vec F S1x8x1024 .f32) (b : BitVec 32)
    (inb : ∀ a, k0_off1 i b a + S1x1x1024.size a ≤ S1x8x1024.size a) {j : ℕ} (e : k0_off1 i b = ![0, j, 0]) :
    View.readAt (Elt F) m.view (Rect.unit (s := S1x8x1024) (k0_off1 i b) S1x1x1024.size inb).toLoadRect (hm.unread x) = slabRows x j 1 :=
  read_slab m hm x inb j e

theorem ldX (b h : BitVec 32) (inb : ∀ a, k0_off4 i b h a + S512x256.size a ≤ S8192x256.size a) {r : ℕ} (e : rowWord (i 1).val b h = r) :
    View.readAt (Elt F) arg11.view (Rect.unit (s := S8192x256) (k0_off4 i b h) S512x256.size inb).toLoadRect (harg11.unread X) = matRows X r 512 :=
  (read_mat arg11 _ inb r (off4_eq i b h e)).trans (congrArg (fun x => matRows x r 512) (harg11.read_unread X))

theorem ldK (b : ℕ) (inb : ∀ a, (![0, b, 0] : Fin 3 → ℕ) a + S1x1024x256.size a ≤ S1x2048x256.size a) :
    View.readAt (Elt F) arg3.view (Rect.unit (s := S1x2048x256) ![0, b, 0] S1x1024x256.size inb).toLoadRect (harg3.unread K) = slabRows K b 1024 :=
  read_slab arg3 harg3 K inb b rfl

theorem ldV (b : ℕ) (inb : ∀ a, (![0, b, 0] : Fin 3 → ℕ) a + S1x1024x128.size a ≤ S1x2048x128.size a) :
    View.readAt (Elt F) arg4.view (Rect.unit (s := S1x2048x128) ![0, b, 0] S1x1024x128.size inb).toLoadRect (harg4.unread V) = slabRows V b 1024 :=
  read_slab arg4 harg4 V inb b rfl

/-- What a store of `n` whole rows leaves of the running gradient. -/
theorem stX (b h : BitVec 32) (inb : ∀ a, k0_off4 i b h a + S512x256.size a ≤ S8192x256.size a) (w : Vec F S512x256 .f32) {r : ℕ} (e : rowWord (i 1).val b h = r) :
    arg11.view.writes (Elt F) (harg11.unread X) [⟨Rect.unit (s := S8192x256) (k0_off4 i b h) S512x256.size inb, w⟩] = harg11.unread (putRows X r 512 w) :=
  harg11.eq_unread (read_put arg11 harg11 X inb w r (off4_eq i b h e))

/-! ### The parts -/

/-- The first part sets the running gradient to zero at a head's first point, and loads the second block of keys and the first half of its own block of queries. -/
theorem part1 (E : Set ℕ) :
    st c arg2 harg2 arg3 harg3 arg4 harg4 arg5 harg5 arg6 harg6 arg7 harg7 arg11 harg11 Q K V D L DL X ⊢ wp frame (wpE (defs₀ (F := F)) Variants.none c none) E (k0_part1 i arg2 harg2 arg3 harg3 arg4 harg4 arg5 harg5 arg6 harg6 arg7 harg7 arg8 harg8 arg9 harg9 arg10 harg10 arg11 harg11)
        (fun r => iprop(⌜∃ w0 w5 w18 : BitVec 32, r = ⟨w0, w5, k0_pay5 (slabRows K 1024 1024), k0_pay6 (slabRows V 1024 1024), k0_pay7 (slabRows L (hiBlock i) 1), k0_pay8 (slabRows DL (hiBlock i) 1),
              w18, k0_pay9 (slabRows K 1024 1024), k0_pay10 (slabRows V 1024 1024), k0_pay11 (slabRows Q (1024 * hiBlock i) 512), k0_pay12 (matRows D (1024 * hiBlock i) 512),
              k0_pay13 (slabRows DL (hiBlock i) 1), k0_pay14 (slabRows K 1024 1024) (slabRows L (hiBlock i) 1) (slabRows Q (1024 * hiBlock i) 512), k0_pay15⟩⌝
          ∗ st c arg2 harg2 arg3 harg3 arg4 harg4 arg5 harg5 arg6 harg6 arg7 harg7 arg11 harg11 Q K V D L DL (startOf (i 1).val X))) := by
  rw [k0_part1_eq_skeleton]; unfold k0_part1_skel
  iintro ⟨H2, H3, H4, H5, H6, H7, H11⟩
  have eq := ldQ i arg2 harg2 Q 1#32 0#32 (k0_off2_inb i 1 0) (rowWord_hi0 i)
  have ed := ldD i arg5 harg5 D 1#32 0#32 (k0_off3_inb i 1 0) (rowWord_hi0 i)
  have el := ldL i arg6 harg6 L 1#32 (k0_off1_inb i 1) (off1_hi i)
  have edl := ldL i arg7 harg7 DL 1#32 (k0_off1_inb i 1) (off1_hi i)
  have ek := ldK arg3 harg3 K 1024 inb_S1x2048x256_S1x1024x256_0_1024_0
  have ev := ldV arg4 harg4 V 1024 inb_S1x2048x128_S1x1024x128_0_1024_0
  by_cases h0 : (i 1).val = 0
  · have hc := (cond_first i).mpr h0
    sl_exec (disch := sl_exact hc)
    sl_step
    isplitr
    · ipureintro; exact ⟨_, _, _, rfl⟩
    have ex : startOf (i 1).val X = k0_pay4 := if_pos h0
    rw [ex]
    isplitl [H2]; · iexact H2
    isplitl [H3]; · iexact H3
    isplitl [H4]; · iexact H4
    isplitl [H5]; · iexact H5
    isplitl [H6]; · iexact H6
    isplitl [H7]; · iexact H7
    rw [harg11.eq_unread (View.read_writes_full arg11.view (harg11.unread X) inb_S8192x256_S8192x256_0_0 k0_pay4 [])]
    iexact H11
  · have hc : ¬ _ := fun h => h0 ((cond_first i).mp h)
    sl_exec (disch := sl_exact hc)
    sl_step
    isplitr
    · ipureintro; exact ⟨_, _, _, rfl⟩
    have ex : startOf (i 1).val X = X := if_neg h0
    rw [ex]
    sl_close

/-- The second part: the diagonal's first tile goes into the running gradient, and the second half of the block of queries is loaded. -/
theorem part2 (E : Set ℕ) (v5 : BitVec 32) (v7 : FVec F S1024x256 .bf16) (v9 : FVec F S1024x128 .bf16) (v12 v15 : FVec F S1x1024 .f32) (v18 : BitVec 32) (v19 : FVec F S512x256 .bf16) (v20 : FVec F S512x128 .bf16) (v23 : FVec F S512x256 .bf16)
    (v26 : FVec F S512x128 .bf16) (v28 : FVec F S1x512 .f32) (v32 : FVec F S512x512 .f32) (v35 : IVec S512x512 1) :
    st c arg2 harg2 arg3 harg3 arg4 harg4 arg5 harg5 arg6 harg6 arg7 harg7 arg11 harg11 Q K V D L DL X ⊢ wp frame (wpE (defs₀ (F := F)) Variants.none c none) E (k0_part2 i arg2 harg2 arg3 harg3 arg4 harg4 arg5 harg5 arg6 harg6 arg7 harg7 arg8 harg8 arg9 harg9 arg10 harg10 arg11 harg11 v5 v7 v9 v12 v15 v18 v19 v20 v23 v26 v28 v32 v35)
        (fun r => iprop(⌜∃ w : BitVec 32, r = ⟨k0_pay17 v26 v32 v35, k0_pay19 v20 v23 v26 v28 v32 v35, w, k0_pay22 (slabRows Q (1024 * hiBlock i + 512) 512),
              k0_pay25 v7 v12 (slabRows Q (1024 * hiBlock i + 512) 512) (matRows D (1024 * hiBlock i + 512) 512),
              k0_pay26 v7 v9 v12 v15 (slabRows Q (1024 * hiBlock i + 512) 512) (matRows D (1024 * hiBlock i + 512) 512),
              k0_pay27 v7 v9 v12 v15 (slabRows Q (1024 * hiBlock i + 512) 512) (matRows D (1024 * hiBlock i + 512) 512)⟩⌝
          ∗ st c arg2 harg2 arg3 harg3 arg4 harg4 arg5 harg5 arg6 harg6 arg7 harg7 arg11 harg11 Q K V D L DL (putRows X (1024 * hiBlock i) 512 (k0_pay20 v19 v20 v26 v28 v32 v35 (matRows X (1024 * hiBlock i) 512))))) := by
  rw [k0_part2_eq_skeleton]; unfold k0_part2_skel
  iintro ⟨H2, H3, H4, H5, H6, H7, H11⟩
  have eq := ldQ i arg2 harg2 Q 1#32 512#32 (k0_off2_inb i 1 1) (rowWord_hi1 i)
  have ed := ldD i arg5 harg5 D 1#32 512#32 (k0_off3_inb i 1 1) (rowWord_hi1 i)
  have ex := ldX i arg11 harg11 X 1#32 0#32 (k0_off4_inb i 1 0) (rowWord_hi0 i)
  sl_exec
  sl_step
  isplitr
  · ipureintro; exact ⟨_, rfl⟩
  rw [stX i arg11 harg11 X 1#32 0#32 (k0_off4_inb i 1 0) _ (rowWord_hi0 i)]
  sl_close

/-- The third part: the second tile goes into the running gradient, and the third is computed. -/
theorem part3 (E : Set ℕ) (v5 : BitVec 32) (v7 : FVec F S1024x256 .bf16) (v9 : FVec F S1024x128 .bf16) (v12 : FVec F S1x1024 .f32) (v15 : FVec F S1x1024 .f32) (v56 : BitVec 32) (v61 : FVec F S512x256 .bf16) (v77 : FVec F S512x512 .bf16) (v78 : FVec F S512x256 .f32) :
    st c arg2 harg2 arg3 harg3 arg4 harg4 arg5 harg5 arg6 harg6 arg7 harg7 arg11 harg11 Q K V D L DL X ⊢ wp frame (wpE (defs₀ (F := F)) Variants.none c none) E (k0_part3 i arg2 harg2 arg3 harg3 arg4 harg4 arg5 harg5 arg6 harg6 arg7 harg7 arg8 harg8 arg9 harg9 arg10 harg10 arg11 harg11 v5 v7 v9 v12 v15 v56 v61 v77 v78)
        (fun r => iprop(⌜r = ⟨k0_pay28 v61 v77, k0_pay34 v7 v12 (slabRows Q (1024 * hiBlock i + 512) 512) (matRows D (1024 * hiBlock i + 512) 512),
              k0_pay36 v7 v9 v12 v15 (slabRows Q (1024 * hiBlock i + 512) 512) (matRows D (1024 * hiBlock i + 512) 512),
              k0_pay37 v7 v9 v12 v15 (slabRows Q (1024 * hiBlock i + 512) 512) (matRows D (1024 * hiBlock i + 512) 512)
                (matRows (putRows X (1024 * hiBlock i + 512) 512 (k0_pay29 v78 (matRows X (1024 * hiBlock i + 512) 512))) (1024 * hiBlock i + 512) 512)⟩⌝
          ∗ st c arg2 harg2 arg3 harg3 arg4 harg4 arg5 harg5 arg6 harg6 arg7 harg7 arg11 harg11 Q K V D L DL (putRows X (1024 * hiBlock i + 512) 512 (k0_pay29 v78 (matRows X (1024 * hiBlock i + 512) 512))))) := by
  rw [k0_part3_eq_skeleton]; unfold k0_part3_skel
  iintro ⟨H2, H3, H4, H5, H6, H7, H11⟩
  have eq := ldQ i arg2 harg2 Q 1#32 512#32 (k0_off2_inb i 1 1) (rowWord_hi1 i)
  have ed := ldD i arg5 harg5 D 1#32 512#32 (k0_off3_inb i 1 1) (rowWord_hi1 i)
  have ex := ldX i arg11 harg11 X 1#32 512#32 (k0_off4_inb i 1 1) (rowWord_hi1 i)
  have es := stX i arg11 harg11 X 1#32 512#32 (k0_off4_inb i 1 1) (k0_pay29 v78 (matRows X (1024 * hiBlock i + 512) 512)) (rowWord_hi1 i)
  have ex2 := ldX i arg11 harg11 (putRows X (1024 * hiBlock i + 512) 512 (k0_pay29 v78 (matRows X (1024 * hiBlock i + 512) 512))) 1#32 512#32 (k0_off4_inb i 1 1) (rowWord_hi1 i)
  set_option sl_exec.maxSteps 3 in sl_exec
  rw [es]
  sl_exec
  sl_step
  isplitr
  · ipureintro; rfl
  sl_close

/-- One step of the first loop. -/
theorem step1 (E : Set ℕ) (v0 : BitVec 32) (v5 : BitVec 32) (v7 : FVec F S1024x256 .bf16) (v9 : FVec F S1024x128 .bf16) (v39 : FVec F S512x128 .f32) (v46 : FVec F S512x256 .f32) (v72 : FVec F S512x128 .f32) (v79 : FVec F S512x256 .f32) (v110 : FVec F S512x128 .f32) (v117 : FVec F S512x256 .f32) (v120 : FVec F S512x256 .f32)
    (n : Fin (k0_t1_loop i).trips) (s : Sums F) :
    st c arg2 harg2 arg3 harg3 arg4 harg4 arg5 harg5 arg6 harg6 arg7 harg7 arg11 harg11 Q K V D L DL X ⊢ wp frame (wpE (defs₀ (F := F)) Variants.none c none) E (k0_t1_body i arg2 harg2 arg3 harg3 arg4 harg4 arg5 harg5 arg6 harg6 arg7 harg7 arg8 harg8 arg9 harg9 arg10 harg10 arg11 harg11 v0 v5 v7 v9 v39 v46 v72 v79 v110 v117 v120 n s)
        (fun r => iprop(⌜r = (stepOf Q D L DL v7 v9 (hiBlock i + 1 + n.val) (s, X)).1⌝ ∗ st c arg2 harg2 arg3 harg3 arg4 harg4 arg5 harg5 arg6 harg6 arg7 harg7 arg11 harg11 Q K V D L DL (stepOf Q D L DL v7 v9 (hiBlock i + 1 + n.val) (s, X)).2)) := by
  obtain ⟨s1, s2⟩ := s
  unfold k0_t1_body
  iintro ⟨H2, H3, H4, H5, H6, H7, H11⟩
  have eq := read_slab arg2 harg2 Q (k0_off5_inb i n) _ (off5_eq i n)
  have ed := (read_mat arg5 (harg5.unread D) (k0_off6_inb i n) _ (off6_eq i n)).trans (congrArg (fun x => matRows x (1024 * (hiBlock i + 1 + n.val)) 1024) (harg5.read_unread D))
  have el := read_slab arg6 harg6 L (k0_off7_inb i n) _ (off7_eq i n)
  have edl := read_slab arg7 harg7 DL (k0_off7_inb i n) _ (off7_eq i n)
  have ex := (read_mat arg11 (harg11.unread X) (k0_off8_inb i n) _ (off8_eq i n)).trans (congrArg (fun x => matRows x (1024 * (hiBlock i + 1 + n.val)) 1024) (harg11.read_unread X))
  have es := fun w => harg11.eq_unread (read_put arg11 harg11 X (k0_off8_inb i n) w _ (off8_eq i n))
  sl_exec
  sl_step
  isplitr
  · ipureintro; rfl
  rw [es]
  sl_close

/-- The first loop, from any sums and any running gradient. -/
theorem loop1 (E : Set ℕ) (v0 : BitVec 32) (v5 : BitVec 32) (v7 : FVec F S1024x256 .bf16) (v9 : FVec F S1024x128 .bf16) (v39 : FVec F S512x128 .f32) (v46 : FVec F S512x256 .f32) (v72 : FVec F S512x128 .f32) (v79 : FVec F S512x256 .f32) (v110 : FVec F S512x128 .f32) (v117 : FVec F S512x256 .f32) (v120 : FVec F S512x256 .f32)
    (s : Sums F) {β : Type} {kk : Sums F → Prog (TpuEff nD τ sig (Elt F) Λ₀ .tc) β} {P : β → sProp 𝕄} :
    st c arg2 harg2 arg3 harg3 arg4 harg4 arg5 harg5 arg6 harg6 arg7 harg7 arg11 harg11 Q K V D L DL X ⊢ iprop((∀ acc, (⌜acc = (loopOf Q D L DL v7 v9 (hiBlock i) (s, X) (7 - hiBlock i)).1⌝ ∗ st c arg2 harg2 arg3 harg3 arg4 harg4 arg5 harg5 arg6 harg6 arg7 harg7 arg11 harg11 Q K V D L DL (loopOf Q D L DL v7 v9 (hiBlock i) (s, X) (7 - hiBlock i)).2)
          -∗ wp frame (wpE (defs₀ (F := F)) Variants.none c none) E (kk acc) P)
        -∗ wp frame (wpE (defs₀ (F := F)) Variants.none c none) E
          (Scf.Loop.for (k0_t1_loop i) (k0_t1_ok i) s (k0_t1_body i arg2 harg2 arg3 harg3 arg4 harg4 arg5 harg5 arg6 harg6 arg7 harg7 arg8 harg8 arg9 harg9 arg10 harg10 arg11 harg11 v0 v5 v7 v9 v39 v46 v72 v79 v110 v117 v120) >>= kk) P) := by
  have h := Scf.wp_for_bind frame (wpE (defs₀ (F := F)) Variants.none c none) E (k0_t1_loop i).lb (k0_t1_loop i).ub (k0_t1_loop i).st (k0_t1_ok i) s
    (k0_t1_body i arg2 harg2 arg3 harg3 arg4 harg4 arg5 harg5 arg6 harg6 arg7 harg7 arg8 harg8 arg9 harg9 arg10 harg10 arg11 harg11 v0 v5 v7 v9 v39 v46 v72 v79 v110 v117 v120)
    (fun n acc => iprop(⌜acc = (loopOf Q D L DL v7 v9 (hiBlock i) (s, X) n).1⌝ ∗ st c arg2 harg2 arg3 harg3 arg4 harg4 arg5 harg5 arg6 harg6 arg7 harg7 arg11 harg11 Q K V D L DL (loopOf Q D L DL v7 v9 (hiBlock i) (s, X) n).2))
    (fun n acc => by
      iintro ⟨%ha, H⟩
      subst ha
      iapply (step1 c i arg2 harg2 arg3 harg3 arg4 harg4 arg5 harg5 arg6 harg6 arg7 harg7 arg8 harg8 arg9 harg9 arg10 harg10 arg11 harg11 Q K V D L DL (loopOf Q D L DL v7 v9 (hiBlock i) (s, X) n.val).2 E v0 v5 v7 v9 v39 v46 v72 v79 v110 v117 v120 n _)
      iexact H) (kk := kk) (Q := P)
  have e : Scf.trips (k0_t1_loop i).lb (k0_t1_loop i).ub (k0_t1_loop i).st = 7 - hiBlock i := trips1 i
  rw [e] at h
  iintro H HK
  iapply h $$ [H]
  · isplitr
    · ipureintro; rfl
    iexact H
  iexact HK

/-- What a store of a block of keys leaves. -/
theorem stSlab {M : ℕ} {e : EltTy} (m : Memref sig .tc .vmem ⟨3, ![1, 2048, M]⟩ e) (h : m.IsWhole) (x : Vec F ⟨3, ![1, 2048, M]⟩ e) (r : ℕ)
    (inb : ∀ a, (![0, r, 0] : Fin 3 → ℕ) a + (![1, 1024, M] : Fin 3 → ℕ) a ≤ (⟨3, ![1, 2048, M]⟩ : Shape).size a) (w : Vec F ⟨3, ![1, 1024, M]⟩ e) :
    m.view.writes (Elt F) (h.unread x) [⟨Rect.unit (s := ⟨3, ![1, 2048, M]⟩) ![0, r, 0] ![1, 1024, M] inb, w⟩] = h.unread (putSlab x r 1024 w) := by
  refine h.eq_unread ?_
  rw [View.read_writes_cons_put m.view _ inb w [] rfl, View.writes_nil, h.read_unread]
  rfl

/-- The fourth part: the diagonal's last tile goes into the running gradient, the loop over the blocks of queries past the diagonal runs, and the second block of keys goes out. -/
theorem part4 (E : Set ℕ) (v0 : BitVec 32) (v5 : BitVec 32) (v7 : FVec F S1024x256 .bf16) (v9 : FVec F S1024x128 .bf16) (v39 : FVec F S512x128 .f32) (v46 : FVec F S512x256 .f32) (v72 : FVec F S512x128 .f32) (v79 : FVec F S512x256 .f32) (v110 : FVec F S512x128 .f32) (v117 : FVec F S512x256 .f32) (v120 : FVec F S512x256 .f32) (K9 : Vec F S1x2048x256 .bf16) (K10 : Vec F S1x2048x128 .bf16)
    (S : Sums F × Vec F S8192x256 .f32)
    (hS : S = loopOf Q D L DL v7 v9 (hiBlock i) ((k0_pay39 v46 v79 v117, k0_pay40 v39 v72 v110), putRows X (1024 * hiBlock i + 512) 512 (k0_pay38 v120)) (7 - hiBlock i)) :
    iprop(raw c arg9 harg9 K9 ∗ raw c arg10 harg10 K10 ∗ st c arg2 harg2 arg3 harg3 arg4 harg4 arg5 harg5 arg6 harg6 arg7 harg7 arg11 harg11 Q K V D L DL X) ⊢ wp frame (wpE (defs₀ (F := F)) Variants.none c none) E (k0_part4 i arg2 harg2 arg3 harg3 arg4 harg4 arg5 harg5 arg6 harg6 arg7 harg7 arg8 harg8 arg9 harg9 arg10 harg10 arg11 harg11 v0 v5 v7 v9 v39 v46 v72 v79 v110 v117 v120)
        (fun r => iprop(⌜∃ w : BitVec 32, r = ⟨w, k0_pay57 (slabRows K 0 1024), k0_pay58 (slabRows V 0 1024), k0_pay59 (slabRows L (loBlock i) 1)⟩⌝
          ∗ raw c arg9 harg9 (putSlab K9 1024 1024 (k0_pay55 S.1.1)) ∗ raw c arg10 harg10 (putSlab K10 1024 1024 (k0_pay56 S.1.2)) ∗ st c arg2 harg2 arg3 harg3 arg4 harg4 arg5 harg5 arg6 harg6 arg7 harg7 arg11 harg11 Q K V D L DL S.2)) := by
  rw [k0_part4_eq_skeleton]; unfold k0_part4_skel
  iintro ⟨H9, H10, H2, H3, H4, H5, H6, H7, H11⟩
  have htr := trips2 i
  have es := stX i arg11 harg11 X 1#32 512#32 (k0_off4_inb i 1 1) (k0_pay38 v120) (rowWord_hi1 i)
  have ek := ldK arg3 harg3 K 0 inb_S1x2048x256_S1x1024x256_0_0_0
  have ev := ldV arg4 harg4 V 0 inb_S1x2048x128_S1x1024x128_0_0_0
  have el := ldL i arg6 harg6 L 0#32 (k0_off1_inb i 0) (off1_lo i)
  sl_exec
  rw [es]
  iapply (loop1 c i arg2 harg2 arg3 harg3 arg4 harg4 arg5 harg5 arg6 harg6 arg7 harg7 arg8 harg8 arg9 harg9 arg10 harg10 arg11 harg11 Q K V D L DL (putRows X (1024 * hiBlock i + 512) 512 (k0_pay38 v120)) E v0 v5 v7 v9 v39 v46 v72 v79 v110 v117 v120 (k0_pay39 v46 v79 v117, k0_pay40 v39 v72 v110)) $$ [H2 H3 H4 H5 H6 H7 H11]
  · sl_close
  iintro %acc ⟨%ha, H2, H3, H4, H5, H6, H7, H11⟩
  rw [← hS] at ha
  rw [← hS]
  obtain ⟨s1, s2⟩ := acc
  obtain rfl : s1 = S.1.1 := congrArg Prod.fst ha
  obtain rfl : s2 = S.1.2 := congrArg Prod.snd ha
  sl_exec
  sl_step
  isplitr
  · ipureintro; exact ⟨_, rfl⟩
  rw [stSlab arg9 harg9 K9 1024, stSlab arg10 harg10 K10 1024]
  sl_close

/-- The fifth part: the first block of keys, the diagonal's first tile. -/
theorem part5 (E : Set ℕ) (v148 : BitVec 32) (v150 : FVec F S1024x256 .bf16) (v152 : FVec F S1024x128 .bf16) (v155 : FVec F S1x1024 .f32) :
    st c arg2 harg2 arg3 harg3 arg4 harg4 arg5 harg5 arg6 harg6 arg7 harg7 arg11 harg11 Q K V D L DL X ⊢ wp frame (wpE (defs₀ (F := F)) Variants.none c none) E (k0_part5 i arg2 harg2 arg3 harg3 arg4 harg4 arg5 harg5 arg6 harg6 arg7 harg7 arg8 harg8 arg9 harg9 arg10 harg10 arg11 harg11 v148 v150 v152 v155)
        (fun r => iprop(⌜∃ w : BitVec 32, r = ⟨k0_pay60 (slabRows DL (loBlock i) 1), k0_pay65 v150 v155 (slabRows Q (1024 * loBlock i) 512) (matRows D (1024 * loBlock i) 512),
              k0_pay67 v150 v152 v155 (slabRows DL (loBlock i) 1) (slabRows Q (1024 * loBlock i) 512) (matRows D (1024 * loBlock i) 512), w⟩⌝
          ∗ st c arg2 harg2 arg3 harg3 arg4 harg4 arg5 harg5 arg6 harg6 arg7 harg7 arg11 harg11 Q K V D L DL (putRows X (1024 * loBlock i) 512 (k0_pay68 v150 v152 v155 (slabRows DL (loBlock i) 1) (slabRows Q (1024 * loBlock i) 512) (matRows D (1024 * loBlock i) 512) (matRows X (1024 * loBlock i) 512))))) := by
  rw [k0_part5_eq_skeleton]; unfold k0_part5_skel
  iintro ⟨H2, H3, H4, H5, H6, H7, H11⟩
  have eq := ldQ i arg2 harg2 Q 0#32 0#32 (k0_off2_inb i 0 0) (rowWord_lo0 i)
  have ed := ldD i arg5 harg5 D 0#32 0#32 (k0_off3_inb i 0 0) (rowWord_lo0 i)
  have edl := ldL i arg7 harg7 DL 0#32 (k0_off1_inb i 0) (off1_lo i)
  have ex := ldX i arg11 harg11 X 0#32 0#32 (k0_off4_inb i 0 0) (rowWord_lo0 i)
  have es := fun w => stX i arg11 harg11 X 0#32 0#32 (k0_off4_inb i 0 0) w (rowWord_lo0 i)
  sl_exec
  sl_step
  isplitr
  · ipureintro; exact ⟨_, rfl⟩
  rw [es]
  sl_close

/-- The sixth part: the diagonal's second tile. -/
theorem part6 (E : Set ℕ) (v148 : BitVec 32) (v150 : FVec F S1024x256 .bf16) (v152 : FVec F S1024x128 .bf16) (v155 : FVec F S1x1024 .f32) (v158 : FVec F S1x1024 .f32) (v198 : BitVec 32) :
    st c arg2 harg2 arg3 harg3 arg4 harg4 arg5 harg5 arg6 harg6 arg7 harg7 arg11 harg11 Q K V D L DL X ⊢ wp frame (wpE (defs₀ (F := F)) Variants.none c none) E (k0_part6 i arg2 harg2 arg3 harg3 arg4 harg4 arg5 harg5 arg6 harg6 arg7 harg7 arg8 harg8 arg9 harg9 arg10 harg10 arg11 harg11 v148 v150 v152 v155 v158 v198)
        (fun r => iprop(⌜∃ w : BitVec 32, r = ⟨k0_pay73 v150 v155 (slabRows Q (1024 * loBlock i + 512) 512) (matRows D (1024 * loBlock i + 512) 512),
              k0_pay75 v150 v152 v155 v158 (slabRows Q (1024 * loBlock i + 512) 512) (matRows D (1024 * loBlock i + 512) 512), w,
              k0_pay77 v150, k0_pay78 v152, k0_pay79 (slabRows Q (1024 * loBlock i + 512) 512), k0_pay80 (matRows D (1024 * loBlock i + 512) 512), k0_pay81 v155, k0_pay82 v158⟩⌝
          ∗ st c arg2 harg2 arg3 harg3 arg4 harg4 arg5 harg5 arg6 harg6 arg7 harg7 arg11 harg11 Q K V D L DL (putRows X (1024 * loBlock i + 512) 512 (k0_pay76 v150 v152 v155 v158 (slabRows Q (1024 * loBlock i + 512) 512) (matRows D (1024 * loBlock i + 512) 512) (matRows X (1024 * loBlock i + 512) 512))))) := by
  rw [k0_part6_eq_skeleton]; unfold k0_part6_skel
  iintro ⟨H2, H3, H4, H5, H6, H7, H11⟩
  have eq := ldQ i arg2 harg2 Q 0#32 512#32 (k0_off2_inb i 0 1) (rowWord_lo1 i)
  have ed := ldD i arg5 harg5 D 0#32 512#32 (k0_off3_inb i 0 1) (rowWord_lo1 i)
  have ex := ldX i arg11 harg11 X 0#32 512#32 (k0_off4_inb i 0 1) (rowWord_lo1 i)
  have es := fun w => stX i arg11 harg11 X 0#32 512#32 (k0_off4_inb i 0 1) w (rowWord_lo1 i)
  sl_exec
  sl_step
  isplitr
  · ipureintro; exact ⟨_, rfl⟩
  rw [es]
  sl_close
/-- One step of the second loop. -/
theorem step3 (E : Set ℕ) (v148 : BitVec 32) (v150 : FVec F S1024x256 .bf16) (v152 : FVec F S1024x128 .bf16) (v182 : FVec F S512x128 .f32) (v189 : FVec F S512x256 .f32) (v215 : FVec F S512x128 .f32) (v222 : FVec F S512x256 .f32) (v232 : BitVec 32) (v233 : FVec F S512x256 .bf16) (v234 : FVec F S512x128 .bf16) (v237 : FVec F S512x256 .bf16) (v240 : FVec F S512x128 .bf16) (v241 : FVec F S1x512 .f32) (v242 : FVec F S1x512 .f32)
    (n : Fin (k0_t3_loop i).trips) (s : Sums F) :
    st c arg2 harg2 arg3 harg3 arg4 harg4 arg5 harg5 arg6 harg6 arg7 harg7 arg11 harg11 Q K V D L DL X ⊢ wp frame (wpE (defs₀ (F := F)) Variants.none c none) E (k0_t3_body i arg2 harg2 arg3 harg3 arg4 harg4 arg5 harg5 arg6 harg6 arg7 harg7 arg8 harg8 arg9 harg9 arg10 harg10 arg11 harg11 v148 v150 v152 v182 v189 v215 v222 v232 v233 v234 v237 v240 v241 v242 n s)
        (fun r => iprop(⌜r = (stepOf Q D L DL v150 v152 (loBlock i + 1 + n.val) (s, X)).1⌝ ∗ st c arg2 harg2 arg3 harg3 arg4 harg4 arg5 harg5 arg6 harg6 arg7 harg7 arg11 harg11 Q K V D L DL (stepOf Q D L DL v150 v152 (loBlock i + 1 + n.val) (s, X)).2)) := by
  obtain ⟨s1, s2⟩ := s
  unfold k0_t3_body
  iintro ⟨H2, H3, H4, H5, H6, H7, H11⟩
  have eq := read_slab arg2 harg2 Q (k0_off13_inb i n) _ (off13_eq i n)
  have ed := (read_mat arg5 (harg5.unread D) (k0_off14_inb i n) _ (off14_eq i n)).trans (congrArg (fun x => matRows x (1024 * (loBlock i + 1 + n.val)) 1024) (harg5.read_unread D))
  have el := read_slab arg6 harg6 L (k0_off15_inb i n) _ (off15_eq i n)
  have edl := read_slab arg7 harg7 DL (k0_off15_inb i n) _ (off15_eq i n)
  have ex := (read_mat arg11 (harg11.unread X) (k0_off16_inb i n) _ (off16_eq i n)).trans (congrArg (fun x => matRows x (1024 * (loBlock i + 1 + n.val)) 1024) (harg11.read_unread X))
  have es := fun w => harg11.eq_unread (read_put arg11 harg11 X (k0_off16_inb i n) w _ (off16_eq i n))
  sl_exec
  sl_step
  isplitr
  · ipureintro; rfl
  rw [es]
  sl_close

/-- The second loop, from any sums and any running gradient. -/
theorem loop3 (E : Set ℕ) (v148 : BitVec 32) (v150 : FVec F S1024x256 .bf16) (v152 : FVec F S1024x128 .bf16) (v182 : FVec F S512x128 .f32) (v189 : FVec F S512x256 .f32) (v215 : FVec F S512x128 .f32) (v222 : FVec F S512x256 .f32) (v232 : BitVec 32) (v233 : FVec F S512x256 .bf16) (v234 : FVec F S512x128 .bf16) (v237 : FVec F S512x256 .bf16) (v240 : FVec F S512x128 .bf16) (v241 : FVec F S1x512 .f32) (v242 : FVec F S1x512 .f32)
    (s : Sums F) {β : Type} {kk : Sums F → Prog (TpuEff nD τ sig (Elt F) Λ₀ .tc) β} {P : β → sProp 𝕄} :
    st c arg2 harg2 arg3 harg3 arg4 harg4 arg5 harg5 arg6 harg6 arg7 harg7 arg11 harg11 Q K V D L DL X ⊢ iprop((∀ acc, (⌜acc = (loopOf Q D L DL v150 v152 (loBlock i) (s, X) (7 - loBlock i)).1⌝ ∗ st c arg2 harg2 arg3 harg3 arg4 harg4 arg5 harg5 arg6 harg6 arg7 harg7 arg11 harg11 Q K V D L DL (loopOf Q D L DL v150 v152 (loBlock i) (s, X) (7 - loBlock i)).2)
          -∗ wp frame (wpE (defs₀ (F := F)) Variants.none c none) E (kk acc) P)
        -∗ wp frame (wpE (defs₀ (F := F)) Variants.none c none) E
          (Scf.Loop.for (k0_t3_loop i) (k0_t3_ok i) s (k0_t3_body i arg2 harg2 arg3 harg3 arg4 harg4 arg5 harg5 arg6 harg6 arg7 harg7 arg8 harg8 arg9 harg9 arg10 harg10 arg11 harg11 v148 v150 v152 v182 v189 v215 v222 v232 v233 v234 v237 v240 v241 v242) >>= kk) P) := by
  have h := Scf.wp_for_bind frame (wpE (defs₀ (F := F)) Variants.none c none) E (k0_t3_loop i).lb (k0_t3_loop i).ub (k0_t3_loop i).st (k0_t3_ok i) s
    (k0_t3_body i arg2 harg2 arg3 harg3 arg4 harg4 arg5 harg5 arg6 harg6 arg7 harg7 arg8 harg8 arg9 harg9 arg10 harg10 arg11 harg11 v148 v150 v152 v182 v189 v215 v222 v232 v233 v234 v237 v240 v241 v242)
    (fun n acc => iprop(⌜acc = (loopOf Q D L DL v150 v152 (loBlock i) (s, X) n).1⌝ ∗ st c arg2 harg2 arg3 harg3 arg4 harg4 arg5 harg5 arg6 harg6 arg7 harg7 arg11 harg11 Q K V D L DL (loopOf Q D L DL v150 v152 (loBlock i) (s, X) n).2))
    (fun n acc => by
      iintro ⟨%ha, H⟩
      subst ha
      iapply (step3 c i arg2 harg2 arg3 harg3 arg4 harg4 arg5 harg5 arg6 harg6 arg7 harg7 arg8 harg8 arg9 harg9 arg10 harg10 arg11 harg11 Q K V D L DL (loopOf Q D L DL v150 v152 (loBlock i) (s, X) n.val).2 E v148 v150 v152 v182 v189 v215 v222 v232 v233 v234 v237 v240 v241 v242 n _)
      iexact H) (kk := kk) (Q := P)
  have e : Scf.trips (k0_t3_loop i).lb (k0_t3_loop i).ub (k0_t3_loop i).st = 7 - loBlock i := trips3 i
  rw [e] at h
  iintro H HK
  iapply h $$ [H]
  · isplitr
    · ipureintro; rfl
    iexact H
  iexact HK

/-- The seventh part: the diagonal's last tile, and the loop over the blocks of queries past it. -/
theorem part7 (E : Set ℕ) (v148 : BitVec 32) (v150 : FVec F S1024x256 .bf16) (v152 : FVec F S1024x128 .bf16) (v182 : FVec F S512x128 .f32) (v189 : FVec F S512x256 .f32) (v215 : FVec F S512x128 .f32) (v222 : FVec F S512x256 .f32) (v232 : BitVec 32) (v233 : FVec F S512x256 .bf16) (v234 : FVec F S512x128 .bf16) (v237 : FVec F S512x256 .bf16) (v240 : FVec F S512x128 .bf16) (v241 : FVec F S1x512 .f32) (v242 : FVec F S1x512 .f32)
    (S : Sums F × Vec F S8192x256 .f32)
    (hS : S = loopOf Q D L DL v150 v152 (loBlock i) ((k0_pay86 v189 v222 v233 v234 v237 v240 v241 v242, k0_pay87 v182 v215 v233 v237 v240 v241),
      putRows X (1024 * loBlock i + 512) 512 (k0_pay85 v233 v234 v237 v240 v241 v242 (matRows X (1024 * loBlock i + 512) 512))) (7 - loBlock i)) (K9 : Vec F S1x2048x256 .bf16) :
    iprop(raw c arg9 harg9 K9 ∗ st c arg2 harg2 arg3 harg3 arg4 harg4 arg5 harg5 arg6 harg6 arg7 harg7 arg11 harg11 Q K V D L DL X) ⊢ wp frame (wpE (defs₀ (F := F)) Variants.none c none) E (k0_part7 i arg2 harg2 arg3 harg3 arg4 harg4 arg5 harg5 arg6 harg6 arg7 harg7 arg8 harg8 arg9 harg9 arg10 harg10 arg11 harg11 v148 v150 v152 v182 v189 v215 v222 v232 v233 v234 v237 v240 v241 v242)
        (fun r => iprop(⌜r = ⟨S.1.2, k0_pay102 S.1.1⟩⌝ ∗ raw c arg9 harg9 K9 ∗ st c arg2 harg2 arg3 harg3 arg4 harg4 arg5 harg5 arg6 harg6 arg7 harg7 arg11 harg11 Q K V D L DL S.2)) := by
  rw [k0_part7_eq_skeleton]; unfold k0_part7_skel
  iintro ⟨H9, H2, H3, H4, H5, H6, H7, H11⟩
  have htr := trips4 i
  have ex := ldX i arg11 harg11 X 0#32 512#32 (k0_off4_inb i 0 1) (rowWord_lo1 i)
  have es := fun w => stX i arg11 harg11 X 0#32 512#32 (k0_off4_inb i 0 1) w (rowWord_lo1 i)
  sl_exec
  rw [es]
  iapply (loop3 c i arg2 harg2 arg3 harg3 arg4 harg4 arg5 harg5 arg6 harg6 arg7 harg7 arg8 harg8 arg9 harg9 arg10 harg10 arg11 harg11 Q K V D L DL (putRows X (1024 * loBlock i + 512) 512 (k0_pay85 v233 v234 v237 v240 v241 v242 (matRows X (1024 * loBlock i + 512) 512))) E v148 v150 v152 v182 v189 v215 v222 v232 v233 v234 v237 v240 v241 v242
    (k0_pay86 v189 v222 v233 v234 v237 v240 v241 v242, k0_pay87 v182 v215 v233 v237 v240 v241)) $$ [H2 H3 H4 H5 H6 H7 H11]
  · sl_close
  iintro %acc ⟨%ha, H2, H3, H4, H5, H6, H7, H11⟩
  rw [← hS] at ha
  rw [← hS]
  obtain ⟨s1, s2⟩ := acc
  obtain rfl : s1 = S.1.1 := congrArg Prod.fst ha
  obtain rfl : s2 = S.1.2 := congrArg Prod.snd ha
  sl_exec
  sl_step
  isplitr
  · ipureintro; rfl
  sl_close

end Body

end Cert.KernelIdeal.Parts
-- ==== Proof.Body.lean ====
/-
  What one point of the grid does: from the six arrays it reads and the running gradient, the two blocks of gradients and
  the running gradient it leaves, and at a head's last point the queries' gradient.
-/
module

public import proofs.«01_k».proof.Proof.Parts

@[expose] public section

set_option maxRecDepth 16384

noncomputable section

namespace Cert.KernelIdeal.Body

open Cert.KernelIdeal Cert.KernelIdeal.Gen Cert.KernelIdeal.Model Cert.KernelIdeal.Offsets Cert.KernelIdeal.Parts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix2 ix3 eq_ix2 eq_ix3)

/-- Rows put in the two halves of a slab, one after the other, make the two halves. -/
theorem put_put {α : Type} {M : ℕ} (x : (⟨3, ![1, 2048, M]⟩ : Shape).Idx → α) (lo hi : (⟨3, ![1, 1024, M]⟩ : Shape).Idx → α) :
    putSlab (putSlab x 1024 1024 hi) 0 1024 lo = stack (n := 1024) lo hi := by
  funext y
  have h2 : (y 1).val < 2048 := (y 1).isLt
  have h0 : (y 0).val < 1 := (y 0).isLt
  have h3 : (y 2).val < M := (y 2).isLt
  unfold putSlab stack VecWindow.put
  by_cases h : (y 1).val < 1024
  · rw [dif_pos h, dif_pos (fun a => by
      match a with
      | ⟨0, _⟩ => exact ⟨Nat.zero_le _, by show (y 0).val < 0 + 1; omega⟩
      | ⟨1, _⟩ => exact ⟨Nat.zero_le _, by show (y 1).val < 0 + 1024; omega⟩
      | ⟨2, _⟩ => exact ⟨Nat.zero_le _, by show (y 2).val < 0 + M; omega⟩)]
    refine congrArg lo (funext fun a => Fin.ext ?_)
    match a with
    | ⟨0, _⟩ => rfl
    | ⟨1, _⟩ => rfl
    | ⟨2, _⟩ => rfl
  · rw [dif_neg h, dif_neg (fun hh => by
      have h1 : (y 1).val < 0 + 1024 := (hh 1).2
      omega), dif_pos (fun a => by
      match a with
      | ⟨0, _⟩ => exact ⟨Nat.zero_le _, by show (y 0).val < 0 + 1; omega⟩
      | ⟨1, _⟩ => exact ⟨by show 1024 ≤ (y 1).val; omega, by show (y 1).val < 1024 + 1024; omega⟩
      | ⟨2, _⟩ => exact ⟨Nat.zero_le _, by show (y 2).val < 0 + M; omega⟩)]
    refine congrArg hi (funext fun a => Fin.ext ?_)
    match a with
    | ⟨0, _⟩ => rfl
    | ⟨1, _⟩ => rfl
    | ⟨2, _⟩ => rfl

variable {F : FTy → Type} [FloatOps F] [Named F]

local notation "𝕄" => MT nD τ sig Unit (Elt F) ℕ (UR sig nD τ) ℕ

section Body

variable (c : Dev nD) (i : grid0.Coords) (arg2 : Memref sig .tc .vmem S1x8192x256 .bf16) (harg2 : arg2.IsWhole) (arg3 : Memref sig .tc .vmem S1x2048x256 .bf16) (harg3 : arg3.IsWhole) (arg4 : Memref sig .tc .vmem S1x2048x128 .bf16) (harg4 : arg4.IsWhole) (arg5 : Memref sig .tc .vmem S8192x128 .bf16) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x8192x256 .bf16) (harg8 : arg8.IsWhole) (arg9 : Memref sig .tc .vmem S1x2048x256 .bf16) (harg9 : arg9.IsWhole) (arg10 : Memref sig .tc .vmem S1x2048x128 .bf16) (harg10 : arg10.IsWhole) (arg11 : Memref sig .tc .vmem S8192x256 .f32) (harg11 : arg11.IsWhole)
variable (Q : Vec F S1x8192x256 .bf16) (K : Vec F S1x2048x256 .bf16) (V : Vec F S1x2048x128 .bf16) (D : Vec F S8192x128 .bf16) (L DL : Vec F S1x8x1024 .f32) (X : Vec F S8192x256 .f32)

/-- The program's own spelling of the second block of keys, whose constants it numbers anew, is the model's. -/
theorem lo_spelt (k : Vec F S1x1024x256 .bf16) (v : Vec F S1x1024x128 .bf16) (j : ℕ) :
    loopOf Q D L DL (k0_pay57 k) (k0_pay58 v) j
      ((k0_pay86 (k0_pay67 (k0_pay57 k) (k0_pay58 v) (k0_pay59 (slabRows L j 1)) (slabRows DL j 1) (slabRows Q (1024 * j) 512) (matRows D (1024 * j) 512))
          (k0_pay75 (k0_pay57 k) (k0_pay58 v) (k0_pay59 (slabRows L j 1)) (k0_pay60 (slabRows DL j 1)) (slabRows Q (1024 * j + 512) 512) (matRows D (1024 * j + 512) 512))
          (k0_pay77 (k0_pay57 k)) (k0_pay78 (k0_pay58 v)) (k0_pay79 (slabRows Q (1024 * j + 512) 512)) (k0_pay80 (matRows D (1024 * j + 512) 512))
          (k0_pay81 (k0_pay59 (slabRows L j 1))) (k0_pay82 (k0_pay60 (slabRows DL j 1))),
        k0_pay87 (k0_pay65 (k0_pay57 k) (k0_pay59 (slabRows L j 1)) (slabRows Q (1024 * j) 512) (matRows D (1024 * j) 512))
          (k0_pay73 (k0_pay57 k) (k0_pay59 (slabRows L j 1)) (slabRows Q (1024 * j + 512) 512) (matRows D (1024 * j + 512) 512))
          (k0_pay77 (k0_pay57 k)) (k0_pay79 (slabRows Q (1024 * j + 512) 512)) (k0_pay80 (matRows D (1024 * j + 512) 512)) (k0_pay81 (k0_pay59 (slabRows L j 1)))),
        putRows (putRows (putRows X (1024 * j) 512 (k0_pay68 (k0_pay57 k) (k0_pay58 v) (k0_pay59 (slabRows L j 1)) (slabRows DL j 1) (slabRows Q (1024 * j) 512) (matRows D (1024 * j) 512) (matRows X (1024 * j) 512))) (1024 * j + 512) 512 (k0_pay76 (k0_pay57 k) (k0_pay58 v) (k0_pay59 (slabRows L j 1)) (k0_pay60 (slabRows DL j 1)) (slabRows Q (1024 * j + 512) 512) (matRows D (1024 * j + 512) 512) (matRows (putRows X (1024 * j) 512 (k0_pay68 (k0_pay57 k) (k0_pay58 v) (k0_pay59 (slabRows L j 1)) (slabRows DL j 1) (slabRows Q (1024 * j) 512) (matRows D (1024 * j) 512) (matRows X (1024 * j) 512))) (1024 * j + 512) 512))) (1024 * j + 512) 512 (k0_pay85 (k0_pay77 (k0_pay57 k)) (k0_pay78 (k0_pay58 v)) (k0_pay79 (slabRows Q (1024 * j + 512) 512)) (k0_pay80 (matRows D (1024 * j + 512) 512)) (k0_pay81 (k0_pay59 (slabRows L j 1))) (k0_pay82 (k0_pay60 (slabRows DL j 1))) (matRows (putRows (putRows X (1024 * j) 512 (k0_pay68 (k0_pay57 k) (k0_pay58 v) (k0_pay59 (slabRows L j 1)) (slabRows DL j 1) (slabRows Q (1024 * j) 512) (matRows D (1024 * j) 512) (matRows X (1024 * j) 512))) (1024 * j + 512) 512 (k0_pay76 (k0_pay57 k) (k0_pay58 v) (k0_pay59 (slabRows L j 1)) (k0_pay60 (slabRows DL j 1)) (slabRows Q (1024 * j + 512) 512) (matRows D (1024 * j + 512) 512) (matRows (putRows X (1024 * j) 512 (k0_pay68 (k0_pay57 k) (k0_pay58 v) (k0_pay59 (slabRows L j 1)) (slabRows DL j 1) (slabRows Q (1024 * j) 512) (matRows D (1024 * j) 512) (matRows X (1024 * j) 512))) (1024 * j + 512) 512))) (1024 * j + 512) 512))) (7 - j) = blockOf Q D L DL k v j X := rfl

/-- One point of the grid. -/
theorem point (E : Set ℕ) (K8 : Vec F S1x8192x256 .bf16) (K9 : Vec F S1x2048x256 .bf16) (K10 : Vec F S1x2048x128 .bf16) :
    iprop(raw c arg8 harg8 K8 ∗ raw c arg9 harg9 K9 ∗ raw c arg10 harg10 K10 ∗ st c arg2 harg2 arg3 harg3 arg4 harg4 arg5 harg5 arg6 harg6 arg7 harg7 arg11 harg11 Q K V D L DL X)
    ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11)
        (fun _ => iprop(raw c arg8 harg8 (if (i 1).val = 3 then k0_pay3 (accOf Q K V D L DL (i 1).val X) else K8)
          ∗ raw c arg9 harg9 (dkOf Q K V D L DL (i 1).val X) ∗ raw c arg10 harg10 (dvOf Q K V D L DL (i 1).val X)
          ∗ st c arg2 harg2 arg3 harg3 arg4 harg4 arg5 harg5 arg6 harg6 arg7 harg7 arg11 harg11 Q K V D L DL (accOf Q K V D L DL (i 1).val X))) := by
  rw [cc0_flash_bwd_eq_skeleton]; unfold cc0_flash_bwd_skel
  iintro ⟨H8, H9, H10, H⟩
  rw [wp_bind]
  iapply (wp_wand_r frame (wpE (defs₀ (F := F)) Variants.none c none) E)
  isplitl [H]; · iapply (part1 c i arg2 harg2 arg3 harg3 arg4 harg4 arg5 harg5 arg6 harg6 arg7 harg7 arg8 harg8 arg9 harg9 arg10 harg10 arg11 harg11 Q K V D L DL X E); iexact H
  iintro %r ⟨%hr, H⟩
  obtain ⟨w0, w5, w18, rfl⟩ := hr
  rw [wp_bind]
  iapply (wp_wand_r frame (wpE (defs₀ (F := F)) Variants.none c none) E)
  isplitl [H]; · iapply (part2 c i arg2 harg2 arg3 harg3 arg4 harg4 arg5 harg5 arg6 harg6 arg7 harg7 arg8 harg8 arg9 harg9 arg10 harg10 arg11 harg11 Q K V D L DL _ E); iexact H
  iintro %r ⟨%hr, H⟩
  obtain ⟨w56, rfl⟩ := hr
  rw [wp_bind]
  iapply (wp_wand_r frame (wpE (defs₀ (F := F)) Variants.none c none) E)
  isplitl [H]; · iapply (part3 c i arg2 harg2 arg3 harg3 arg4 harg4 arg5 harg5 arg6 harg6 arg7 harg7 arg8 harg8 arg9 harg9 arg10 harg10 arg11 harg11 Q K V D L DL _ E); iexact H
  iintro %r ⟨%hr, H⟩
  subst hr
  rw [wp_bind]
  iapply (wp_wand_r frame (wpE (defs₀ (F := F)) Variants.none c none) E)
  isplitl [H9 H10 H]
  · iapply (part4 c i arg2 harg2 arg3 harg3 arg4 harg4 arg5 harg5 arg6 harg6 arg7 harg7 arg8 harg8 arg9 harg9 arg10 harg10 arg11 harg11 Q K V D L DL _ E _ _ _ _ _ _ _ _ _ _ _ K9 K10 (hiOf Q K V D L DL (i 1).val X) rfl)
    isplitl [H9]; · iexact H9
    isplitl [H10]; · iexact H10
    iexact H
  iintro %r ⟨%hr, H9, H10, H⟩
  obtain ⟨w148, rfl⟩ := hr
  rw [wp_bind]
  iapply (wp_wand_r frame (wpE (defs₀ (F := F)) Variants.none c none) E)
  isplitl [H]; · iapply (part5 c i arg2 harg2 arg3 harg3 arg4 harg4 arg5 harg5 arg6 harg6 arg7 harg7 arg8 harg8 arg9 harg9 arg10 harg10 arg11 harg11 Q K V D L DL _ E); iexact H
  iintro %r ⟨%hr, H⟩
  obtain ⟨w198, rfl⟩ := hr
  rw [wp_bind]
  iapply (wp_wand_r frame (wpE (defs₀ (F := F)) Variants.none c none) E)
  isplitl [H]; · iapply (part6 c i arg2 harg2 arg3 harg3 arg4 harg4 arg5 harg5 arg6 harg6 arg7 harg7 arg8 harg8 arg9 harg9 arg10 harg10 arg11 harg11 Q K V D L DL _ E); iexact H
  iintro %r ⟨%hr, H⟩
  obtain ⟨w232, rfl⟩ := hr
  rw [wp_bind]
  iapply (wp_wand_r frame (wpE (defs₀ (F := F)) Variants.none c none) E)
  isplitl [H9 H]
  · iapply (part7 c i arg2 harg2 arg3 harg3 arg4 harg4 arg5 harg5 arg6 harg6 arg7 harg7 arg8 harg8 arg9 harg9 arg10 harg10 arg11 harg11 Q K V D L DL _ E _ _ _ _ _ _ _ _ _ _ _ _ _ _ (loOf Q K V D L DL (i 1).val X)
      (lo_spelt Q D L DL (hiOf Q K V D L DL (i 1).val X).2 (slabRows K 0 1024) (slabRows V 0 1024) (loBlock i)).symm)
    isplitl [H9]; · iexact H9
    iexact H
  iintro %r ⟨%hr, H9, H⟩
  subst hr
  icases H with ⟨H2, H3, H4, H5, H6, H7, H11⟩
  by_cases h3 : (i 1).val = 3
  · have hc := (cond_last i).mpr h3
    rw [if_pos h3]
    have e11 : View.readAt (Elt F) arg11.view (Rect.unit (s := S8192x256) ![0, 0] S8192x256.size inb_S8192x256_S8192x256_0_0).toLoadRect (harg11.unread (loOf Q K V D L DL (i 1).val X).2)
        = (loOf Q K V D L DL (i 1).val X).2 := (View.readAt_full arg11.view _ _).trans (harg11.read_unread _)
    sl_exec (disch := sl_exact hc)
    sl_step
    rw [stSlab arg9 harg9 _ 0, stSlab arg10 harg10 _ 0, put_put, put_put,
      harg8.eq_unread (View.read_writes_full arg8.view (harg8.unread K8) inb_S1x8192x256_S1x8192x256_0_0_0 (k0_pay3 (loOf Q K V D L DL (i 1).val X).2) [])]
    isplitl [H8]; · iexact H8
    isplitl [H9]; · iexact H9
    isplitl [H10]; · iexact H10
    isplitl [H2]; · iexact H2
    isplitl [H3]; · iexact H3
    isplitl [H4]; · iexact H4
    isplitl [H5]; · iexact H5
    isplitl [H6]; · iexact H6
    isplitl [H7]; · iexact H7
    iexact H11
  · have hc : ¬ _ := fun h => h3 ((cond_last i).mp h)
    rw [if_neg h3]
    sl_exec (disch := sl_exact hc)
    sl_step
    rw [stSlab arg9 harg9 _ 0, stSlab arg10 harg10 _ 0, put_put, put_put]
    isplitl [H8]; · iexact H8
    isplitl [H9]; · iexact H9
    isplitl [H10]; · iexact H10
    isplitl [H2]; · iexact H2
    isplitl [H3]; · iexact H3
    isplitl [H4]; · iexact H4
    isplitl [H5]; · iexact H5
    isplitl [H6]; · iexact H6
    isplitl [H7]; · iexact H7
    iexact H11

end Body

end Cert.KernelIdeal.Body
-- ==== Proof.Launch.lean ====
/-
  The launch of the attention's backward kernel: what every staging buffer and the running gradient hold at every point of
  the grid, and that every run of the program ends with its argument arrays as they were and every counter at zero.
-/
module

public import proofs.«01_k».proof.Proof.Body
public import proofs.«01_k».proof.Proof.Gen.KernelIdeal.Frame
public import Idealize.ShloMosaic.Lib.Pipeline.FrameBody
public import Idealize.ShloMosaic.Lib.Claim
public import Idealize.ShloMosaic.Lib.WordCmp

@[expose] public section

set_option maxRecDepth 16384

noncomputable section

namespace Cert.KernelIdeal.Launched

open Cert.KernelIdeal Cert.KernelIdeal.Gen Cert.KernelIdeal.Model Cert.KernelIdeal.Offsets Cert.KernelIdeal.Parts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A memref owned at `x` is held at the contents that read `x`; -/
theorem to_raw {c : Dev nD} {s : Shape} {e : EltTy} (M : Memref sig .tc .vmem s e) (h : M.IsWhole) (x : s.Idx → Elt F e) :
    (owns (c : Thread nD τ) M fullShare x : sProp 𝕄) ⊢ raw c M h x := by
  unfold owns
  iintro ⟨%f, %hf, H⟩
  obtain rfl := h.eq_unread hf
  iexact H

/-- and back. -/
theorem of_raw {c : Dev nD} {s : Shape} {e : EltTy} (M : Memref sig .tc .vmem s e) (h : M.IsWhole) (x : s.Idx → Elt F e) :
    (raw c M h x : sProp 𝕄) ⊢ owns (c : Thread nD τ) M fullShare x := by
  unfold owns
  iintro H
  iexists _; isplitr
  swap; · iexact H
  ipureintro; exact h.read_unread x

variable (m : (ℓ : Loc nD τ sig) → Buf (Elt F) ℓ) (ρ : Dev nD → PrngReg)

/-! ## The points of the grid -/

/-- The second coordinate of the point `t` is its place within its head. -/
theorem place (t : Fin cfg0.N) : (grid0.coords t 1).val = t.val % 4 := by
  have e : (grid0.coords t 1).val = t.val / 1 % 4 := Pipeline.Grid.coords_val t 1 (by decide) rfl
  rw [e, Nat.div_one]

/-- The inputs' windows and the two gradients' of keys and values are in use at every point; -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
/-- the queries' gradient's is in use at a head's last point -/
theorem live6 : ∀ t : Fin cfg0.N, t.val % 4 = 3 → cfg0.idle 6 (grid0.coords t) = false := by decide +kernel
/-- and idle at the others, -/
theorem idle6 : ∀ t : Fin cfg0.N, ¬ t.val % 4 = 3 → cfg0.idle 6 (grid0.coords t) = true := by decide +kernel
/-- where it is not written back. -/
theorem noFlush6 : ∀ t : Fin cfg0.N, ¬ t.val % 4 = 3 → (cfg0.win 6).flush t = false := by decide +kernel

/-! ## The memrefs of a point -/

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
/-- The buffer of the running gradient. -/
abbrev scM : Memref sig .tc .vmem S8192x256 .f32 := Memref.whole cc0_scratch0

/-- What a launch holds beside the windows: the running gradient at anything, and the generator's register. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## What the buffers hold -/

/-- One point's new running gradient, from the blocks of the arrays it is given; -/
abbrev accAt (c : Dev nD) (t : Fin cfg0.N) (X : Vec F S8192x256 .f32) : Vec F S8192x256 .f32 :=
  accOf (iblk m c 0 t) (iblk m c 1 t) (iblk m c 2 t) (iblk m c 3 t) (iblk m c 4 t) (iblk m c 5 t) (t.val % 4) X
/-- its block of the keys' gradient; -/
abbrev dkAt (c : Dev nD) (t : Fin cfg0.N) (X : Vec F S8192x256 .f32) : Vec F S1x2048x256 .bf16 :=
  dkOf (iblk m c 0 t) (iblk m c 1 t) (iblk m c 2 t) (iblk m c 3 t) (iblk m c 4 t) (iblk m c 5 t) (t.val % 4) X
/-- and its block of the values' gradient. -/
abbrev dvAt (c : Dev nD) (t : Fin cfg0.N) (X : Vec F S8192x256 .f32) : Vec F S1x2048x128 .bf16 :=
  dvOf (iblk m c 0 t) (iblk m c 1 t) (iblk m c 2 t) (iblk m c 3 t) (iblk m c 4 t) (iblk m c 5 t) (t.val % 4) X

/-- The running gradient before the point `n`. -/
def carried (c : Dev nD) : ℕ → Vec F S8192x256 .f32
  | 0 => k0_pay4
  | n + 1 => if h : n < cfg0.N then accAt m c ⟨n, h⟩ (carried c n) else carried c n

/-- A head's first point starts from zero whatever it finds. -/
theorem start_first (X Y : Vec F S8192x256 .f32) : startOf 0 X = startOf 0 Y := rfl

/-- At the first point of all what the buffer holds does not matter. -/
theorem first_any (c : Dev nD) (t : Fin cfg0.N) (ht : t.val = 0) (X Y : Vec F S8192x256 .f32) :
    accAt m c t X = accAt m c t Y ∧ dkAt m c t X = dkAt m c t Y ∧ dvAt m c t X = dvAt m c t Y := by
  have e : t.val % 4 = 0 := by rw [ht]
  simp only [accAt, dkAt, dvAt, e]
  exact ⟨rfl, rfl, rfl⟩

theorem carried_succ (c : Dev nD) (t : Fin cfg0.N) : carried m c (t.val + 1) = accAt m c t (carried m c t.val) := by
  show (if h : t.val < cfg0.N then accAt m c ⟨t.val, h⟩ (carried m c t.val) else carried m c t.val) = _
  rw [dif_pos t.isLt]

/-- What is held beside the windows before the point `n`. -/
def PhiS (c : Dev nD) : (n : ℕ) → n ≤ cfg0.N → sProp 𝕄
  | 0, _ => Pipeline.ΦA spec0 c
  | n + 1, _ => iprop(iprop(owns (c : Thread nD τ) scM fullShare (carried m c (n + 1))) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM fullShare (carried m c n)) ∗ (∃ r, prngReg c r)) := by
  cases n with
  | zero => exact absurd rfl hz
  | succ n => rfl

/-- What every array and every buffer holds, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay3 (carried m c (t.val + 1))
    | ⟨7, _⟩ => dkAt m c t (carried m c t.val)
    | ⟨8, _⟩ => dvAt m c t (carried m c t.val)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = k0_pay3 (carried m c (t.val + 1)) := by dsimp only [dats]
theorem after7 (c : Dev nD) (t : Fin cfg0.N) : (dats m 0 c).after 7 t = dkAt m c t (carried m c t.val) := by dsimp only [dats]
theorem after8 (c : Dev nD) (t : Fin cfg0.N) : (dats m 0 c).after 8 t = dvAt m c t (carried m c t.val) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## One point -/

/-- What the body is called with at the point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
/-- The body at a point, its memrefs owned at what they read. -/
theorem body_owns (c : Dev nD) (t : Fin cfg0.N) (X : Vec F S8192x256 .f32) (K8 : Vec F S1x8192x256 .bf16) (K9 : Vec F S1x2048x256 .bf16) (K10 : Vec F S1x2048x128 .bf16) :
    (iprop(owns (c : Thread nD τ) (ms0 t) fullShare (iblk m c 0 t)
      ∗ owns (c : Thread nD τ) (ms1 t) fullShare (iblk m c 1 t)
      ∗ owns (c : Thread nD τ) (ms2 t) fullShare (iblk m c 2 t)
      ∗ owns (c : Thread nD τ) (ms3 t) fullShare (iblk m c 3 t)
      ∗ owns (c : Thread nD τ) (ms4 t) fullShare (iblk m c 4 t)
      ∗ owns (c : Thread nD τ) (ms5 t) fullShare (iblk m c 5 t)
      ∗ owns (c : Thread nD τ) (ms6 t) fullShare K8
      ∗ owns (c : Thread nD τ) (ms7 t) fullShare K9
      ∗ owns (c : Thread nD τ) (ms8 t) fullShare K10
      ∗ owns (c : Thread nD τ) scM fullShare X) : sProp 𝕄)
    ⊢ wp frame (wpE (defs₀ (F := F)) Variants.none c none) Set.univ (bodyAt0 t) (fun _ =>
        iprop(owns (c : Thread nD τ) (ms0 t) fullShare (iblk m c 0 t)
      ∗ owns (c : Thread nD τ) (ms1 t) fullShare (iblk m c 1 t)
      ∗ owns (c : Thread nD τ) (ms2 t) fullShare (iblk m c 2 t)
      ∗ owns (c : Thread nD τ) (ms3 t) fullShare (iblk m c 3 t)
      ∗ owns (c : Thread nD τ) (ms4 t) fullShare (iblk m c 4 t)
      ∗ owns (c : Thread nD τ) (ms5 t) fullShare (iblk m c 5 t)
      ∗ owns (c : Thread nD τ) (ms6 t) fullShare (if t.val % 4 = 3 then k0_pay3 (accAt m c t X) else K8)
      ∗ owns (c : Thread nD τ) (ms7 t) fullShare (dkAt m c t X)
      ∗ owns (c : Thread nD τ) (ms8 t) fullShare (dvAt m c t X)
      ∗ owns (c : Thread nD τ) scM fullShare (accAt m c t X))) := by
  have hp := Body.point (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _)
    (iblk m c 0 t) (iblk m c 1 t) (iblk m c 2 t) (iblk m c 3 t) (iblk m c 4 t) (iblk m c 5 t) X Set.univ K8 K9 K10
  rw [place] at hp
  unfold bodyAt0
  iintro ⟨H0, H1, H2, H3, H4, H5, H6, H7, H8, HS⟩
  ihave H0 := (to_raw (F := F) (c := c) (ms0 t) (hs0 t) _) $$ H0
  ihave H1 := (to_raw (F := F) (c := c) (ms1 t) (hs1 t) _) $$ H1
  ihave H2 := (to_raw (F := F) (c := c) (ms2 t) (hs2 t) _) $$ H2
  ihave H3 := (to_raw (F := F) (c := c) (ms3 t) (hs3 t) _) $$ H3
  ihave H4 := (to_raw (F := F) (c := c) (ms4 t) (hs4 t) _) $$ H4
  ihave H5 := (to_raw (F := F) (c := c) (ms5 t) (hs5 t) _) $$ H5
  ihave H6 := (to_raw (F := F) (c := c) (ms6 t) (hs6 t) _) $$ H6
  ihave H7 := (to_raw (F := F) (c := c) (ms7 t) (hs7 t) _) $$ H7
  ihave H8 := (to_raw (F := F) (c := c) (ms8 t) (hs8 t) _) $$ H8
  ihave HS := (to_raw (F := F) (c := c) scM (Memref.isWhole_whole _) _) $$ HS
  iapply (wp_wand_r frame (wpE (defs₀ (F := F)) Variants.none c none) Set.univ)
  isplitl [H0 H1 H2 H3 H4 H5 H6 H7 H8 HS]
  · iapply hp
    unfold st
    isplitl [H6]; · iexact H6
    isplitl [H7]; · iexact H7
    isplitl [H8]; · iexact H8
    isplitl [H0]; · iexact H0
    isplitl [H1]; · iexact H1
    isplitl [H2]; · iexact H2
    isplitl [H3]; · iexact H3
    isplitl [H4]; · iexact H4
    isplitl [H5]; · iexact H5
    iexact HS
  iintro %u ⟨H6, H7, H8, H0, H1, H2, H3, H4, H5, HS⟩
  isplitl [H0]; · iapply (of_raw (F := F) (c := c) (ms0 t) (hs0 t) _) $$ H0
  isplitl [H1]; · iapply (of_raw (F := F) (c := c) (ms1 t) (hs1 t) _) $$ H1
  isplitl [H2]; · iapply (of_raw (F := F) (c := c) (ms2 t) (hs2 t) _) $$ H2
  isplitl [H3]; · iapply (of_raw (F := F) (c := c) (ms3 t) (hs3 t) _) $$ H3
  isplitl [H4]; · iapply (of_raw (F := F) (c := c) (ms4 t) (hs4 t) _) $$ H4
  isplitl [H5]; · iapply (of_raw (F := F) (c := c) (ms5 t) (hs5 t) _) $$ H5
  isplitl [H6]; · iapply (of_raw (F := F) (c := c) (ms6 t) (hs6 t) _) $$ H6
  isplitl [H7]; · iapply (of_raw (F := F) (c := c) (ms7 t) (hs7 t) _) $$ H7
  isplitl [H8]; · iapply (of_raw (F := F) (c := c) (ms8 t) (hs8 t) _) $$ H8
  iapply (of_raw (F := F) (c := c) scM (Memref.isWhole_whole _) _) $$ HS

set_option maxHeartbeats 3200000 in
/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_pos m c (t.val + 1) _ (Nat.succ_ne_zero _), carried_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  have hstart : (dats m 0 c).Φ t.castSucc ⊢ (iprop((∃ X, ⌜accAt m c t X = accAt m c t (carried m c t.val) ∧ dkAt m c t X = dkAt m c t (carried m c t.val)
        ∧ dvAt m c t X = dvAt m c t (carried m c t.val)⌝ ∗ owns (c : Thread nD τ) scM fullShare X) ∗ (∃ r, prngReg c r)) : sProp 𝕄) := by
    by_cases hz : t.val = 0
    · rw [PhiS_castSucc m c t, PhiS_zero m c _ _ hz, PhiA_eq]
      iintro ⟨⟨%X, HS⟩, Hg⟩
      isplitl [HS]
      · iexists X; isplitr
        · ipureintro; exact first_any m c t hz _ _
        iexact HS
      iexact Hg
    · rw [PhiS_castSucc m c t, PhiS_pos m c _ _ hz]
      iintro ⟨HS, Hg⟩
      isplitl [HS]
      · iexists _; isplitr
        swap; · iexact HS
        ipureintro; exact ⟨rfl, rfl, rfl⟩
      iexact Hg
  by_cases h3 : t.val % 4 = 3
  · rw [show (dats m 0 c).leavesExact 6 t = owns (c : Thread nD τ) (ms6 t) fullShare ((dats m 0 c).after 6 t) from by
      unfold Dat.leavesExact; rw [live6 t h3], after6, carried_succ]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HP := hstart $$ HP
    icases HP with ⟨⟨%X, %hX, HS⟩, Hg⟩
    iapply (wp_wand_r frame (wpE (defs₀ (F := F)) Variants.none c none) Set.univ)
    isplitl [H0 H1 H2 H3 H4 H5 H6 H7 H8 HS]
    · iapply (body_owns m c t X _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact HS
    rw [if_pos h3, hX.1, hX.2.1, hX.2.2]
    iintro %u ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dats m 0 c) 6 t (idle6 t h3) (noFlush6 t h3)]
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HP := hstart $$ HP
    icases HP with ⟨⟨%X, %hX, HS⟩, Hg⟩
    iapply (wp_wand_r frame (wpE (defs₀ (F := F)) Variants.none c none) Set.univ)
    isplitl [H0 H1 H2 H3 H4 H5 H6 H7 H8 HS]
    · iapply (body_owns m c t X _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact HS
    rw [if_neg h3, hX.1, hX.2.1, hX.2.2]
    iintro %u ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iexact H8

theorem row (t : Fin cfg0.N) : defs₀ (F := F) .tc cfg0.body (cfg0.bodyArgs t (cfg0.slots t)) = bodyAt0 t := by
  unfold defs₀; rw [Defs.onTc_tc]

/-- The body's obligation to the pipeline. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-- Before the first point. -/
theorem hin (c : Dev nD) : Pipeline.ΦA spec0 c ⊢ (dats m 0 c).Φ 0 := by
  rw [show (dats m 0 c).Φ 0 = PhiS m c 0 (Nat.zero_le _) from rfl, PhiS_zero m c _ _ rfl]

/-- After the last point the running gradient is at anything again. -/
theorem hout (c : Dev nD) : (dats m 0 c).Φ (Fin.last cfg0.N) ⊢ Pipeline.ΦA spec0 c := by
  rw [show (dats m 0 c).Φ (Fin.last cfg0.N) = PhiS m c cfg0.N (le_refl _) from rfl,
    PhiS_pos m c _ _ (by rw [show cfg0.N = 32 from N_0]; decide), PhiA_eq]
  iintro ⟨HS, Hg⟩
  isplitl [HS]; · iexists _; iexact HS
  iexact Hg

set_option backward.isDefEq.respectTransparency.types false in
/-- Every run of the program ends, with every array at what the launch's data says and every counter at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end as they were, and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Launched

end
-- ==== Proof.Same.lean ====
module

public import proofs.«01_k».proof.Proof.Launch
public import proofs.«01_k».proof.Proof.Gen.Kernel
public import Idealize.ShloMosaic.PureOps.BitExact

@[expose] public section

set_option maxRecDepth 65536

noncomputable section

namespace Cert.Proof.Same

open Idealize.ShloMosaic Idealize.ShloMosaic.Tactic Idealize.SL.Sem

/-- A named constant read as the bits that are printed for it. -/
@[reducible] def asPrinted (F : FTy → Type) [FloatOps F] : Named F := ⟨fun _ _ {φ} b => FloatOps.ofBits (F := F) φ b⟩

variable {F : FTy → Type} [FloatOps F]

/-- The kernel as printed is the idealised one with its named constants read as printed; -/
theorem same_body : (Cert.Kernel.cc0_flash_bwd (F := F)) = @Cert.KernelIdeal.cc0_flash_bwd F _ (asPrinted F) _ := by
  rfl

/-- the programs before the launch are the same; -/
theorem same_main : (Cert.Kernel.main (F := F)) = Cert.KernelIdeal.main (F := F) := by
  sl_kernel_rfl

/-- and the tables of bodies are. -/
theorem same_defs₀ : (Cert.Kernel.defs₀ (F := F)) = @Cert.KernelIdeal.defs₀ F _ (asPrinted F) _ := by
  refine congrArg Defs.onTc (funext fun l => funext fun x => ?_)
  obtain rfl : l = (0 : Fin 1) := Subsingleton.elim _ _
  obtain ⟨t, s⟩ := x
  dsimp only
  rw [same_body]
  rfl

theorem same_defs : (Cert.Kernel.defs (F := F)) = @Cert.KernelIdeal.defs F _ (asPrinted F) _ :=
  congrArg (Pipeline.defs _) same_defs₀

/-- Every run of the program as printed ends, its argument arrays as they were and every counter at zero: the program is the
    idealised one but for the constants' names, so the idealised one's run is its run. -/
theorem quiescent (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [same_defs, same_main]
  exact @Cert.KernelIdeal.Launched.quiescent F _ (asPrinted F) m ρ

end Cert.Proof.Same

end
-- ==== Proof.Lift.lean ====
/-
  Arrays of extended reals all of whose elements are real, named by the real function of the coordinates they hold, and
  what the vector operations of a kernel do to such arrays. `Mat x f` says that the matrix `x` holds `f` and `Slab x f`
  that the slab `x` of one matrix does; each lemma is one operation.
-/
module

public import Idealize.ShloMosaic.Lib.MatmulPlain
public import Idealize.ShloMosaic.Lib.ValueIdx
public import Idealize.ShloMosaic.Lib.ValueLayout
public import Idealize.ShloMosaic.Lib.WordCmp
public import Idealize.ShloMosaic.Lib.Pipeline.Value

@[expose] public section

noncomputable section

namespace Cert.Lift

open Idealize.ShloMosaic
open Idealize.ShloMosaic.ValueIdx (ix2 ix3 eq_ix2 eq_ix3)
open Finset (range)

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A sum over the first `n` numbers of reals, as the sum over the coordinates. -/
theorem coe_sum_range (n : ℕ) (f : ℕ → ℝ) : ((∑ i ∈ range n, f i : ℝ) : EReal) = ∑ i : Fin n, ((f i.val : ℝ) : EReal) := by
  rw [Finset.sum_range, coe_sum]

section

variable {M N K : ℕ} {φ ψ χ : FTy}

/-- The matrix holds the real function of its two coordinates. -/
def Mat (x : FVec Ideal ⟨2, ![M, N]⟩ φ) (f : ℕ → ℕ → ℝ) : Prop :=
  ∀ (r : Fin M) (c : Fin N), x (ix2 r c) = ((f r.val c.val : ℝ) : EReal)

/-- The slab of one matrix holds the real function of the matrix's two coordinates. -/
def Slab (x : FVec Ideal ⟨3, ![1, M, N]⟩ φ) (f : ℕ → ℕ → ℝ) : Prop :=
  ∀ (a : Fin 1) (r : Fin M) (c : Fin N), x (ix3 a r c) = ((f r.val c.val : ℝ) : EReal)

/-- Only the function's values at the matrix's own coordinates matter. -/
theorem Mat.congr {x : FVec Ideal ⟨2, ![M, N]⟩ φ} {f g : ℕ → ℕ → ℝ} (h : Mat x f) (e : ∀ r c, r < M → c < N → f r c = g r c) : Mat x g :=
  fun r c => (h r c).trans (by rw [e r.val c.val r.isLt c.isLt])

/-- The same of a slab. -/
theorem Slab.congr {x : FVec Ideal ⟨3, ![1, M, N]⟩ φ} {f g : ℕ → ℕ → ℝ} (h : Slab x f) (e : ∀ r c, r < M → c < N → f r c = g r c) : Slab x g :=
  fun a r c => (h a r c).trans (by rw [e r.val c.val r.isLt c.isLt])

/-- The slab's matrix. -/
theorem Slab.cast {x : FVec Ideal ⟨3, ![1, M, N]⟩ φ} {f : ℕ → ℕ → ℝ} (h : Slab x f) (hc : (⟨3, ![1, M, N]⟩ : Shape).ShapeCasts ⟨2, ![M, N]⟩) :
    Mat (φ := φ) (shapeCast ⟨2, ![M, N]⟩ x hc) f :=
  fun r c => (ValueIdx.shapeCast_1ab_ab_apply x hc r c).trans (h 0 r c)

/-- The slab of a matrix. -/
theorem Mat.toSlab {x : FVec Ideal ⟨2, ![M, N]⟩ φ} {f : ℕ → ℕ → ℝ} (h : Mat x f) (hc : (⟨2, ![M, N]⟩ : Shape).ShapeCasts ⟨3, ![1, M, N]⟩) :
    Slab (φ := φ) (shapeCast ⟨3, ![1, M, N]⟩ x hc) f :=
  fun a r c => (ValueIdx.shapeCast_ab_1ab_apply x hc a r c).trans (h r c)

/-- A cast of a matrix to its own shape. -/
theorem Mat.same {x : FVec Ideal ⟨2, ![M, N]⟩ φ} {f : ℕ → ℕ → ℝ} (h : Mat x f) (hc : (⟨2, ![M, N]⟩ : Shape).ShapeCasts ⟨2, ![M, N]⟩) :
    Mat (φ := φ) (shapeCast ⟨2, ![M, N]⟩ x hc) f := by
  rw [shapeCast_self]; exact h

/-- A matrix of zeros. -/
theorem Mat.zero : Mat (φ := .f32) (constant (F := Ideal) ⟨2, ![M, N]⟩ .f32 0x00000000#32) fun _ _ => 0 :=
  fun r c => (Ideal.ofBits_zero_f32).trans EReal.coe_zero.symm

/-- One real everywhere. -/
theorem Mat.splat {a : Ideal φ} {r : ℝ} (h : a = ((r : ℝ) : EReal)) : Mat (φ := φ) (broadcast ⟨2, ![M, N]⟩ a) fun _ _ => r := fun _ _ => h

theorem Mat.sub {x y : FVec Ideal ⟨2, ![M, N]⟩ φ} {f g : ℕ → ℕ → ℝ} (hx : Mat x f) (hy : Mat y g) : Mat (φ := φ) (subf x y) fun r c => f r c - g r c :=
  fun r c => by rw [ValueIdx.subf_apply, hx, hy, EReal.coe_sub]

theorem Mat.add {x y : FVec Ideal ⟨2, ![M, N]⟩ φ} {f g : ℕ → ℕ → ℝ} (hx : Mat x f) (hy : Mat y g) : Mat (φ := φ) (addf x y) fun r c => f r c + g r c :=
  fun r c => by rw [ValueIdx.addf_apply, hx, hy, EReal.coe_add]

theorem Mat.mul {x y : FVec Ideal ⟨2, ![M, N]⟩ φ} {f g : ℕ → ℕ → ℝ} (hx : Mat x f) (hy : Mat y g) : Mat (φ := φ) (mulf x y) fun r c => f r c * g r c :=
  fun r c => by rw [ValueIdx.mulf_apply, hx, hy, EReal.coe_mul]

/-- A change of format does nothing. -/
theorem Mat.trunc {x : FVec Ideal ⟨2, ![M, N]⟩ φ} {f : ℕ → ℕ → ℝ} (hx : Mat x f) (h : ψ.bits < φ.bits) : Mat (φ := ψ) (truncf ψ x h) f := hx

/-- Two to the power of each element. -/
theorem Mat.pow2 {x : FVec Ideal ⟨2, ![M, N]⟩ φ} {f : ℕ → ℕ → ℝ} (hx : Mat x f) : Mat (φ := φ) (exp2 x) fun r c => Real.rpow 2 (f r c) := fun r c => by
  show Ideal.exp2 (x (ix2 r c)) = _
  rw [hx, Ideal.exp2_coe]

/-- One row, repeated down the rows. -/
theorem Mat.rows {x : FVec Ideal ⟨2, ![1, N]⟩ φ} {f : ℕ → ℕ → ℝ} (hx : Mat x f) (h : (⟨2, ![1, N]⟩ : Shape).Broadcasts ⟨2, ![M, N]⟩) :
    Mat (φ := φ) (broadcastTo ⟨2, ![M, N]⟩ x h) fun _ c => f 0 c :=
  fun r c => (ValueIdx.broadcastTo_1b_ab_apply x h r c).trans (hx _ c)

/-- The rows from row `o` on. -/
theorem Mat.cutRows {x : FVec Ideal ⟨2, ![M, N]⟩ φ} {f : ℕ → ℕ → ℝ} (hx : Mat x f) (o : ℕ) {m : ℕ} (h : (⟨2, ![M, N]⟩ : Shape).Slices ![o, 0] ⟨2, ![m, N]⟩) :
    Mat (φ := φ) (extractStridedSlice ⟨2, ![m, N]⟩ ![o, 0] x h) fun r c => f (o + r) c :=
  fun r c => (ValueIdx.slice2_axis0_eq o x h r c).trans (hx _ c)

/-- The columns from column `o` on. -/
theorem Mat.cutCols {x : FVec Ideal ⟨2, ![M, N]⟩ φ} {f : ℕ → ℕ → ℝ} (hx : Mat x f) (o : ℕ) {m : ℕ} (h : (⟨2, ![M, N]⟩ : Shape).Slices ![0, o] ⟨2, ![M, m]⟩) :
    Mat (φ := φ) (extractStridedSlice ⟨2, ![M, m]⟩ ![0, o] x h) fun r c => f r (o + c) :=
  fun r c => (ValueIdx.slice2_axis1_eq o x h r c).trans (hx r _)

/-- A product of rows by rows. -/
theorem Mat.dotRows {x : FVec Ideal ⟨2, ![M, K]⟩ φ} {y : FVec Ideal ⟨2, ![N, K]⟩ ψ} {f g : ℕ → ℕ → ℝ} (hx : Mat x f) (hy : Mat y g)
    (d : DotDims ⟨2, ![M, K]⟩ ⟨2, ![N, K]⟩ ⟨2, ![M, N]⟩) (hd : d = DotDims.transposedRhs M K N) :
    Mat (φ := .f32) (matmul d none x y (constant (F := Ideal) ⟨2, ![M, N]⟩ .f32 0x00000000#32)) fun r c => ∑ k ∈ range K, f r k * g c k := fun r c => by
  subst hd
  refine (Ideal.matmul_transposedRhs_apply none x y _ r c).trans ?_
  rw [coe_sum_range, show (constant (F := Ideal) ⟨2, ![M, N]⟩ .f32 0x00000000#32) (ix2 r c) = (0 : EReal) from Ideal.ofBits_zero_f32, zero_add]
  exact Finset.sum_congr rfl fun k _ => by rw [hx, hy, EReal.coe_mul]

/-- A product of rows by columns. -/
theorem Mat.dot {x : FVec Ideal ⟨2, ![M, K]⟩ φ} {y : FVec Ideal ⟨2, ![K, N]⟩ ψ} {f g : ℕ → ℕ → ℝ} (hx : Mat x f) (hy : Mat y g)
    (d : DotDims ⟨2, ![M, K]⟩ ⟨2, ![K, N]⟩ ⟨2, ![M, N]⟩) (hd : d = DotDims.plain M K N) :
    Mat (φ := .f32) (matmul d none x y (constant (F := Ideal) ⟨2, ![M, N]⟩ .f32 0x00000000#32)) fun r c => ∑ k ∈ range K, f r k * g k c := fun r c => by
  subst hd
  refine (Ideal.matmul_plain_apply none x y _ r c).trans ?_
  rw [coe_sum_range, show (constant (F := Ideal) ⟨2, ![M, N]⟩ .f32 0x00000000#32) (ix2 r c) = (0 : EReal) from Ideal.ofBits_zero_f32, zero_add]
  exact Finset.sum_congr rfl fun k _ => by rw [hx, hy, EReal.coe_mul]

/-- The dimension numbers of a product of columns by columns. -/
def columns (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- A product of columns by columns. -/
theorem Mat.dotCols {x : FVec Ideal ⟨2, ![K, M]⟩ φ} {y : FVec Ideal ⟨2, ![K, N]⟩ ψ} {f g : ℕ → ℕ → ℝ} (hx : Mat x f) (hy : Mat y g)
    (d : DotDims ⟨2, ![K, M]⟩ ⟨2, ![K, N]⟩ ⟨2, ![M, N]⟩) (hd : d = columns M K N) :
    Mat (φ := .f32) (matmul d none x y (constant (F := Ideal) ⟨2, ![M, N]⟩ .f32 0x00000000#32)) fun r c => ∑ k ∈ range K, f k r * g k c := fun r c => by
  subst hd
  have hr : (columns M K N).contr.rank = 1 := rfl
  have hs : (columns M K N).contr.size ⟨0, by rw [hr]; exact Nat.one_pos⟩ = K := rfl
  refine (Ideal.matmul_apply (columns M K N) none x y _ (ix2 r c)).trans ?_
  rw [coe_sum_range, show (constant (F := Ideal) ⟨2, ![M, N]⟩ .f32 0x00000000#32) (ix2 r c) = (0 : EReal) from Ideal.ofBits_zero_f32, zero_add,
    ← Equiv.sum_comp (ValueIdx.contrEquiv1 (columns M K N) K hr hs).symm]
  refine Finset.sum_congr rfl fun k _ => ?_
  have hk := ValueIdx.contrEquiv1_symm_val (columns M K N) K hr hs k
  have el : (columns M K N).lhsIdx (ix2 r c) ((ValueIdx.contrEquiv1 (columns M K N) K hr hs).symm k) = ix2 k r := by
    funext a; apply Fin.ext
    match a with
    | ⟨0, _⟩ => exact hk
    | ⟨1, _⟩ => rfl
  have er : (columns M K N).rhsIdx (ix2 r c) ((ValueIdx.contrEquiv1 (columns M K N) K hr hs).symm k) = ix2 k c := by
    funext a; apply Fin.ext
    match a with
    | ⟨0, _⟩ => exact hk
    | ⟨1, _⟩ => rfl
  rw [el, er, hx, hy, EReal.coe_mul]

/-- The elements on and above the diagonal kept, zero below it. -/
theorem Mat.upper {x : FVec Ideal ⟨2, ![M, N]⟩ .f32} {f : ℕ → ℕ → ℝ} (hx : Mat x f) (κ : Kind) (hM : M < 2 ^ 31) (hN : N < 2 ^ 31)
    (h0 : (⟨2, ![M, N]⟩ : Shape).Iotas κ 32 [0]) (h1 : (⟨2, ![M, N]⟩ : Shape).Iotas κ 32 [1]) :
    Mat (φ := .f32) (select (cmpi .sle (iota κ ⟨2, ![M, N]⟩ 32 [0] h0) (iota κ ⟨2, ![M, N]⟩ 32 [1] h1)) x
      (broadcast ⟨2, ![M, N]⟩ (Scalar.ofBits (F := Ideal) .f32 0x00000000#32))) fun r c => if r ≤ c then f r c else 0 := fun r c => by
  have e : cmpi .sle (iota κ ⟨2, ![M, N]⟩ 32 [0] h0) (iota κ ⟨2, ![M, N]⟩ 32 [1] h1) (ix2 r c) = BitVec.ofBool (decide (r.val ≤ c.val)) := by
    show IntOp.cmpi .sle (iota κ ⟨2, ![M, N]⟩ 32 [0] h0 (ix2 r c)) (iota κ ⟨2, ![M, N]⟩ 32 [1] h1 (ix2 r c)) = _
    rw [iota_single_apply, iota_single_apply]
    exact WordCmp.cmpi_sle_ofNat (by have := r.isLt; show r.val < _; omega) (by have := c.isLt; show c.val < _; omega)
  show Scalar.select (cmpi .sle (iota κ ⟨2, ![M, N]⟩ 32 [0] h0) (iota κ ⟨2, ![M, N]⟩ 32 [1] h1) (ix2 r c)) (x (ix2 r c)) (Ideal.ofBits .f32 0x00000000#32) = _
  rw [e, hx, Ideal.ofBits_zero_f32]
  by_cases h : r.val ≤ c.val
  · simp [Scalar.select, h]
  · simp [Scalar.select, h]

/-- One matrix under another. -/
theorem Mat.under {A B : ℕ} {x : FVec Ideal ⟨2, ![A, N]⟩ φ} {y : FVec Ideal ⟨2, ![B, N]⟩ φ} {f g : ℕ → ℕ → ℝ} (hx : Mat x f) (hy : Mat y g) (hAB : A + B = M)
    (h : Shape.Concatenates [⟨2, ![A, N]⟩, ⟨2, ![B, N]⟩] ⟨2, ![M, N]⟩ 0) :
    Mat (φ := φ) (concatenate ⟨2, ![M, N]⟩ 0 [⟨⟨2, ![A, N]⟩, x⟩, ⟨⟨2, ![B, N]⟩, y⟩] h) fun r c => if r < A then f r c else g (r - A) c := fun r c => by
  show _ = (((if r.val < A then f r.val c.val else g (r.val - A) c.val) : ℝ) : EReal)
  by_cases hr : r.val < A
  · rw [if_pos hr]
    refine (concatenate_pair_apply_left 0 x y h (ix2 r c) rfl (ix2 ⟨r.val, hr⟩ c) fun b => ?_).trans (hx _ c)
    match b with
    | ⟨0, _⟩ => rfl
    | ⟨1, _⟩ => rfl
  · rw [if_neg hr]
    have := r.isLt
    refine (concatenate_pair_apply_right 0 x y h (ix2 r c) rfl rfl (ix2 ⟨r.val - A, by omega⟩ c) (fun b hb => ?_) ?_).trans (hy _ c)
    · match b with
      | ⟨0, _⟩ => exact absurd rfl hb
      | ⟨1, _⟩ => rfl
    · show r.val - A + A = r.val
      omega

end

end Cert.Lift
-- ==== Proof.Tile.lean ====
/-
  What the backward kernel computes on one tile of keys by queries, when every array it reads is real: the tile's
  probabilities and their gradients, and the products it adds to its three results. A key may be seen by the queries
  from its own place on, so the tiles on the diagonal are masked and those after it are not.
-/
module

public import proofs.«01_k».proof.Proof.Lift
public import proofs.«01_k».proof.Proof.Model

@[expose] public section

set_option maxRecDepth 16384

noncomputable section

namespace Cert.KernelIdeal.Tile

open Cert.KernelIdeal Cert.KernelIdeal.Gen Cert.Lift
open Idealize.ShloMosaic Idealize.ShloMosaic.TcCoe
open Finset (range)

/-- One head of the attention in reals: the queries (scaled) and keys, the values and the gradient of the output, and
of each query the logarithm of its normalizer and the inner product of its output with the gradient. -/
structure Head where
  q : ℕ → ℕ → ℝ
  k : ℕ → ℕ → ℝ
  v : ℕ → ℕ → ℝ
  d : ℕ → ℕ → ℝ
  l : ℕ → ℝ
  dl : ℕ → ℝ

namespace Head

/-- The probability the query `i` gives the key `j`, the mask aside. -/
def pr (H : Head) (j i : ℕ) : ℝ := Real.rpow 2 ((∑ c ∈ range 256, H.k j c * H.q i c) - H.l i)

/-- The gradient of the score of query `i` with key `j`, the mask aside. -/
def ds (H : Head) (j i : ℕ) : ℝ := H.pr j i * ((∑ c ∈ range 128, H.v j c * H.d i c) - H.dl i)

/-- The probability, zero for a key after the query. -/
def pm (H : Head) (j i : ℕ) : ℝ := if j ≤ i then H.pr j i else 0

/-- The gradient of the score, zero for a key after the query. -/
def w (H : Head) (j i : ℕ) : ℝ := if j ≤ i then H.ds j i else 0

theorem w_eq (H : Head) (j i : ℕ) : H.w j i = H.pm j i * ((∑ c ∈ range 128, H.v j c * H.d i c) - H.dl i) := by
  unfold w pm ds
  split
  · rfl
  · rw [zero_mul]

theorem w_of_le (H : Head) {j i : ℕ} (h : j ≤ i) : H.w j i = H.ds j i := if_pos h
theorem pm_of_le (H : Head) {j i : ℕ} (h : j ≤ i) : H.pm j i = H.pr j i := if_pos h
theorem w_of_lt (H : Head) {j i : ℕ} (h : i < j) : H.w j i = 0 := if_neg (by omega)
theorem pm_of_lt (H : Head) {j i : ℕ} (h : i < j) : H.pm j i = 0 := if_neg (by omega)

end Head

variable {H : Head}

/-! ## The tile of the first half of the keys with the first half of the queries -/

section A

variable {b : ℕ} {k : Vec Ideal S1x1024x256 .bf16} {v : Vec Ideal S1x1024x128 .bf16} {L DL : Vec Ideal S1x1x1024 .f32}
  {Q : Vec Ideal S1x512x256 .bf16} {D X : Vec Ideal S512x128 .bf16}

theorem pay9 (hk : Slab (φ := .bf16) k fun r c => H.k (b + r) c) : Mat (φ := .bf16) (k0_pay9 k) fun r c => H.k (b + r) c :=
  ((hk.cast _).cutRows 0 slices_S1024x256_o0_0_S512x256).congr fun r c _ _ => by rw [Nat.zero_add]

theorem pay10 (hv : Slab (φ := .bf16) v fun r c => H.v (b + r) c) : Mat (φ := .bf16) (k0_pay10 v) fun r c => H.v (b + r) c :=
  ((hv.cast _).cutRows 0 slices_S1024x128_o0_0_S512x128).congr fun r c _ _ => by rw [Nat.zero_add]

theorem pay13 (hDL : Slab (φ := .f32) DL fun _ c => H.dl (b + c)) : Mat (φ := .f32) (k0_pay13 DL) fun _ c => H.dl (b + c) :=
  ((hDL.cast _).cutCols 0 slices_S1x1024_o0_0_S1x512).congr fun r c _ _ => by rw [Nat.zero_add]

theorem pay14 (hk : Slab (φ := .bf16) k fun r c => H.k (b + r) c) (hL : Slab (φ := .f32) L fun _ c => H.l (b + c))
    (hQ : Slab (φ := .bf16) Q fun r c => H.q (b + r) c) : Mat (φ := .f32) (k0_pay14 k L Q) fun r s => H.pr (b + r) (b + s) :=
  ((((pay9 hk).dotRows (hQ.cast _) _ rfl).sub (((hL.cast _).cutCols 0 _).rows _)).pow2).congr fun r c _ _ => by rw [Nat.zero_add]; rfl

theorem pay16 (hk : Slab (φ := .bf16) k fun r c => H.k (b + r) c) (hL : Slab (φ := .f32) L fun _ c => H.l (b + c))
    (hQ : Slab (φ := .bf16) Q fun r c => H.q (b + r) c) : Mat (φ := .f32) (k0_pay16 (k0_pay14 k L Q) k0_pay15) fun r s => H.pm (b + r) (b + s) :=
  ((pay14 hk hL hQ).upper .tc (by norm_num) (by norm_num) _ _).congr fun r c _ _ => by
    unfold Head.pm
    exact if_congr (by omega) rfl rfl

theorem pay17 (hk : Slab (φ := .bf16) k fun r c => H.k (b + r) c) (hL : Slab (φ := .f32) L fun _ c => H.l (b + c))
    (hQ : Slab (φ := .bf16) Q fun r c => H.q (b + r) c) (hD : Mat (φ := .bf16) D fun r c => H.d (b + r) c) :
    Mat (φ := .f32) (k0_pay17 (k0_pay12 D) (k0_pay14 k L Q) k0_pay15) fun r c => ∑ s ∈ range 512, H.pm (b + r) (b + s) * H.d (b + s) c :=
  ((pay16 hk hL hQ).trunc _).dot (hD.same _) _ rfl

theorem pay18 (hk : Slab (φ := .bf16) k fun r c => H.k (b + r) c) (hv : Slab (φ := .bf16) v fun r c => H.v (b + r) c)
    (hL : Slab (φ := .f32) L fun _ c => H.l (b + c)) (hDL : Slab (φ := .f32) DL fun _ c => H.dl (b + c))
    (hQ : Slab (φ := .bf16) Q fun r c => H.q (b + r) c) (hD : Mat (φ := .bf16) D fun r c => H.d (b + r) c) :
    Mat (φ := .bf16) (k0_pay18 (k0_pay10 v) (k0_pay12 D) (k0_pay13 DL) (k0_pay14 k L Q) k0_pay15) fun r s => H.w (b + r) (b + s) :=
  (((pay16 hk hL hQ).mul (((pay10 hv).dotRows (hD.same _) _ rfl).sub ((pay13 hDL).rows _))).trunc _).congr fun r c _ _ => (H.w_eq _ _).symm

theorem pay19 (hk : Slab (φ := .bf16) k fun r c => H.k (b + r) c) (hv : Slab (φ := .bf16) v fun r c => H.v (b + r) c)
    (hL : Slab (φ := .f32) L fun _ c => H.l (b + c)) (hDL : Slab (φ := .f32) DL fun _ c => H.dl (b + c))
    (hQ : Slab (φ := .bf16) Q fun r c => H.q (b + r) c) (hD : Mat (φ := .bf16) D fun r c => H.d (b + r) c) :
    Mat (φ := .f32) (k0_pay19 (k0_pay10 v) (k0_pay11 Q) (k0_pay12 D) (k0_pay13 DL) (k0_pay14 k L Q) k0_pay15)
      fun r c => ∑ s ∈ range 512, H.w (b + r) (b + s) * H.q (b + s) c :=
  (pay18 hk hv hL hDL hQ hD).dot (hQ.cast _) _ rfl

theorem pay20 (hk : Slab (φ := .bf16) k fun r c => H.k (b + r) c) (hv : Slab (φ := .bf16) v fun r c => H.v (b + r) c)
    (hL : Slab (φ := .f32) L fun _ c => H.l (b + c)) (hDL : Slab (φ := .f32) DL fun _ c => H.dl (b + c))
    (hQ : Slab (φ := .bf16) Q fun r c => H.q (b + r) c) (hD : Mat (φ := .bf16) D fun r c => H.d (b + r) c)
    {X : Vec Ideal S512x256 .f32} {x : ℕ → ℕ → ℝ} (hX : Mat (φ := .f32) X x) :
    Mat (φ := .f32) (k0_pay20 (k0_pay9 k) (k0_pay10 v) (k0_pay12 D) (k0_pay13 DL) (k0_pay14 k L Q) k0_pay15 X)
      fun r c => x r c + ∑ s ∈ range 512, H.w (b + s) (b + r) * H.k (b + s) c :=
  (hX.add ((pay18 hk hv hL hDL hQ hD).dotCols (pay9 hk) _ rfl)).same _

/-! ## The tile of the first half of the keys with the second half of the queries -/

theorem pay24 (hk : Slab (φ := .bf16) k fun r c => H.k (b + r) c) (hL : Slab (φ := .f32) L fun _ c => H.l (b + c))
    (hQ : Slab (φ := .bf16) Q fun r c => H.q (b + 512 + r) c) :
    Mat (φ := .f32) (k0_pay24 (k0_pay5 k) (k0_pay7 L) Q) fun r s => H.pm (b + r) (b + 512 + s) :=
  ((((pay9 hk).dotRows (hQ.cast _) _ rfl).sub (((hL.cast _).cutCols 512 _).rows _)).pow2).congr fun r c hr _ => by
    rw [H.pm_of_le (by omega), ← Nat.add_assoc]; rfl

theorem pay25 (hk : Slab (φ := .bf16) k fun r c => H.k (b + r) c) (hL : Slab (φ := .f32) L fun _ c => H.l (b + c))
    (hQ : Slab (φ := .bf16) Q fun r c => H.q (b + 512 + r) c) (hD : Mat (φ := .bf16) D fun r c => H.d (b + 512 + r) c) :
    Mat (φ := .f32) (k0_pay25 (k0_pay5 k) (k0_pay7 L) Q D) fun r c => ∑ s ∈ range 512, H.pm (b + r) (b + 512 + s) * H.d (b + 512 + s) c :=
  ((pay24 hk hL hQ).trunc _).dot (hD.same _) _ rfl

theorem pay26 (hk : Slab (φ := .bf16) k fun r c => H.k (b + r) c) (hv : Slab (φ := .bf16) v fun r c => H.v (b + r) c)
    (hL : Slab (φ := .f32) L fun _ c => H.l (b + c)) (hDL : Slab (φ := .f32) DL fun _ c => H.dl (b + c))
    (hQ : Slab (φ := .bf16) Q fun r c => H.q (b + 512 + r) c) (hD : Mat (φ := .bf16) D fun r c => H.d (b + 512 + r) c) :
    Mat (φ := .bf16) (k0_pay26 (k0_pay5 k) (k0_pay6 v) (k0_pay7 L) (k0_pay8 DL) Q D) fun r s => H.w (b + r) (b + 512 + s) :=
  (((pay24 hk hL hQ).mul (((pay10 hv).dotRows (hD.same _) _ rfl).sub (((hDL.cast _).cutCols 512 _).rows _))).trunc _).congr fun r c _ _ => by
    rw [H.w_eq, ← Nat.add_assoc]

theorem pay28 (hk : Slab (φ := .bf16) k fun r c => H.k (b + r) c) (hv : Slab (φ := .bf16) v fun r c => H.v (b + r) c)
    (hL : Slab (φ := .f32) L fun _ c => H.l (b + c)) (hDL : Slab (φ := .f32) DL fun _ c => H.dl (b + c))
    (hQ : Slab (φ := .bf16) Q fun r c => H.q (b + 512 + r) c) (hD : Mat (φ := .bf16) D fun r c => H.d (b + 512 + r) c) :
    Mat (φ := .f32) (k0_pay28 (k0_pay22 Q) (k0_pay26 (k0_pay5 k) (k0_pay6 v) (k0_pay7 L) (k0_pay8 DL) Q D))
      fun r c => ∑ s ∈ range 512, H.w (b + r) (b + 512 + s) * H.q (b + 512 + s) c :=
  (pay26 hk hv hL hDL hQ hD).dot (hQ.cast _) _ rfl

theorem pay29 (hk : Slab (φ := .bf16) k fun r c => H.k (b + r) c) (hv : Slab (φ := .bf16) v fun r c => H.v (b + r) c)
    (hL : Slab (φ := .f32) L fun _ c => H.l (b + c)) (hDL : Slab (φ := .f32) DL fun _ c => H.dl (b + c))
    (hQ : Slab (φ := .bf16) Q fun r c => H.q (b + 512 + r) c) (hD : Mat (φ := .bf16) D fun r c => H.d (b + 512 + r) c)
    {X : Vec Ideal S512x256 .f32} {x : ℕ → ℕ → ℝ} (hX : Mat (φ := .f32) X x) :
    Mat (φ := .f32) (k0_pay29 (k0_pay27 (k0_pay5 k) (k0_pay6 v) (k0_pay7 L) (k0_pay8 DL) Q D) X)
      fun r c => x r c + ∑ s ∈ range 512, H.w (b + s) (b + 512 + r) * H.k (b + s) c :=
  (hX.add ((pay26 hk hv hL hDL hQ hD).dotCols (pay9 hk) _ rfl)).same _

/-! ## The tile of the second half of the keys with the second half of the queries -/

theorem pay30 (hk : Slab (φ := .bf16) k fun r c => H.k (b + r) c) : Mat (φ := .bf16) (k0_pay30 (k0_pay5 k)) fun r c => H.k (b + 512 + r) c :=
  ((hk.cast _).cutRows 512 slices_S1024x256_o512_0_S512x256).congr fun r c _ _ => by rw [← Nat.add_assoc]

theorem pay33 (hk : Slab (φ := .bf16) k fun r c => H.k (b + r) c) (hL : Slab (φ := .f32) L fun _ c => H.l (b + c))
    (hQ : Slab (φ := .bf16) Q fun r c => H.q (b + 512 + r) c) :
    Mat (φ := .f32) (k0_pay33 (k0_pay5 k) (k0_pay7 L) Q) fun r s => H.pm (b + 512 + r) (b + 512 + s) :=
  (((((pay30 hk).dotRows (hQ.cast _) _ rfl).sub (((hL.cast _).cutCols 512 _).rows _)).pow2).upper .tc (by norm_num) (by norm_num) _ _).congr
    fun r c _ _ => by
      unfold Head.pm
      exact if_congr (by omega) (by rw [← Nat.add_assoc]; rfl) rfl

theorem pay34 (hk : Slab (φ := .bf16) k fun r c => H.k (b + r) c) (hL : Slab (φ := .f32) L fun _ c => H.l (b + c))
    (hQ : Slab (φ := .bf16) Q fun r c => H.q (b + 512 + r) c) (hD : Mat (φ := .bf16) D fun r c => H.d (b + 512 + r) c) :
    Mat (φ := .f32) (k0_pay34 (k0_pay5 k) (k0_pay7 L) Q D) fun r c => ∑ s ∈ range 512, H.pm (b + 512 + r) (b + 512 + s) * H.d (b + 512 + s) c :=
  ((pay33 hk hL hQ).trunc _).dot (hD.same _) _ rfl

theorem pay35 (hk : Slab (φ := .bf16) k fun r c => H.k (b + r) c) (hv : Slab (φ := .bf16) v fun r c => H.v (b + r) c)
    (hL : Slab (φ := .f32) L fun _ c => H.l (b + c)) (hDL : Slab (φ := .f32) DL fun _ c => H.dl (b + c))
    (hQ : Slab (φ := .bf16) Q fun r c => H.q (b + 512 + r) c) (hD : Mat (φ := .bf16) D fun r c => H.d (b + 512 + r) c) :
    Mat (φ := .bf16) (k0_pay35 (k0_pay5 k) (k0_pay6 v) (k0_pay7 L) (k0_pay8 DL) Q D) fun r s => H.w (b + 512 + r) (b + 512 + s) :=
  (((pay33 hk hL hQ).mul ((((hv.cast _).cutRows 512 _).dotRows (hD.same _) _ rfl).sub (((hDL.cast _).cutCols 512 _).rows _))).trunc _).congr
    fun r c _ _ => by rw [H.w_eq, ← Nat.add_assoc, ← Nat.add_assoc]

theorem pay36 (hk : Slab (φ := .bf16) k fun r c => H.k (b + r) c) (hv : Slab (φ := .bf16) v fun r c => H.v (b + r) c)
    (hL : Slab (φ := .f32) L fun _ c => H.l (b + c)) (hDL : Slab (φ := .f32) DL fun _ c => H.dl (b + c))
    (hQ : Slab (φ := .bf16) Q fun r c => H.q (b + 512 + r) c) (hD : Mat (φ := .bf16) D fun r c => H.d (b + 512 + r) c) :
    Mat (φ := .f32) (k0_pay36 (k0_pay5 k) (k0_pay6 v) (k0_pay7 L) (k0_pay8 DL) Q D)
      fun r c => ∑ s ∈ range 512, H.w (b + 512 + r) (b + 512 + s) * H.q (b + 512 + s) c :=
  (pay35 hk hv hL hDL hQ hD).dot (hQ.cast _) _ rfl

theorem pay38 (hk : Slab (φ := .bf16) k fun r c => H.k (b + r) c) (hv : Slab (φ := .bf16) v fun r c => H.v (b + r) c)
    (hL : Slab (φ := .f32) L fun _ c => H.l (b + c)) (hDL : Slab (φ := .f32) DL fun _ c => H.dl (b + c))
    (hQ : Slab (φ := .bf16) Q fun r c => H.q (b + 512 + r) c) (hD : Mat (φ := .bf16) D fun r c => H.d (b + 512 + r) c)
    {X : Vec Ideal S512x256 .f32} {x : ℕ → ℕ → ℝ} (hX : Mat (φ := .f32) X x) :
    Mat (φ := .f32) (k0_pay38 (k0_pay37 (k0_pay5 k) (k0_pay6 v) (k0_pay7 L) (k0_pay8 DL) Q D X))
      fun r c => x r c + ∑ s ∈ range 512, H.w (b + 512 + s) (b + 512 + r) * H.k (b + 512 + s) c :=
  (hX.add ((pay35 hk hv hL hDL hQ hD).dotCols (pay30 hk) _ rfl)).same _

end A

/-! ## A whole tile after the diagonal -/

section Full

variable {b i : ℕ} {k : Vec Ideal S1x1024x256 .bf16} {v : Vec Ideal S1x1024x128 .bf16} {L DL : Vec Ideal S1x1x1024 .f32}
  {Q : Vec Ideal S1x1024x256 .bf16} {D : Vec Ideal S1024x128 .bf16}

theorem pay43 (hk : Slab (φ := .bf16) k fun r c => H.k (b + r) c) (hL : Slab (φ := .f32) L fun _ c => H.l (i + c))
    (hQ : Slab (φ := .bf16) Q fun r c => H.q (i + r) c) (hb : b + 1024 ≤ i) :
    Mat (φ := .f32) (k0_pay43 (k0_pay5 k) Q L) fun r s => H.pm (b + r) (i + s) :=
  ((((hk.cast _).dotRows (hQ.cast _) _ rfl).sub ((hL.cast _).rows _)).pow2).congr fun r c hr _ => by
    rw [H.pm_of_le (by omega)]; rfl

theorem pay44 (hk : Slab (φ := .bf16) k fun r c => H.k (b + r) c) (hv : Slab (φ := .bf16) v fun r c => H.v (b + r) c)
    (hL : Slab (φ := .f32) L fun _ c => H.l (i + c)) (hDL : Slab (φ := .f32) DL fun _ c => H.dl (i + c))
    (hQ : Slab (φ := .bf16) Q fun r c => H.q (i + r) c) (hD : Mat (φ := .bf16) D fun r c => H.d (i + r) c) (hb : b + 1024 ≤ i) :
    Mat (φ := .bf16) (k0_pay44 (k0_pay5 k) (k0_pay6 v) Q D L DL) fun r s => H.w (b + r) (i + s) :=
  (((pay43 hk hL hQ hb).mul (((hv.cast _).dotRows (hD.same _) _ rfl).sub ((hDL.cast _).rows _))).trunc _).congr fun r c _ _ => (H.w_eq _ _).symm

theorem pay45 (hk : Slab (φ := .bf16) k fun r c => H.k (b + r) c) (hv : Slab (φ := .bf16) v fun r c => H.v (b + r) c)
    (hL : Slab (φ := .f32) L fun _ c => H.l (i + c)) (hDL : Slab (φ := .f32) DL fun _ c => H.dl (i + c))
    (hQ : Slab (φ := .bf16) Q fun r c => H.q (i + r) c) (hD : Mat (φ := .bf16) D fun r c => H.d (i + r) c) (hb : b + 1024 ≤ i)
    {X : Vec Ideal S1024x256 .f32} {x : ℕ → ℕ → ℝ} (hX : Mat (φ := .f32) X x) :
    Mat (φ := .f32) (k0_pay45 (k0_pay5 k) (k0_pay6 v) Q D L DL X) fun r c => x r c + ∑ s ∈ range 1024, H.w (b + s) (i + r) * H.k (b + s) c :=
  (hX.add ((pay44 hk hv hL hDL hQ hD hb).dotCols (hk.cast _) _ rfl)).same _

theorem pay46 (hk : Slab (φ := .bf16) k fun r c => H.k (b + r) c) (hv : Slab (φ := .bf16) v fun r c => H.v (b + r) c)
    (hL : Slab (φ := .f32) L fun _ c => H.l (i + c)) (hDL : Slab (φ := .f32) DL fun _ c => H.dl (i + c))
    (hQ : Slab (φ := .bf16) Q fun r c => H.q (i + r) c) (hD : Mat (φ := .bf16) D fun r c => H.d (i + r) c) (hb : b + 1024 ≤ i)
    {s : FVec Ideal S1024x256 .f32} {x : ℕ → ℕ → ℝ} (hs : Mat (φ := .f32) s x) :
    Mat (φ := .f32) (k0_pay46 (k0_pay5 k) (k0_pay6 v) s Q D L DL) fun r c => x r c + ∑ s ∈ range 1024, H.w (b + r) (i + s) * H.q (i + s) c :=
  hs.add ((pay44 hk hv hL hDL hQ hD hb).dot (hQ.cast _) _ rfl)

theorem pay47 (hk : Slab (φ := .bf16) k fun r c => H.k (b + r) c) (hL : Slab (φ := .f32) L fun _ c => H.l (i + c))
    (hQ : Slab (φ := .bf16) Q fun r c => H.q (i + r) c) (hD : Mat (φ := .bf16) D fun r c => H.d (i + r) c) (hb : b + 1024 ≤ i)
    {s : FVec Ideal S1024x128 .f32} {x : ℕ → ℕ → ℝ} (hs : Mat (φ := .f32) s x) :
    Mat (φ := .f32) (k0_pay47 (k0_pay5 k) s Q D L) fun r c => x r c + ∑ s ∈ range 1024, H.pm (b + r) (i + s) * H.d (i + s) c :=
  hs.add (((pay43 hk hL hQ hb).trunc _).dot (hD.same _) _ rfl)

end Full

end Cert.KernelIdeal.Tile
-- ==== Proof.Rows.lean ====
/-
  Rows taken out of arrays of reals and put into them, and one block of keys: the sums of its two gradients over all
  queries, and what it adds to the gradient of the queries.
-/
module

public import proofs.«01_k».proof.Proof.Tile

@[expose] public section

set_option maxRecDepth 16384

noncomputable section

namespace Cert.Lift

open Idealize.ShloMosaic
open Idealize.ShloMosaic.ValueIdx (ix2 ix3 eq_ix2 eq_ix3)
open Cert.KernelIdeal.Model

variable {M N n : ℕ} {φ : FTy}

/-- Rows of a slab of reals. -/
theorem Slab.rows [NeZero N] {x : FVec Ideal ⟨3, ![1, N, M]⟩ φ} {f : ℕ → ℕ → ℝ} (hx : Slab x f) {r : ℕ} (h : r + n ≤ N) :
    Slab (φ := φ) (M := n) (slabRows x r n) fun a c => f (r + a) c := fun z a c => by
  refine (hx z (Fin.ofNat N (r + a.val)) c).trans ?_
  have := a.isLt
  rw [Fin.val_ofNat, Nat.mod_eq_of_lt (by omega)]

/-- Rows of a matrix of reals. -/
theorem Mat.rowsOf [NeZero N] {x : FVec Ideal ⟨2, ![N, M]⟩ φ} {f : ℕ → ℕ → ℝ} (hx : Mat x f) {r : ℕ} (h : r + n ≤ N) :
    Mat (φ := φ) (M := n) (matRows x r n) fun a c => f (r + a) c := fun a c => by
  refine (hx (Fin.ofNat N (r + a.val)) c).trans ?_
  have := a.isLt
  rw [Fin.val_ofNat, Nat.mod_eq_of_lt (by omega)]

/-- Rows put into a matrix of reals. -/
theorem Mat.put {x : FVec Ideal ⟨2, ![N, M]⟩ φ} {w : FVec Ideal ⟨2, ![n, M]⟩ φ} {f g : ℕ → ℕ → ℝ} (hx : Mat x f) (hw : Mat w g) {r : ℕ} :
    Mat (φ := φ) (putRows x r n w) fun i c => if r ≤ i ∧ i < r + n then g (i - r) c else f i c := fun i c => by
  show VecWindow.put x ![r, 0] ![n, M] w (ix2 i c) = (((if r ≤ i.val ∧ i.val < r + n then g (i.val - r) c.val else f i.val c.val) : ℝ) : EReal)
  unfold VecWindow.put
  have hc : (∀ a : Fin 2, ![r, 0] a ≤ ((ix2 i c : (⟨2, ![N, M]⟩ : Shape).Idx) a).val ∧ ((ix2 i c : (⟨2, ![N, M]⟩ : Shape).Idx) a).val < ![r, 0] a + ![n, M] a)
      ↔ r ≤ i.val ∧ i.val < r + n := by
    constructor
    · intro h; exact h 0
    · intro h a
      match a with
      | ⟨0, _⟩ => exact h
      | ⟨1, _⟩ => exact ⟨Nat.zero_le _, by show c.val < 0 + M; have := c.isLt; omega⟩
  by_cases h : r ≤ i.val ∧ i.val < r + n
  · rw [if_pos h]
    refine (dif_pos (hc.2 h)).trans ?_
    refine Eq.trans (congrArg w (funext fun a => Fin.ext ?_)) (hw ⟨i.val - r, by omega⟩ c)
    match a with
    | ⟨0, _⟩ => rfl
    | ⟨1, _⟩ => rfl
  · rw [if_neg h]
    exact (dif_neg fun hh => h (hc.1 hh)).trans (hx i c)

/-- Two slabs of reals, one under the other. -/
theorem Slab.stack {x y : FVec Ideal ⟨3, ![1, n, M]⟩ φ} {f : ℕ → ℕ → ℝ} (hx : Slab x f) (hy : Slab y fun r c => f (n + r) c) :
    Slab (φ := φ) (M := n + n) (Cert.KernelIdeal.Model.stack x y) f := fun a r c => by
  have := r.isLt
  by_cases h : r.val < n
  · exact (dif_pos h).trans (hx a ⟨r.val, h⟩ c)
  · refine (dif_neg h).trans ((hy a ⟨r.val - n, by omega⟩ c).trans ?_)
    show ((f (n + (r.val - n)) c.val : ℝ) : EReal) = _
    rw [show n + (r.val - n) = r.val by omega]

end Cert.Lift

namespace Cert.KernelIdeal.Tile

open Cert.KernelIdeal Cert.KernelIdeal.Gen Cert.KernelIdeal.Model Cert.Lift
open Idealize.ShloMosaic Idealize.ShloMosaic.TcCoe
open Finset (range)

variable {H : Head}

/-- The arrays of all queries hold the head. -/
structure Reads (H : Head) (Q : Vec Ideal S1x8192x256 .bf16) (D : Vec Ideal S8192x128 .bf16) (L DL : Vec Ideal S1x8x1024 .f32) : Prop where
  q : Slab (φ := .bf16) Q H.q
  d : Mat (φ := .bf16) D H.d
  l : Slab (φ := .f32) L fun a c => H.l (1024 * a + c)
  dl : Slab (φ := .f32) DL fun a c => H.dl (1024 * a + c)

section

variable {Q : Vec Ideal S1x8192x256 .bf16} {D : Vec Ideal S8192x128 .bf16} {L DL : Vec Ideal S1x8x1024 .f32} (R : Reads H Q D L DL)
include R

theorem Reads.lRow {j : ℕ} (hj : j ≤ 7) : Slab (φ := .f32) (slabRows L j 1) fun _ c => H.l (1024 * j + c) :=
  (R.l.rows (by omega)).congr fun r c hr _ => by rw [show r = 0 by omega, Nat.add_zero]

theorem Reads.dlRow {j : ℕ} (hj : j ≤ 7) : Slab (φ := .f32) (slabRows DL j 1) fun _ c => H.dl (1024 * j + c) :=
  (R.dl.rows (by omega)).congr fun r c hr _ => by rw [show r = 0 by omega, Nat.add_zero]

variable {j : ℕ} {k : Vec Ideal S1x1024x256 .bf16} {v : Vec Ideal S1x1024x128 .bf16}

/-- The gradient of the queries after the diagonal of block `j`. -/
theorem diagX (hj : j ≤ 7) (hk : Slab (φ := .bf16) k fun r c => H.k (1024 * j + r) c) (hv : Slab (φ := .bf16) v fun r c => H.v (1024 * j + r) c)
    {X : Vec Ideal S8192x256 .f32} {x : ℕ → ℕ → ℝ} (hX : Mat (φ := .f32) X x) :
    Mat (φ := .f32) (diagC Q D L DL k v j (diagB Q D L DL k v j (diagA Q D L DL k v j X)))
      fun i c => if 1024 * j ≤ i ∧ i < 1024 * j + 1024 then x i c + ∑ s ∈ range 1024, H.w (1024 * j + s) i * H.k (1024 * j + s) c else x i c := by
  have hA : Mat (φ := .f32) (diagA Q D L DL k v j X) _ :=
    hX.put (pay20 hk hv (R.lRow hj) (R.dlRow hj) (R.q.rows (by omega)) (R.d.rowsOf (by omega)) (hX.rowsOf (by omega)))
  have hB : Mat (φ := .f32) (diagB Q D L DL k v j (diagA Q D L DL k v j X)) _ :=
    hA.put (pay29 hk hv (R.lRow hj) (R.dlRow hj) (R.q.rows (by omega)) (R.d.rowsOf (by omega)) (hA.rowsOf (by omega)))
  have hC : Mat (φ := .f32) (diagC Q D L DL k v j (diagB Q D L DL k v j (diagA Q D L DL k v j X))) _ :=
    hB.put (pay38 hk hv (R.lRow hj) (R.dlRow hj) (R.q.rows (by omega)) (R.d.rowsOf (by omega)) (hB.rowsOf (by omega)))
  refine hC.congr fun i c _ _ => ?_
  have e2 : ∑ s ∈ range 1024, H.w (1024 * j + s) i * H.k (1024 * j + s) c
      = (∑ s ∈ range 512, H.w (1024 * j + s) i * H.k (1024 * j + s) c) + ∑ s ∈ range 512, H.w (1024 * j + 512 + s) i * H.k (1024 * j + 512 + s) c := by
    rw [show 1024 = 512 + 512 from rfl, Finset.sum_range_add]
    exact congrArg _ (Finset.sum_congr rfl fun s _ => by rw [← Nat.add_assoc])
  by_cases h1 : 1024 * j + 512 ≤ i ∧ i < 1024 * j + 512 + 512
  · have e : 1024 * j + 512 + (i - (1024 * j + 512)) = i := by omega
    simp only [e]
    rw [if_pos h1, if_pos h1, if_neg (by omega), if_pos (by omega), e2]
    ring
  · rw [if_neg h1, if_neg h1]
    by_cases h0 : 1024 * j ≤ i ∧ i < 1024 * j + 512
    · have e : 1024 * j + (i - 1024 * j) = i := by omega
      simp only [e]
      rw [if_pos h0, if_pos (by omega), e2,
        Finset.sum_eq_zero (s := range 512) (f := fun s => H.w (1024 * j + 512 + s) i * H.k (1024 * j + 512 + s) c)
          fun s _ => by rw [H.w_of_lt (by omega), zero_mul], add_zero]
    · rw [if_neg h0, if_neg (by omega)]

omit R in
/-- A sum over the queries of a block, its halves apart: the first half sees the first half of the keys only. -/
theorem halves (f g : ℕ → ℕ → ℝ) (b r c : ℕ) (hfz : ∀ j i, i < j → f j i = 0) :
    (if r < 512 then (∑ s ∈ range 512, f (b + r) (b + s) * g (b + s) c) + ∑ s ∈ range 512, f (b + r) (b + 512 + s) * g (b + 512 + s) c
      else ∑ s ∈ range 512, f (b + 512 + (r - 512)) (b + 512 + s) * g (b + 512 + s) c)
      = ∑ s ∈ range 1024, f (b + r) (b + s) * g (b + s) c := by
  have e2 : ∑ s ∈ range 1024, f (b + r) (b + s) * g (b + s) c
      = (∑ s ∈ range 512, f (b + r) (b + s) * g (b + s) c) + ∑ s ∈ range 512, f (b + r) (b + 512 + s) * g (b + 512 + s) c := by
    rw [show 1024 = 512 + 512 from rfl, Finset.sum_range_add]
    exact congrArg _ (Finset.sum_congr rfl fun s _ => by rw [← Nat.add_assoc])
  rw [e2]
  by_cases h : r < 512
  · rw [if_pos h]
  · rw [if_neg h, show b + 512 + (r - 512) = b + r by omega,
      Finset.sum_eq_zero (s := range 512) (f := fun s => f (b + r) (b + s) * g (b + s) c)
        fun s hs => by rw [hfz _ _ (by have := Finset.mem_range.1 hs; omega), zero_mul], zero_add]

/-- The sum of the keys' gradient after the diagonal, -/
theorem diagK_mat (hj : j ≤ 7) (hk : Slab (φ := .bf16) k fun r c => H.k (1024 * j + r) c) (hv : Slab (φ := .bf16) v fun r c => H.v (1024 * j + r) c) :
    Mat (φ := .f32) (diagK Q D L DL k v j) fun r c => ∑ s ∈ range 1024, H.w (1024 * j + r) (1024 * j + s) * H.q (1024 * j + s) c :=
  (((pay19 hk hv (R.lRow hj) (R.dlRow hj) (R.q.rows (by omega)) (R.d.rowsOf (by omega))).add
      (pay28 hk hv (R.lRow hj) (R.dlRow hj) (R.q.rows (by omega)) (R.d.rowsOf (by omega)))).under
    (pay36 hk hv (R.lRow hj) (R.dlRow hj) (R.q.rows (by omega)) (R.d.rowsOf (by omega))) rfl
    concatenates_S512x256_S512x256_S1024x256_d0).congr
    fun r c _ _ => halves H.w H.q (1024 * j) r c fun _ _ h => H.w_of_lt h

/-- and of the values' gradient. -/
theorem diagV_mat (hj : j ≤ 7) (hk : Slab (φ := .bf16) k fun r c => H.k (1024 * j + r) c) :
    Mat (φ := .f32) (diagV Q D L k j) fun r c => ∑ s ∈ range 1024, H.pm (1024 * j + r) (1024 * j + s) * H.d (1024 * j + s) c :=
  (((pay17 hk (R.lRow hj) (R.q.rows (by omega)) (R.d.rowsOf (by omega))).add
      (pay25 hk (R.lRow hj) (R.q.rows (by omega)) (R.d.rowsOf (by omega)))).under
    (pay34 hk (R.lRow hj) (R.q.rows (by omega)) (R.d.rowsOf (by omega))) rfl
    concatenates_S512x128_S512x128_S1024x128_d0).congr
    fun r c _ _ => halves H.pm H.d (1024 * j) r c fun _ _ h => H.pm_of_lt h

/-- The loop over the blocks of queries after the diagonal. -/
theorem loop_mat (hk : Slab (φ := .bf16) k fun r c => H.k (1024 * j + r) c) (hv : Slab (φ := .bf16) v fun r c => H.v (1024 * j + r) c)
    {X : Vec Ideal S8192x256 .f32} {x : ℕ → ℕ → ℝ} (hX : Mat (φ := .f32) X x) (n : ℕ) (hn : j + n ≤ 7) :
    let o := loopOf Q D L DL (k0_pay5 k) (k0_pay6 v) j
      ((diagK Q D L DL k v j, diagV Q D L k j), diagC Q D L DL k v j (diagB Q D L DL k v j (diagA Q D L DL k v j X))) n
    Mat (φ := .f32) o.1.1 (fun r c => ∑ s ∈ range (1024 * (n + 1)), H.w (1024 * j + r) (1024 * j + s) * H.q (1024 * j + s) c)
    ∧ Mat (φ := .f32) o.1.2 (fun r c => ∑ s ∈ range (1024 * (n + 1)), H.pm (1024 * j + r) (1024 * j + s) * H.d (1024 * j + s) c)
    ∧ Mat (φ := .f32) o.2 (fun i c => if 1024 * j ≤ i ∧ i < 1024 * j + 1024 * (n + 1)
        then x i c + ∑ s ∈ range 1024, H.w (1024 * j + s) i * H.k (1024 * j + s) c else x i c) := by
  induction n with
  | zero => exact ⟨diagK_mat R (by omega) hk hv, diagV_mat R (by omega) hk, diagX R (by omega) hk hv hX⟩
  | succ n ih =>
    obtain ⟨h1, h2, h3⟩ := ih (by omega)
    have hr : j + 1 + n ≤ 7 := by omega
    have hb : 1024 * j + 1024 ≤ 1024 * (j + 1 + n) := by omega
    have lr := R.lRow hr
    have dr := R.dlRow hr
    have qr := R.q.rows (n := 1024) (r := 1024 * (j + 1 + n)) (by omega)
    have gr := R.d.rowsOf (n := 1024) (r := 1024 * (j + 1 + n)) (by omega)
    have e : ∀ s, 1024 * (j + 1 + n) + s = 1024 * j + (1024 * (n + 1) + s) := fun s => by omega
    refine ⟨(pay46 hk hv lr dr qr gr hb h1).congr fun r c _ _ => ?_, (pay47 hk lr qr gr hb h2).congr fun r c _ _ => ?_,
      (h3.put (pay45 hk hv lr dr qr gr hb (h3.rowsOf (by omega)))).congr fun i c _ _ => ?_⟩
    · rw [show 1024 * (n + 1 + 1) = 1024 * (n + 1) + 1024 by omega, Finset.sum_range_add]
      exact congrArg _ (Finset.sum_congr rfl fun s _ => by rw [e])
    · rw [show 1024 * (n + 1 + 1) = 1024 * (n + 1) + 1024 by omega, Finset.sum_range_add]
      exact congrArg _ (Finset.sum_congr rfl fun s _ => by rw [e])
    · by_cases h : 1024 * (j + 1 + n) ≤ i ∧ i < 1024 * (j + 1 + n) + 1024
      · have ei : 1024 * (j + 1 + n) + (i - 1024 * (j + 1 + n)) = i := by omega
        simp only [ei]
        rw [if_pos h, if_neg (by omega), if_pos (by omega)]
      · rw [if_neg h]
        exact if_congr (by omega) rfl rfl

/-- One block of keys: its two gradients summed over all queries, and the gradient of the queries with the block's part added. -/
theorem block_mat (hj : j ≤ 7) (hk : Slab (φ := .bf16) k fun r c => H.k (1024 * j + r) c) (hv : Slab (φ := .bf16) v fun r c => H.v (1024 * j + r) c)
    {X : Vec Ideal S8192x256 .f32} {x : ℕ → ℕ → ℝ} (hX : Mat (φ := .f32) X x) :
    Mat (φ := .f32) (blockOf Q D L DL k v j X).1.1 (fun r c => ∑ i ∈ range 8192, H.w (1024 * j + r) i * H.q i c)
    ∧ Mat (φ := .f32) (blockOf Q D L DL k v j X).1.2 (fun r c => ∑ i ∈ range 8192, H.pm (1024 * j + r) i * H.d i c)
    ∧ Mat (φ := .f32) (blockOf Q D L DL k v j X).2 (fun i c => x i c + ∑ s ∈ range 1024, H.w (1024 * j + s) i * H.k (1024 * j + s) c) := by
  obtain ⟨h1, h2, h3⟩ := loop_mat R hk hv hX (7 - j) (by omega)
  have e8 : 8192 = 1024 * j + 1024 * (7 - j + 1) := by omega
  refine ⟨h1.congr fun r c _ _ => ?_, h2.congr fun r c _ _ => ?_, h3.congr fun i c hi _ => ?_⟩
  · rw [e8, Finset.sum_range_add, Finset.sum_eq_zero (s := range (1024 * j)) fun s hs => by
      rw [H.w_of_lt (by have := Finset.mem_range.1 hs; omega), zero_mul], zero_add]
  · rw [e8, Finset.sum_range_add, Finset.sum_eq_zero (s := range (1024 * j)) fun s hs => by
      rw [H.pm_of_lt (by have := Finset.mem_range.1 hs; omega), zero_mul], zero_add]
  · by_cases h : 1024 * j ≤ i
    · rw [if_pos ⟨h, by omega⟩]
    · rw [if_neg (by omega), Finset.sum_eq_zero (s := range 1024) fun s _ => by rw [H.w_of_lt (by omega), zero_mul], add_zero]

end

end Cert.KernelIdeal.Tile
-- ==== Proof.Points.lean ====
/-
  The grid of the backward kernel over the reals: the block every window shows at a point, what a point leaves, and what
  the running gradient of a head's queries holds after each of the head's points.
-/
module

public import proofs.«01_k».proof.Proof.Rows
public import proofs.«01_k».proof.Proof.Launch
public import Idealize.ShloMosaic.Lib.Pipeline.ValueKit

@[expose] public section

set_option maxRecDepth 16384

noncomputable section

namespace Cert.KernelIdeal.Tile

open Cert.KernelIdeal Cert.KernelIdeal.Gen Cert.KernelIdeal.Model Cert.KernelIdeal.Launched Cert.Lift
open Idealize.ShloMosaic Idealize.ShloMosaic.TcCoe
open Finset (range)

/-- The factor the keys' gradient is scaled with. -/
theorem ln2_val : (Named.named κ "ln2" 0x3F317218#32 : Ideal .f32) = ((Real.log 2 : ℝ) : EReal) :=
  IdealRules.named_const.ideal_named_scalar _ _ _ _ rfl

/-- The keys' gradient as it is written, in either of its two places. -/
theorem pay55_slab {x : FVec Ideal S1024x256 .f32} {f : ℕ → ℕ → ℝ} (hx : Mat (φ := .f32) x f) :
    Slab (φ := .bf16) (k0_pay55 x) fun r c => f r c * Real.log 2 := by
  unfold k0_pay55
  exact ((hx.mul (Mat.splat ln2_val)).trunc bitsLt_bf16_f32).toSlab _

theorem pay102_slab {x : FVec Ideal S1024x256 .f32} {f : ℕ → ℕ → ℝ} (hx : Mat (φ := .f32) x f) :
    Slab (φ := .bf16) (k0_pay1 (k0_pay102 x)) fun r c => f r c * Real.log 2 := by
  unfold k0_pay1 k0_pay102
  exact ((hx.mul (Mat.splat ln2_val)).trunc bitsLt_bf16_f32).toSlab _

/-- What a head's queries start from at the head's point `a`. -/
theorem start_mat {a : ℕ} {X : Vec Ideal S8192x256 .f32} {x : ℕ → ℕ → ℝ} (hX : a ≠ 0 → Mat (φ := .f32) X x) :
    Mat (φ := .f32) (startOf a X) fun i c => if a = 0 then 0 else x i c := by
  unfold startOf
  by_cases h : a = 0
  · simp only [if_pos h]
    exact Mat.same (φ := .f32) (x := broadcast ⟨2, ![8192, 256]⟩ (Scalar.ofBits (F := Ideal) .f32 0x00000000#32))
      (fun _ _ => Ideal.ofBits_zero_f32.trans EReal.coe_zero.symm) _
  · simp only [if_neg h]
    exact hX h

section

variable {H : Head} {Q : Vec Ideal S1x8192x256 .bf16} {K : Vec Ideal S1x2048x256 .bf16} {W : Vec Ideal S1x2048x128 .bf16} {D : Vec Ideal S8192x128 .bf16}
  {L DL : Vec Ideal S1x8x1024 .f32} (R : Reads H Q D L DL) {a : ℕ} (ha : a ≤ 3)
  (hK : Slab (φ := .bf16) K fun r c => H.k (2048 * (3 - a) + r) c) (hW : Slab (φ := .bf16) W fun r c => H.v (2048 * (3 - a) + r) c)
  {X : Vec Ideal S8192x256 .f32} {x : ℕ → ℕ → ℝ} (hX : a ≠ 0 → Mat (φ := .f32) X x)
include R ha hK hW hX

/-- The second of a point's blocks of keys; -/
theorem hi_mat :
    Mat (φ := .f32) (hiOf Q K W D L DL a X).1.1 (fun r c => ∑ i ∈ range 8192, H.w (2048 * (3 - a) + (1024 + r)) i * H.q i c)
    ∧ Mat (φ := .f32) (hiOf Q K W D L DL a X).1.2 (fun r c => ∑ i ∈ range 8192, H.pm (2048 * (3 - a) + (1024 + r)) i * H.d i c)
    ∧ Mat (φ := .f32) (hiOf Q K W D L DL a X).2 (fun i c => (if a = 0 then 0 else x i c)
        + ∑ s ∈ range 1024, H.w (2048 * (3 - a) + (1024 + s)) i * H.k (2048 * (3 - a) + (1024 + s)) c) := by
  have e : ∀ s, 1024 * (2 * (3 - a) + 1) + s = 2048 * (3 - a) + (1024 + s) := fun s => by omega
  have h := block_mat R (j := 2 * (3 - a) + 1) (by omega) ((hK.rows (n := 1024) (r := 1024) (by omega)).congr fun r c _ _ => by rw [e])
    ((hW.rows (n := 1024) (r := 1024) (by omega)).congr fun r c _ _ => by rw [e]) (start_mat hX)
  simp only [e] at h
  exact h

/-- and the first, after it. -/
theorem lo_mat :
    Mat (φ := .f32) (loOf Q K W D L DL a X).1.1 (fun r c => ∑ i ∈ range 8192, H.w (2048 * (3 - a) + r) i * H.q i c)
    ∧ Mat (φ := .f32) (loOf Q K W D L DL a X).1.2 (fun r c => ∑ i ∈ range 8192, H.pm (2048 * (3 - a) + r) i * H.d i c)
    ∧ Mat (φ := .f32) (loOf Q K W D L DL a X).2 (fun i c => (if a = 0 then 0 else x i c)
        + ∑ s ∈ range 2048, H.w (2048 * (3 - a) + s) i * H.k (2048 * (3 - a) + s) c) := by
  have e : ∀ s, 1024 * (2 * (3 - a)) + s = 2048 * (3 - a) + s := fun s => by omega
  have h := block_mat R (j := 2 * (3 - a)) (by omega) ((hK.rows (n := 1024) (r := 0) (by omega)).congr fun r c _ _ => by rw [e, Nat.zero_add])
    ((hW.rows (n := 1024) (r := 0) (by omega)).congr fun r c _ _ => by rw [e, Nat.zero_add]) (hi_mat R ha hK hW hX).2.2
  simp only [e] at h
  refine ⟨h.1, h.2.1, h.2.2.congr fun i c _ _ => ?_⟩
  rw [show 2048 = 1024 + 1024 from rfl, Finset.sum_range_add]
  ring

/-- The point's block of the keys' gradient, -/
theorem dk_slab : Slab (φ := .bf16) (dkOf Q K W D L DL a X) fun r c => (∑ i ∈ range 8192, H.w (2048 * (3 - a) + r) i * H.q i c) * Real.log 2 :=
  (pay102_slab (lo_mat R ha hK hW hX).1).stack (n := 1024) (pay55_slab (hi_mat R ha hK hW hX).1)

/-- and of the values' gradient. -/
theorem dv_slab : Slab (φ := .bf16) (dvOf Q K W D L DL a X) fun r c => ∑ i ∈ range 8192, H.pm (2048 * (3 - a) + r) i * H.d i c :=
  (((lo_mat R ha hK hW hX).2.1.trunc bitsLt_bf16_f32).toSlab _).stack (n := 1024) (((hi_mat R ha hK hW hX).2.1.trunc bitsLt_bf16_f32).toSlab _)

end

/-! ## The windows -/

variable (m : (ℓ : Loc nD τ sig) → Buf (Elt Ideal) ℓ) (c : Dev nD) (HH : ℕ → Head)

/-- The arrays the launch reads hold the eight heads. -/
structure Holds : Prop where
  q : ∀ (h : Fin 8) (i : Fin 8192) (e : Fin 256), V m c main_v38 (ValueIdx.ix3 h i e) = (((HH h.val).q i.val e.val : ℝ) : EReal)
  k : ∀ (h : Fin 8) (i : Fin 8192) (e : Fin 256), V m c main_v41 (ValueIdx.ix3 h i e) = (((HH h.val).k i.val e.val : ℝ) : EReal)
  v : ∀ (h : Fin 8) (i : Fin 8192) (e : Fin 128), V m c main_v43 (ValueIdx.ix3 h i e) = (((HH h.val).v i.val e.val : ℝ) : EReal)
  d : ∀ (i : Fin 8192) (e : Fin 1024), V m c main_v45 (ValueIdx.ix2 i e) = (((HH (e.val / 128)).d i.val (e.val % 128) : ℝ) : EReal)
  l : ∀ (h : Fin 8) (a : Fin 8) (b : Fin 1024), V m c main_v46 (ValueIdx.ix3 h a b) = (((HH h.val).l (1024 * a.val + b.val) : ℝ) : EReal)
  dl : ∀ (h : Fin 8) (a : Fin 8) (b : Fin 1024), V m c main_v47 (ValueIdx.ix3 h a b) = (((HH h.val).dl (1024 * a.val + b.val) : ℝ) : EReal)

theorem at0 : ∀ t : Fin grid0.N, win0_0.index t = ![t.val / 4, 0, 0] := by decide +kernel
theorem at1 : ∀ t : Fin grid0.N, win0_1.index t = ![t.val / 4, 3 - t.val % 4, 0] := by decide +kernel
theorem at2 : ∀ t : Fin grid0.N, win0_2.index t = ![t.val / 4, 3 - t.val % 4, 0] := by decide +kernel
theorem at3 : ∀ t : Fin grid0.N, win0_3.index t = ![0, t.val / 4] := by decide +kernel
theorem at4 : ∀ t : Fin grid0.N, win0_4.index t = ![t.val / 4, 0, 0] := by decide +kernel
theorem at5 : ∀ t : Fin grid0.N, win0_5.index t = ![t.val / 4, 0, 0] := by decide +kernel
theorem at6 : ∀ t : Fin grid0.N, win0_6.index t = ![t.val / 4, 0, 0] := by decide +kernel
theorem at7 : ∀ t : Fin grid0.N, win0_7.index t = ![t.val / 4, 3 - t.val % 4, 0] := by decide +kernel
theorem at8 : ∀ t : Fin grid0.N, win0_8.index t = ![t.val / 4, 3 - t.val % 4, 0] := by decide +kernel

theorem head_lt (t : Fin cfg0.N) : t.val / 4 < 8 := by
  have : t.val < 32 := lt_of_lt_of_eq t.isLt N_0
  omega

variable {m c HH}

section Blocks

variable {H : Fin 8 → ℕ → ℕ → ℝ} (t : Fin cfg0.N)

theorem block0 (f : Buf (Elt Ideal) ((c : Thread nD τ).loc main_v38)) (hf : ∀ (h : Fin 8) (i : Fin 8192) (e : Fin 256), f (ValueIdx.ix3 h i e) = ((H h i.val e.val : ℝ) : EReal)) :
    Slab (φ := .bf16) (M := 8192) (N := 256) (((cfg0.win 0).blk t).view.read (Elt Ideal) f) (H ⟨t.val / 4, head_lt t⟩) := fun z i e => by
  refine Eq.trans (congrArg f (?_ : _ = ValueIdx.ix3 ⟨t.val / 4, head_lt t⟩ i e)) (hf _ i e)
  funext a
  apply Fin.ext
  match a with
  | ⟨0, _⟩ => blk_simp [at0]
  | ⟨1, _⟩ => blk_simp [at0]
  | ⟨2, _⟩ => blk_simp [at0]

theorem block1 (f : Buf (Elt Ideal) ((c : Thread nD τ).loc main_v41)) (hf : ∀ (h : Fin 8) (i : Fin 8192) (e : Fin 256), f (ValueIdx.ix3 h i e) = ((H h i.val e.val : ℝ) : EReal)) :
    Slab (φ := .bf16) (M := 2048) (N := 256) (((cfg0.win 1).blk t).view.read (Elt Ideal) f) fun r e => H ⟨t.val / 4, head_lt t⟩ (2048 * (3 - t.val % 4) + r) e := fun z i e => by
  refine Eq.trans (congrArg f (?_ : _ = ValueIdx.ix3 ⟨t.val / 4, head_lt t⟩ ⟨2048 * (3 - t.val % 4) + i.val, by have := i.isLt; omega⟩ e)) (hf _ _ e)
  funext a
  apply Fin.ext
  match a with
  | ⟨0, _⟩ => blk_simp [at1]
  | ⟨1, _⟩ => blk_simp [at1]; show (3 - t.val % 4) * 2048 + i.val = 2048 * (3 - t.val % 4) + i.val; omega
  | ⟨2, _⟩ => blk_simp [at1]

theorem block2 (f : Buf (Elt Ideal) ((c : Thread nD τ).loc main_v43)) (hf : ∀ (h : Fin 8) (i : Fin 8192) (e : Fin 128), f (ValueIdx.ix3 h i e) = ((H h i.val e.val : ℝ) : EReal)) :
    Slab (φ := .bf16) (M := 2048) (N := 128) (((cfg0.win 2).blk t).view.read (Elt Ideal) f) fun r e => H ⟨t.val / 4, head_lt t⟩ (2048 * (3 - t.val % 4) + r) e := fun z i e => by
  refine Eq.trans (congrArg f (?_ : _ = ValueIdx.ix3 ⟨t.val / 4, head_lt t⟩ ⟨2048 * (3 - t.val % 4) + i.val, by have := i.isLt; omega⟩ e)) (hf _ _ e)
  funext a
  apply Fin.ext
  match a with
  | ⟨0, _⟩ => blk_simp [at2]
  | ⟨1, _⟩ => blk_simp [at2]; show (3 - t.val % 4) * 2048 + i.val = 2048 * (3 - t.val % 4) + i.val; omega
  | ⟨2, _⟩ => blk_simp [at2]

theorem block3 (f : Buf (Elt Ideal) ((c : Thread nD τ).loc main_v45)) (d : ℕ → ℕ → ℕ → ℝ)
    (hf : ∀ (i : Fin 8192) (e : Fin 1024), f (ValueIdx.ix2 i e) = ((d (e.val / 128) i.val (e.val % 128) : ℝ) : EReal)) :
    Mat (φ := .bf16) (M := 8192) (N := 128) (((cfg0.win 3).blk t).view.read (Elt Ideal) f) (d (t.val / 4)) := fun i e => by
  have hh := head_lt t
  have he := e.isLt
  refine Eq.trans (congrArg f (?_ : _ = ValueIdx.ix2 i ⟨t.val / 4 * 128 + e.val, by omega⟩)) ((hf i _).trans ?_)
  · funext a
    apply Fin.ext
    match a with
    | ⟨0, _⟩ => blk_simp [at3]
    | ⟨1, _⟩ => blk_simp [at3]
  · show ((d ((t.val / 4 * 128 + e.val) / 128) i.val ((t.val / 4 * 128 + e.val) % 128) : ℝ) : EReal) = _
    rw [show (t.val / 4 * 128 + e.val) / 128 = t.val / 4 by omega, show (t.val / 4 * 128 + e.val) % 128 = e.val by omega]

theorem block4 (f : Buf (Elt Ideal) ((c : Thread nD τ).loc main_v46)) (hf : ∀ (h : Fin 8) (a : Fin 8) (b : Fin 1024), f (ValueIdx.ix3 h a b) = ((H h a.val b.val : ℝ) : EReal)) :
    Slab (φ := .f32) (M := 8) (N := 1024) (((cfg0.win 4).blk t).view.read (Elt Ideal) f) (H ⟨t.val / 4, head_lt t⟩) := fun z i e => by
  refine Eq.trans (congrArg f (?_ : _ = ValueIdx.ix3 ⟨t.val / 4, head_lt t⟩ i e)) (hf _ i e)
  funext a
  apply Fin.ext
  match a with
  | ⟨0, _⟩ => blk_simp [at4]
  | ⟨1, _⟩ => blk_simp [at4]
  | ⟨2, _⟩ => blk_simp [at4]

theorem block5 (f : Buf (Elt Ideal) ((c : Thread nD τ).loc main_v47)) (hf : ∀ (h : Fin 8) (a : Fin 8) (b : Fin 1024), f (ValueIdx.ix3 h a b) = ((H h a.val b.val : ℝ) : EReal)) :
    Slab (φ := .f32) (M := 8) (N := 1024) (((cfg0.win 5).blk t).view.read (Elt Ideal) f) (H ⟨t.val / 4, head_lt t⟩) := fun z i e => by
  refine Eq.trans (congrArg f (?_ : _ = ValueIdx.ix3 ⟨t.val / 4, head_lt t⟩ i e)) (hf _ i e)
  funext a
  apply Fin.ext
  match a with
  | ⟨0, _⟩ => blk_simp [at5]
  | ⟨1, _⟩ => blk_simp [at5]
  | ⟨2, _⟩ => blk_simp [at5]

end Blocks

variable (A : Holds m c HH) (t : Fin cfg0.N)
include A

theorem iblk1 : Slab (φ := .bf16) (M := 2048) (N := 256) (iblk m c 1 t) fun r e => (HH (t.val / 4)).k (2048 * (3 - t.val % 4) + r) e :=
  block1 (H := fun h => (HH h.val).k) t (V m c main_v41) A.k

theorem iblk2 : Slab (φ := .bf16) (M := 2048) (N := 128) (iblk m c 2 t) fun r e => (HH (t.val / 4)).v (2048 * (3 - t.val % 4) + r) e :=
  block2 (H := fun h => (HH h.val).v) t (V m c main_v43) A.v

/-- The point reads its head. -/
theorem reads : Reads (HH (t.val / 4)) (iblk m c 0 t) (iblk m c 3 t) (iblk m c 4 t) (iblk m c 5 t) :=
  ⟨block0 (H := fun h => (HH h.val).q) t (V m c main_v38) A.q, block3 t (V m c main_v45) (fun h => (HH h).d) A.d,
    block4 (H := fun h a b => (HH h.val).l (1024 * a + b)) t (V m c main_v46) A.l, block5 (H := fun h a b => (HH h.val).dl (1024 * a + b)) t (V m c main_v47) A.dl⟩

/-- The gradient of the queries of head `h` after its point `a`: the keys of its last blocks so far. -/
theorem carried_mat (h : ℕ) (hh : h < 8) : ∀ a, a ≤ 3 →
    Mat (φ := .f32) (carried m c (4 * h + a + 1)) fun i e => ∑ s ∈ range (2048 * (a + 1)), (HH h).w (2048 * (3 - a) + s) i * (HH h).k (2048 * (3 - a) + s) e := by
  have step : ∀ a, (ha : a ≤ 3) → ∀ x : ℕ → ℕ → ℝ, (a ≠ 0 → Mat (φ := .f32) (carried m c (4 * h + a)) x) →
      Mat (φ := .f32) (carried m c (4 * h + a + 1)) fun i e => (if a = 0 then 0 else x i e)
        + ∑ s ∈ range 2048, (HH h).w (2048 * (3 - a) + s) i * (HH h).k (2048 * (3 - a) + s) e := fun a ha x hX => by
    have hN : 4 * h + a < cfg0.N := lt_of_lt_of_eq (by omega : 4 * h + a < 32) N_0.symm
    have e1 : (4 * h + a) / 4 = h := by omega
    have e2 : (4 * h + a) % 4 = a := by omega
    have R := reads A ⟨4 * h + a, hN⟩
    have k1 := iblk1 A ⟨4 * h + a, hN⟩
    have k2 := iblk2 A ⟨4 * h + a, hN⟩
    have hc := carried_succ m c ⟨4 * h + a, hN⟩
    simp only [e1, e2, accAt] at R k1 k2 hc
    rw [hc]
    exact (lo_mat R ha k1 k2 hX).2.2
  intro a
  induction a with
  | zero =>
    intro ha
    refine (step 0 ha (fun _ _ => 0) fun h0 => absurd rfl h0).congr fun i e _ _ => ?_
    rw [if_pos rfl, zero_add]
  | succ a ih =>
    intro ha
    refine (step (a + 1) ha _ fun _ => ih (by omega)).congr fun i e _ _ => ?_
    rw [if_neg (Nat.succ_ne_zero a), show 2048 * (a + 1 + 1) = 2048 + 2048 * (a + 1) by omega, Finset.sum_range_add, add_comm]
    refine congrArg _ (Finset.sum_congr rfl fun s _ => ?_)
    rw [show 2048 * (3 - (a + 1)) + (2048 + s) = 2048 * (3 - a) + s by omega]

/-- Whatever point: what it finds in the running gradient is real unless it is its head's first. -/
theorem carried_before : ∃ x : ℕ → ℕ → ℝ, t.val % 4 ≠ 0 → Mat (φ := .f32) (carried m c t.val) x := by
  by_cases h0 : t.val % 4 = 0
  · exact ⟨fun _ _ => 0, fun h => absurd h0 h⟩
  · have h := carried_mat A (t.val / 4) (head_lt t) (t.val % 4 - 1) (by omega)
    rw [show 4 * (t.val / 4) + (t.val % 4 - 1) + 1 = t.val by omega] at h
    exact ⟨_, fun _ => h⟩

/-! ## The three results -/

/-- The gradient of the queries. -/
theorem dq_val : (dats m 0 c).arrAt 6 cfg0.N
    = (fun y : S8x8192x256.Idx => ((∑ j ∈ range 8192, (HH (y 0).val).w j (y 1).val * (HH (y 0).val).k j (y 2).val : ℝ) : EReal)) := by
  refine (dats m 0 c).arrAt_eq_of_covers 6 _ (by decide +kernel) fun t hf y => ?_
  have h3 : t.val % 4 = 3 := (flush0_6 t).mp hf
  have hc := carried_mat A (t.val / 4) (head_lt t) 3 (le_refl _)
  rw [show 4 * (t.val / 4) + 3 + 1 = t.val + 1 by omega] at hc
  have hs := (hc.trunc (ψ := .bf16) bitsLt_bf16_f32).toSlab shapeCasts_S8192x256_S1x8192x256 (y 0) (y 1) (y 2)
  blk_simp [at6]
  rw [after6]
  refine (congrArg (k0_pay3 (carried m c (t.val + 1))) (ValueIdx.eq_ix3 (n0 := 1) (n1 := 8192) (n2 := 256) y)).trans (hs.trans ?_)
  simp only [Nat.sub_self, Nat.mul_zero, Nat.zero_add]

/-- The gradient of the keys. -/
theorem dk_val : (dats m 0 c).arrAt 7 cfg0.N
    = (fun y : S8x8192x256.Idx => (((∑ i ∈ range 8192, (HH (y 0).val).w (y 1).val i * (HH (y 0).val).q i (y 2).val) * Real.log 2 : ℝ) : EReal)) := by
  refine (dats m 0 c).arrAt_eq_of_covers 7 _ (by decide +kernel) fun t hf y => ?_
  obtain ⟨x, hx⟩ := carried_before A t
  have hs := dk_slab (reads A t) (by omega) (iblk1 A t) (iblk2 A t) hx (y 0) (y 1) (y 2)
  blk_simp [at7]
  rw [after7]
  refine (congrArg (dkAt m c t (carried m c t.val)) (ValueIdx.eq_ix3 (n0 := 1) (n1 := 2048) (n2 := 256) y)).trans (hs.trans ?_)
  simp only [Nat.mul_comm 2048]

/-- The gradient of the values. -/
theorem dv_val : (dats m 0 c).arrAt 8 cfg0.N
    = (fun y : S8x8192x128.Idx => ((∑ i ∈ range 8192, (HH (y 0).val).pm (y 1).val i * (HH (y 0).val).d i (y 2).val : ℝ) : EReal)) := by
  refine (dats m 0 c).arrAt_eq_of_covers 8 _ (by decide +kernel) fun t hf y => ?_
  obtain ⟨x, hx⟩ := carried_before A t
  have hs := dv_slab (reads A t) (by omega) (iblk1 A t) (iblk2 A t) hx (y 0) (y 1) (y 2)
  blk_simp [at8]
  rw [after8]
  refine (congrArg (dvAt m c t (carried m c t.val)) (ValueIdx.eq_ix3 (n0 := 1) (n1 := 2048) (n2 := 128) y)).trans (hs.trans ?_)
  simp only [Nat.mul_comm 2048]

end Cert.KernelIdeal.Tile
-- ==== Proof.Cube.lean ====
/-
  Arrays of three axes holding reals, named by the real function of the three coordinates, and what the host's operations
  of the attention do to such arrays: `Cube x f` says that `x` holds `f`. The softmax is read here too: the row maximum
  the host subtracts is some real number, and what is left after the division by the row's sum does not depend on it.
-/
module

public import proofs.«01_k».proof.Proof.Lift
public import Idealize.ShloMosaic.Lib.Pointwise
public import Idealize.ShloMosaic.Lib.Pointwise.IndexBridge
public import Idealize.ShloMosaic.Lib.IdealHost
public import Idealize.ShloMosaic.Lib.KernelVsHost

@[expose] public section

set_option maxRecDepth 16384

noncomputable section

namespace Cert.Lift

open Idealize.ShloMosaic
open Finset (range)

/-- The array of three axes holds the real function of its three coordinates. -/
def Cube {A B C : ℕ} {φ : FTy} (x : FVec Ideal ⟨3, ![A, B, C]⟩ φ) (f : ℕ → ℕ → ℕ → ℝ) : Prop :=
  ∀ (a : Fin A) (b : Fin B) (c : Fin C), x (ValueIdx.ix3 a b c) = ((f a.val b.val c.val : ℝ) : EReal)

section

variable {A B C : ℕ} {φ ψ : FTy}

/-- Only the function's values at the array's own coordinates matter. -/
theorem Cube.congr {x : FVec Ideal ⟨3, ![A, B, C]⟩ φ} {f g : ℕ → ℕ → ℕ → ℝ} (h : Cube x f)
    (e : ∀ a b c, a < A → b < B → c < C → f a b c = g a b c) : Cube x g :=
  fun a b c => (h a b c).trans (by rw [e a.val b.val c.val a.isLt b.isLt c.isLt])

/-- Elementwise sum. -/
theorem Cube.add {x y : FVec Ideal ⟨3, ![A, B, C]⟩ φ} {f g : ℕ → ℕ → ℕ → ℝ} (hx : Cube x f) (hy : Cube y g) :
    Cube (addf x y) fun a b c => f a b c + g a b c :=
  fun a b c => (congrArg₂ (· + ·) (hx a b c) (hy a b c)).trans (EReal.coe_add _ _).symm

/-- Elementwise product. -/
theorem Cube.mul {x y : FVec Ideal ⟨3, ![A, B, C]⟩ φ} {f g : ℕ → ℕ → ℕ → ℝ} (hx : Cube x f) (hy : Cube y g) :
    Cube (mulf x y) fun a b c => f a b c * g a b c :=
  fun a b c => (congrArg₂ (· * ·) (hx a b c) (hy a b c)).trans (EReal.coe_mul _ _).symm

/-- Elementwise quotient by an array without a zero. -/
theorem Cube.div {x y : FVec Ideal ⟨3, ![A, B, C]⟩ φ} {f g : ℕ → ℕ → ℕ → ℝ} (hx : Cube x f) (hy : Cube y g)
    (h0 : ∀ a b c, a < A → b < B → c < C → g a b c ≠ 0) : Cube (Host.divf x y) fun a b c => f a b c / g a b c := by
  intro a b c
  refine (congrArg₂ Ideal.div (hx a b c) (hy a b c)).trans ?_
  rw [Ideal.div_coe (h0 _ _ _ a.isLt b.isLt c.isLt), ← EReal.coe_mul, mul_one_div]

/-- Elementwise negation. -/
theorem Cube.neg {x : FVec Ideal ⟨3, ![A, B, C]⟩ φ} {f : ℕ → ℕ → ℕ → ℝ} (hx : Cube x f) :
    Cube (Host.negf x) fun a b c => -f a b c :=
  fun a b c => (congrArg (fun z : EReal => -z) (hx a b c)).trans (EReal.coe_neg _).symm

/-- Elementwise logarithm of positive numbers. -/
theorem Cube.log {x : FVec Ideal ⟨3, ![A, B, C]⟩ φ} {f : ℕ → ℕ → ℕ → ℝ} (hx : Cube x f)
    (h0 : ∀ a b c, a < A → b < B → c < C → 0 < f a b c) : Cube (Host.log x) fun a b c => Real.log (f a b c) := by
  intro a b c
  refine (congrArg Ideal.log (hx a b c)).trans ?_
  rw [Ideal.log_coe, if_neg (not_le.mpr (h0 _ _ _ a.isLt b.isLt c.isLt))]

/-- A change of format keeps the numbers. -/
theorem Cube.trunc {x : FVec Ideal ⟨3, ![A, B, C]⟩ φ} {f : ℕ → ℕ → ℕ → ℝ} (hx : Cube x f) {h : ψ.bits < φ.bits} :
    Cube (φ := ψ) (truncf ψ x h) f := hx

/-- One number in every place. -/
theorem Cube.splat {y : FVec Ideal ⟨0, ![]⟩ φ} {r : ℝ} (hy : ∀ i, y i = ((r : ℝ) : EReal)) {h} :
    Cube (φ := φ) (broadcastInDim ⟨3, ![A, B, C]⟩ ![] h y) fun _ _ _ => r :=
  fun a b c => hy _

end

variable {φ : FTy}

/-! ## Moves -/

/-- Queries and keys, head first. -/
theorem Cube.flipQ {x : FVec Ideal ⟨3, ![8192, 8, 192]⟩ φ} {f : ℕ → ℕ → ℕ → ℝ} (hx : Cube x f) {h} :
    Cube (φ := φ) (transpose ⟨3, ![8, 8192, 192]⟩ [1, 0, 2] x h) fun a b c => f b a c := by
  intro a b c; pointwise; simp only [ix3_eq_valueIdx]; exact hx b a c

/-- The same, row first again. -/
theorem Cube.flipQ' {x : FVec Ideal ⟨3, ![8, 8192, 192]⟩ φ} {f : ℕ → ℕ → ℕ → ℝ} (hx : Cube x f) {h} :
    Cube (φ := φ) (transpose ⟨3, ![8192, 8, 192]⟩ [1, 0, 2] x h) fun a b c => f b a c := by
  intro a b c; pointwise; simp only [ix3_eq_valueIdx]; exact hx b a c

/-- Values, head first. -/
theorem Cube.flipV {x : FVec Ideal ⟨3, ![8192, 8, 128]⟩ φ} {f : ℕ → ℕ → ℕ → ℝ} (hx : Cube x f) {h} :
    Cube (φ := φ) (transpose ⟨3, ![8, 8192, 128]⟩ [1, 0, 2] x h) fun a b c => f b a c := by
  intro a b c; pointwise; simp only [ix3_eq_valueIdx]; exact hx b a c

/-- An output with its rows last, rows first. -/
theorem Cube.rowFirst {x : FVec Ideal ⟨3, ![8, 128, 8192]⟩ φ} {f : ℕ → ℕ → ℕ → ℝ} (hx : Cube x f) {h} :
    Cube (φ := φ) (transpose ⟨3, ![8192, 8, 128]⟩ [2, 0, 1] x h) fun a b c => f b c a := by
  intro a b c; pointwise; simp only [ix3_eq_valueIdx]; exact hx b c a

/-- An output's gradient with its rows last. -/
theorem Cube.rowLast {x : FVec Ideal ⟨3, ![8192, 8, 128]⟩ φ} {f : ℕ → ℕ → ℕ → ℝ} (hx : Cube x f) {h} :
    Cube (φ := φ) (transpose ⟨3, ![8, 128, 8192]⟩ [1, 2, 0] x h) fun a b c => f c a b := by
  intro a b c; pointwise; simp only [ix3_eq_valueIdx]; exact hx c a b

/-- The last axis padded to 256 with zeros. -/
theorem Cube.padded {x : FVec Ideal ⟨3, ![8, 8192, 192]⟩ .f32} {f : ℕ → ℕ → ℕ → ℝ} (hx : Cube x f) {h hu} :
    Cube (φ := .f32) (pad ⟨3, ![8, 8192, 256]⟩ ![0, 0, 0] ![0, 0, 64] ![0, 0, 0] x (sitofp .f32 (constantI ⟨0, ![]⟩ 32 0#32)) h hu)
      fun a b c => if c < 192 then f a b c else 0 := by
  intro a b c
  pointwise
  simp only [ix3_eq_valueIdx]
  by_cases hc : c.val < 192
  · rw [dif_pos hc, if_pos hc]; exact hx a b ⟨c.val, hc⟩
  · rw [dif_neg hc, if_neg hc]; exact (show (Scalar.sitofp .f32 0#32 : Ideal .f32) = 0 from sitofp_zero).trans EReal.coe_zero.symm

/-- A matrix with a last axis of extent one. -/
theorem Mat.col {x : FVec Ideal ⟨2, ![8, 8192]⟩ φ} {f : ℕ → ℕ → ℝ} (hx : Mat x f) {h} :
    Cube (φ := φ) (broadcastInDim ⟨3, ![8, 8192, 1]⟩ ![0, 1] h x) fun a b _ => f a b := by
  intro a b c; pointwise; simp only [ix2_eq_valueIdx]; exact hx a b

/-- The same by a change of shape. -/
theorem Mat.colCast {x : FVec Ideal ⟨2, ![8, 8192]⟩ φ} {f : ℕ → ℕ → ℝ} (hx : Mat x f) {h} :
    Cube (φ := φ) (shapeCast ⟨3, ![8, 8192, 1]⟩ x h) fun a b _ => f a b := by
  intro a b c; pointwise; simp only [ix2_eq_valueIdx]; exact hx a b

/-- Such a column along every column. -/
theorem Cube.wide {x : FVec Ideal ⟨3, ![8, 8192, 1]⟩ φ} {f : ℕ → ℕ → ℝ} (hx : Cube x fun a b _ => f a b) {h} :
    Cube (φ := φ) (broadcastInDim ⟨3, ![8, 8192, 8192]⟩ ![0, 1, 2] h x) fun a b _ => f a b := by
  intro a b c; pointwise; simp only [ix3_eq_valueIdx]; exact hx a b 0

/-- A matrix along every column. -/
theorem Mat.wide {x : FVec Ideal ⟨2, ![8, 8192]⟩ φ} {f : ℕ → ℕ → ℝ} (hx : Mat x f) {h} :
    Cube (φ := φ) (broadcastInDim ⟨3, ![8, 8192, 8192]⟩ ![0, 1] h x) fun a b _ => f a b := by
  intro a b c; pointwise; simp only [ix2_eq_valueIdx]; exact hx a b

/-! ## Sums -/

/-- The sum over the last axis. -/
theorem Cube.rowSum {x : FVec Ideal ⟨3, ![8, 8192, 8192]⟩ .f32} {f : ℕ → ℕ → ℕ → ℝ} (hx : Cube x f) {h hu} :
    Mat (φ := .f32) (Host.reduceAdd (t := ⟨2, ![8, 8192]⟩) (u := ⟨0, ![]⟩) (axes := [2]) x (constant ⟨0, ![]⟩ .f32 0x00000000#32) h hu)
      fun a b => ∑ k ∈ range 8192, f a b k := by
  intro a b
  pointwise
  simp only [ix3_eq_valueIdx]
  rw [coe_sum_range]
  exact Finset.sum_congr rfl fun k _ => hx a b k

/-- The same of an axis of extent one. -/
theorem Cube.colSum {x : FVec Ideal ⟨3, ![8, 8192, 1]⟩ .f32} {f : ℕ → ℕ → ℝ} (hx : Cube x fun a b _ => f a b) {h hu} :
    Mat (φ := .f32) (Host.reduceAdd (t := ⟨2, ![8, 8192]⟩) (u := ⟨0, ![]⟩) (axes := [2]) x (constant ⟨0, ![]⟩ .f32 0x00000000#32) h hu) f := by
  intro a b
  pointwise
  simp only [ix3_eq_valueIdx]
  rw [Fin.sum_univ_one]
  exact hx a b 0

/-- The sum over the values' columns. -/
theorem Cube.valSum {x : FVec Ideal ⟨3, ![8192, 8, 128]⟩ .f32} {f : ℕ → ℕ → ℕ → ℝ} (hx : Cube x f) {h hu} :
    Mat (φ := .f32) (Host.reduceAdd (t := ⟨2, ![8192, 8]⟩) (u := ⟨0, ![]⟩) (axes := [2]) x (constant ⟨0, ![]⟩ .f32 0x00000000#32) h hu)
      fun a b => ∑ d ∈ range 128, f a b d := by
  intro a b
  pointwise
  simp only [ix3_eq_valueIdx]
  rw [coe_sum_range]
  exact Finset.sum_congr rfl fun k _ => hx a b k

/-! ## Products -/

/-- Queries by keys: `(row, head, c)` and `(key, head, c)` to `(head, row, key)`. -/
theorem Cube.scores {x y : FVec Ideal ⟨3, ![8192, 8, 192]⟩ .f32} {f g : ℕ → ℕ → ℕ → ℝ} (hx : Cube x f) (hy : Cube y g) {w} :
    Cube (φ := .f32) (Host.dotGeneral (so := ⟨3, ![8, 8192, 8192]⟩) ⟨[2], [2], [0], [0], [1], [1], w⟩ none x y)
      fun h q k => ∑ c ∈ range 192, f q h c * g k h c := by
  intro a b c
  pointwise
  simp only [ix3_eq_valueIdx]
  rw [coe_sum_range]
  refine Finset.sum_congr rfl fun k _ => ?_
  rw [EReal.coe_mul]
  exact congrArg₂ (· * ·) (hx b a k) (hy c a k)

/-- Values by probabilities: `(key, head, d)` and `(head, row, key)` to `(head, d, row)`. -/
theorem Cube.outs {x : FVec Ideal ⟨3, ![8192, 8, 128]⟩ .f32} {y : FVec Ideal ⟨3, ![8, 8192, 8192]⟩ .f32} {f g : ℕ → ℕ → ℕ → ℝ}
    (hx : Cube x f) (hy : Cube y g) {w} :
    Cube (φ := .f32) (Host.dotGeneral (so := ⟨3, ![8, 128, 8192]⟩) ⟨[0], [2], [2], [1], [1], [0], w⟩ none x y)
      fun h d q => ∑ k ∈ range 8192, f k h d * g h q k := by
  intro a b c
  pointwise
  simp only [ix3_eq_valueIdx]
  rw [coe_sum_range]
  refine Finset.sum_congr rfl fun k _ => ?_
  rw [EReal.coe_mul]
  exact congrArg₂ (· * ·) (hx k a b) (hy a c k)

/-- The gradient of the probabilities: `(head, d, row)` and `(key, head, d)` to `(head, row, key)`. -/
theorem Cube.gradP {x : FVec Ideal ⟨3, ![8, 128, 8192]⟩ .f32} {y : FVec Ideal ⟨3, ![8192, 8, 128]⟩ .f32} {f g : ℕ → ℕ → ℕ → ℝ}
    (hx : Cube x f) (hy : Cube y g) {w} :
    Cube (φ := .f32) (Host.dotGeneral (so := ⟨3, ![8, 8192, 8192]⟩) ⟨[1], [2], [2], [0], [0], [1], w⟩ none x y)
      fun h q k => ∑ d ∈ range 128, f h d q * g k h d := by
  intro a b c
  pointwise
  simp only [ix3_eq_valueIdx]
  rw [coe_sum_range]
  refine Finset.sum_congr rfl fun k _ => ?_
  rw [EReal.coe_mul]
  exact congrArg₂ (· * ·) (hx a k b) (hy c a k)

/-- The gradient of the values: `(head, d, row)` and `(head, row, key)` to `(head, d, key)`. -/
theorem Cube.gradV {x : FVec Ideal ⟨3, ![8, 128, 8192]⟩ .f32} {y : FVec Ideal ⟨3, ![8, 8192, 8192]⟩ .f32} {f g : ℕ → ℕ → ℕ → ℝ}
    (hx : Cube x f) (hy : Cube y g) {w} :
    Cube (φ := .f32) (Host.dotGeneral (so := ⟨3, ![8, 128, 8192]⟩) ⟨[2], [1], [1], [2], [0], [0], w⟩ none x y)
      fun h d k => ∑ q ∈ range 8192, f h d q * g h q k := by
  intro a b c
  pointwise
  simp only [ix3_eq_valueIdx]
  rw [coe_sum_range]
  refine Finset.sum_congr rfl fun k _ => ?_
  rw [EReal.coe_mul]
  exact congrArg₂ (· * ·) (hx a b k) (hy a k c)

/-- The gradient of the keys: `(head, row, key)` and `(row, head, c)` to `(head, key, c)`. -/
theorem Cube.gradK {x : FVec Ideal ⟨3, ![8, 8192, 8192]⟩ .f32} {y : FVec Ideal ⟨3, ![8192, 8, 192]⟩ .f32} {f g : ℕ → ℕ → ℕ → ℝ}
    (hx : Cube x f) (hy : Cube y g) {w} :
    Cube (φ := .f32) (Host.dotGeneral (so := ⟨3, ![8, 8192, 192]⟩) ⟨[1], [0], [2], [2], [0], [1], w⟩ none x y)
      fun h k c => ∑ q ∈ range 8192, f h q k * g q h c := by
  intro a b c
  pointwise
  simp only [ix3_eq_valueIdx]
  rw [coe_sum_range]
  refine Finset.sum_congr rfl fun k _ => ?_
  rw [EReal.coe_mul]
  exact congrArg₂ (· * ·) (hx a k b) (hy k a c)

/-- The gradient of the queries: `(head, row, key)` and `(key, head, c)` to `(head, row, c)`. -/
theorem Cube.gradQ {x : FVec Ideal ⟨3, ![8, 8192, 8192]⟩ .f32} {y : FVec Ideal ⟨3, ![8192, 8, 192]⟩ .f32} {f g : ℕ → ℕ → ℕ → ℝ}
    (hx : Cube x f) (hy : Cube y g) {w} :
    Cube (φ := .f32) (Host.dotGeneral (so := ⟨3, ![8, 8192, 192]⟩) ⟨[2], [0], [1], [2], [0], [1], w⟩ none x y)
      fun h q c => ∑ k ∈ range 8192, f h q k * g k h c := by
  intro a b c
  pointwise
  simp only [ix3_eq_valueIdx]
  rw [coe_sum_range]
  refine Finset.sum_congr rfl fun k _ => ?_
  rw [EReal.coe_mul]
  exact congrArg₂ (· * ·) (hx a b k) (hy k a c)

end Cert.Lift
-- ==== Proof.Soft.lean ====
/-
  The causal softmax of the host over the reals. The scores that a row's query does not see are minus infinity; the row's
  maximum is some real number; the exponentials and their sum carry that number as a common factor, and so the
  probabilities and the logarithm of the sum do not depend on it.
-/
module

public import proofs.«01_k».proof.Proof.Cube

@[expose] public section

set_option maxRecDepth 16384

noncomputable section

namespace Cert.Lift

open Idealize.ShloMosaic
open Finset (range)

/-- Minus infinity, as it is written. -/
theorem ninf_val : Ideal.ofBits .f32 0xFF800000#32 = ⊥ := by
  simp [Ideal.ofBits, Ideal.ieee]

/-- The maximum, from minus infinity, of finitely many extended reals none of which is plus infinity and one of which is
    real is a real. -/
theorem fold_max_real {n : ℕ} (g : Fin n → EReal) (ht : ∀ i, g i ≠ ⊤) (i₀ : Fin n) (hb : g i₀ ≠ ⊥) :
    ∃ r : ℝ, Finset.fold max ⊥ g Finset.univ = (r : EReal) := by
  have e : Finset.fold max ⊥ g Finset.univ = Finset.univ.sup g := rfl
  rw [e]
  have h1 : Finset.univ.sup g ≠ ⊤ := ((Finset.sup_lt_iff (bot_lt_top)).mpr fun i _ => lt_top_iff_ne_top.mpr (ht i)).ne
  have h2 : Finset.univ.sup g ≠ ⊥ := fun h => hb (le_bot_iff.mp (h ▸ Finset.le_sup (f := g) (Finset.mem_univ i₀)))
  exact ⟨_, (EReal.coe_toReal h1 h2).symm⟩

/-- Which pairs of a row and a key the row's query sees. -/
abbrev Causal (h1 : (⟨3, ![1, 8192, 8192]⟩ : Shape).BroadcastsInDim ⟨3, ![8, 8192, 8192]⟩ ![0, 1, 2])
    (h2 : (⟨2, ![8192, 8192]⟩ : Shape).BroadcastsInDim ⟨3, ![1, 8192, 8192]⟩ ![1, 2]) (h3 : (⟨2, ![1, 8192]⟩ : Shape).BroadcastsInDim ⟨2, ![8192, 8192]⟩ ![0, 1])
    (h4 : (⟨1, ![8192]⟩ : Shape).BroadcastsInDim ⟨2, ![1, 8192]⟩ ![1]) (h5 : (⟨2, ![8192, 1]⟩ : Shape).BroadcastsInDim ⟨2, ![8192, 8192]⟩ ![0, 1])
    (h6 : (⟨1, ![8192]⟩ : Shape).BroadcastsInDim ⟨2, ![8192, 1]⟩ ![0]) : IVec ⟨3, ![8, 8192, 8192]⟩ 1 :=
  broadcastInDim ⟨3, ![8, 8192, 8192]⟩ ![0, 1, 2] h1
    (broadcastInDim ⟨3, ![1, 8192, 8192]⟩ ![1, 2] h2
      (cmpi .sle
        (broadcastInDim ⟨2, ![8192, 8192]⟩ ![0, 1] h3 (broadcastInDim ⟨2, ![1, 8192]⟩ ![1] h4 (iotaInDim ⟨1, ![8192]⟩ 32 0)))
        (broadcastInDim ⟨2, ![8192, 8192]⟩ ![0, 1] h5 (broadcastInDim ⟨2, ![8192, 1]⟩ ![0] h6 (iotaInDim ⟨1, ![8192]⟩ 32 0)))))

section

variable {h1 : (⟨3, ![1, 8192, 8192]⟩ : Shape).BroadcastsInDim ⟨3, ![8, 8192, 8192]⟩ ![0, 1, 2]}
    {h2 : (⟨2, ![8192, 8192]⟩ : Shape).BroadcastsInDim ⟨3, ![1, 8192, 8192]⟩ ![1, 2]} {h3 : (⟨2, ![1, 8192]⟩ : Shape).BroadcastsInDim ⟨2, ![8192, 8192]⟩ ![0, 1]}
    {h4 : (⟨1, ![8192]⟩ : Shape).BroadcastsInDim ⟨2, ![1, 8192]⟩ ![1]} {h5 : (⟨2, ![8192, 1]⟩ : Shape).BroadcastsInDim ⟨2, ![8192, 8192]⟩ ![0, 1]}
    {h6 : (⟨1, ![8192]⟩ : Shape).BroadcastsInDim ⟨2, ![8192, 1]⟩ ![0]}

/-- A choice by the causal mask, at an index. -/
theorem causal_apply (x y : FVec Ideal ⟨3, ![8, 8192, 8192]⟩ .f32) (a : Fin 8) (b c : Fin 8192) :
    select (Causal h1 h2 h3 h4 h5 h6) x y (ValueIdx.ix3 a b c) = if c.val ≤ b.val then x (ValueIdx.ix3 a b c) else y (ValueIdx.ix3 a b c) := by
  unfold Causal
  pointwise
  rw [show IntOp.cmpi .sle (BitVec.ofNat 32 (ValueIdx.ix3 a b c 2).val) (BitVec.ofNat 32 (ValueIdx.ix3 a b c 1).val) = BitVec.ofBool (decide (c.val ≤ b.val)) from
    WordCmp.cmpi_sle_ofNat (by have := c.isLt; show c.val < _; omega) (by have := b.isLt; show b.val < _; omega)]
  by_cases h : c.val ≤ b.val
  · simp [Scalar.select, h]
  · simp [Scalar.select, h]

/-- What the mask leaves, zero elsewhere. -/
theorem Cube.keep {x : FVec Ideal ⟨3, ![8, 8192, 8192]⟩ .f32} {f : ℕ → ℕ → ℕ → ℝ} (hx : Cube x f) {h} :
    Cube (φ := .f32) (select (Causal h1 h2 h3 h4 h5 h6) x (broadcastInDim ⟨3, ![8, 8192, 8192]⟩ ![] h (constant (F := Ideal) ⟨0, ![]⟩ .f32 0x00000000#32)))
      fun a b c => if c ≤ b then f a b c else 0 := by
  intro a b c
  rw [causal_apply]
  beta_reduce
  by_cases h : c.val ≤ b.val
  · rw [if_pos h, if_pos h]; exact hx a b c
  · rw [if_neg h, if_neg h]; exact Ideal.ofBits_zero_f32.trans EReal.coe_zero.symm

/-- The scores, minus infinity where the row's query does not see the key. -/
abbrev Masked (h1 : (⟨3, ![1, 8192, 8192]⟩ : Shape).BroadcastsInDim ⟨3, ![8, 8192, 8192]⟩ ![0, 1, 2])
    (h2 : (⟨2, ![8192, 8192]⟩ : Shape).BroadcastsInDim ⟨3, ![1, 8192, 8192]⟩ ![1, 2]) (h3 : (⟨2, ![1, 8192]⟩ : Shape).BroadcastsInDim ⟨2, ![8192, 8192]⟩ ![0, 1])
    (h4 : (⟨1, ![8192]⟩ : Shape).BroadcastsInDim ⟨2, ![1, 8192]⟩ ![1]) (h5 : (⟨2, ![8192, 1]⟩ : Shape).BroadcastsInDim ⟨2, ![8192, 8192]⟩ ![0, 1])
    (h6 : (⟨1, ![8192]⟩ : Shape).BroadcastsInDim ⟨2, ![8192, 1]⟩ ![0])
    (h : (⟨0, ![]⟩ : Shape).BroadcastsInDim ⟨3, ![8, 8192, 8192]⟩ ![]) (x : FVec Ideal ⟨3, ![8, 8192, 8192]⟩ .f32) : FVec Ideal ⟨3, ![8, 8192, 8192]⟩ .f32 :=
  select (Causal h1 h2 h3 h4 h5 h6) x (broadcastInDim ⟨3, ![8, 8192, 8192]⟩ ![] h (id (constant (F := Ideal) ⟨0, ![]⟩ .f32 0xFF800000#32)))

/-- The masked scores at an index. -/
theorem masked_apply {x : FVec Ideal ⟨3, ![8, 8192, 8192]⟩ .f32} {f : ℕ → ℕ → ℕ → ℝ} (hx : Cube x f) {h} (a : Fin 8) (b c : Fin 8192) :
    Masked h1 h2 h3 h4 h5 h6 h x (ValueIdx.ix3 a b c) = if c.val ≤ b.val then ((f a.val b.val c.val : ℝ) : EReal) else ⊥ := by
  unfold Masked
  rw [causal_apply, hx]
  exact if_congr Iff.rfl rfl ninf_val

/-- The row maximum is some real number. -/
theorem top_mat {x : FVec Ideal ⟨3, ![8, 8192, 8192]⟩ .f32} {f : ℕ → ℕ → ℕ → ℝ} (hx : Cube x f) {h hr hu} :
    ∃ μ : ℕ → ℕ → ℝ, Mat (φ := .f32) (Host.reduce (t := ⟨2, ![8, 8192]⟩) (u := ⟨0, ![]⟩) (axes := [2]) FloatOps.maximumf
      (Masked h1 h2 h3 h4 h5 h6 h x) (constant (F := Ideal) ⟨0, ![]⟩ .f32 0xFF800000#32) hr hu) μ := by
  have key : ∀ (a : Fin 8) (b : Fin 8192), ∃ r : ℝ, Host.reduce (t := ⟨2, ![8, 8192]⟩) (u := ⟨0, ![]⟩) (axes := [2]) FloatOps.maximumf
      (Masked h1 h2 h3 h4 h5 h6 h x) (constant (F := Ideal) ⟨0, ![]⟩ .f32 0xFF800000#32) hr hu (ValueIdx.ix2 a b) = (r : EReal) := by
    intro a b
    generalize hX : Masked h1 h2 h3 h4 h5 h6 h x = X
    pointwise
    simp only [ix3_eq_valueIdx]
    rw [ninf_val]
    refine fold_max_real _ (fun i => ?_) ⟨0, by norm_num⟩ ?_
    · rw [← hX]
      refine ((masked_apply hx a b i).trans_ne ?_)
      split
      · exact EReal.coe_ne_top _
      · exact bot_ne_top
    · rw [← hX]
      refine ((masked_apply hx a b _).trans_ne ?_)
      rw [if_pos (Nat.zero_le _)]
      exact EReal.coe_ne_bot _
  choose r hr' using key
  refine ⟨fun a b => if ha : a < 8 then if hb : b < 8192 then r ⟨a, ha⟩ ⟨b, hb⟩ else 0 else 0, fun a b => ?_⟩
  beta_reduce
  rw [dif_pos a.isLt, dif_pos b.isLt]
  exact hr' a b

/-- The maximum with minus infinity changes nothing. -/
theorem Mat.over {x : FVec Ideal ⟨2, ![8, 8192]⟩ .f32} {f : ℕ → ℕ → ℝ} (hx : Mat x f) {h} :
    Mat (φ := .f32) (maximumf (broadcastInDim ⟨2, ![8, 8192]⟩ ![] h (constant (F := Ideal) ⟨0, ![]⟩ .f32 0xFF800000#32)) x) f := by
  intro a b
  show max (Ideal.ofBits .f32 0xFF800000#32) (x (ValueIdx.ix2 a b)) = _
  rw [ninf_val, hx]
  exact max_eq_right bot_le

/-- The exponentials of the masked scores less a number of the row's: zero where the query does not see the key. -/
theorem expo_cube {x y : FVec Ideal ⟨3, ![8, 8192, 8192]⟩ .f32} {f : ℕ → ℕ → ℕ → ℝ} {μ : ℕ → ℕ → ℝ} (hx : Cube x f)
    (hy : Cube y fun a b _ => μ a b) {h} :
    Cube (φ := .f32) (Host.exp (subf (Masked h1 h2 h3 h4 h5 h6 h x) y))
      fun a b c => Real.exp (-μ a b) * if c ≤ b then Real.exp (f a b c) else 0 := by
  intro a b c
  show Ideal.exp (Masked h1 h2 h3 h4 h5 h6 h x (ValueIdx.ix3 a b c) - y (ValueIdx.ix3 a b c)) = _
  rw [masked_apply hx, hy]
  beta_reduce
  by_cases hc : c.val ≤ b.val
  · rw [if_pos hc, if_pos hc, ← EReal.coe_sub, Ideal.exp_coe, ← Real.exp_add, neg_add_eq_sub]
  · rw [if_neg hc, if_neg hc, EReal.bot_sub, Ideal.exp_bot, mul_zero]; rfl

end

/-- The factor of the scores is a real number. -/
theorem scale_real : ∃ r : ℝ, Ideal.ofBits .f32 0x3D93CD3A#32 = ((r : ℝ) : EReal) := by
  refine ⟨(Ideal.ofBits .f32 0x3D93CD3A#32).toReal, (EReal.coe_toReal ?_ ?_).symm⟩
  · simp [Ideal.ofBits, Ideal.ieee, -EReal.coe_mul]
  · simp [Ideal.ofBits, Ideal.ieee, -EReal.coe_mul]

/-- That number. -/
def scale : ℝ := scale_real.choose

theorem scale_val : Ideal.ofBits .f32 0x3D93CD3A#32 = ((scale : ℝ) : EReal) := scale_real.choose_spec

end Cert.Lift
-- ==== Proof.Attn.lean ====
/-
  The gradient of causal attention over the reals, from the queries, the keys, the values and the gradient of the output:
  the reference's way of writing it, the kernel's, and that they are one.
-/
module

public import proofs.«01_k».proof.Proof.Tile

@[expose] public section

noncomputable section

namespace Cert

open Finset (range)
open Cert.KernelIdeal.Tile (Head)

/-- The arguments over the reals, `(row, head, column)`, and the factor of the scores. -/
structure Attn where
  q : ℕ → ℕ → ℕ → ℝ
  k : ℕ → ℕ → ℕ → ℝ
  v : ℕ → ℕ → ℕ → ℝ
  d : ℕ → ℕ → ℕ → ℝ
  s : ℝ

namespace Attn

variable (A : Attn) (h q k : ℕ)

/-- The score of the query `q` with the key `k`. -/
def sc : ℝ := (∑ c ∈ range 192, A.q q h c * A.k k h c) * A.s

/-- Its exponential, zero for a key after the query. -/
def u : ℝ := if k ≤ q then Real.exp (A.sc h q k) else 0

/-- The sum of a query's exponentials. -/
def Z : ℝ := ∑ k ∈ range 8192, A.u h q k

/-- The probabilities. -/
def p : ℝ := A.u h q k / A.Z h q

/-- Their gradient. -/
def dp : ℝ := ∑ e ∈ range 128, A.d q h e * A.v k h e

/-- The sum of a query's probabilities times their gradient. -/
def dl : ℝ := ∑ k ∈ range 8192, A.p h q k * A.dp h q k

/-- The gradient of the scores. -/
def ds : ℝ := A.p h q k * (A.dp h q k - A.dl h q)

theorem u_nonneg : 0 ≤ A.u h q k := by
  unfold u; split
  · exact (Real.exp_pos _).le
  · exact le_refl _

theorem Z_pos : 0 < A.Z h q :=
  Finset.sum_pos' (fun k _ => A.u_nonneg h q k) ⟨0, Finset.mem_range.mpr (by norm_num), by
    unfold u; rw [if_pos (Nat.zero_le _)]; exact Real.exp_pos _⟩

theorem p_of_lt (hk : q < k) : A.p h q k = 0 := by
  unfold p u; rw [if_neg (by omega), zero_div]

theorem ds_of_lt (hk : q < k) : A.ds h q k = 0 := by
  unfold ds; rw [A.p_of_lt h q k hk, zero_mul]

/-! ## The reference's way -/

variable (t : ℝ)

/-- The sum of the exponentials with a common factor. -/
theorem sum_eq : (∑ k ∈ range 8192, t * A.u h q k) = t * A.Z h q := (Finset.mul_sum _ _ _).symm

/-- The common factor leaves the probabilities. -/
theorem p_eq (ht : t ≠ 0) : t * A.u h q k / (t * A.Z h q) = A.p h q k := mul_div_mul_left _ _ ht

/-- The common factor leaves the logarithm of the sum, the row's number added back. -/
theorem log_eq (μ : ℝ) : μ + Real.log (Real.exp (-μ) * A.Z h q) = Real.log (A.Z h q) := by
  rw [Real.log_mul (Real.exp_pos _).ne' (A.Z_pos h q).ne', Real.log_exp]; ring

/-- The gradient of the scores as the derivative of the quotient gives it. -/
theorem ds_eq (ht : t ≠ 0) :
    (A.dp h q k / (t * A.Z h q) + -∑ k' ∈ range 8192, A.dp h q k' * (1 / (t * A.Z h q * (t * A.Z h q))) * (t * A.u h q k')) * (t * A.u h q k)
      = A.ds h q k := by
  have hZ := (A.Z_pos h q).ne'
  have e : (∑ k' ∈ range 8192, A.dp h q k' * (1 / (t * A.Z h q * (t * A.Z h q))) * (t * A.u h q k')) = A.dl h q / (t * A.Z h q) := by
    unfold dl
    rw [Finset.sum_div]
    refine Finset.sum_congr rfl fun k' _ => ?_
    unfold p
    field_simp
  rw [e]
  unfold ds p
  field_simp
  ring

/-! ## The kernel's way -/

/-- What the kernel's windows hold of the head `h`. -/
def head : Head where
  q i c := if c < 192 then A.q i h c * (A.s * (1 / Real.log 2)) else 0
  k j c := if c < 192 then A.k j h c else 0
  v j e := A.v j h e
  d i e := A.d i h e
  l i := Real.log (A.Z h i) * (1 / Real.log 2)
  dl i := ∑ e ∈ range 128, A.d i h e * ∑ k ∈ range 8192, A.v k h e * A.p h i k

theorem log2_ne : Real.log 2 ≠ 0 := (Real.log_pos (by norm_num)).ne'

theorem head_scores : (∑ c ∈ range 256, (A.head h).k k c * (A.head h).q q c) = A.sc h q k * (1 / Real.log 2) := by
  have e : (∑ c ∈ range 256, (A.head h).k k c * (A.head h).q q c) = ∑ c ∈ range 192, A.k k h c * (A.q q h c * (A.s * (1 / Real.log 2))) := by
    rw [show 256 = 192 + 64 from rfl, Finset.sum_range_add, Finset.sum_eq_zero (s := range 64), add_zero]
    · refine Finset.sum_congr rfl fun c hc => ?_
      have := Finset.mem_range.mp hc
      simp only [head, if_pos this]
    · intro c _
      simp only [head, if_neg (show ¬192 + c < 192 by omega), zero_mul]
  rw [e]
  unfold sc
  rw [Finset.sum_mul, Finset.sum_mul]
  exact Finset.sum_congr rfl fun c _ => by ring

theorem head_dl : (A.head h).dl q = A.dl h q := by
  show (∑ e ∈ range 128, A.d q h e * ∑ k ∈ range 8192, A.v k h e * A.p h q k) = _
  unfold dl dp
  simp only [Finset.mul_sum]
  rw [Finset.sum_comm]
  exact Finset.sum_congr rfl fun k _ => Finset.sum_congr rfl fun e _ => by ring

theorem head_pm : (A.head h).pm k q = A.p h q k := by
  rcases Nat.lt_or_ge q k with hk | hk
  · rw [Head.pm_of_lt _ hk, A.p_of_lt h q k hk]
  · rw [Head.pm_of_le _ hk]
    unfold Head.pr
    rw [head_scores]
    show Real.rpow 2 (A.sc h q k * (1 / Real.log 2) - Real.log (A.Z h q) * (1 / Real.log 2)) = _
    have hL := log2_ne
    rw [show Real.rpow 2 (A.sc h q k * (1 / Real.log 2) - Real.log (A.Z h q) * (1 / Real.log 2))
        = (2 : ℝ) ^ (A.sc h q k * (1 / Real.log 2) - Real.log (A.Z h q) * (1 / Real.log 2)) from rfl,
      Real.rpow_def_of_pos (by norm_num : (0 : ℝ) < 2),
      show Real.log 2 * (A.sc h q k * (1 / Real.log 2) - Real.log (A.Z h q) * (1 / Real.log 2)) = A.sc h q k - Real.log (A.Z h q) by
        field_simp, Real.exp_sub, Real.exp_log (A.Z_pos h q)]
    unfold p u
    rw [if_pos hk]

theorem head_w : (A.head h).w k q = A.ds h q k := by
  rw [Head.w_eq, head_pm, head_dl]
  unfold ds dp
  show A.p h q k * ((∑ c ∈ range 128, A.v k h c * A.d q h c) - A.dl h q) = _
  rw [Finset.sum_congr rfl fun e _ => mul_comm (A.v k h e) (A.d q h e)]

/-! ## The results -/

/-- The gradient of the scaled queries. -/
def dQ (c : ℕ) : ℝ := if c < 192 then ∑ k ∈ range 8192, A.ds h q k * A.k k h c else 0

/-- The gradient of the keys. -/
def dK (c : ℕ) : ℝ := if c < 192 then ∑ q ∈ range 8192, A.ds h q k * (A.q q h c * A.s) else 0

/-- The gradient of the values. -/
def dV (e : ℕ) : ℝ := ∑ q ∈ range 8192, A.d q h e * A.p h q k

theorem dQ_head (c : ℕ) : (∑ j ∈ range 8192, (A.head h).w j q * (A.head h).k j c) = A.dQ h q c := by
  unfold dQ
  split
  · rename_i hc
    refine Finset.sum_congr rfl fun k _ => ?_
    rw [head_w]; simp only [head, if_pos hc]
  · rename_i hc
    refine Finset.sum_eq_zero fun k _ => ?_
    simp only [head, if_neg hc, mul_zero]

theorem dK_head (c : ℕ) : (∑ i ∈ range 8192, (A.head h).w k i * (A.head h).q i c) * Real.log 2 = A.dK h k c := by
  unfold dK
  split
  · rename_i hc
    rw [Finset.sum_mul]
    refine Finset.sum_congr rfl fun i _ => ?_
    have hL := log2_ne
    rw [head_w]; simp only [head, if_pos hc]
    field_simp
  · rename_i hc
    rw [Finset.sum_eq_zero fun k _ => by simp only [head, if_neg hc, mul_zero], zero_mul]

theorem dV_head (e : ℕ) : (∑ i ∈ range 8192, (A.head h).pm k i * (A.head h).d i e) = A.dV h k e := by
  unfold dV
  refine Finset.sum_congr rfl fun i _ => ?_
  rw [head_pm, mul_comm]; rfl

end Attn

end Cert
-- ==== Proof.Prefix.lean ====
/-
  What the kernel's windows are given over the reals: the host's stages before the launch, each an array of reals.
-/
module

public import proofs.«01_k».proof.Proof.Points
public import proofs.«01_k».proof.Proof.Soft
public import proofs.«01_k».proof.Proof.Attn
public import Idealize.ShloMosaic.Lib.Claim
public import Idealize.ShloMosaic.Lib.StableHlo.ReadAt
public import Idealize.ShloMosaic.Lib.Pointwise
public import Idealize.ShloMosaic.Lib.Pointwise.IndexBridge

@[expose] public section

set_option maxRecDepth 16384

noncomputable section

namespace Cert.KernelIdeal.Prefix

open Cert.KernelIdeal Cert.KernelIdeal.Gen Cert.Lift
open Idealize.ShloMosaic Idealize.ShloMosaic.TcCoe Idealize.SL.Sem
open Finset (range)

/-- The literal two. -/
theorem two_val : Ideal.ofBits .f32 0x40000000#32 = ((2 : ℝ) : EReal) := by
  simp [Ideal.ofBits, Ideal.ieee, -EReal.coe_mul]; norm_num

section Stages

variable (a0 a1 : FVec Ideal S8192x8x192 .f32) (a2 a3 : FVec Ideal S8192x8x128 .f32)

/-- One over the logarithm of two. -/
def log2e : FVec Ideal S_ .f32 := Host.divf (constant S_ .f32 0x3F800000#32) (Host.log (constant S_ .f32 0x40000000#32))

/-- The causal mask. -/
def mask : IVec S8x8192x8192 1 :=
  Causal bcast_S1x8192x8192_S8x8192x8192_0_1_2 bcast_S8192x8192_S1x8192x8192_1_2 bcast_S1x8192_S8192x8192_0_1 bcast_S8192_S1x8192_1
    bcast_S8192x1_S8192x8192_0_1 bcast_S8192_S8192x1_0

/-- The scores. -/
def scores : FVec Ideal S8x8192x8192 .f32 :=
  mulf (Host.dotGeneral dot_S8192x8x192_S8192x8x192_S8x8192x8192_2_2_0_0_1_1 none a0 a1)
    (broadcastInDim S8x8192x8192 ![] bcast_S_S8x8192x8192 (constant S_ .f32 0x3D93CD3A#32))

/-- The scores, masked. -/
def masked : FVec Ideal S8x8192x8192 .f32 :=
  select mask (scores a0 a1) (broadcastInDim S8x8192x8192 ![] bcast_S_S8x8192x8192 (id (constant S_ .f32 0xFF800000#32)))

/-- The row maxima. -/
def top : FVec Ideal S8x8192 .f32 :=
  Host.reduce FloatOps.maximumf (masked a0 a1) (constant S_ .f32 0xFF800000#32) reducesTo_S8x8192x8192_S8x8192_d2 h_S_

/-- A row's number as a column. -/
def col (x : FVec Ideal S8x8192 .f32) : FVec Ideal S8x8192x1 .f32 := broadcastInDim S8x8192x1 ![0, 1] bcast_S8x8192_S8x8192x1_0_1 x

/-- A column along every column. -/
def wide (x : FVec Ideal S8x8192x1 .f32) : FVec Ideal S8x8192x8192 .f32 :=
  broadcastInDim S8x8192x8192 ![0, 1, 2] bcast_S8x8192x1_S8x8192x8192_0_1_2 x

/-- The exponentials. -/
def expo : FVec Ideal S8x8192x8192 .f32 := Host.exp (subf (masked a0 a1) (wide (col (top a0 a1))))

/-- Their sums, a column. -/
def sums : FVec Ideal S8x8192x1 .f32 :=
  col (Host.reduceAdd (expo a0 a1) (constant S_ .f32 0x00000000#32) reducesTo_S8x8192x8192_S8x8192_d2 h_S_)

/-- The logarithms of the sums, to base two. -/
def lse : FVec Ideal S8x8192x1 .f32 :=
  mulf (addf (col (top a0 a1)) (Host.log (sums a0 a1))) (broadcastInDim S8x8192x1 ![] bcast_S_S8x8192x1 (id log2e))

/-- The attention's output, rows first. -/
def outs : FVec Ideal S8192x8x128 .f32 :=
  transpose S8192x8x128 [2, 0, 1] (Host.dotGeneral dot_S8192x8x128_S8x8192x8192_S8x128x8192_0_2_2_1_1_0 none a2
    (Host.divf (expo a0 a1) (wide (sums a0 a1)))) transposes_S8x128x8192_S8192x8x128_2_0_1

/-- The row sums of the output times its gradient. -/
def delta : FVec Ideal S8x8192 .f32 :=
  transpose S8x8192 [1, 0] (Host.reduceAdd (mulf a3 (outs a0 a1 a2)) (constant S_ .f32 0x00000000#32) reducesTo_S8192x8x128_S8192x8_d2 h_S_)
    transposes_S8192x8_S8x8192_1_0

/-- Head first and padded. -/
def padded (x : FVec Ideal S8192x8x192 .f32) : FVec Ideal S8x8192x256 .f32 :=
  pad S8x8192x256 ![0, 0, 0] ![0, 0, 64] ![0, 0, 0] (transpose S8x8192x192 [1, 0, 2] x transposes_S8192x8x192_S8x8192x192_1_0_2)
    (sitofp .f32 (constantI S_ 32 0#32)) pads_S8x8192x192_S8x8192x256_000_000_0640 h_S_

/-- The first window's array. -/
def inQ : FVec Ideal S8x8192x256 .bf16 :=
  truncf .bf16 (mulf (padded a0) (broadcastInDim S8x8192x256 ![] bcast_S_S8x8192x256 (id (mulf (constant S_ .f32 0x3D93CD3A#32) log2e))))
    bitsLt_bf16_f32

/-- The second window's array. -/
def inK : FVec Ideal S8x8192x256 .bf16 := truncf .bf16 (padded a1) bitsLt_bf16_f32

/-- The third window's array. -/
def inV : FVec Ideal S8x8192x128 .bf16 :=
  truncf .bf16 (transpose S8x8192x128 [1, 0, 2] a2 transposes_S8192x8x128_S8x8192x128_1_0_2) bitsLt_bf16_f32

/-- The fourth window's array. -/
def inD : FVec Ideal S8192x1024 .bf16 :=
  truncf .bf16 (shapeCast S8192x1024 a3 shapeCasts_S8192x8x128_S8192x1024) bitsLt_bf16_f32

/-- The fifth window's array. -/
def inL : FVec Ideal S8x8x1024 .f32 := shapeCast S8x8x1024 (lse a0 a1) shapeCasts_S8x8192x1_S8x8x1024

/-- The sixth window's array. -/
def inDl : FVec Ideal S8x8x1024 .f32 := shapeCast S8x8x1024 (delta a0 a1 a2 a3) shapeCasts_S8x8192_S8x8x1024

/-! ## The stages over the reals -/

variable {a0 a1 a2 a3} {A : Attn}

theorem log2e_val (i) : log2e i = ((1 / Real.log 2 : ℝ) : EReal) := by
  show Ideal.div (Ideal.ofBits .f32 0x3F800000#32) (Ideal.log (Ideal.ofBits .f32 0x40000000#32)) = _
  rw [two_val, Ideal.ofBits_one_f32, Ideal.log_coe, if_neg (by norm_num), Ideal.div_coe Attn.log2_ne, one_mul, one_div]

theorem scores_cube (h0 : Cube (φ := .f32) a0 A.q) (h1 : Cube (φ := .f32) a1 A.k) (hs : A.s = scale) :
    Cube (φ := .f32) (scores a0 a1) A.sc := by
  unfold scores
  refine ((h0.scores h1).mul (Cube.splat fun i => scale_val)).congr fun h q k _ _ _ => ?_
  unfold Attn.sc
  rw [hs]

/-- The maxima, the exponentials with a factor of their row's, and their sums. -/
theorem expo_cube' (h0 : Cube (φ := .f32) a0 A.q) (h1 : Cube (φ := .f32) a1 A.k) (hs : A.s = scale) :
    ∃ μ : ℕ → ℕ → ℝ, Cube (φ := .f32) (col (top a0 a1)) (fun h q _ => μ h q)
      ∧ Cube (φ := .f32) (expo a0 a1) (fun h q k => Real.exp (-μ h q) * A.u h q k)
      ∧ Cube (φ := .f32) (sums a0 a1) (fun h q _ => Real.exp (-μ h q) * A.Z h q) := by
  have hsc := scores_cube h0 h1 hs
  obtain ⟨μ, hμ⟩ := top_mat (h := bcast_S_S8x8192x8192) (hr := reducesTo_S8x8192x8192_S8x8192_d2) (hu := h_S_)
    (h1 := bcast_S1x8192x8192_S8x8192x8192_0_1_2) (h2 := bcast_S8192x8192_S1x8192x8192_1_2) (h3 := bcast_S1x8192_S8192x8192_0_1)
    (h4 := bcast_S8192_S1x8192_1) (h5 := bcast_S8192x1_S8192x8192_0_1) (h6 := bcast_S8192_S8192x1_0) hsc
  have hE : Cube (φ := .f32) (expo a0 a1) (fun h q k => Real.exp (-μ h q) * A.u h q k) :=
    expo_cube (h1 := bcast_S1x8192x8192_S8x8192x8192_0_1_2) (h2 := bcast_S8192x8192_S1x8192x8192_1_2) hsc (Cube.wide hμ.col)
  exact ⟨μ, hμ.col, hE, (hE.rowSum.col (h := bcast_S8x8192_S8x8192x1_0_1)).congr fun h q _ _ _ _ => A.sum_eq h q _⟩

theorem lse_cube (h0 : Cube (φ := .f32) a0 A.q) (h1 : Cube (φ := .f32) a1 A.k) (hs : A.s = scale) :
    Cube (φ := .f32) (lse a0 a1) fun h q _ => (A.head h).l q := by
  obtain ⟨μ, hM, hE, hL⟩ := expo_cube' h0 h1 hs
  refine ((hM.add (hL.log fun h q _ _ _ _ => mul_pos (Real.exp_pos _) (A.Z_pos h q))).mul (Cube.splat log2e_val)).congr
    fun h q _ _ _ _ => ?_
  beta_reduce
  rw [A.log_eq h q]
  rfl

theorem delta_mat (h0 : Cube (φ := .f32) a0 A.q) (h1 : Cube (φ := .f32) a1 A.k) (h2 : Cube (φ := .f32) a2 A.v)
    (h3 : Cube (φ := .f32) a3 A.d) (hs : A.s = scale) : Mat (φ := .f32) (delta a0 a1 a2 a3) fun h q => (A.head h).dl q := by
  obtain ⟨μ, hM, hE, hL⟩ := expo_cube' h0 h1 hs
  have hP : Cube (φ := .f32) (Host.divf (expo a0 a1) (wide (sums a0 a1))) A.p :=
    (hE.div (hL.wide (h := bcast_S8x8192x1_S8x8192x8192_0_1_2))
      fun h q _ _ _ _ => mul_ne_zero (Real.exp_pos _).ne' (A.Z_pos h q).ne').congr fun h q k _ _ _ => A.p_eq h q k _ (Real.exp_pos _).ne'
  have hO : Cube (φ := .f32) (outs a0 a1 a2) fun i h e => ∑ k ∈ range 8192, A.v k h e * A.p h i k := (h2.outs hP).rowFirst
  have hS := (h3.mul hO).valSum (h := reducesTo_S8192x8x128_S8192x8_d2) (hu := h_S_)
  intro a b
  unfold delta
  generalize Host.reduceAdd (mulf a3 (outs a0 a1 a2)) (constant S_ .f32 0x00000000#32) reducesTo_S8192x8x128_S8192x8_d2 h_S_ = x at hS ⊢
  pointwise
  simp only [ix2_eq_valueIdx]
  exact hS b a

theorem inQ_cube (h0 : Cube (φ := .f32) a0 A.q) (hs : A.s = scale) : Cube (φ := .bf16) (inQ a0) fun h i e => (A.head h).q i e := by
  have hl : Cube (A := 8) (B := 8192) (C := 256) (φ := .f32) (broadcastInDim S8x8192x256 ![] bcast_S_S8x8192x256 (id (mulf (constant S_ .f32 0x3D93CD3A#32) log2e)))
      fun _ _ _ => A.s * (1 / Real.log 2) :=
    Cube.splat fun i => (congrArg₂ (· * ·) scale_val (log2e_val i)).trans (by rw [hs, EReal.coe_mul])
  refine (h0.flipQ.padded.mul hl).trunc.congr fun h i e _ _ _ => ?_
  show _ = if e < 192 then _ else _
  split <;> simp

theorem inK_cube (h1 : Cube (φ := .f32) a1 A.k) : Cube (φ := .bf16) (inK a1) fun h i e => (A.head h).k i e := h1.flipQ.padded.trunc

theorem inV_cube (h2 : Cube (φ := .f32) a2 A.v) : Cube (φ := .bf16) (inV a2) fun h i e => (A.head h).v i e := h2.flipV.trunc

theorem inD_val (h3 : Cube (φ := .f32) a3 A.d) (i : Fin 8192) (e : Fin 1024) :
    inD a3 (ValueIdx.ix2 i e) = (((A.head (e.val / 128)).d i.val (e.val % 128) : ℝ) : EReal) := by
  show (shapeCast S8192x1024 a3 shapeCasts_S8192x8x128_S8192x1024) (ValueIdx.ix2 i e) = _
  pointwise
  simp only [ix3_eq_valueIdx]
  exact h3 i ⟨e.val / 128, by omega⟩ ⟨e.val % 128, by omega⟩

theorem inL_val (h0 : Cube (φ := .f32) a0 A.q) (h1 : Cube (φ := .f32) a1 A.k) (hs : A.s = scale) (h a : Fin 8) (b : Fin 1024) :
    inL a0 a1 (ValueIdx.ix3 h a b) = (((A.head h.val).l (1024 * a.val + b.val) : ℝ) : EReal) := by
  have hx := lse_cube h0 h1 hs
  unfold inL
  generalize lse a0 a1 = x at hx ⊢
  pointwise
  simp only [ix3_eq_valueIdx]
  refine (hx _ _ _).trans ?_
  show (((A.head h.val).l (a.val * 1024 + b.val) : ℝ) : EReal) = (((A.head h.val).l (1024 * a.val + b.val) : ℝ) : EReal)
  rw [mul_comm]

theorem inDl_val (h0 : Cube (φ := .f32) a0 A.q) (h1 : Cube (φ := .f32) a1 A.k) (h2 : Cube (φ := .f32) a2 A.v)
    (h3 : Cube (φ := .f32) a3 A.d) (hs : A.s = scale) (h a : Fin 8) (b : Fin 1024) :
    inDl a0 a1 a2 a3 (ValueIdx.ix3 h a b) = (((A.head h.val).dl (1024 * a.val + b.val) : ℝ) : EReal) := by
  have hx := delta_mat h0 h1 h2 h3 hs
  unfold inDl
  generalize delta a0 a1 a2 a3 = x at hx ⊢
  pointwise
  simp only [ix2_eq_valueIdx]
  refine (hx _ _).trans ?_
  show (((A.head h.val).dl (a.val * 1024 + b.val) : ℝ) : EReal) = (((A.head h.val).dl (1024 * a.val + b.val) : ℝ) : EReal)
  rw [mul_comm]

end Stages

/-! ## The windows' arrays are these -/

variable (m : (ℓ : Loc nD τ sig) → Buf (Elt Ideal) ℓ) (c : Dev nD)

/-- What the host's stages leave in the six arrays that the windows read. -/
theorem entry : V m c main_v38 = inQ (m ((c.tc : Thread nD τ).loc main_arg0))
    ∧ V m c main_v41 = inK (m ((c.tc : Thread nD τ).loc main_arg1))
    ∧ V m c main_v43 = inV (m ((c.tc : Thread nD τ).loc main_arg2))
    ∧ V m c main_v45 = inD (m ((c.tc : Thread nD τ).loc main_arg3))
    ∧ V m c main_v46 = inL (m ((c.tc : Thread nD τ).loc main_arg0)) (m ((c.tc : Thread nD τ).loc main_arg1))
    ∧ V m c main_v47 = inDl (m ((c.tc : Thread nD τ).loc main_arg0)) (m ((c.tc : Thread nD τ).loc main_arg1))
        (m ((c.tc : Thread nD τ).loc main_arg2)) (m ((c.tc : Thread nD τ).loc main_arg3)) := by
  refine ⟨?_, ?_, ?_, ?_, ?_, ?_⟩ <;>
  · unfold V
    simp only [hostOps0, hostOps0_1, hostOps0_2, hostOps0_3, hostOps0_4, hostOps0_5, hostOps0_6, List.flatten_cons, List.flatten_nil,
      List.append_nil, List.cons_append, List.nil_append, StableHlo.TRef.binary, StableHlo.TRef.nullary, StableHlo.TRef.ternary,
      StableHlo.TRef.unary, StableHlo.TRef.toBuf, StableHlo.TRef.ofBuf, cast_eq]
    after_reads_simp
    rfl

/-- The windows' arrays hold the heads' matrices, as the backward pass asks. -/
theorem holds {A : Attn} (h0 : Cube (φ := .f32) (m ((c.tc : Thread nD τ).loc main_arg0)) A.q)
    (h1 : Cube (φ := .f32) (m ((c.tc : Thread nD τ).loc main_arg1)) A.k)
    (h2 : Cube (φ := .f32) (m ((c.tc : Thread nD τ).loc main_arg2)) A.v)
    (h3 : Cube (φ := .f32) (m ((c.tc : Thread nD τ).loc main_arg3)) A.d) (hs : A.s = scale) : Tile.Holds m c A.head where
  q h i e := (congrFun (entry m c).1 _).trans (inQ_cube h0 hs h i e)
  k h i e := (congrFun (entry m c).2.1 _).trans (inK_cube h1 h i e)
  v h i e := (congrFun (entry m c).2.2.1 _).trans (inV_cube h2 h i e)
  d i e := (congrFun (entry m c).2.2.2.1 _).trans (inD_val h3 i e)
  l h a b := (congrFun (entry m c).2.2.2.2.1 _).trans (inL_val h0 h1 hs h a b)
  dl h a b := (congrFun (entry m c).2.2.2.2.2 _).trans (inDl_val h0 h1 h2 h3 hs h a b)

end Cert.KernelIdeal.Prefix
-- ==== Proof.RefVal.lean ====
/-
  What the reference returns over the reals: its run's terms in stages, each stage an array of reals.
-/
module

public import proofs.«01_k».proof.Proof.Gen.ReferenceIdeal.Run
public import proofs.«01_k».proof.Proof.Soft
public import proofs.«01_k».proof.Proof.Attn

@[expose] public section

set_option maxRecDepth 16384

noncomputable section

namespace Cert.ReferenceIdeal.Value

open Cert.ReferenceIdeal Cert.ReferenceIdeal.Gen Cert.Lift
open Idealize.ShloMosaic Idealize.ShloMosaic.TcCoe Idealize.SL.Sem
open Finset (range)

section Stages

variable (a0 a1 : FVec Ideal S8192x8x192 .f32) (a2 a3 : FVec Ideal S8192x8x128 .f32)

/-- The causal mask. -/
def mask : IVec S8x8192x8192 1 :=
  Causal bcast_S1x8192x8192_S8x8192x8192_0_1_2 bcast_S8192x8192_S1x8192x8192_1_2 bcast_S1x8192_S8192x8192_0_1 bcast_S8192_S1x8192_1
    bcast_S8192x1_S8192x8192_0_1 bcast_S8192_S8192x1_0

/-- The queries, scaled. -/
def scaled : FVec Ideal S8192x8x192 .f32 := mulf a0 (broadcastInDim S8192x8x192 ![] bcast_S_S8192x8x192 (constant S_ .f32 0x3D93CD3A#32))

/-- The scores. -/
def scores : FVec Ideal S8x8192x8192 .f32 := Host.dotGeneral dot_S8192x8x192_S8192x8x192_S8x8192x8192_2_2_0_0_1_1 none (scaled a0) a1

/-- The scores, masked. -/
def masked : FVec Ideal S8x8192x8192 .f32 :=
  select mask (scores a0 a1) (broadcastInDim S8x8192x8192 ![] bcast_S_S8x8192x8192 (id (constant S_ .f32 0xFF800000#32)))

/-- The row maxima. -/
def top : FVec Ideal S8x8192 .f32 :=
  maximumf (broadcastInDim S8x8192 ![] bcast_S_S8x8192 (constant S_ .f32 0xFF800000#32))
    (Host.reduce FloatOps.maximumf (masked a0 a1) (constant S_ .f32 0xFF800000#32) reducesTo_S8x8192x8192_S8x8192_d2 h_S_)

/-- The exponentials. -/
def expo : FVec Ideal S8x8192x8192 .f32 :=
  Host.exp (subf (masked a0 a1) (broadcastInDim S8x8192x8192 ![0, 1, 2] bcast_S8x8192x1_S8x8192x8192_0_1_2
    (broadcastInDim S8x8192x1 ![0, 1] bcast_S8x8192_S8x8192x1_0_1 (top a0 a1))))

/-- Their sums, a column. -/
def sums : FVec Ideal S8x8192x1 .f32 :=
  broadcastInDim S8x8192x1 ![0, 1] bcast_S8x8192_S8x8192x1_0_1
    (Host.reduceAdd (expo a0 a1) (constant S_ .f32 0x00000000#32) reducesTo_S8x8192x8192_S8x8192_d2 h_S_)

/-- A column along every column. -/
def wide (x : FVec Ideal S8x8192x1 .f32) : FVec Ideal S8x8192x8192 .f32 :=
  broadcastInDim S8x8192x8192 ![0, 1, 2] bcast_S8x8192x1_S8x8192x8192_0_1_2 x

/-- The probabilities. -/
def probs : FVec Ideal S8x8192x8192 .f32 := Host.divf (expo a0 a1) (wide (sums a0 a1))

/-- The output's gradient, rows last. -/
def rows : FVec Ideal S8x128x8192 .f32 := transpose S8x128x8192 [1, 2, 0] a3 transposes_S8192x8x128_S8x128x8192_1_2_0

/-- The gradient of the probabilities. -/
def gradP : FVec Ideal S8x8192x8192 .f32 :=
  Host.dotGeneral dot_S8x128x8192_S8192x8x128_S8x8192x8192_1_2_2_0_0_1 none (rows a3) a2

/-- The part of the scores' gradient that comes through the sums. -/
def through : FVec Ideal S8x8192 .f32 :=
  Host.reduceAdd (Host.negf (shapeCast S8x8192x1 (Host.reduceAdd (mulf (mulf (gradP a2 a3)
    (wide (Host.divf (broadcastInDim S8x8192x1 ![] bcast_S_S8x8192x1 (constant S_ .f32 0x3F800000#32)) (mulf (sums a0 a1) (sums a0 a1)))))
    (expo a0 a1)) (constant S_ .f32 0x00000000#32) reducesTo_S8x8192x8192_S8x8192_d2 h_S_) shapeCasts_S8x8192_S8x8192x1))
    (constant S_ .f32 0x00000000#32) reducesTo_S8x8192x1_S8x8192_d2 h_S_

/-- The gradient of the scores. -/
def gradS : FVec Ideal S8x8192x8192 .f32 :=
  select mask (mulf (addf (Host.divf (gradP a2 a3) (wide (sums a0 a1)))
    (broadcastInDim S8x8192x8192 ![0, 1] bcast_S8x8192_S8x8192x8192_0_1 (through a0 a1 a2 a3))) (expo a0 a1))
    (broadcastInDim S8x8192x8192 ![] bcast_S_S8x8192x8192 (constant S_ .f32 0x00000000#32))

/-- Head first and padded. -/
def out (x : FVec Ideal S8x8192x192 .f32) : FVec Ideal S8x8192x256 .bf16 :=
  truncf .bf16 (pad S8x8192x256 ![0, 0, 0] ![0, 0, 64] ![0, 0, 0]
    (transpose S8x8192x192 [1, 0, 2] (transpose S8192x8x192 [1, 0, 2] x transposes_S8x8192x192_S8192x8x192_1_0_2) transposes_S8192x8x192_S8x8192x192_1_0_2)
    (sitofp .f32 (constantI S_ 32 0#32)) pads_S8x8192x192_S8x8192x256_000_000_0640 h_S_) bitsLt_bf16_f32

/-- The first result. -/
def outQ : FVec Ideal S8x8192x256 .bf16 := out (Host.dotGeneral dot_S8x8192x8192_S8192x8x192_S8x8192x192_2_0_1_2_0_1 none (gradS a0 a1 a2 a3) a1)

/-- The second. -/
def outK : FVec Ideal S8x8192x256 .bf16 := out (Host.dotGeneral dot_S8x8192x8192_S8192x8x192_S8x8192x192_1_0_2_2_0_1 none (gradS a0 a1 a2 a3) (scaled a0))

/-- The third. -/
def outV : FVec Ideal S8x8192x128 .bf16 :=
  truncf .bf16 (transpose S8x8192x128 [1, 0, 2] (transpose S8192x8x128 [2, 0, 1]
    (Host.dotGeneral dot_S8x128x8192_S8x8192x8192_S8x128x8192_2_1_1_2_0_0 none (rows a3) (probs a0 a1))
    transposes_S8x128x8192_S8192x8x128_2_0_1) transposes_S8192x8x128_S8x8192x128_1_0_2) bitsLt_bf16_f32

/-! ## The stages over the reals -/

variable {a0 a1 a2 a3} {A : Attn}

theorem scaled_cube (h0 : Cube (φ := .f32) a0 A.q) (hs : A.s = scale) : Cube (φ := .f32) (scaled a0) fun a b c => A.q a b c * A.s := by
  subst_vars
  unfold scaled
  rw [hs]
  exact h0.mul (Cube.splat fun i => scale_val)

theorem scores_cube (h0 : Cube (φ := .f32) a0 A.q) (h1 : Cube (φ := .f32) a1 A.k) (hs : A.s = scale) :
    Cube (φ := .f32) (scores a0 a1) A.sc := by
  unfold scores
  refine ((scaled_cube h0 hs).scores h1).congr fun h q k _ _ _ => ?_
  unfold Attn.sc
  rw [Finset.sum_mul]
  exact Finset.sum_congr rfl fun c _ => by ring

/-- The exponentials carry a factor of their row's; so do the sums. -/
theorem expo_cube' (h0 : Cube (φ := .f32) a0 A.q) (h1 : Cube (φ := .f32) a1 A.k) (hs : A.s = scale) :
    ∃ t : ℕ → ℕ → ℝ, (∀ h q, t h q ≠ 0) ∧ Cube (φ := .f32) (expo a0 a1) (fun h q k => t h q * A.u h q k)
      ∧ Cube (φ := .f32) (sums a0 a1) (fun h q _ => t h q * A.Z h q) := by
  have hsc := scores_cube h0 h1 hs
  obtain ⟨μ, hμ⟩ := top_mat (h := bcast_S_S8x8192x8192) (hr := reducesTo_S8x8192x8192_S8x8192_d2) (hu := h_S_)
    (h1 := bcast_S1x8192x8192_S8x8192x8192_0_1_2) (h2 := bcast_S8192x8192_S1x8192x8192_1_2) (h3 := bcast_S1x8192_S8192x8192_0_1)
    (h4 := bcast_S8192_S1x8192_1) (h5 := bcast_S8192x1_S8192x8192_0_1) (h6 := bcast_S8192_S8192x1_0) hsc
  have hE : Cube (φ := .f32) (expo a0 a1) (fun h q k => Real.exp (-μ h q) * A.u h q k) :=
    expo_cube (h1 := bcast_S1x8192x8192_S8x8192x8192_0_1_2) (h2 := bcast_S8192x8192_S1x8192x8192_1_2) hsc (Cube.wide (hμ.over (h := bcast_S_S8x8192)).col)
  exact ⟨fun h q => Real.exp (-μ h q), fun _ _ => (Real.exp_pos _).ne', hE,
    (hE.rowSum.col (h := bcast_S8x8192_S8x8192x1_0_1)).congr fun h q _ _ _ _ => A.sum_eq h q _⟩

theorem probs_cube (h0 : Cube (φ := .f32) a0 A.q) (h1 : Cube (φ := .f32) a1 A.k) (hs : A.s = scale) :
    Cube (φ := .f32) (probs a0 a1) A.p := by
  obtain ⟨t, ht, hE, hL⟩ := expo_cube' h0 h1 hs
  exact (hE.div (hL.wide (h := bcast_S8x8192x1_S8x8192x8192_0_1_2)) fun h q _ _ _ _ => mul_ne_zero (ht h q) (A.Z_pos h q).ne').congr
    fun h q k _ _ _ => A.p_eq h q k _ (ht h q)

theorem gradP_cube (h2 : Cube (φ := .f32) a2 A.v) (h3 : Cube (φ := .f32) a3 A.d) : Cube (φ := .f32) (gradP a2 a3) A.dp :=
  (h3.rowLast (h := transposes_S8192x8x128_S8x128x8192_1_2_0)).gradP h2

theorem gradS_cube (h0 : Cube (φ := .f32) a0 A.q) (h1 : Cube (φ := .f32) a1 A.k) (h2 : Cube (φ := .f32) a2 A.v)
    (h3 : Cube (φ := .f32) a3 A.d) (hs : A.s = scale) : Cube (φ := .f32) (gradS a0 a1 a2 a3) A.ds := by
  obtain ⟨t, ht, hE, hL⟩ := expo_cube' h0 h1 hs
  have hP := gradP_cube h2 h3
  have h0' : ∀ h q, t h q * A.Z h q ≠ 0 := fun h q => mul_ne_zero (ht h q) (A.Z_pos h q).ne'
  have hone : Cube (φ := .f32) (broadcastInDim S8x8192x1 ![] bcast_S_S8x8192x1 (constant (F := Ideal) S_ .f32 0x3F800000#32)) fun _ _ _ => 1 :=
    Cube.splat fun i => Ideal.ofBits_one_f32.trans EReal.coe_one.symm
  have hT : Mat (φ := .f32) (through a0 a1 a2 a3) fun h q =>
      -∑ k' ∈ range 8192, A.dp h q k' * (1 / (t h q * A.Z h q * (t h q * A.Z h q))) * (t h q * A.u h q k') :=
    (((hP.mul ((hone.div (hL.mul hL) fun h q _ _ _ _ => mul_ne_zero (h0' h q) (h0' h q)).wide (h := bcast_S8x8192x1_S8x8192x8192_0_1_2))).mul
      hE).rowSum.colCast (h := shapeCasts_S8x8192_S8x8192x1)).neg.colSum
  refine ((((hP.div (hL.wide (h := bcast_S8x8192x1_S8x8192x8192_0_1_2)) fun h q _ _ _ _ => h0' h q).add
    (hT.wide (h := bcast_S8x8192_S8x8192x8192_0_1))).mul hE).keep
    (h1 := bcast_S1x8192x8192_S8x8192x8192_0_1_2) (h2 := bcast_S8192x8192_S1x8192x8192_1_2)).congr fun h q k _ _ _ => ?_
  split
  · exact A.ds_eq h q k (t h q) (ht h q)
  · rename_i hk
    exact (A.ds_of_lt h q k (by omega)).symm

theorem out_cube {x : FVec Ideal S8x8192x192 .f32} {f : ℕ → ℕ → ℕ → ℝ} (hx : Cube (φ := .f32) x f) :
    Cube (φ := .bf16) (out x) fun a b c => if c < 192 then f a b c else 0 :=
  hx.flipQ'.flipQ.padded.trunc

theorem outQ_cube (h0 : Cube (φ := .f32) a0 A.q) (h1 : Cube (φ := .f32) a1 A.k) (h2 : Cube (φ := .f32) a2 A.v)
    (h3 : Cube (φ := .f32) a3 A.d) (hs : A.s = scale) : Cube (φ := .bf16) (outQ a0 a1 a2 a3) A.dQ :=
  out_cube ((gradS_cube h0 h1 h2 h3 hs).gradQ h1)

theorem outK_cube (h0 : Cube (φ := .f32) a0 A.q) (h1 : Cube (φ := .f32) a1 A.k) (h2 : Cube (φ := .f32) a2 A.v)
    (h3 : Cube (φ := .f32) a3 A.d) (hs : A.s = scale) : Cube (φ := .bf16) (outK a0 a1 a2 a3) A.dK :=
  out_cube ((gradS_cube h0 h1 h2 h3 hs).gradK (scaled_cube h0 hs))

theorem outV_cube (h0 : Cube (φ := .f32) a0 A.q) (h1 : Cube (φ := .f32) a1 A.k) (h3 : Cube (φ := .f32) a3 A.d) (hs : A.s = scale) :
    Cube (φ := .bf16) (outV a0 a1 a3) A.dV :=
  ((h3.rowLast (h := transposes_S8192x8x128_S8x128x8192_1_2_0)).gradV (probs_cube h0 h1 hs)).rowFirst.flipV.trunc

end Stages

/-! ## The run's terms are these -/

variable (m : (ℓ : Loc nD τ sig) → Buf (Elt Ideal) ℓ) (c : Dev nD)

theorem res_v64 : res_main_v64 m c = outQ (m ((c.tc : Thread nD τ).loc main_arg0)) (m ((c.tc : Thread nD τ).loc main_arg1))
    (m ((c.tc : Thread nD τ).loc main_arg2)) (m ((c.tc : Thread nD τ).loc main_arg3)) := rfl

theorem res_v67 : res_main_v67 m c = outK (m ((c.tc : Thread nD τ).loc main_arg0)) (m ((c.tc : Thread nD τ).loc main_arg1))
    (m ((c.tc : Thread nD τ).loc main_arg2)) (m ((c.tc : Thread nD τ).loc main_arg3)) := rfl

theorem res_v69 : res_main_v69 m c = outV (m ((c.tc : Thread nD τ).loc main_arg0)) (m ((c.tc : Thread nD τ).loc main_arg1))
    (m ((c.tc : Thread nD τ).loc main_arg3)) := rfl

end Cert.ReferenceIdeal.Value
-- ==== Proof.Value.lean ====
/-
  The equation: with finite arguments, what the kernel's launch leaves in its three arrays is what the reference returns.
-/
module

public import proofs.«01_k».proof.Defs
public import proofs.«01_k».proof.Proof.Prefix
public import proofs.«01_k».proof.Proof.RefVal

@[expose] public section

set_option maxRecDepth 16384

noncomputable section

namespace Cert.Lift

open Idealize.ShloMosaic

/-- A number whose absolute value is below infinity is real. -/
theorem real_of_finite {a : EReal} (h : Ideal.cmp .olt (max a (-a)) (Ideal.ofBits .f32 0x7F800000#32) = 1#1) : ((a.toReal : ℝ) : EReal) = a := by
  have ht : Ideal.ofBits .f32 0x7F800000#32 = ⊤ := by simp [Ideal.ofBits, Ideal.ieee]
  rw [ht] at h
  refine EReal.coe_toReal ?_ ?_
  · rintro rfl
    simp [Ideal.cmp] at h
  · rintro rfl
    simp [Ideal.cmp] at h

/-- The reals in a cube. -/
def reals {A B C : ℕ} (x : FVec Ideal ⟨3, ![A, B, C]⟩ .f32) (a b c : ℕ) : ℝ :=
  if ha : a < A then if hb : b < B then if hc : c < C then (x (ValueIdx.ix3 ⟨a, ha⟩ ⟨b, hb⟩ ⟨c, hc⟩)).toReal else 0 else 0 else 0

/-- A cube all of whose numbers are finite is a cube of reals. -/
theorem Cube.of_finite {A B C : ℕ} {x : FVec Ideal ⟨3, ![A, B, C]⟩ .f32} {h}
    (hx : cmpf .olt (Host.absf x) (broadcastInDim ⟨3, ![A, B, C]⟩ ![] h (constant (F := Ideal) ⟨0, ![]⟩ .f32 0x7F800000#32)) = fun _ => 1#1) :
    Cube x (reals x) := by
  intro a b c
  unfold reals
  rw [dif_pos a.isLt, dif_pos b.isLt, dif_pos c.isLt]
  exact (real_of_finite (congrFun hx (ValueIdx.ix3 a b c))).symm

end Cert.Lift

namespace Cert.Value

open Cert.Lift
open Idealize.ShloMosaic Idealize.ShloMosaic.TcCoe Idealize.SL.Sem

/-- The evidence the precondition's text asks for. -/
theorem pre_facts : Cert.Pre_finite.Facts := ⟨by decide, by decide⟩

section

variable (m : (ℓ : Loc KernelIdeal.nD KernelIdeal.τ KernelIdeal.sig) → Buf (Elt Ideal) ℓ) (c : Dev KernelIdeal.nD)

/-- The real attention whose matrices a device's arguments hold. -/
def attn : Attn where
  q := reals (A := 8192) (B := 8) (C := 192) (m ((c.tc : Thread KernelIdeal.nD KernelIdeal.τ).loc KernelIdeal.main_arg0))
  k := reals (A := 8192) (B := 8) (C := 192) (m ((c.tc : Thread KernelIdeal.nD KernelIdeal.τ).loc KernelIdeal.main_arg1))
  v := reals (A := 8192) (B := 8) (C := 128) (m ((c.tc : Thread KernelIdeal.nD KernelIdeal.τ).loc KernelIdeal.main_arg2))
  d := reals (A := 8192) (B := 8) (C := 128) (m ((c.tc : Thread KernelIdeal.nD KernelIdeal.τ).loc KernelIdeal.main_arg3))
  s := scale

end

/-- The three arrays of the kernel are the three results of the reference. -/
theorem results (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (hpre : Pre_KernelIdeal_finite (hPre_finite := pre_facts) m) (c : Dev KernelIdeal.nD)
    (e0 : m' ((c.tc : Thread ReferenceIdeal.nD ReferenceIdeal.τ).loc ReferenceIdeal.main_arg0) = m ((c.tc : Thread KernelIdeal.nD KernelIdeal.τ).loc KernelIdeal.main_arg0))
    (e1 : m' ((c.tc : Thread ReferenceIdeal.nD ReferenceIdeal.τ).loc ReferenceIdeal.main_arg1) = m ((c.tc : Thread KernelIdeal.nD KernelIdeal.τ).loc KernelIdeal.main_arg1))
    (e2 : m' ((c.tc : Thread ReferenceIdeal.nD ReferenceIdeal.τ).loc ReferenceIdeal.main_arg2) = m ((c.tc : Thread KernelIdeal.nD KernelIdeal.τ).loc KernelIdeal.main_arg2))
    (e3 : m' ((c.tc : Thread ReferenceIdeal.nD ReferenceIdeal.τ).loc ReferenceIdeal.main_arg3) = m ((c.tc : Thread KernelIdeal.nD KernelIdeal.τ).loc KernelIdeal.main_arg3)) :
    (KernelIdeal.Launched.dats m 0 c).arrAt 6 KernelIdeal.cfg0.N = ReferenceIdeal.Value.res_main_v64 m' c
      ∧ (KernelIdeal.Launched.dats m 0 c).arrAt 7 KernelIdeal.cfg0.N = ReferenceIdeal.Value.res_main_v67 m' c
      ∧ (KernelIdeal.Launched.dats m 0 c).arrAt 8 KernelIdeal.cfg0.N = ReferenceIdeal.Value.res_main_v69 m' c := by
  obtain ⟨p0, p1, p2, p3⟩ := hpre c
  have h0 : Cube (φ := .f32) (m ((c.tc : Thread KernelIdeal.nD KernelIdeal.τ).loc KernelIdeal.main_arg0)) (attn m c).q := Cube.of_finite p0
  have h1 : Cube (φ := .f32) (m ((c.tc : Thread KernelIdeal.nD KernelIdeal.τ).loc KernelIdeal.main_arg1)) (attn m c).k := Cube.of_finite p1
  have h2 : Cube (φ := .f32) (m ((c.tc : Thread KernelIdeal.nD KernelIdeal.τ).loc KernelIdeal.main_arg2)) (attn m c).v := Cube.of_finite p2
  have h3 : Cube (φ := .f32) (m ((c.tc : Thread KernelIdeal.nD KernelIdeal.τ).loc KernelIdeal.main_arg3)) (attn m c).d := Cube.of_finite p3
  have H := KernelIdeal.Prefix.holds m c h0 h1 h2 h3 rfl
  rw [ReferenceIdeal.Value.res_v64, ReferenceIdeal.Value.res_v67, ReferenceIdeal.Value.res_v69, e0, e1, e2, e3]
  refine ⟨(KernelIdeal.Tile.dq_val H).trans (funext fun y => ?_), (KernelIdeal.Tile.dk_val H).trans (funext fun y => ?_),
    (KernelIdeal.Tile.dv_val H).trans (funext fun y => ?_)⟩
  · beta_reduce
    rw [(attn m c).dQ_head]
    have := (ReferenceIdeal.Value.outQ_cube h0 h1 h2 h3 rfl (y 0) (y 1) (y 2)).symm
    exact this.trans (congrArg _ (ValueIdx.eq_ix3 y).symm)
  · beta_reduce
    rw [(attn m c).dK_head]
    have := (ReferenceIdeal.Value.outK_cube h0 h1 h2 h3 rfl (y 0) (y 1) (y 2)).symm
    exact this.trans (congrArg _ (ValueIdx.eq_ix3 y).symm)
  · beta_reduce
    rw [(attn m c).dV_head]
    have := (ReferenceIdeal.Value.outV_cube h0 h1 h3 rfl (y 0) (y 1) (y 2)).symm
    exact this.trans (congrArg _ (ValueIdx.eq_ix3 y).symm)

end Cert.Value
-- ==== Proof.Strip.lean ====
/-
  The body of the forward attention kernel, over the extended reals, as a computation on values. A step takes one half
  block of 512 keys: it raises the running row maximum and rescales the running sums of values, of which the columns
  from 128 on are the sums of the weights. Four chains of 256 queries go through the steps side by side.
-/
module

public import proofs.«01_k».proof.Proof.Gen.Kernel2Ideal.Value
public import proofs.«01_k».proof.Proof.Model

@[expose] public section

set_option maxRecDepth 16384

noncomputable section

namespace Cert.Forward

open Cert.Kernel2Ideal Cert.Kernel2Ideal.Gen
open Cert.KernelIdeal.Model (slabRows matRows window_slab)
open Idealize.ShloMosaic Idealize.ShloMosaic.TcCoe

local notation "𝔽" => Idealize.ShloMosaic.Ideal

/-- A chain: the running row maxima and the running sums. -/
abbrev Chain : Type := FVec 𝔽 S256x1 .f32 × FVec 𝔽 S256x256 .f32

/-- The scores of a chain's queries against half a block of keys, -/
abbrev tile (q : FVec 𝔽 S256x256 .bf16) (k : Vec 𝔽 S1x512x256 .bf16) : FVec 𝔽 S256x512 .f32 := k0_pay2 q k

/-- and with those after the diagonal masked, a key's column being shifted by `w` against the query's row. -/
def tileM (w : BitVec 32) (q : FVec 𝔽 S256x256 .bf16) (k : Vec 𝔽 S1x512x256 .bf16) : FVec 𝔽 S256x512 .f32 :=
  select (cmpi .sle (addi (iota .tc S256x512 32 [1] iota_S256x512_d1_w32) (broadcast S256x512 w)) (iota .tc S256x512 32 [0] iota_S256x512_d0_w32))
    (tile q k) (broadcast S256x512 (Named.named κ "neg" 0xF149F2CA#32))

/-- The row maxima after a step, -/
def stepM (s : FVec 𝔽 S256x512 .f32) (m : FVec 𝔽 S256x1 .f32) : FVec 𝔽 S256x1 .f32 :=
  maximumf m (shapeCast S256x1 (multiReduction .maximumf [1] S256 s 0xFF800000#32 reduces_S256x512_S256 (.inl rfl) rfl) shapeCasts_S256_S256x1)

/-- and the sums. -/
def stepA (s : FVec 𝔽 S256x512 .f32) (m : FVec 𝔽 S256x1 .f32) (a : FVec 𝔽 S256x256 .f32) (v : FVec 𝔽 S1x512x256 .bf16) : FVec 𝔽 S256x256 .f32 :=
  addf (mulf (broadcastTo S256x256 (exp2 (subf m (stepM s m))) broadcasts_S256x1_S256x256) a)
    (matmul dot_S256x512_S512x256_S256x256_1_0_0_1_n_n none
      (truncf .bf16 (exp2 (subf s (broadcastTo S256x512 (stepM s m) broadcasts_S256x1_S256x512))) bitsLt_bf16_f32)
      (shapeCast S512x256 v shapeCasts_S1x512x256_S512x256) (constant S256x256 .f32 0x00000000#32))

/-- A step of a chain. -/
def step (s : FVec 𝔽 S256x512 .f32) (v : Vec 𝔽 S1x512x256 .bf16) (x : Chain) : Chain := (stepM s x.1, stepA s x.1 x.2 v)

/-- Two steps, over a whole block of keys. -/
def trip (q : FVec 𝔽 S256x256 .bf16) (k₀ v₀ k₁ v₁ : Vec 𝔽 S1x512x256 .bf16) (x : Chain) : Chain :=
  step (tile q k₁) v₁ (step (tile q k₀) v₀ x)

/-- What a chain starts from. -/
def start : Chain := (k0_pay54, k0_pay55)

/-- The four chains, as the loop carries them. -/
abbrev pack (x₀ x₁ x₂ x₃ : Chain) : FVec 𝔽 S256x1 .f32 × FVec 𝔽 S256x256 .f32 × FVec 𝔽 S256x1 .f32 × FVec 𝔽 S256x256 .f32 × FVec 𝔽 S256x1 .f32 × FVec 𝔽 S256x256 .f32 × FVec 𝔽 S256x1 .f32 × FVec 𝔽 S256x256 .f32 :=
  (x₀.1, x₀.2, x₁.1, x₁.2, x₂.1, x₂.2, x₃.1, x₃.2)

section Loop

variable (𝒱 : Variants) (c : Dev nD) (bd : Option 𝒱.V) (i : grid0.Coords) (arg2 : Memref sig .tc .vmem S1x1024x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1024x128 .bf16) (harg5 : arg5.IsWhole) (arg6 : Memref sig .tc .vmem S1x1x1024 .f32) (harg6 : arg6.IsWhole)
variable (v0 v2 v4 v6 : Vec 𝔽 S1x256x256 .bf16) (X3 : BufTy.Contents (Elt 𝔽) arg3.view.ty) (X4 : BufTy.Contents (Elt 𝔽) arg4.view.ty)

/-- Half a block of keys or of values that a step of the loop reads. -/
abbrev half (m : Memref sig .tc .vmem S1x8192x256 .bf16) (X : BufTy.Contents (Elt 𝔽) m.view.ty) (k : Fin (k0_t1_loop i).trips) (b : Fin 2) : Vec 𝔽 S1x512x256 .bf16 :=
  View.readAt (Elt 𝔽) m.view (Rect.unit (s := S1x8192x256) (k0_off1 i k (BitVec.ofNat 32 b.val)) S1x512x256.size (k0_off1_inb i k b)).toLoadRect X

theorem trip_eq (k : Fin (k0_t1_loop i).trips) (x₀ x₁ x₂ x₃ : Chain) :
    tripR_k0_t1 (F := 𝔽) 𝒱 c bd i arg2 harg2 arg3 harg3 arg4 harg4 arg5 harg5 arg6 harg6 v0 v2 v4 v6 X3 X4 k (pack x₀ x₁ x₂ x₃)
      = pack (trip (k0_pay50 v0) (half i arg3 X3 k 0) (half i arg4 X4 k 0) (half i arg3 X3 k 1) (half i arg4 X4 k 1) x₀)
        (trip (k0_pay51 v2) (half i arg3 X3 k 0) (half i arg4 X4 k 0) (half i arg3 X3 k 1) (half i arg4 X4 k 1) x₁)
        (trip (k0_pay52 v4) (half i arg3 X3 k 0) (half i arg4 X4 k 0) (half i arg3 X3 k 1) (half i arg4 X4 k 1) x₂)
        (trip (k0_pay53 v6) (half i arg3 X3 k 0) (half i arg4 X4 k 0) (half i arg3 X3 k 1) (half i arg4 X4 k 1) x₃) := by
  unfold tripR_k0_t1 trip_k0_t1
  rfl

/-- Half a block read from a whole array. -/
theorem read_half (m : Memref sig .tc .vmem S1x8192x256 .bf16) (h : m.IsWhole) (x : Vec 𝔽 S1x8192x256 .bf16) {off : Fin 3 → ℕ}
    (inb : ∀ a, off a + S1x512x256.size a ≤ S1x8192x256.size a) (r : ℕ) (ho : off = ![0, r, 0]) :
    View.readAt (Elt 𝔽) m.view (Rect.unit (s := S1x8192x256) off S1x512x256.size inb).toLoadRect (h.unread x) = slabRows x r 512 := by
  subst ho
  rw [View.readAt_unit m.view _ inb rfl inb, h.read_unread]
  exact window_slab x r 512 inb

/-- A chain's queries read from the block of queries. -/
theorem read_chain (x : Vec 𝔽 S1x1024x256 .bf16) (r : ℕ) (inb : ∀ a, (![0, r, 0] : Fin 3 → ℕ) a + S1x256x256.size a ≤ S1x1024x256.size a) :
    View.readAt (Elt 𝔽) arg2.view (Rect.unit (s := S1x1024x256) ![0, r, 0] S1x256x256.size inb).toLoadRect (harg2.unread x) = slabRows x r 256 := by
  rw [View.readAt_unit arg2.view _ inb rfl inb, harg2.read_unread]
  exact window_slab x r 256 inb

theorem coord_lt : (i 1).val < 8 := (i 1).isLt

theorem trips1 : (k0_t1_loop i).trips = (i 1).val :=
  (by decide +kernel : ∀ a < 8, Scf.trips 0#32 (Scalar.addi 0#32 (Scalar.muli (Scalar.divsi (Scalar.subi (BitVec.ofNat 32 a) 0#32) 1#32) 1#32)) 1#32 = a) _ (coord_lt i)

theorem trips2 : (k0_t2_loop i).trips = 0 :=
  (by decide +kernel : ∀ a < 8, Scf.trips (Scalar.addi 0#32 (Scalar.muli (Scalar.divsi (Scalar.subi (BitVec.ofNat 32 a) 0#32) 1#32) 1#32))
    (Scalar.addi 0#32 (Scalar.subi (BitVec.ofNat 32 a) 0#32)) 1#32 = 0) _ (coord_lt i)

theorem off1_eq (k : Fin (k0_t1_loop i).trips) (b : Fin 2) : k0_off1 i k (BitVec.ofNat 32 b.val) = ![0, 1024 * k.val + 512 * b.val, 0] := by
  have hk : k.val < 8 := lt_of_lt_of_le (lt_of_lt_of_eq k.isLt (trips1 i)) (coord_lt i).le
  have h := (by decide +kernel : ∀ n < 8, ∀ b : Fin 2, (Scalar.indexCast (Scalar.muli (Scalar.addi (Scalar.muli 2#32 (Scf.iv 0#32 1#32 n)) (BitVec.ofNat 32 b.val)) 512#32)).toNat
    = 1024 * n + 512 * b.val) _ hk b
  exact congrArg (fun x : ℕ => (![0, x, 0] : Fin 3 → ℕ)) h

theorem off3_eq (b : Fin 2) : k0_off3 i (BitVec.ofNat 32 b.val) = ![0, 1024 * (i 1).val + 512 * b.val, 0] :=
  congrArg (fun x : ℕ => (![0, x, 0] : Fin 3 → ℕ)) ((by decide +kernel : ∀ n < 8, ∀ b : Fin 2,
    (Scalar.indexCast (Scalar.muli (Scalar.addi (Scalar.muli 2#32 (BitVec.ofNat 32 n)) (BitVec.ofNat 32 b.val)) 512#32)).toNat = 1024 * n + 512 * b.val) _ (coord_lt i) b)

end Loop

/-! ## A chain from its queries and the keys and values of its head -/

section Chain

variable (q : FVec 𝔽 S256x256 .bf16) (K V : Vec 𝔽 S1x8192x256 .bf16)

/-- A chain after the first `n` blocks of keys. -/
def run : ℕ → Chain
  | 0 => start
  | n + 1 => trip q (slabRows K (1024 * n) 512) (slabRows V (1024 * n) 512) (slabRows K (1024 * n + 512) 512) (slabRows V (1024 * n + 512) 512) (run n)

/-- A chain whose last queries lie in the first half of block `n`, -/
def low (w : BitVec 32) (n : ℕ) : Chain := step (tileM w q (slabRows K (1024 * n) 512)) (slabRows V (1024 * n) 512) (run q K V n)

/-- and in the second. -/
def high (w : BitVec 32) (n : ℕ) : Chain :=
  step (tileM w q (slabRows K (1024 * n + 512) 512)) (slabRows V (1024 * n + 512) 512)
    (step (tile q (slabRows K (1024 * n) 512)) (slabRows V (1024 * n) 512) (run q K V n))

end Chain

/-- The queries of a chain. -/
def rows (Q : Vec 𝔽 S1x1024x256 .bf16) (r : ℕ) : FVec 𝔽 S256x256 .bf16 := k0_pay50 (slabRows Q r 256)

/-- The four chains at the end of a point of block `n`. -/
def last (Q : Vec 𝔽 S1x1024x256 .bf16) (K V : Vec 𝔽 S1x8192x256 .bf16) (n : ℕ) : Fin 4 → Chain
  | 0 => low (rows Q 0) K V 0#32 n
  | 1 => low (rows Q 256) K V 4294967040#32 n
  | 2 => high (rows Q 512) K V 0#32 n
  | 3 => high (rows Q 768) K V 4294967040#32 n

/-- A chain's rows of the result, -/
def rowsO (x : Chain) : FVec 𝔽 S256x128 .bf16 := k0_pay86 x.2

/-- and its row of logarithms. -/
def rowL (x : Chain) : FVec 𝔽 S1x1x256 .f32 := k0_pay91 x.1 x.2

section Point

variable (c : Dev nD) (i : grid0.Coords) (arg2 : Memref sig .tc .vmem S1x1024x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1024x128 .bf16) (harg5 : arg5.IsWhole) (arg6 : Memref sig .tc .vmem S1x1x1024 .f32) (harg6 : arg6.IsWhole)
variable (Q : Vec 𝔽 S1x1024x256 .bf16) (K V : Vec 𝔽 S1x8192x256 .bf16)

/-- What the loop carries after `n` blocks. -/
theorem loop_eq : ∀ n ≤ (i 1).val,
    st_k0_t1 (F := 𝔽) Variants.none c none i arg2 harg2 arg3 harg3 arg4 harg4 arg5 harg5 arg6 harg6 (slabRows Q 0 256) (slabRows Q 256 256) (slabRows Q 512 256) (slabRows Q 768 256)
      (harg3.unread K) (harg4.unread V) (pack start start start start) n
    = pack (run (rows Q 0) K V n) (run (rows Q 256) K V n) (run (rows Q 512) K V n) (run (rows Q 768) K V n)
  | 0, _ => rfl
  | n + 1, h => by
    have hn : n < (k0_t1_loop i).trips := by rw [trips1]; omega
    refine (st_k0_t1_succ (F := 𝔽) Variants.none c none i arg2 harg2 arg3 harg3 arg4 harg4 arg5 harg5 arg6 harg6 _ _ _ _ _ _ _ ⟨n, hn⟩).trans ?_
    have e := loop_eq n (by omega)
    rw [e, trip_eq]
    unfold half
    rw [read_half arg3 harg3 K _ _ (off1_eq i ⟨n, hn⟩ 0), read_half arg3 harg3 K _ _ (off1_eq i ⟨n, hn⟩ 1),
      read_half arg4 harg4 V _ _ (off1_eq i ⟨n, hn⟩ 0), read_half arg4 harg4 V _ _ (off1_eq i ⟨n, hn⟩ 1)]
    rfl

/-- What the loops leave: the four chains after the blocks before the diagonal. -/
theorem loops_eq (init) (hi : init = pack start start start start) (w : BitVec 32) (z) (hz : z = st_k0_t1 (F := 𝔽) Variants.none c none i arg2 harg2 arg3 harg3 arg4 harg4 arg5 harg5 arg6 harg6 (slabRows Q 0 256) (slabRows Q 256 256) (slabRows Q 512 256) (slabRows Q 768 256)
      (harg3.unread K) (harg4.unread V) init (k0_t1_loop i).trips) :
    st_k0_t2 (F := 𝔽) Variants.none c none i arg2 harg2 arg3 harg3 arg4 harg4 arg5 harg5 arg6 harg6 (slabRows Q 0 256) (slabRows Q 256 256) (slabRows Q 512 256) (slabRows Q 768 256) w
      (harg3.unread K) (harg4.unread V) z (k0_t2_loop i).trips
    = pack (run (rows Q 0) K V (i 1).val) (run (rows Q 256) K V (i 1).val) (run (rows Q 512) K V (i 1).val) (run (rows Q 768) K V (i 1).val) := by
  rw [trips2, hz, hi, trips1]
  exact loop_eq c i arg2 harg2 arg3 harg3 arg4 harg4 arg5 harg5 arg6 harg6 Q K V _ le_rfl

/-- The four chains at the end of a point, from what the loops leave and the two halves of the block on the diagonal. -/
def ends (v0 v2 v4 v6 : Vec 𝔽 S1x256x256 .bf16) (k₀ v₀ k₁ v₁ : Vec 𝔽 S1x512x256 .bf16)
    (z : FVec 𝔽 S256x1 .f32 × FVec 𝔽 S256x256 .f32 × FVec 𝔽 S256x1 .f32 × FVec 𝔽 S256x256 .f32 × FVec 𝔽 S256x1 .f32 × FVec 𝔽 S256x256 .f32 × FVec 𝔽 S256x1 .f32 × FVec 𝔽 S256x256 .f32) :
    Fin 4 → Chain
  | 0 => step (tileM 0#32 (k0_pay50 v0) k₀) v₀ (z.1, z.2.1)
  | 1 => step (tileM 4294967040#32 (k0_pay50 v2) k₀) v₀ (z.2.2.1, z.2.2.2.1)
  | 2 => step (tileM 0#32 (k0_pay50 v4) k₁) v₁ (step (tile (k0_pay50 v4) k₀) v₀ (z.2.2.2.2.1, z.2.2.2.2.2.1))
  | 3 => step (tileM 4294967040#32 (k0_pay50 v6) k₁) v₁ (step (tile (k0_pay50 v6) k₀) v₀ (z.2.2.2.2.2.2.1, z.2.2.2.2.2.2.2))

abbrev readQ (r : ℕ) (inb : ∀ a, (![0, r, 0] : Fin 3 → ℕ) a + S1x256x256.size a ≤ S1x1024x256.size a) : Vec 𝔽 S1x256x256 .bf16 :=
  View.readAt (Elt 𝔽) arg2.view (Rect.unit (s := S1x1024x256) ![0, r, 0] S1x256x256.size inb).toLoadRect (harg2.unread Q)

abbrev readD (m : Memref sig .tc .vmem S1x8192x256 .bf16) (h : m.IsWhole) (X : Vec 𝔽 S1x8192x256 .bf16) (b : Fin 2) : Vec 𝔽 S1x512x256 .bf16 :=
  View.readAt (Elt 𝔽) m.view (Rect.unit (s := S1x8192x256) (k0_off3 i (BitVec.ofNat 32 b.val)) S1x512x256.size (k0_off3_inb i b)).toLoadRect (h.unread X)

/-- The same chains as the program finds them. -/
def found : Fin 4 → Chain :=
  ends (readQ arg2 harg2 Q 0 inb_S1x1024x256_S1x256x256_0_0_0) (readQ arg2 harg2 Q 256 inb_S1x1024x256_S1x256x256_0_256_0)
    (readQ arg2 harg2 Q 512 inb_S1x1024x256_S1x256x256_0_512_0) (readQ arg2 harg2 Q 768 inb_S1x1024x256_S1x256x256_0_768_0)
    (readD i arg3 harg3 K 0) (readD i arg4 harg4 V 0) (readD i arg3 harg3 K 1) (readD i arg4 harg4 V 1)
    (st_k0_t2 (F := 𝔽) Variants.none c none i arg2 harg2 arg3 harg3 arg4 harg4 arg5 harg5 arg6 harg6
      (readQ arg2 harg2 Q 0 inb_S1x1024x256_S1x256x256_0_0_0) (readQ arg2 harg2 Q 256 inb_S1x1024x256_S1x256x256_0_256_0)
      (readQ arg2 harg2 Q 512 inb_S1x1024x256_S1x256x256_0_512_0) (readQ arg2 harg2 Q 768 inb_S1x1024x256_S1x256x256_0_768_0)
      (kernelRun0_A.sl.v14 i) (harg3.unread K) (harg4.unread V)
      (st_k0_t1 (F := 𝔽) Variants.none c none i arg2 harg2 arg3 harg3 arg4 harg4 arg5 harg5 arg6 harg6
        (readQ arg2 harg2 Q 0 inb_S1x1024x256_S1x256x256_0_0_0) (readQ arg2 harg2 Q 256 inb_S1x1024x256_S1x256x256_0_256_0)
        (readQ arg2 harg2 Q 512 inb_S1x1024x256_S1x256x256_0_512_0) (readQ arg2 harg2 Q 768 inb_S1x1024x256_S1x256x256_0_768_0)
        (harg3.unread K) (harg4.unread V) (pack start start start start) (k0_t1_loop i).trips)
      (k0_t2_loop i).trips)

theorem found_eq : found c i arg2 harg2 arg3 harg3 arg4 harg4 arg5 harg5 arg6 harg6 Q K V = last Q K V (i 1).val := by
  unfold found readQ readD
  rw [read_chain, read_chain, read_chain, read_chain, loops_eq c i arg2 harg2 arg3 harg3 arg4 harg4 arg5 harg5 arg6 harg6 Q K V _ rfl _ _ rfl,
    read_half arg3 harg3 K _ _ (off3_eq i 0), read_half arg3 harg3 K _ _ (off3_eq i 1),
    read_half arg4 harg4 V _ _ (off3_eq i 0), read_half arg4 harg4 V _ _ (off3_eq i 1)]
  funext r
  match r with
  | 0 => rfl
  | 1 => rfl
  | 2 => rfl
  | 3 => rfl

set_option maxHeartbeats 2000000 in
/-- The four chains by the names the run gives them. -/
theorem found_names :
    found c i arg2 harg2 arg3 harg3 arg4 harg4 arg5 harg5 arg6 harg6 Q K V 0 = (kernelRun0_A.sl.r_12 c i arg2 harg2 arg3 harg3 arg4 harg4 arg5 harg5 arg6 harg6 Q K V, kernelRun0_A.sl.r_13 c i arg2 harg2 arg3 harg3 arg4 harg4 arg5 harg5 arg6 harg6 Q K V)
    ∧ found c i arg2 harg2 arg3 harg3 arg4 harg4 arg5 harg5 arg6 harg6 Q K V 1 = (kernelRun0_A.sl.r_14 c i arg2 harg2 arg3 harg3 arg4 harg4 arg5 harg5 arg6 harg6 Q K V, kernelRun0_A.sl.r_18 c i arg2 harg2 arg3 harg3 arg4 harg4 arg5 harg5 arg6 harg6 Q K V)
    ∧ found c i arg2 harg2 arg3 harg3 arg4 harg4 arg5 harg5 arg6 harg6 Q K V 2 = (kernelRun0_A.sl.r_25 c i arg2 harg2 arg3 harg3 arg4 harg4 arg5 harg5 arg6 harg6 Q K V, kernelRun0_A.sl.r_26 c i arg2 harg2 arg3 harg3 arg4 harg4 arg5 harg5 arg6 harg6 Q K V)
    ∧ found c i arg2 harg2 arg3 harg3 arg4 harg4 arg5 harg5 arg6 harg6 Q K V 3 = (kernelRun0_A.sl.r_27 c i arg2 harg2 arg3 harg3 arg4 harg4 arg5 harg5 arg6 harg6 Q K V, kernelRun0_A.sl.r_28 c i arg2 harg2 arg3 harg3 arg4 harg4 arg5 harg5 arg6 harg6 Q K V) :=
  ⟨rfl, rfl, rfl, rfl⟩

/-- The values a point stores into the result, -/
theorem pieces3 : (kernelRun0_A (F := 𝔽) c i arg2 harg2 arg3 harg3 arg4 harg4 arg5 harg5 arg6 harg6 Q K V).1
    = [⟨Rect.unit ![768, 0] ![256, 128] inb_S1024x128_S256x128_768_0, rowsO (last Q K V (i 1).val 3)⟩,
      ⟨Rect.unit ![512, 0] ![256, 128] inb_S1024x128_S256x128_512_0, rowsO (last Q K V (i 1).val 2)⟩,
      ⟨Rect.unit ![256, 0] ![256, 128] inb_S1024x128_S256x128_256_0, rowsO (last Q K V (i 1).val 1)⟩,
      ⟨Rect.unit ![0, 0] ![256, 128] inb_S1024x128_S256x128_0_0, rowsO (last Q K V (i 1).val 0)⟩] := by
  rw [← found_eq c i arg2 harg2 arg3 harg3 arg4 harg4 arg5 harg5 arg6 harg6 Q K V]
  rfl

/-- and into the logarithms. -/
theorem pieces4 : (kernelRun0_A (F := 𝔽) c i arg2 harg2 arg3 harg3 arg4 harg4 arg5 harg5 arg6 harg6 Q K V).2.1
    = [⟨Rect.unit ![0, 0, 768] ![1, 1, 256] inb_S1x1x1024_S1x1x256_0_0_768, rowL (last Q K V (i 1).val 3)⟩,
      ⟨Rect.unit ![0, 0, 512] ![1, 1, 256] inb_S1x1x1024_S1x1x256_0_0_512, rowL (last Q K V (i 1).val 2)⟩,
      ⟨Rect.unit ![0, 0, 256] ![1, 1, 256] inb_S1x1x1024_S1x1x256_0_0_256, rowL (last Q K V (i 1).val 1)⟩,
      ⟨Rect.unit ![0, 0, 0] ![1, 1, 256] inb_S1x1x1024_S1x1x256_0_0_0, rowL (last Q K V (i 1).val 0)⟩] := by
  obtain ⟨e0, e1, e2, e3⟩ := found_names c i arg2 harg2 arg3 harg3 arg4 harg4 arg5 harg5 arg6 harg6 Q K V
  rw [← found_eq c i arg2 harg2 arg3 harg3 arg4 harg4 arg5 harg5 arg6 harg6 Q K V, e0, e1, e2, e3]
  rfl

end Point
end Cert.Forward
end
-- ==== Proof.Online.lean ====
/-
  The running softmax over the reals. A chain that has taken in some of its keys holds, for each row, a real number `μ`
  and the sums of the keys' values weighted by two to the score, scaled by two to `-μ`; which number `μ` is does not
  matter for what the chain ends with. Before its first key a chain holds minus infinity and zero sums.
-/
module

public import proofs.«01_k».proof.Proof.Strip
public import proofs.«01_k».proof.Proof.Lift
public import proofs.«01_k».proof.Proof.Rows
public import proofs.«01_k».proof.Proof.Soft
public import proofs.«01_k».proof.Proof.Attn
public import Idealize.ShloMosaic.Lib.Pointwise
public import Idealize.ShloMosaic.Lib.Pointwise.IndexBridge

@[expose] public section

set_option maxRecDepth 16384

noncomputable section

namespace Cert.Forward

open Cert.Kernel2Ideal Cert.Kernel2Ideal.Gen Cert.Lift
open Idealize.ShloMosaic Idealize.ShloMosaic.TcCoe
open Finset (range)

local notation "𝔽" => Idealize.ShloMosaic.Ideal

/-! ## One row -/

/-- The new maximum of a row. -/
theorem top_real {m : EReal} (hm : m ≠ ⊤) {n : ℕ} (g : Fin n → EReal) (ht : ∀ i, g i ≠ ⊤) (i₀ : Fin n) (hb : g i₀ ≠ ⊥) :
    ∃ r : ℝ, max m (Finset.fold max ⊥ g Finset.univ) = (r : EReal) := by
  obtain ⟨a, ha⟩ := fold_max_real g ht i₀ hb
  rw [ha]
  rcases eq_or_ne m ⊥ with rfl | h
  · exact ⟨a, max_eq_right bot_le⟩
  · refine ⟨max m.toReal a, ?_⟩
    rw [← EReal.coe_toReal hm h, EReal.toReal_coe]
    exact (EReal.coe_strictMono.monotone.map_max (a := m.toReal) (b := a)).symm

/-- Two to a difference, as a factor. -/
theorem two_sub (x μ : ℝ) : Real.rpow 2 (x - μ) = Real.rpow 2 (-μ) * Real.rpow 2 x := by
  show (2 : ℝ) ^ (x - μ) = 2 ^ (-μ) * 2 ^ x
  rw [← Real.rpow_add (by norm_num)]
  congr 1
  ring

/-- The weight of a key, zero for a key that the row does not see. -/
theorem weight {v : Prop} [Decidable v] (x μ : ℝ) :
    Ideal.exp2 ((if v then (x : EReal) else ⊥) - (μ : EReal)) = ((Real.rpow 2 (-μ) * (if v then Real.rpow 2 x else 0) : ℝ) : EReal) := by
  split
  · rw [← EReal.coe_sub, Ideal.exp2_coe, two_sub]
  · rw [EReal.bot_sub, Ideal.exp2_bot, mul_zero]
    rfl

/-- What a row held, rescaled. -/
theorem rescale {m a : EReal} {G : ℝ} (μ : ℝ) (h : (m = ⊥ ∧ a = 0 ∧ G = 0) ∨ ∃ ν : ℝ, m = (ν : EReal) ∧ a = ((Real.rpow 2 (-ν) * G : ℝ) : EReal)) :
    Ideal.exp2 (m - (μ : EReal)) * a = ((Real.rpow 2 (-μ) * G : ℝ) : EReal) := by
  rcases h with ⟨rfl, rfl, rfl⟩ | ⟨ν, rfl, rfl⟩
  · rw [mul_zero, mul_zero]
    rfl
  · rw [← EReal.coe_sub, Ideal.exp2_coe, ← EReal.coe_mul, two_sub]
    congr 1
    have h : Real.rpow 2 ν * Real.rpow 2 (-ν) = 1 := by
      show (2 : ℝ) ^ ν * 2 ^ (-ν) = 1
      rw [← Real.rpow_add (by norm_num), add_neg_cancel, Real.rpow_zero]
    calc Real.rpow 2 (-μ) * Real.rpow 2 ν * (Real.rpow 2 (-ν) * G) = Real.rpow 2 (-μ) * (Real.rpow 2 ν * Real.rpow 2 (-ν)) * G := by ring
      _ = Real.rpow 2 (-μ) * G := by rw [h, mul_one]

/-! ## A chain -/

/-- A chain that has taken in the sums `G`, or nothing yet. -/
def Going (G : ℕ → ℕ → ℝ) (x : Chain) : Prop :=
  ∀ r : Fin 256, (x.1 (ValueIdx.ix2 r 0) = ⊥ ∧ ∀ e : Fin 256, x.2 (ValueIdx.ix2 r e) = 0 ∧ G r e = 0)
    ∨ ∃ μ : ℝ, x.1 (ValueIdx.ix2 r 0) = (μ : EReal) ∧ ∀ e : Fin 256, x.2 (ValueIdx.ix2 r e) = ((Real.rpow 2 (-μ) * G r e : ℝ) : EReal)

/-- A chain that has taken in the sums `G`. -/
def Held (G : ℕ → ℕ → ℝ) (x : Chain) : Prop :=
  ∀ r : Fin 256, ∃ μ : ℝ, x.1 (ValueIdx.ix2 r 0) = (μ : EReal) ∧ ∀ e : Fin 256, x.2 (ValueIdx.ix2 r e) = ((Real.rpow 2 (-μ) * G r e : ℝ) : EReal)

theorem Held.going {G : ℕ → ℕ → ℝ} {x : Chain} (h : Held G x) : Going G x := fun r => .inr (h r)

theorem Held.congr {G G' : ℕ → ℕ → ℝ} {x : Chain} (h : Held G x) (e : ∀ r < 256, ∀ c < 256, G r c = G' r c) : Held G' x := fun r => by
  obtain ⟨μ, h1, h2⟩ := h r
  exact ⟨μ, h1, fun c => by rw [h2, e r r.isLt c c.isLt]⟩

theorem Going.congr {G G' : ℕ → ℕ → ℝ} {x : Chain} (h : Going G x) (e : ∀ r < 256, ∀ c < 256, G r c = G' r c) : Going G' x := fun r => by
  rcases h r with ⟨h1, h2⟩ | ⟨μ, h1, h2⟩
  · exact .inl ⟨h1, fun c => ⟨(h2 c).1, (e r r.isLt c c.isLt) ▸ (h2 c).2⟩⟩
  · exact .inr ⟨μ, h1, fun c => by rw [h2, e r r.isLt c c.isLt]⟩

/-- The number written for minus infinity, which is named. -/
theorem neg_val : (Named.named κ "neg" 0xF149F2CA#32 : 𝔽 .f32) = ⊥ :=
  IdealRules.named_const.ideal_named_scalar _ _ _ _ rfl

theorem start_going : Going (fun _ _ => 0) start := fun r => .inl ⟨neg_val, fun e => ⟨Ideal.ofBits_zero_f32, rfl⟩⟩

/-- Scores of which a row sees those at `v`. -/
def Seen (s : FVec 𝔽 S256x512 .f32) (f : ℕ → ℕ → ℝ) (v : ℕ → ℕ → Prop) [∀ r c, Decidable (v r c)] : Prop :=
  ∀ (r : Fin 256) (c : Fin 512), s (ValueIdx.ix2 r c) = if v r c then ((f r c : ℝ) : EReal) else ⊥

section Step

variable {s : FVec 𝔽 S256x512 .f32} {m : FVec 𝔽 S256x1 .f32} {a : FVec 𝔽 S256x256 .f32} {w : FVec 𝔽 S1x512x256 .bf16}

/-- A row's maximum after a step. -/
theorem stepM_apply (r : Fin 256) : stepM s m (ValueIdx.ix2 r 0) = max (m (ValueIdx.ix2 r 0)) (Finset.fold max ⊥ (fun c : Fin 512 => s (ValueIdx.ix2 r c)) Finset.univ) := by
  unfold stepM
  pointwise
  simp only [ix2_eq_valueIdx]
  rw [ninf_val]

/-- A sum after a step. -/
theorem stepA_apply {g : ℕ → ℕ → ℝ} (hw : Slab (φ := .bf16) (M := 512) (N := 256) w g) (r e : Fin 256) :
    stepA s m a w (ValueIdx.ix2 r e)
      = Ideal.exp2 (m (ValueIdx.ix2 r 0) - stepM s m (ValueIdx.ix2 r 0)) * a (ValueIdx.ix2 r e)
        + ∑ c : Fin 512, Ideal.exp2 (s (ValueIdx.ix2 r c) - stepM s m (ValueIdx.ix2 r 0)) * ((g c e : ℝ) : EReal) := by
  unfold stepA
  generalize stepM s m = m'
  pointwise
  simp only [ix2_eq_valueIdx, ix3_eq_valueIdx]
  refine congrArg₂ (· + ·) rfl (Finset.sum_congr rfl fun c _ => congrArg₂ (· * ·) rfl (hw 0 c e))

/-- A step of a chain takes in the keys that its rows see. -/
theorem step_held {G : ℕ → ℕ → ℝ} {x : Chain} (hx : Going G x) {f : ℕ → ℕ → ℝ} {v : ℕ → ℕ → Prop} [∀ r c, Decidable (v r c)] (hs : Seen s f v)
    (h0 : ∀ r < 256, v r 0) {g : ℕ → ℕ → ℝ} (hw : Slab (φ := .bf16) (M := 512) (N := 256) w g) :
    Held (fun r e => G r e + ∑ c ∈ range 512, (if v r c then Real.rpow 2 (f r c) * g c e else 0)) (step s w x) := by
  intro r
  have hm : x.1 (ValueIdx.ix2 r 0) ≠ ⊤ := by
    rcases hx r with ⟨h, -⟩ | ⟨ν, h, -⟩
    · rw [h]; exact bot_ne_top
    · rw [h]; exact EReal.coe_ne_top _
  obtain ⟨μ, hμ⟩ : ∃ μ : ℝ, stepM s x.1 (ValueIdx.ix2 r 0) = (μ : EReal) := by
    rw [stepM_apply]
    refine top_real hm _ (fun c => ?_) ⟨0, by norm_num⟩ ?_
    · rw [hs]
      split
      · exact EReal.coe_ne_top _
      · exact bot_ne_top
    · rw [hs, if_pos (h0 r r.isLt)]
      exact EReal.coe_ne_bot _
  refine ⟨μ, hμ, fun e => ?_⟩
  show stepA s x.1 x.2 w (ValueIdx.ix2 r e) = _
  rw [stepA_apply hw, hμ, rescale (G := G r e) μ, mul_add, EReal.coe_add]
  · congr 1
    rw [Finset.mul_sum, coe_sum_range]
    refine Finset.sum_congr rfl fun c _ => ?_
    rw [hs, weight, ← EReal.coe_mul]
    congr 1
    split
    · rw [mul_assoc]
    · rw [mul_zero, zero_mul]
  · rcases hx r with ⟨h1, h2⟩ | ⟨ν, h1, h2⟩
    · exact .inl ⟨h1, h2 e⟩
    · exact .inr ⟨ν, h1, h2 e⟩

end Step

/-! ## The scores of a tile -/

section Tile

variable {q : FVec 𝔽 S256x256 .bf16} {k : FVec 𝔽 S1x512x256 .bf16} {f g : ℕ → ℕ → ℝ}
  (hq : Mat (φ := .bf16) (M := 256) (N := 256) q f) (hk : Slab (φ := .bf16) (M := 512) (N := 256) k g)

include hq hk

/-- The scores of a tile. -/
theorem tile_mat : Mat (φ := .f32) (M := 256) (N := 512) (tile q k) fun r c => ∑ t ∈ range 256, f r t * g c t :=
  hq.dotRows (hk.cast _) _ rfl

/-- A tile without a mask. -/
theorem tile_seen {v : ℕ → ℕ → Prop} [∀ r c, Decidable (v r c)] (hv : ∀ r < 256, ∀ c < 512, v r c) :
    Seen (tile q k) (fun r c => ∑ t ∈ range 256, f r t * g c t) v := fun r c => by
  rw [if_pos (hv r r.isLt c c.isLt)]
  exact tile_mat hq hk r c

/-- A tile of which a row sees the keys up to its own, `d` keys on. -/
theorem tileM_seen {w : BitVec 32} {d : ℕ} (hd : w.toInt = -(d : ℤ)) (hb : d ≤ 256) :
    Seen (tileM w q k) (fun r c => ∑ t ∈ range 256, f r t * g c t) fun r c => c ≤ r + d := fun r c => by
  have e : cmpi .sle (addi (iota .tc S256x512 32 [1] iota_S256x512_d1_w32) (broadcast S256x512 w)) (iota .tc S256x512 32 [0] iota_S256x512_d0_w32) (ValueIdx.ix2 r c)
      = BitVec.ofBool (decide (c.val ≤ r.val + d)) := by
    show IntOp.cmpi .sle (iota .tc S256x512 32 [1] iota_S256x512_d1_w32 (ValueIdx.ix2 r c) + w) (iota .tc S256x512 32 [0] iota_S256x512_d0_w32 (ValueIdx.ix2 r c)) = _
    rw [iota_single_apply, iota_single_apply]
    show BitVec.ofBool (BitVec.sle (BitVec.ofNat 32 c.val + w) (BitVec.ofNat 32 r.val)) = _
    have hr := r.isLt
    have hc := c.isLt
    have h1 : (BitVec.ofNat 32 c.val).toInt = (c.val : ℤ) := by
      rw [BitVec.toInt_ofNat', Int.bmod_eq_of_le (by omega) (by omega)]
    have h2 : (BitVec.ofNat 32 r.val).toInt = (r.val : ℤ) := by
      rw [BitVec.toInt_ofNat', Int.bmod_eq_of_le (by omega) (by omega)]
    have h3 : (BitVec.ofNat 32 c.val + w).toInt = (c.val : ℤ) - d := by
      rw [BitVec.toInt_add, h1, hd, Int.bmod_eq_of_le (by omega) (by omega)]
      omega
    rw [BitVec.sle_eq_decide, h2, h3]
    congr 1
    exact decide_eq_decide.mpr (by omega)
  show Scalar.select _ (tile q k (ValueIdx.ix2 r c)) (Named.named κ "neg" 0xF149F2CA#32 : 𝔽 .f32) = _
  rw [e, tile_mat hq hk, neg_val]
  by_cases h : c.val ≤ r.val + d
  · simp [Scalar.select, h]
  · simp [Scalar.select, h]

end Tile

/-! ## The sums over the keys -/

/-- The values of the first `n` keys that query `R` sees, each times two to its score. -/
def upto (q k v : ℕ → ℕ → ℝ) (n R e : ℕ) : ℝ :=
  ∑ j ∈ range n, if j ≤ R then Real.rpow 2 (∑ t ∈ range 256, q R t * k j t) * v j e else 0

theorem upto_add (q k v : ℕ → ℕ → ℝ) (n R e m : ℕ) :
    upto q k v (n + m) R e = upto q k v n R e + ∑ c ∈ range m, if n + c ≤ R then Real.rpow 2 (∑ t ∈ range 256, q R t * k (n + c) t) * v (n + c) e else 0 := by
  unfold upto
  rw [Finset.sum_range_add]

/-- Keys past the query's own add nothing. -/
theorem upto_all (q k v : ℕ → ℕ → ℝ) {n m R : ℕ} (hn : R < n) (hm : n ≤ m) (e : ℕ) : upto q k v n R e = upto q k v m R e := by
  obtain ⟨d, rfl⟩ := Nat.exists_eq_add_of_le hm
  rw [upto_add, Finset.sum_eq_zero fun c _ => if_neg (by omega), add_zero]

section Keys

variable {Q : FVec 𝔽 S1x1024x256 .bf16} {K V : FVec 𝔽 S1x8192x256 .bf16} {q k v : ℕ → ℕ → ℝ} {i : ℕ} (hi : i < 8)
  (hQ : Slab (φ := .bf16) (M := 1024) (N := 256) Q fun r c => q (1024 * i + r) c)
  (hK : Slab (φ := .bf16) (M := 8192) (N := 256) K k) (hV : Slab (φ := .bf16) (M := 8192) (N := 256) V v)

include hQ in
/-- The queries of a chain. -/
theorem rows_mat {a : ℕ} (ha : a + 256 ≤ 1024) : Mat (φ := .bf16) (M := 256) (N := 256) (rows Q a) fun r c => q (1024 * i + a + r) c := by
  refine ((hQ.rows ha).cast _).congr fun r c _ _ => ?_
  rw [Nat.add_assoc]

section Run

variable {x : FVec 𝔽 S256x256 .bf16} {a : ℕ} (hx : Mat (φ := .bf16) (M := 256) (N := 256) x fun r c => q (a + r) c)

include hK hV hx

/-- A step at a tile without a mask. -/
theorem step_plain {y : Chain} {b : ℕ} (hb : b + 512 ≤ 8192) (hab : b + 511 ≤ a) (hy : Going (fun r e => upto q k v b (a + r) e) y) :
    Held (fun r e => upto q k v (b + 512) (a + r) e) (step (tile x (Cert.KernelIdeal.Model.slabRows K b 512)) (Cert.KernelIdeal.Model.slabRows V b 512) y) :=
  (step_held hy (tile_seen (v := fun r c => b + c ≤ a + r) hx (hK.rows hb) (fun r _ c _ => by omega)) (fun r _ => by omega) (hV.rows hb)).congr
    fun r _ e _ => (upto_add q k v b (a + r) e 512).symm

/-- A step at the tile that holds the chain's own keys. -/
theorem step_own {y : Chain} {b d : ℕ} {w : BitVec 32} (hd : w.toInt = -(d : ℤ)) (hd' : d ≤ 256) (hb : b + 512 ≤ 8192) (hab : a = b + d)
    (hy : Going (fun r e => upto q k v b (a + r) e) y) :
    Held (fun r e => upto q k v (b + 512) (a + r) e) (step (tileM w x (Cert.KernelIdeal.Model.slabRows K b 512)) (Cert.KernelIdeal.Model.slabRows V b 512) y) :=
  (step_held hy (tileM_seen hx (hK.rows hb) hd hd') (fun r _ => Nat.zero_le _) (hV.rows hb)).congr
    fun r _ e _ => by
      rw [upto_add]
      congr 1
      refine Finset.sum_congr rfl fun c _ => if_congr (by omega) rfl rfl

/-- What the loop carries after `n` blocks. -/
theorem run_going : ∀ n : ℕ, n < 8 → 1024 * n ≤ a → Going (fun r e => upto q k v (1024 * n) (a + r) e) (run x K V n)
  | 0, _, _ => start_going.congr fun r _ e _ => by simp [upto]
  | n + 1, hn, ha => by
    have h0 := run_going n (by omega) (by omega)
    have h1 := (step_plain hK hV hx (b := 1024 * n) (by omega) (by omega) h0).going
    exact (step_plain hK hV hx (b := 1024 * n + 512) (by omega) (by omega) h1).going

/-- A chain in the first half of its block, -/
theorem low_held {n d : ℕ} (hn : n < 8) {w : BitVec 32} (hd : w.toInt = -(d : ℤ)) (hd' : d ≤ 256) (ha : a = 1024 * n + d) :
    Held (fun r e => upto q k v 8192 (a + r) e) (low x K V w n) :=
  (step_own hK hV hx hd hd' (by omega) ha (run_going hK hV hx n hn (by omega))).congr fun r _ e _ => upto_all q k v (by omega) (by omega) e

/-- and in the second. -/
theorem high_held {n d : ℕ} (hn : n < 8) {w : BitVec 32} (hd : w.toInt = -(d : ℤ)) (hd' : d ≤ 256) (ha : a = 1024 * n + 512 + d) :
    Held (fun r e => upto q k v 8192 (a + r) e) (high x K V w n) :=
  (step_own hK hV hx hd hd' (by omega) ha (step_plain hK hV hx (by omega) (by omega) (run_going hK hV hx n hn (by omega))).going).congr
    fun r _ e _ => upto_all q k v (by omega) (by omega) e

end Run

include hi hQ hK hV

/-- The four chains at the end of a point: the sums over all the keys that each query sees. -/
theorem last_held (j : Fin 4) : Held (fun r e => upto q k v 8192 (1024 * i + 256 * j.val + r) e) (last Q K V i j) := by
  match j with
  | ⟨0, _⟩ => exact low_held hK hV (rows_mat hQ (a := 0) (by omega)) hi (d := 0) (by decide) (by omega) (by omega)
  | ⟨1, _⟩ => exact low_held hK hV (rows_mat hQ (a := 256) (by omega)) hi (d := 256) (by decide) (by omega) (by omega)
  | ⟨2, _⟩ => exact high_held hK hV (rows_mat hQ (a := 512) (by omega)) hi (d := 0) (by decide) (by omega) (by omega)
  | ⟨3, _⟩ => exact high_held hK hV (rows_mat hQ (a := 768) (by omega)) hi (d := 256) (by decide) (by omega) (by omega)

end Keys

/-! ## The end of a chain -/

/-- The number that the kernel names for the logarithm of `e` to base two. -/
theorem rate_val : (Named.named κ "log2e" 0x3FB8AA3B#32 : 𝔽 .f32) = (((Real.log 2)⁻¹ : ℝ) : EReal) :=
  IdealRules.named_const.ideal_named_scalar _ _ _ _ rfl

theorem two_ne (μ : ℝ) : Real.rpow 2 μ ≠ 0 := (Real.rpow_pos_of_pos (by norm_num) _).ne'

/-- A chain's rows of the result: the quotients of its sums. -/
theorem rowsO_mat {G : ℕ → ℕ → ℝ} {x : Chain} (hx : Held G x) (hG : ∀ r < 256, ∀ e < 128, G r (128 + e) ≠ 0) :
    Mat (φ := .bf16) (M := 256) (N := 128) (rowsO x) fun r e => G r e / G r (128 + e) := by
  intro r e
  obtain ⟨μ, -, h⟩ := hx r
  unfold rowsO k0_pay86 k0_pay85
  pointwise
  simp only [ix2_eq_valueIdx]
  refine (congrArg₂ Ideal.div (h _) (h _)).trans ?_
  rw [Ideal.div_coe (mul_ne_zero (two_ne _) (hG r r.isLt e e.isLt)), ← EReal.coe_mul, mul_one_div]
  exact congrArg _ (mul_div_mul_left (G r e) (G r (128 + e)) (two_ne (-μ)))

/-- A chain's row of logarithms. -/
theorem rowL_slab {G : ℕ → ℕ → ℝ} {x : Chain} (hx : Held G x) (hG : ∀ r < 256, 0 < G r 128) :
    Slab (φ := .f32) (M := 1) (N := 256) (rowL x) fun _ r => Real.log (G r 128) / Real.log 2 := by
  intro z a r
  obtain ⟨μ, hm, h⟩ := hx r
  unfold rowL k0_pay91 k0_pay89
  pointwise
  simp only [ix2_eq_valueIdx]
  have hz : (0 : ℝ) < Real.rpow 2 (-μ) := Real.rpow_pos_of_pos (by norm_num) _
  have h' : x.2 (ValueIdx.ix2 r 128) = ((Real.rpow 2 (-μ) * G r 128 : ℝ) : EReal) := h 128
  rw [hm, h', rate_val, Ideal.log_coe, if_neg (not_le.mpr (mul_pos hz (hG r r.isLt))), ← EReal.coe_mul, ← EReal.coe_add]
  congr 1
  show μ + Real.log (Real.rpow 2 (-μ) * G r 128) * (Real.log 2)⁻¹ = Real.log (G r 128) / Real.log 2
  have h2 : Real.log (Real.rpow 2 (-μ)) = -μ * Real.log 2 := Real.log_rpow (by norm_num) _
  have h3 : Real.log 2 ≠ 0 := Cert.Attn.log2_ne
  rw [Real.log_mul hz.ne' (hG r r.isLt).ne', h2]
  field_simp
  ring

end Cert.Forward
end
-- ==== Proof.Forward.lean ====
/-
  The grid of the forward kernel over the reals: the block every window shows at a point, what a point leaves, and the
  two arrays at the end.
-/
module

public import proofs.«01_k».proof.Proof.Online
public import Idealize.ShloMosaic.Lib.Pipeline.ValueKit

@[expose] public section

set_option maxRecDepth 16384

noncomputable section

namespace Cert.Forward

open Cert.Kernel2Ideal Cert.Kernel2Ideal.Gen Cert.Lift
open Idealize.ShloMosaic Idealize.ShloMosaic.TcCoe Idealize.SL.Sem
open Finset (range)

local notation "𝔽" => Idealize.ShloMosaic.Ideal

/-- The attention's output at the query `R`: the quotient of the two sums. -/
def outAt (q k v : ℕ → ℕ → ℝ) (R e : ℕ) : ℝ := upto q k v 8192 R e / upto q k v 8192 R (128 + e)

/-- The logarithm of the sum of the query's weights, to base two. -/
def logAt (q k v : ℕ → ℕ → ℝ) (R : ℕ) : ℝ := Real.log (upto q k v 8192 R 128) / Real.log 2

/-! ## One point -/

section Point

variable (c : Dev nD) (i : grid0.Coords) (arg2 : Memref sig .tc .vmem S1x1024x256 .bf16) (harg2 : arg2.IsWhole) (arg3 : Memref sig .tc .vmem S1x8192x256 .bf16) (harg3 : arg3.IsWhole) (arg4 : Memref sig .tc .vmem S1x8192x256 .bf16) (harg4 : arg4.IsWhole) (arg5 : Memref sig .tc .vmem S1024x128 .bf16) (harg5 : arg5.IsWhole) (arg6 : Memref sig .tc .vmem S1x1x1024 .f32) (harg6 : arg6.IsWhole)
variable {Q : FVec 𝔽 S1x1024x256 .bf16} {K V : FVec 𝔽 S1x8192x256 .bf16} {q k v : ℕ → ℕ → ℝ}
  (hQ : Slab (φ := .bf16) (M := 1024) (N := 256) Q fun r c => q (1024 * (i 1).val + r) c)
  (hK : Slab (φ := .bf16) (M := 8192) (N := 256) K k) (hV : Slab (φ := .bf16) (M := 8192) (N := 256) V v)
  (hZ : ∀ R < 8192, ∀ e < 128, 0 < upto q k v 8192 R (128 + e))
include hQ hK hV hZ

/-- A chain's rows of the result. -/
theorem pieceO (j : Fin 4) (x : (⟨2, ![256, 128]⟩ : Shape).Idx) :
    rowsO (last Q K V (i 1).val j) x = ((outAt q k v (1024 * (i 1).val + (256 * j.val + (x 0).val)) (x 1).val : ℝ) : EReal) := by
  have hi : (i 1).val < 8 := coord_lt i
  have hj := j.isLt
  refine (congrArg (rowsO (last Q K V (i 1).val j)) (ValueIdx.eq_ix2 (n0 := 256) (n1 := 128) x)).trans
    ((rowsO_mat (last_held hi hQ hK hV j) (fun r hr e he => (hZ _ (by omega) e he).ne') (x 0) (x 1)).trans ?_)
  exact congrArg (fun R => ((outAt q k v R (x 1).val : ℝ) : EReal)) (Nat.add_assoc (1024 * (i 1).val) (256 * j.val) (x 0).val)

/-- A chain's row of logarithms. -/
theorem pieceL (j : Fin 4) (x : (⟨3, ![1, 1, 256]⟩ : Shape).Idx) :
    rowL (last Q K V (i 1).val j) x = ((logAt q k v (1024 * (i 1).val + (256 * j.val + (x 2).val)) : ℝ) : EReal) := by
  have hi : (i 1).val < 8 := coord_lt i
  have hj := j.isLt
  refine (congrArg (rowL (last Q K V (i 1).val j)) (ValueIdx.eq_ix3 (n0 := 1) (n1 := 1) (n2 := 256) x)).trans
    ((rowL_slab (last_held hi hQ hK hV j) (fun r hr => hZ _ (by omega) 0 (by omega)) (x 0) (x 1) (x 2)).trans ?_)
  exact congrArg (fun R => ((logAt q k v R : ℝ) : EReal)) (Nat.add_assoc (1024 * (i 1).val) (256 * j.val) (x 2).val)

/-- What a point leaves of the result, -/
theorem out3 (y : S1024x128.Idx) :
    out0_A_3 (F := 𝔽) c i arg2 harg2 arg3 harg3 arg4 harg4 arg5 harg5 arg6 harg6 Q K V y
      = ((outAt q k v (1024 * (i 1).val + (y 0).val) (y 1).val : ℝ) : EReal) := by
  unfold out0_A_3
  refine View.read_writes_apply_of_pieces _ _ (fun y : S1024x128.Idx => ((outAt q k v (1024 * (i 1).val + (y 0).val) (y 1).val : ℝ) : EReal)) _ ?_ y
    (cover0_A_3 (F := 𝔽) c i arg2 harg2 arg3 harg3 arg4 harg4 arg5 harg5 arg6 harg6 Q K V y)
  rw [pieces3]
  intro p hp x
  have at_ : ∀ (o : ℕ) (x0 x1 : ℕ), ((outAt q k v (1024 * (i 1).val + (o + x0)) x1 : ℝ) : EReal)
      = ((outAt q k v (1024 * (i 1).val + (o + 1 * x0)) (0 + 1 * x1) : ℝ) : EReal) := fun o x0 x1 => by
    rw [Nat.one_mul, Nat.one_mul, Nat.zero_add]
  simp only [List.mem_cons, List.not_mem_nil, or_false] at hp
  rcases hp with rfl | rfl | rfl | rfl
  · exact (pieceO i hQ hK hV hZ 3 x).trans (at_ 768 (x 0).val (x 1).val)
  · exact (pieceO i hQ hK hV hZ 2 x).trans (at_ 512 (x 0).val (x 1).val)
  · exact (pieceO i hQ hK hV hZ 1 x).trans (at_ 256 (x 0).val (x 1).val)
  · exact (pieceO i hQ hK hV hZ 0 x).trans (at_ 0 (x 0).val (x 1).val)

/-- and of the logarithms. -/
theorem out4 (y : S1x1x1024.Idx) :
    out0_A_4 (F := 𝔽) c i arg2 harg2 arg3 harg3 arg4 harg4 arg5 harg5 arg6 harg6 Q K V y
      = ((logAt q k v (1024 * (i 1).val + (y 2).val) : ℝ) : EReal) := by
  unfold out0_A_4
  refine View.read_writes_apply_of_pieces _ _ (fun y : S1x1x1024.Idx => ((logAt q k v (1024 * (i 1).val + (y 2).val) : ℝ) : EReal)) _ ?_ y
    (cover0_A_4 (F := 𝔽) c i arg2 harg2 arg3 harg3 arg4 harg4 arg5 harg5 arg6 harg6 Q K V y)
  rw [pieces4]
  intro p hp x
  have at_ : ∀ (o : ℕ) (x0 : ℕ), ((logAt q k v (1024 * (i 1).val + (o + x0)) : ℝ) : EReal)
      = ((logAt q k v (1024 * (i 1).val + (o + 1 * x0)) : ℝ) : EReal) := fun o x0 => by
    rw [Nat.one_mul]
  simp only [List.mem_cons, List.not_mem_nil, or_false] at hp
  rcases hp with rfl | rfl | rfl | rfl
  · exact (pieceL i hQ hK hV hZ 3 x).trans (at_ 768 (x 2).val)
  · exact (pieceL i hQ hK hV hZ 2 x).trans (at_ 512 (x 2).val)
  · exact (pieceL i hQ hK hV hZ 1 x).trans (at_ 256 (x 2).val)
  · exact (pieceL i hQ hK hV hZ 0 x).trans (at_ 0 (x 2).val)

end Point

/-! ## The windows -/

variable (m : (ℓ : Loc nD τ sig) → Buf (Elt 𝔽) ℓ) (c : Dev nD) (q k v : ℕ → ℕ → ℕ → ℝ)

/-- The arrays the launch reads hold the heads' matrices, and every head's weights have a positive sum. -/
structure Holds : Prop where
  hq : ∀ (h : Fin 8) (i : Fin 8192) (e : Fin 256), V m c main_v9 (ValueIdx.ix3 h i e) = ((q h.val i.val e.val : ℝ) : EReal)
  hk : ∀ (h : Fin 8) (i : Fin 8192) (e : Fin 256), V m c main_v12 (ValueIdx.ix3 h i e) = ((k h.val i.val e.val : ℝ) : EReal)
  hv : ∀ (h : Fin 8) (i : Fin 8192) (e : Fin 256), V m c main_v15 (ValueIdx.ix3 h i e) = ((v h.val i.val e.val : ℝ) : EReal)
  hz : ∀ h < 8, ∀ R < 8192, ∀ e < 128, 0 < upto (q h) (k h) (v h) 8192 R (128 + e)

theorem at0 : ∀ t : Fin grid0.N, win0_0.index t = ![t.val / 8, t.val % 8, 0] := by decide +kernel
theorem at1 : ∀ t : Fin grid0.N, win0_1.index t = ![t.val / 8, 0, 0] := by decide +kernel
theorem at2 : ∀ t : Fin grid0.N, win0_2.index t = ![t.val / 8, 0, 0] := by decide +kernel
theorem at3 : ∀ t : Fin grid0.N, win0_3.index t = ![t.val % 8, t.val / 8] := by decide +kernel
theorem at4 : ∀ t : Fin grid0.N, win0_4.index t = ![t.val / 8, 0, t.val % 8] := by decide +kernel

/-- The second coordinate of the point `t` is its place within its head. -/
theorem place (t : Fin cfg0.N) : (grid0.coords t 1).val = t.val % 8 := by
  have e : (grid0.coords t 1).val = t.val / 1 % 8 := Pipeline.Grid.coords_val t 1 (by decide) rfl
  rw [e, Nat.div_one]

theorem head_lt (t : Fin cfg0.N) : t.val / 8 < 8 := by
  have : t.val < 64 := lt_of_lt_of_eq t.isLt N_0
  omega

variable {m c}

section Blocks

variable {H : Fin 8 → ℕ → ℕ → ℝ} (t : Fin cfg0.N)

/-- The first window's block: a block of a head's queries; -/
theorem block0 (f : Buf (Elt 𝔽) ((c : Thread nD τ).loc main_v9)) (hf : ∀ (h : Fin 8) (i : Fin 8192) (e : Fin 256), f (ValueIdx.ix3 h i e) = ((H h i.val e.val : ℝ) : EReal)) :
    Slab (φ := .bf16) (M := 1024) (N := 256) (((cfg0.win 0).blk t).view.read (Elt 𝔽) f) fun r e => H ⟨t.val / 8, head_lt t⟩ (1024 * (t.val % 8) + r) e := fun z i e => by
  refine Eq.trans (congrArg f (?_ : _ = ValueIdx.ix3 ⟨t.val / 8, head_lt t⟩ ⟨1024 * (t.val % 8) + i.val, by have := i.isLt; omega⟩ e)) (hf _ _ e)
  funext a
  apply Fin.ext
  match a with
  | ⟨0, _⟩ => blk_simp [at0]
  | ⟨1, _⟩ => blk_simp [at0]; show t.val % 8 * 1024 + i.val = 1024 * (t.val % 8) + i.val; omega
  | ⟨2, _⟩ => blk_simp [at0]

/-- the second's: a head's keys; -/
theorem block1 (f : Buf (Elt 𝔽) ((c : Thread nD τ).loc main_v12)) (hf : ∀ (h : Fin 8) (i : Fin 8192) (e : Fin 256), f (ValueIdx.ix3 h i e) = ((H h i.val e.val : ℝ) : EReal)) :
    Slab (φ := .bf16) (M := 8192) (N := 256) (((cfg0.win 1).blk t).view.read (Elt 𝔽) f) (H ⟨t.val / 8, head_lt t⟩) := fun z i e => by
  refine Eq.trans (congrArg f (?_ : _ = ValueIdx.ix3 ⟨t.val / 8, head_lt t⟩ i e)) (hf _ i e)
  funext a
  apply Fin.ext
  match a with
  | ⟨0, _⟩ => blk_simp [at1]
  | ⟨1, _⟩ => blk_simp [at1]
  | ⟨2, _⟩ => blk_simp [at1]

/-- and the third's: a head's values. -/
theorem block2 (f : Buf (Elt 𝔽) ((c : Thread nD τ).loc main_v15)) (hf : ∀ (h : Fin 8) (i : Fin 8192) (e : Fin 256), f (ValueIdx.ix3 h i e) = ((H h i.val e.val : ℝ) : EReal)) :
    Slab (φ := .bf16) (M := 8192) (N := 256) (((cfg0.win 2).blk t).view.read (Elt 𝔽) f) (H ⟨t.val / 8, head_lt t⟩) := fun z i e => by
  refine Eq.trans (congrArg f (?_ : _ = ValueIdx.ix3 ⟨t.val / 8, head_lt t⟩ i e)) (hf _ i e)
  funext a
  apply Fin.ext
  match a with
  | ⟨0, _⟩ => blk_simp [at2]
  | ⟨1, _⟩ => blk_simp [at2]
  | ⟨2, _⟩ => blk_simp [at2]

end Blocks

theorem o_at (n a b : ℕ) (hb : b < 128) :
    ((outAt (q (n / 8)) (k (n / 8)) (v (n / 8)) (1024 * (n % 8) + a) b : ℝ) : EReal)
      = ((outAt (q ((n / 8 * 128 + b) / 128)) (k ((n / 8 * 128 + b) / 128)) (v ((n / 8 * 128 + b) / 128)) (n % 8 * 1024 + a)
          ((n / 8 * 128 + b) % 128) : ℝ) : EReal) := by
  rw [show (n / 8 * 128 + b) / 128 = n / 8 by omega, show (n / 8 * 128 + b) % 128 = b by omega, Nat.mul_comm 1024]

theorem l_at (n a b : ℕ) :
    ((logAt (q (n / 8)) (k (n / 8)) (v (n / 8)) (1024 * (b % 8) + a) : ℝ) : EReal)
      = ((logAt (q (n / 8)) (k (n / 8)) (v (n / 8)) (b % 8 * 1024 + a) : ℝ) : EReal) := by
  rw [Nat.mul_comm 1024]

variable {q k v} (A : Holds m c q k v) (t : Fin cfg0.N)
include A

theorem iblk0 : Slab (φ := .bf16) (M := 1024) (N := 256) (iblk m c 0 t) fun r e => q (t.val / 8) (1024 * (grid0.coords t 1).val + r) e := by
  rw [place]
  exact block0 (H := fun h => q h.val) t (V m c main_v9) A.hq

theorem iblk1 : Slab (φ := .bf16) (M := 8192) (N := 256) (iblk m c 1 t) (k (t.val / 8)) :=
  block1 (H := fun h => k h.val) t (V m c main_v12) A.hk

theorem iblk2 : Slab (φ := .bf16) (M := 8192) (N := 256) (iblk m c 2 t) (v (t.val / 8)) :=
  block2 (H := fun h => v h.val) t (V m c main_v15) A.hv

/-! ## The two results -/

/-- What a point leaves of them. -/
theorem o_point (y : S1024x128.Idx) : (outsAt0 m c t).1 y
    = ((outAt (q (t.val / 8)) (k (t.val / 8)) (v (t.val / 8)) (1024 * (t.val % 8) + (y 0).val) (y 1).val : ℝ) : EReal) := by
  have hs := out3 c (grid0.coords t) (ms0_0 t) (hs0_0 t) (ms0_1 t) (hs0_1 t) (ms0_2 t) (hs0_2 t) (ms0_3 t) (hs0_3 t) (ms0_4 t) (hs0_4 t)
    (iblk0 A t) (iblk1 A t) (iblk2 A t) (A.hz _ (head_lt t)) y
  rw [place] at hs
  dsimp only [outsAt0]
  exact hs

theorem l_point (y : S1x1x1024.Idx) : (outsAt0 m c t).2 y
    = ((logAt (q (t.val / 8)) (k (t.val / 8)) (v (t.val / 8)) (1024 * (t.val % 8) + (y 2).val) : ℝ) : EReal) := by
  have hs := out4 c (grid0.coords t) (ms0_0 t) (hs0_0 t) (ms0_1 t) (hs0_1 t) (ms0_2 t) (hs0_2 t) (ms0_3 t) (hs0_3 t) (ms0_4 t) (hs0_4 t)
    (iblk0 A t) (iblk1 A t) (iblk2 A t) (A.hz _ (head_lt t)) y
  rw [place] at hs
  dsimp only [outsAt0]
  exact hs

/-- The attention's output. -/
theorem o_val : (dats m 0 c).arrAt 3 cfg0.N
    = (fun y : S8192x1024.Idx => ((outAt (q ((y 1).val / 128)) (k ((y 1).val / 128)) (v ((y 1).val / 128)) (y 0).val ((y 1).val % 128) : ℝ) : EReal)) := by
  refine (dats m 0 c).arrAt_eq_of_covers 3 _ (by decide +kernel) fun t hf y => ?_
  have hs := o_point A t y
  rw [after0_3]
  generalize (outsAt0 m c t).1 = X at hs ⊢
  blk_simp [at3]
  exact hs.trans (o_at q k v _ _ _ (y 1).isLt)

/-- The logarithms. -/
theorem l_val : (dats m 0 c).arrAt 4 cfg0.N
    = (fun y : S8x1x8192.Idx => ((logAt (q (y 0).val) (k (y 0).val) (v (y 0).val) (y 2).val : ℝ) : EReal)) := by
  refine (dats m 0 c).arrAt_eq_of_covers 4 _ (by decide +kernel) fun t hf y => ?_
  have hs := l_point A t y
  rw [after0_4]
  generalize (outsAt0 m c t).2 = X at hs ⊢
  blk_simp [at4]
  exact hs.trans (l_at q k v _ _ _)

end Cert.Forward
end
-- ==== Proof.Entry.lean ====
/-
  What the forward kernel's windows are given over the reals: the host's stages before the launch, each an array of
  reals, and the kernel's two arrays in terms of the attention.
-/
module

public import proofs.«01_k».proof.Proof.Forward
public import proofs.«01_k».proof.Proof.Attn
public import proofs.«01_k».proof.Proof.Cube
public import proofs.«01_k».proof.Proof.Soft
public import Idealize.ShloMosaic.Lib.Claim
public import Idealize.ShloMosaic.Lib.StableHlo.ReadAt
public import Idealize.ShloMosaic.Lib.Pointwise
public import Idealize.ShloMosaic.Lib.Pointwise.IndexBridge

@[expose] public section

set_option maxRecDepth 16384

noncomputable section

namespace Cert.Forward

open Cert.Kernel2Ideal Cert.Kernel2Ideal.Gen Cert.Lift
open Idealize.ShloMosaic Idealize.ShloMosaic.TcCoe Idealize.SL.Sem
open Finset (range)

local notation "𝔽" => Idealize.ShloMosaic.Ideal

/-! ## The attention's sums -/

/-- The values with a column of ones for every column of values. -/
def withOnes (A : Attn) (h j e : ℕ) : ℝ := if e < 128 then A.v j h e else 1

section Sums

variable (A : Attn) {h R : ℕ}

/-- Two to a score of the kernel's is the exponential of the attention's score. -/
theorem two_score (j : ℕ) : Real.rpow 2 (∑ t ∈ range 256, (A.head h).q R t * (A.head h).k j t) = Real.exp (A.sc h R j) := by
  have e : (∑ t ∈ range 256, (A.head h).q R t * (A.head h).k j t) = A.sc h R j * (1 / Real.log 2) :=
    (Finset.sum_congr rfl fun t _ => mul_comm _ _).trans (A.head_scores h R j)
  rw [e]
  show (2 : ℝ) ^ (A.sc h R j * (1 / Real.log 2)) = _
  have hL := Attn.log2_ne
  rw [Real.rpow_def_of_pos (by norm_num : (0 : ℝ) < 2), show Real.log 2 * (A.sc h R j * (1 / Real.log 2)) = A.sc h R j by field_simp]

/-- The sums of the kernel are the attention's. -/
theorem upto_eq (e : ℕ) : upto (A.head h).q (A.head h).k (withOnes A h) 8192 R e = ∑ j ∈ range 8192, A.u h R j * withOnes A h j e := by
  unfold upto Attn.u
  refine Finset.sum_congr rfl fun j _ => ?_
  rw [two_score, ite_mul, zero_mul]

theorem upto_ones (e : ℕ) : upto (A.head h).q (A.head h).k (withOnes A h) 8192 R (128 + e) = A.Z h R := by
  rw [upto_eq]
  unfold Attn.Z
  exact Finset.sum_congr rfl fun j _ => by rw [withOnes, if_neg (by omega), mul_one]

/-- The kernel's output is the attention's. -/
theorem outAt_eq {e : ℕ} (he : e < 128) :
    outAt (A.head h).q (A.head h).k (withOnes A h) R e = ∑ j ∈ range 8192, A.v j h e * A.p h R j := by
  unfold outAt
  rw [upto_ones, upto_eq, Finset.sum_div]
  refine Finset.sum_congr rfl fun j _ => ?_
  rw [withOnes, if_pos he]
  unfold Attn.p
  ring

/-- The kernel's logarithms. -/
theorem logAt_eq : logAt (A.head h).q (A.head h).k (withOnes A h) R = Real.log (A.Z h R) / Real.log 2 := by
  unfold logAt
  rw [show (128 : ℕ) = 128 + 0 from rfl, upto_ones]

end Sums

/-! ## The host's stages -/

/-- The literal two. -/
theorem two_val : Ideal.ofBits .f32 0x40000000#32 = ((2 : ℝ) : EReal) := by
  simp [Ideal.ofBits, Ideal.ieee, -EReal.coe_mul]; norm_num

section Stages

variable (a0 a1 : FVec 𝔽 S8192x8x192 .f32) (a2 : FVec 𝔽 S8192x8x128 .f32)

/-- One over the logarithm of two. -/
def rate : FVec 𝔽 S_ .f32 := Host.divf (constant S_ .f32 0x3F800000#32) (Host.log (constant S_ .f32 0x40000000#32))

/-- Head first and padded. -/
def padded (x : FVec 𝔽 S8192x8x192 .f32) : FVec 𝔽 S8x8192x256 .f32 :=
  pad S8x8192x256 ![0, 0, 0] ![0, 0, 64] ![0, 0, 0] (transpose S8x8192x192 [1, 0, 2] x transposes_S8192x8x192_S8x8192x192_1_0_2)
    (sitofp .f32 (constantI S_ 32 0#32)) pads_S8x8192x192_S8x8192x256_000_000_0640 h_S_

/-- The first window's array. -/
def inQ : FVec 𝔽 S8x8192x256 .bf16 :=
  truncf .bf16 (mulf (padded a0) (broadcastInDim S8x8192x256 ![] bcast_S_S8x8192x256 (id (mulf (constant S_ .f32 0x3D93CD3A#32) rate))))
    bitsLt_bf16_f32

/-- The second window's array. -/
def inK : FVec 𝔽 S8x8192x256 .bf16 := truncf .bf16 (padded a1) bitsLt_bf16_f32

/-- Values with ones beside them. -/
def beside (x y : FVec 𝔽 S8x8192x128 .f32) : FVec 𝔽 S8x8192x256 .f32 :=
  concatenate S8x8192x256 2 [⟨S8x8192x128, x⟩, ⟨S8x8192x128, y⟩] concatenates_S8x8192x128_S8x8192x128_S8x8192x256_d2

/-- The third window's array. -/
def inV : FVec 𝔽 S8x8192x256 .bf16 :=
  truncf .bf16 (beside (transpose S8x8192x128 [1, 0, 2] a2 transposes_S8192x8x128_S8x8192x128_1_0_2)
    (broadcastInDim S8x8192x128 ![] bcast_S_S8x8192x128 (constant S_ .f32 0x3F800000#32))) bitsLt_bf16_f32

variable {a0 a1 a2} {A : Attn}

theorem rate_ideal (i) : rate i = ((1 / Real.log 2 : ℝ) : EReal) := by
  show Ideal.div (Ideal.ofBits .f32 0x3F800000#32) (Ideal.log (Ideal.ofBits .f32 0x40000000#32)) = _
  rw [two_val, Ideal.ofBits_one_f32, Ideal.log_coe, if_neg (by norm_num), Ideal.div_coe Attn.log2_ne, one_mul, one_div]

theorem inQ_cube (h0 : Cube (φ := .f32) a0 A.q) (hs : A.s = scale) : Cube (φ := .bf16) (inQ a0) fun h i e => (A.head h).q i e := by
  have hl : Cube (A := 8) (B := 8192) (C := 256) (φ := .f32) (broadcastInDim S8x8192x256 ![] bcast_S_S8x8192x256 (id (mulf (constant S_ .f32 0x3D93CD3A#32) rate)))
      fun _ _ _ => A.s * (1 / Real.log 2) :=
    Cube.splat fun i => (congrArg₂ (· * ·) scale_val (rate_ideal i)).trans (by rw [hs, EReal.coe_mul])
  refine (h0.flipQ.padded.mul hl).trunc.congr fun h i e _ _ _ => ?_
  show _ = if e < 192 then _ else _
  split <;> simp

theorem inK_cube (h1 : Cube (φ := .f32) a1 A.k) : Cube (φ := .bf16) (inK a1) fun h i e => (A.head h).k i e := h1.flipQ.padded.trunc

theorem beside_cube {x y : FVec 𝔽 S8x8192x128 .f32} {f g : ℕ → ℕ → ℕ → ℝ} (hx : Cube (A := 8) (B := 8192) (C := 128) (φ := .f32) x f)
    (hy : Cube (A := 8) (B := 8192) (C := 128) (φ := .f32) y g) :
    Cube (A := 8) (B := 8192) (C := 256) (φ := .f32) (beside x y) fun a b c => if c < 128 then f a b c else g a b (c - 128) := by
  intro a b c
  unfold beside
  by_cases hc : c.val < 128
  · refine (concatenate_pair_apply_left 2 x y concatenates_S8x8192x128_S8x8192x128_S8x8192x256_d2 (ValueIdx.ix3 a b c) rfl (ValueIdx.ix3 a b ⟨c.val, hc⟩) fun d => ?_).trans
      ((hx a b ⟨c.val, hc⟩).trans (by beta_reduce; rw [if_pos hc]))
    match d with
    | ⟨0, _⟩ => rfl
    | ⟨1, _⟩ => rfl
    | ⟨2, _⟩ => rfl
  · have hcl := c.isLt
    refine (concatenate_pair_apply_right 2 x y concatenates_S8x8192x128_S8x8192x128_S8x8192x256_d2 (ValueIdx.ix3 a b c) rfl rfl
        (ValueIdx.ix3 a b ⟨c.val - 128, by omega⟩) (fun d hd => ?_) ?_).trans
      ((hy a b ⟨c.val - 128, by omega⟩).trans (by beta_reduce; rw [if_neg hc]))
    · match d with
      | ⟨0, _⟩ => rfl
      | ⟨1, _⟩ => rfl
      | ⟨2, _⟩ => exact absurd rfl hd
    · show c.val - 128 + 128 = c.val
      omega

theorem inV_cube (h2 : Cube (φ := .f32) a2 A.v) : Cube (φ := .bf16) (inV a2) fun h i e => withOnes A h i e :=
  ((beside_cube h2.flipV (Cube.splat fun i => Ideal.ofBits_one_f32.trans EReal.coe_one.symm)).trunc).congr fun h i e _ _ _ => rfl

end Stages

/-! ## The windows' arrays are these -/

variable (m : (ℓ : Loc nD τ sig) → Buf (Elt 𝔽) ℓ) (c : Dev nD)

/-- What the host's stages leave in the three arrays that the windows read. -/
theorem entry : V m c main_v9 = inQ (m ((c.tc : Thread nD τ).loc main_arg0))
    ∧ V m c main_v12 = inK (m ((c.tc : Thread nD τ).loc main_arg1))
    ∧ V m c main_v15 = inV (m ((c.tc : Thread nD τ).loc main_arg2)) := by
  refine ⟨?_, ?_, ?_⟩ <;>
  · unfold V
    simp only [hostOps0, hostOps0_1, hostOps0_2, hostOps0_3, hostOps0_4, List.flatten_cons, List.flatten_nil,
      List.append_nil, List.cons_append, List.nil_append, StableHlo.TRef.binary, StableHlo.TRef.nullary, StableHlo.TRef.ternary,
      StableHlo.TRef.unary, StableHlo.TRef.toBuf, StableHlo.TRef.ofBuf, cast_eq]
    after_reads_simp
    rfl

/-- The windows' arrays hold the heads' matrices. -/
theorem holds {A : Attn} (h0 : Cube (φ := .f32) (m ((c.tc : Thread nD τ).loc main_arg0)) A.q)
    (h1 : Cube (φ := .f32) (m ((c.tc : Thread nD τ).loc main_arg1)) A.k)
    (h2 : Cube (φ := .f32) (m ((c.tc : Thread nD τ).loc main_arg2)) A.v) (hs : A.s = scale) :
    Holds m c (fun h => (A.head h).q) (fun h => (A.head h).k) (withOnes A) where
  hq h i e := (congrFun (entry m c).1 _).trans (inQ_cube h0 hs h i e)
  hk h i e := (congrFun (entry m c).2.1 _).trans (inK_cube h1 h i e)
  hv h i e := (congrFun (entry m c).2.2 _).trans (inV_cube h2 h i e)
  hz h _ R _ e _ := by
    rw [upto_ones]
    exact A.Z_pos h R

end Cert.Forward
end
-- ==== Proof.RefFwd.lean ====
/-
  What the reference of the forward pass returns over the reals: its run's terms in stages, each stage an array of reals.
-/
module

public import proofs.«01_k».proof.Proof.Gen.Reference2Ideal.Run
public import proofs.«01_k».proof.Proof.Soft
public import proofs.«01_k».proof.Proof.Attn
public import Idealize.ShloMosaic.Lib.Pointwise
public import Idealize.ShloMosaic.Lib.Pointwise.IndexBridge

@[expose] public section

set_option maxRecDepth 16384

noncomputable section

namespace Cert.Reference2Ideal.Value

open Cert.Reference2Ideal Cert.Reference2Ideal.Gen Cert.Lift
open Idealize.ShloMosaic Idealize.ShloMosaic.TcCoe Idealize.SL.Sem
open Finset (range)

section Stages

variable (a0 a1 : FVec Ideal S8192x8x192 .f32) (a2 : FVec Ideal S8192x8x128 .f32)

/-- The causal mask. -/
def mask : IVec S8x8192x8192 1 :=
  Causal bcast_S1x8192x8192_S8x8192x8192_0_1_2 bcast_S8192x8192_S1x8192x8192_1_2 bcast_S1x8192_S8192x8192_0_1 bcast_S8192_S1x8192_1
    bcast_S8192x1_S8192x8192_0_1 bcast_S8192_S8192x1_0

/-- The scores. -/
def scores : FVec Ideal S8x8192x8192 .f32 :=
  mulf (Host.dotGeneral dot_S8192x8x192_S8192x8x192_S8x8192x8192_2_2_0_0_1_1 none a0 a1)
    (broadcastInDim S8x8192x8192 ![] bcast_S_S8x8192x8192 (constant S_ .f32 0x3D93CD3A#32))

/-- The scores, masked. -/
def masked : FVec Ideal S8x8192x8192 .f32 :=
  select mask (scores a0 a1) (broadcastInDim S8x8192x8192 ![] bcast_S_S8x8192x8192 (id (constant S_ .f32 0xFF800000#32)))

/-- The row maxima. -/
def top : FVec Ideal S8x8192 .f32 :=
  Host.reduce FloatOps.maximumf (masked a0 a1) (constant S_ .f32 0xFF800000#32) reducesTo_S8x8192x8192_S8x8192_d2 h_S_

/-- The row maxima that the softmax subtracts. -/
def over : FVec Ideal S8x8192 .f32 :=
  maximumf (broadcastInDim S8x8192 ![] bcast_S_S8x8192 (constant S_ .f32 0xFF800000#32)) (top a0 a1)

/-- A row's number as a column. -/
def col (x : FVec Ideal S8x8192 .f32) : FVec Ideal S8x8192x1 .f32 := broadcastInDim S8x8192x1 ![0, 1] bcast_S8x8192_S8x8192x1_0_1 x

/-- A column along every column. -/
def wide (x : FVec Ideal S8x8192x1 .f32) : FVec Ideal S8x8192x8192 .f32 :=
  broadcastInDim S8x8192x8192 ![0, 1, 2] bcast_S8x8192x1_S8x8192x8192_0_1_2 x

/-- The exponentials, less a row's number. -/
def expo (x : FVec Ideal S8x8192 .f32) : FVec Ideal S8x8192x8192 .f32 := Host.exp (subf (masked a0 a1) (wide (col x)))

/-- Their sums, a column. -/
def sums (x : FVec Ideal S8x8192 .f32) : FVec Ideal S8x8192x1 .f32 :=
  col (Host.reduceAdd (expo a0 a1 x) (constant S_ .f32 0x00000000#32) reducesTo_S8x8192x8192_S8x8192_d2 h_S_)

/-- The attention's output, rows first. -/
def outs : FVec Ideal S8192x8x128 .f32 :=
  transpose S8192x8x128 [2, 0, 1] (Host.dotGeneral dot_S8192x8x128_S8x8192x8192_S8x128x8192_0_2_2_1_1_0 none a2
    (Host.divf (expo a0 a1 (over a0 a1)) (wide (sums a0 a1 (over a0 a1))))) transposes_S8x128x8192_S8192x8x128_2_0_1

/-- The first result. -/
def outO : FVec Ideal S8192x1024 .bf16 := truncf .bf16 (shapeCast S8192x1024 (outs a0 a1 a2) shapeCasts_S8192x8x128_S8192x1024) bitsLt_bf16_f32

/-- The logarithms of the sums, to base two. -/
def lse : FVec Ideal S8x8192x1 .f32 :=
  Host.divf (addf (col (top a0 a1)) (Host.log (sums a0 a1 (top a0 a1))))
    (broadcastInDim S8x8192x1 ![] bcast_S_S8x8192x1 (id (Host.log (constant S_ .f32 0x40000000#32))))

/-- The second result. -/
def outL : FVec Ideal S8x1x8192 .f32 := shapeCast S8x1x8192 (lse a0 a1) shapeCasts_S8x8192x1_S8x1x8192

/-! ## The stages over the reals -/

variable {a0 a1 a2} {A : Attn}

theorem log2_val (i : S_.Idx) : Host.log (constant (F := Ideal) S_ .f32 0x40000000#32) i = ((Real.log 2 : ℝ) : EReal) := by
  have h2 : Ideal.ofBits .f32 0x40000000#32 = ((2 : ℝ) : EReal) := by
    simp [Ideal.ofBits, Ideal.ieee, -EReal.coe_mul]; norm_num
  show Ideal.log (Ideal.ofBits .f32 0x40000000#32) = _
  rw [h2, Ideal.log_coe, if_neg (by norm_num)]

theorem scores_cube (h0 : Cube (φ := .f32) a0 A.q) (h1 : Cube (φ := .f32) a1 A.k) (hs : A.s = scale) :
    Cube (φ := .f32) (scores a0 a1) A.sc := by
  unfold scores
  refine ((h0.scores h1).mul (Cube.splat fun i => scale_val)).congr fun h q k _ _ _ => ?_
  unfold Attn.sc
  rw [hs]

/-- The maxima are real. -/
theorem top_real (h0 : Cube (φ := .f32) a0 A.q) (h1 : Cube (φ := .f32) a1 A.k) (hs : A.s = scale) : ∃ μ : ℕ → ℕ → ℝ, Mat (φ := .f32) (top a0 a1) μ :=
  top_mat (h := bcast_S_S8x8192x8192) (hr := reducesTo_S8x8192x8192_S8x8192_d2) (hu := h_S_)
    (h1 := bcast_S1x8192x8192_S8x8192x8192_0_1_2) (h2 := bcast_S8192x8192_S1x8192x8192_1_2) (h3 := bcast_S1x8192_S8192x8192_0_1)
    (h4 := bcast_S8192_S1x8192_1) (h5 := bcast_S8192x1_S8192x8192_0_1) (h6 := bcast_S8192_S8192x1_0) (scores_cube h0 h1 hs)

/-- The exponentials carry a factor of their row's; so do their sums. -/
theorem expo_sums (h0 : Cube (φ := .f32) a0 A.q) (h1 : Cube (φ := .f32) a1 A.k) (hs : A.s = scale) {x : FVec Ideal S8x8192 .f32} {μ : ℕ → ℕ → ℝ}
    (hx : Mat (φ := .f32) x μ) : Cube (φ := .f32) (expo a0 a1 x) (fun h q k => Real.exp (-μ h q) * A.u h q k)
      ∧ Cube (φ := .f32) (sums a0 a1 x) (fun h q _ => Real.exp (-μ h q) * A.Z h q) := by
  have hE : Cube (φ := .f32) (expo a0 a1 x) (fun h q k => Real.exp (-μ h q) * A.u h q k) :=
    expo_cube (h1 := bcast_S1x8192x8192_S8x8192x8192_0_1_2) (h2 := bcast_S8192x8192_S1x8192x8192_1_2) (scores_cube h0 h1 hs) (Cube.wide hx.col)
  exact ⟨hE, (hE.rowSum.col (h := bcast_S8x8192_S8x8192x1_0_1)).congr fun h q _ _ _ _ => A.sum_eq h q _⟩

theorem outs_cube (h0 : Cube (φ := .f32) a0 A.q) (h1 : Cube (φ := .f32) a1 A.k) (h2 : Cube (φ := .f32) a2 A.v) (hs : A.s = scale) :
    Cube (φ := .f32) (outs a0 a1 a2) fun i h e => ∑ k ∈ range 8192, A.v k h e * A.p h i k := by
  obtain ⟨μ, hμ⟩ := top_real h0 h1 hs
  obtain ⟨hE, hL⟩ := expo_sums h0 h1 hs (x := over a0 a1) (hμ.over (h := bcast_S_S8x8192))
  have hP : Cube (φ := .f32) (Host.divf (expo a0 a1 (over a0 a1)) (wide (sums a0 a1 (over a0 a1)))) A.p :=
    (hE.div (hL.wide (h := bcast_S8x8192x1_S8x8192x8192_0_1_2))
      fun h q _ _ _ _ => mul_ne_zero (Real.exp_pos _).ne' (A.Z_pos h q).ne').congr fun h q k _ _ _ => A.p_eq h q k _ (Real.exp_pos _).ne'
  exact (h2.outs hP).rowFirst

/-- The attention's output, the heads side by side. -/
theorem outO_val (h0 : Cube (φ := .f32) a0 A.q) (h1 : Cube (φ := .f32) a1 A.k) (h2 : Cube (φ := .f32) a2 A.v) (hs : A.s = scale)
    (i : Fin 8192) (e : Fin 1024) :
    outO a0 a1 a2 (ValueIdx.ix2 i e) = ((∑ k ∈ range 8192, A.v k (e.val / 128) (e.val % 128) * A.p (e.val / 128) i.val k : ℝ) : EReal) := by
  have hO := outs_cube h0 h1 h2 hs
  show (shapeCast S8192x1024 (outs a0 a1 a2) shapeCasts_S8192x8x128_S8192x1024) (ValueIdx.ix2 i e) = _
  generalize outs a0 a1 a2 = x at hO ⊢
  pointwise
  simp only [ix3_eq_valueIdx]
  exact hO i ⟨e.val / 128, by omega⟩ ⟨e.val % 128, by omega⟩

/-- The logarithms. -/
theorem outL_val (h0 : Cube (φ := .f32) a0 A.q) (h1 : Cube (φ := .f32) a1 A.k) (hs : A.s = scale) (h : Fin 8) (z : Fin 1) (i : Fin 8192) :
    outL a0 a1 (ValueIdx.ix3 h z i) = ((Real.log (A.Z h.val i.val) / Real.log 2 : ℝ) : EReal) := by
  obtain ⟨μ, hμ⟩ := top_real h0 h1 hs
  obtain ⟨-, hL⟩ := expo_sums h0 h1 hs hμ
  have hl : Cube (φ := .f32) (lse a0 a1) fun h q _ => Real.log (A.Z h q) / Real.log 2 :=
    ((hμ.col.add (hL.log fun h q _ _ _ _ => mul_pos (Real.exp_pos _) (A.Z_pos h q))).div (Cube.splat log2_val) fun _ _ _ _ _ _ => Attn.log2_ne).congr
      fun h q _ _ _ _ => by rw [A.log_eq h q]
  unfold outL
  generalize lse a0 a1 = x at hl ⊢
  pointwise
  simp only [ix3_eq_valueIdx]
  exact hl h i 0

end Stages

end Cert.Reference2Ideal.Value
-- ==== Proof.ValueFwd.lean ====
/-
  The equation of the forward pass: with finite arguments, what the kernel's launch leaves in its two arrays is what the
  reference returns.
-/
module

public import proofs.«01_k».proof.Defs
public import proofs.«01_k».proof.Proof.Entry
public import proofs.«01_k».proof.Proof.RefFwd
public import proofs.«01_k».proof.Proof.Value

@[expose] public section

set_option maxRecDepth 16384

noncomputable section

namespace Cert.Value

open Cert.Lift
open Idealize.ShloMosaic Idealize.ShloMosaic.TcCoe Idealize.SL.Sem

/-- The evidence the forward precondition's text asks for. -/
theorem pre_facts2 : Cert.Pre_finite2.Facts := ⟨by decide, by decide⟩

section

variable (m : (ℓ : Loc Kernel2Ideal.nD Kernel2Ideal.τ Kernel2Ideal.sig) → Buf (Elt Ideal) ℓ) (c : Dev Kernel2Ideal.nD)

/-- The real attention whose matrices a device's arguments hold; the forward pass has no gradient coming in. -/
def attn2 : Attn where
  q := reals (A := 8192) (B := 8) (C := 192) (m ((c.tc : Thread Kernel2Ideal.nD Kernel2Ideal.τ).loc Kernel2Ideal.main_arg0))
  k := reals (A := 8192) (B := 8) (C := 192) (m ((c.tc : Thread Kernel2Ideal.nD Kernel2Ideal.τ).loc Kernel2Ideal.main_arg1))
  v := reals (A := 8192) (B := 8) (C := 128) (m ((c.tc : Thread Kernel2Ideal.nD Kernel2Ideal.τ).loc Kernel2Ideal.main_arg2))
  d _ _ _ := 0
  s := scale

end

/-- The two arrays of the kernel are the two results of the reference. -/
theorem results2 (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ)
    (hpre : Pre_Kernel2Ideal_finite2 (hPre_finite2 := pre_facts2) m) (c : Dev Kernel2Ideal.nD)
    (e0 : m' ((c.tc : Thread Reference2Ideal.nD Reference2Ideal.τ).loc Reference2Ideal.main_arg0) = m ((c.tc : Thread Kernel2Ideal.nD Kernel2Ideal.τ).loc Kernel2Ideal.main_arg0))
    (e1 : m' ((c.tc : Thread Reference2Ideal.nD Reference2Ideal.τ).loc Reference2Ideal.main_arg1) = m ((c.tc : Thread Kernel2Ideal.nD Kernel2Ideal.τ).loc Kernel2Ideal.main_arg1))
    (e2 : m' ((c.tc : Thread Reference2Ideal.nD Reference2Ideal.τ).loc Reference2Ideal.main_arg2) = m ((c.tc : Thread Kernel2Ideal.nD Kernel2Ideal.τ).loc Kernel2Ideal.main_arg2)) :
    (Kernel2Ideal.Gen.dats m 0 c).arrAt 3 Kernel2Ideal.cfg0.N
        = Reference2Ideal.Value.outO (m' ((c.tc : Thread Reference2Ideal.nD Reference2Ideal.τ).loc Reference2Ideal.main_arg0))
          (m' ((c.tc : Thread Reference2Ideal.nD Reference2Ideal.τ).loc Reference2Ideal.main_arg1)) (m' ((c.tc : Thread Reference2Ideal.nD Reference2Ideal.τ).loc Reference2Ideal.main_arg2))
      ∧ (Kernel2Ideal.Gen.dats m 0 c).arrAt 4 Kernel2Ideal.cfg0.N
        = Reference2Ideal.Value.outL (m' ((c.tc : Thread Reference2Ideal.nD Reference2Ideal.τ).loc Reference2Ideal.main_arg0))
          (m' ((c.tc : Thread Reference2Ideal.nD Reference2Ideal.τ).loc Reference2Ideal.main_arg1)) := by
  obtain ⟨p0, p1, p2⟩ := hpre c
  have h0 : Cube (φ := .f32) (m ((c.tc : Thread Kernel2Ideal.nD Kernel2Ideal.τ).loc Kernel2Ideal.main_arg0)) (attn2 m c).q := Cube.of_finite p0
  have h1 : Cube (φ := .f32) (m ((c.tc : Thread Kernel2Ideal.nD Kernel2Ideal.τ).loc Kernel2Ideal.main_arg1)) (attn2 m c).k := Cube.of_finite p1
  have h2 : Cube (φ := .f32) (m ((c.tc : Thread Kernel2Ideal.nD Kernel2Ideal.τ).loc Kernel2Ideal.main_arg2)) (attn2 m c).v := Cube.of_finite p2
  have H := Forward.holds m c h0 h1 h2 rfl
  rw [e0, e1, e2]
  refine ⟨(Forward.o_val H).trans (funext fun y => ?_), (Forward.l_val H).trans (funext fun y => ?_)⟩
  · beta_reduce
    rw [Forward.outAt_eq _ (Nat.mod_lt _ (by norm_num))]
    have := (Reference2Ideal.Value.outO_val h0 h1 h2 rfl (y 0) (y 1)).symm
    exact this.trans (congrArg _ (ValueIdx.eq_ix2 y).symm)
  · beta_reduce
    rw [Forward.logAt_eq]
    have := (Reference2Ideal.Value.outL_val h0 h1 rfl (y 0) (y 1) (y 2)).symm
    exact this.trans (congrArg _ (ValueIdx.eq_ix3 y).symm)

end Cert.Value
-- ==== Proof.Product.lean ====
/-
  The product of the hidden states' transpose by the gradient of the input projection: what the kernel leaves in its
  array, and what the reference's result is, as the same sums over the extended reals.
-/
module

public import proofs.«01_k».proof.Proof.Gen.Kernel3Ideal.Value
public import proofs.«01_k».proof.Proof.Gen.Reference3Ideal.Run
public import proofs.«01_k».proof.Proof.Lift
public import Idealize.ShloMosaic.Lib.Pipeline.ValueKit
public import Idealize.ShloMosaic.Lib.StableHlo.ReadAt
public import Idealize.ShloMosaic.Lib.Pointwise
public import Idealize.ShloMosaic.Lib.Pointwise.IndexBridge

@[expose] public section

set_option maxRecDepth 16384

noncomputable section

namespace Cert.Product

open Cert.Kernel3Ideal Cert.Kernel3Ideal.Gen
open Idealize.ShloMosaic Idealize.ShloMosaic.TcCoe Idealize.SL.Sem

local notation "𝔽" => Idealize.ShloMosaic.Ideal

/-- One element of the product: a column of the first array by a column of the second. -/
def entry (x : FVec 𝔽 S8192x2048 .f32) (y : FVec 𝔽 S8192x6144 .f32) (r : Fin 2048) (c : Fin 6144) : EReal :=
  ∑ k : Fin 8192, x (ValueIdx.ix2 k r) * y (ValueIdx.ix2 k c)

/-- The whole product. -/
def whole (x : FVec 𝔽 S8192x2048 .f32) (y : FVec 𝔽 S8192x6144 .f32) : FVec 𝔽 S2048x6144 .bf16 :=
  fun i => entry x y (i 0) (i 1)

/-- The reference's result is the product. -/
theorem reference_eq (x : FVec 𝔽 S8192x2048 .f32) (y : FVec 𝔽 S8192x6144 .f32) {w ht hb} :
    (truncf .bf16 (transpose S2048x6144 [1, 0] (Host.dotGeneral (so := ⟨2, ![6144, 2048]⟩) ⟨[0], [0], [1], [1], [], [], w⟩ none y x) ht) hb
      : FVec 𝔽 S2048x6144 .bf16) = whole x y := by
  funext i
  obtain ⟨r, c, rfl⟩ : ∃ (r : Fin 2048) (c : Fin 6144), i = ValueIdx.ix2 r c := ⟨i 0, i 1, ValueIdx.eq_ix2 i⟩
  unfold whole entry
  pointwise
  simp only [ix2_eq_valueIdx]
  exact Finset.sum_congr rfl fun k _ => mul_comm _ _

/-! ## The kernel's blocks -/

variable (m : (ℓ : Loc nD τ sig) → Buf (Elt 𝔽) ℓ) (c : Dev nD)

/-- What the host leaves in the two arrays that the windows read: the first array's transpose and the second array. -/
theorem staged : V m c main_v1 = (transpose S2048x8192 [1, 0] (m ((c.tc : Thread nD τ).loc main_arg0)) transposes_S8192x2048_S2048x8192_1_0 : FVec 𝔽 S2048x8192 .f32)
    ∧ V m c main_v2 = m ((c.tc : Thread nD τ).loc main_arg1) := by
  refine ⟨?_, ?_⟩ <;>
  · unfold V
    simp only [hostOps0, List.flatten_cons, List.flatten_nil,
      List.append_nil, List.cons_append, List.nil_append, StableHlo.TRef.binary, StableHlo.TRef.nullary, StableHlo.TRef.ternary,
      StableHlo.TRef.unary, StableHlo.TRef.toBuf, StableHlo.TRef.ofBuf, cast_eq]
    after_reads_simp
    rfl

theorem at0 : ∀ t : Fin grid0.N, win0_0.index t = ![t.val % 4, 0] := by decide +kernel
theorem at1 : ∀ t : Fin grid0.N, win0_1.index t = ![0, t.val / 4] := by decide +kernel
theorem at2 : ∀ t : Fin grid0.N, win0_2.index t = ![t.val % 4, t.val / 4] := by decide +kernel

/-- A block of the product is the product of a block of rows by a block of columns. -/
theorem block_eq (x : Vec 𝔽 S512x8192 .bf16) (y : Vec 𝔽 S8192x768 .bf16) (r : Fin 512) (c : Fin 768) :
    out0_2 x y (ValueIdx.ix2 r c) = ∑ k : Fin 8192, (x (ValueIdx.ix2 r k) : EReal) * y (ValueIdx.ix2 k c) := by
  unfold out0_2
  rw [View.canon_cons_unit_lit _ _ _ (by decide), View.ld_unit_lit _ _ (by decide), View.ld_unit_lit _ _ (by decide)]
  unfold k0_pay1
  pointwise
  simp only [ix2_eq_valueIdx]

/-- The block that the first window shows at a point. -/
theorem rows (t : Fin cfg0.N) (r : Fin 512) (k : Fin 8192) :
    iblk m c 0 t (ValueIdx.ix2 r k)
      = (m ((c.tc : Thread nD τ).loc main_arg0) : FVec 𝔽 S8192x2048 .f32) (ValueIdx.ix2 k ⟨512 * (t.val % 4) + r.val, by have := r.isLt; omega⟩) := by
  refine (congrArg (V m c main_v1) (?_ : _ = ValueIdx.ix2 (⟨512 * (t.val % 4) + r.val, by have := r.isLt; omega⟩ : Fin 2048) k)).trans
    ((congrFun (staged m c).1 _).trans ?_)
  · funext a
    apply Fin.ext
    match a with
    | ⟨0, _⟩ => blk_simp [at0]; show t.val % 4 * 512 + r.val = 512 * (t.val % 4) + r.val; omega
    | ⟨1, _⟩ => blk_simp [at0]
  · refine congrArg (m ((c.tc : Thread nD τ).loc main_arg0) : FVec 𝔽 S8192x2048 .f32) ?_
    funext a
    match a with
    | ⟨0, _⟩ => rfl
    | ⟨1, _⟩ => rfl

/-- The block that the second window shows at a point. -/
theorem cols (t : Fin cfg0.N) (k : Fin 8192) (j : Fin 768) (h : 768 * (t.val / 4) + j.val < 6144) :
    iblk m c 1 t (ValueIdx.ix2 k j)
      = (m ((c.tc : Thread nD τ).loc main_arg1) : FVec 𝔽 S8192x6144 .f32) (ValueIdx.ix2 k ⟨768 * (t.val / 4) + j.val, h⟩) := by
  refine (congrArg (V m c main_v2) (?_ : _ = ValueIdx.ix2 k ⟨768 * (t.val / 4) + j.val, h⟩)).trans (congrFun (staged m c).2 _)
  funext a
  apply Fin.ext
  match a with
  | ⟨0, _⟩ => blk_simp [at1]
  | ⟨1, _⟩ => blk_simp [at1]; show t.val / 4 * 768 + j.val = 768 * (t.val / 4) + j.val; omega

/-- What a point leaves is the product's block. -/
theorem point (t : Fin cfg0.N) (r : Fin 512) (j : Fin 768) (h : 768 * (t.val / 4) + j.val < 6144) :
    out0_2 (iblk m c 0 t) (iblk m c 1 t) (ValueIdx.ix2 r j)
      = entry (m ((c.tc : Thread nD τ).loc main_arg0)) (m ((c.tc : Thread nD τ).loc main_arg1))
        ⟨512 * (t.val % 4) + r.val, by have := r.isLt; omega⟩ ⟨768 * (t.val / 4) + j.val, h⟩ := by
  rw [block_eq]
  unfold entry
  refine Finset.sum_congr rfl fun k _ => ?_
  rw [rows, cols m c t k j h]

/-- The kernel's array is the product. -/
theorem kernel_eq : (dats m 0 c).arrAt 2 cfg0.N
    = whole (m ((c.tc : Thread nD τ).loc main_arg0)) (m ((c.tc : Thread nD τ).loc main_arg1)) := by
  refine (dats m 0 c).arrAt_eq_of_covers 2 _ (by decide +kernel) fun t hf y => ?_
  have hp := point m c t
  rw [after0_2]
  generalize out0_2 (iblk m c 0 t) (iblk m c 1 t) = X at hp ⊢
  generalize m ((c.tc : Thread nD τ).loc main_arg0) = a0 at hp ⊢
  generalize m ((c.tc : Thread nD τ).loc main_arg1) = a1 at hp ⊢
  obtain ⟨r, j, rfl⟩ : ∃ (r : Fin 512) (j : Fin 768), y = ValueIdx.ix2 r j := ⟨y 0, y 1, ValueIdx.eq_ix2 y⟩
  have ht : t.val < 32 := lt_of_lt_of_eq t.isLt N_0
  have hj : 768 * (t.val / 4) + j.val < 6144 := by have := j.isLt; omega
  have e : (win0_2.blk t).view.emb (ValueIdx.ix2 r j)
      = (ValueIdx.ix2 (⟨512 * (t.val % 4) + r.val, by have := r.isLt; omega⟩ : Fin 2048) (⟨768 * (t.val / 4) + j.val, hj⟩ : Fin 6144)
        : S2048x6144.Idx) := by
    funext a
    apply Fin.ext
    match a with
    | ⟨0, _⟩ => blk_simp [at2]; show t.val % 4 * 512 + r.val = 512 * (t.val % 4) + r.val; omega
    | ⟨1, _⟩ => blk_simp [at2]; show t.val / 4 * 768 + j.val = 768 * (t.val / 4) + j.val; omega
  exact (hp r j hj).trans (congrArg (whole a0 a1) e).symm

end Cert.Product
end
-- ==== Proof.Norm.lean ====
/-
  The gradient of the norm and the modulation, over the extended reals: what a point of the kernel leaves in its block of
  the gradient of `x`, row by row. A trip of the kernel's loop takes four groups of sixteen rows.
-/
module

public import proofs.«01_k».proof.Proof.Gen.Kernel9Ideal.Value
public import proofs.«01_k».proof.Proof.Model
public import Idealize.ShloMosaic.Lib.Pipeline.ValueKit
public import Idealize.ShloMosaic.Lib.StableHlo.ReadAt
public import Idealize.ShloMosaic.Lib.Pointwise
public import Idealize.ShloMosaic.Lib.Pointwise.IndexBridge

@[expose] public section

set_option maxRecDepth 16384

noncomputable section

namespace Cert.Norm

open Cert.Kernel9Ideal Cert.Kernel9Ideal.Gen
open Cert.KernelIdeal.Model (matRows window_mat)
open Idealize.ShloMosaic Idealize.ShloMosaic.TcCoe Idealize.SL.Sem

local notation "𝔽" => Idealize.ShloMosaic.Ideal

/-- The reciprocal root of a row's mean square, -/
def scale (x : Fin 2048 → EReal) : EReal :=
  Ideal.rsqrt (Ideal.div (∑ k, x k * x k) (Ideal.ofBits .f32 0x45000000#32) + Ideal.ofBits .f32 0x358637BD#32)

/-- the gradient of the normalised row from that of the modulated one, -/
def inner (d g s : Fin 2048 → EReal) (k : Fin 2048) : EReal := d k * (g k * (Ideal.ofBits .f32 0x3F800000#32 + s k))

/-- and an element of the row's gradient, as the kernel computes it. -/
def entry (x d g s : Fin 2048 → EReal) (y : EReal) (j : Fin 2048) : EReal :=
  y + scale x * (inner d g s j - x j * scale x * Ideal.div (∑ k, inner d g s k * (x k * scale x)) (Ideal.ofBits .f32 0x45000000#32))

/-- Sixteen rows of the gradient, as a trip of the loop computes them. -/
def chunk (X : Vec 𝔽 S16x2048 .f32) (D : Vec 𝔽 S16x2048 .bf16) (Y : Vec 𝔽 S16x2048 .f32) (g s : Vec 𝔽 S1x2048 .f32) : FVec 𝔽 S16x2048 .f32 :=
  k0_pay31 (k0_pay16 X) (k0_pay20 X) (k0_pay24 (k0_pay2 g s) (k0_pay11 D)) Y

theorem chunk_eq (X : Vec 𝔽 S16x2048 .f32) (D : Vec 𝔽 S16x2048 .bf16) (Y : Vec 𝔽 S16x2048 .f32) (g s : Vec 𝔽 S1x2048 .f32) (r : Fin 16) (j : Fin 2048) :
    chunk X D Y g s (ValueIdx.ix2 r j)
      = entry (fun k => X (ValueIdx.ix2 r k)) (fun k => D (ValueIdx.ix2 r k)) (fun k => g (ValueIdx.ix2 0 k)) (fun k => s (ValueIdx.ix2 0 k)) (Y (ValueIdx.ix2 r j)) j := by
  unfold chunk entry inner scale k0_pay31 k0_pay20 k0_pay16 k0_pay24 k0_pay2 k0_pay1 k0_pay11
  pointwise
  simp only [ix2_eq_valueIdx]

/-- The gradient of a block of rows. -/
def block (x : Vec 𝔽 S512x2048 .f32) (d : Vec 𝔽 S512x2048 .bf16) (y : Vec 𝔽 S512x2048 .f32) (g s : Vec 𝔽 S1x2048 .f32) : Vec 𝔽 S512x2048 .f32 :=
  fun p => entry (fun k => x (ValueIdx.ix2 (p 0) k)) (fun k => d (ValueIdx.ix2 (p 0) k)) (fun k => g (ValueIdx.ix2 0 k)) (fun k => s (ValueIdx.ix2 0 k)) (y p) (p 1)

/-- Sixteen rows of a block of numbers of any kind that a trip reads. -/
abbrev group {e : EltTy} (m : Memref sig .tc .vmem S512x2048 e) (X : BufTy.Contents (Elt 𝔽) m.view.ty) (k : Fin k0_t1_loop.trips) (b : Fin 4) : Vec 𝔽 S16x2048 e :=
  View.readAt (Elt 𝔽) m.view (Rect.unit (s := S512x2048) (k0_off1 k (BitVec.ofNat 32 b.val)) S16x2048.size (k0_off1_inb k b)).toLoadRect X

section Loop

variable (𝒱 : Variants) (c : Dev nD) (bd : Option 𝒱.V) (i : grid0.Coords) (arg1 : Memref sig .tc .vmem S512x2048 .f32) (harg1 : arg1.IsWhole) (arg2 : Memref sig .tc .vmem S512x2048 .bf16) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x6144 .f32) (harg5 : arg5.IsWhole) (arg6 : Memref sig .tc .vmem S512x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1x2048 .f32) (harg9 : arg9.IsWhole)
variable (x : Vec 𝔽 S512x2048 .f32) (d : Vec 𝔽 S512x2048 .bf16) (y : Vec 𝔽 S512x2048 .f32) (g s : Vec 𝔽 S1x2048 .f32)

/-- The rows a trip writes for one of its groups. -/
abbrev piece (X1 : BufTy.Contents (Elt 𝔽) arg1.view.ty) (X2 : BufTy.Contents (Elt 𝔽) arg2.view.ty) (X3 : BufTy.Contents (Elt 𝔽) arg3.view.ty) (k : Fin k0_t1_loop.trips) (b : Fin 4) : View.Piece (Elt 𝔽) S512x2048 .f32 :=
  ⟨Rect.unit (s := S512x2048) (k0_off1 k (BitVec.ofNat 32 b.val)) S16x2048.size (k0_off1_inb k b),
    chunk (group arg1 X1 k b) (group arg2 X2 k b) (group arg3 X3 k b) g s⟩

theorem trip_eq (X1 : BufTy.Contents (Elt 𝔽) arg1.view.ty) (X2 : BufTy.Contents (Elt 𝔽) arg2.view.ty) (X3 : BufTy.Contents (Elt 𝔽) arg3.view.ty) (k : Fin k0_t1_loop.trips) (acc) :
    tripL_k0_t1 (F := 𝔽) 𝒱 c bd i arg1 harg1 arg2 harg2 arg3 harg3 arg4 harg4 arg5 harg5 arg6 harg6 arg7 harg7 arg8 harg8 arg9 harg9 g s X1 X2 X3 k acc
      = [piece arg1 arg2 arg3 g s X1 X2 X3 k 3, piece arg1 arg2 arg3 g s X1 X2 X3 k 2, piece arg1 arg2 arg3 g s X1 X2 X3 k 1, piece arg1 arg2 arg3 g s X1 X2 X3 k 0] := by
  unfold tripL_k0_t1 trip_k0_t1
  rfl

/-- A group read from a whole array is the array at the group's places. -/
theorem read_group {e : EltTy} (m : Memref sig .tc .vmem S512x2048 e) (h : m.IsWhole) (v : Vec 𝔽 S512x2048 e) (k : Fin k0_t1_loop.trips) (b : Fin 4) (z : S16x2048.Idx) :
    group m (h.unread v) k b z = v ((Rect.unit (s := S512x2048) (k0_off1 k (BitVec.ofNat 32 b.val)) S16x2048.size (k0_off1_inb k b)).emb z) := by
  unfold group
  rw [View.readAt_unit m.view _ (k0_off1_inb k b) rfl (k0_off1_inb k b), h.read_unread]
  rfl

/-- A trip's piece agrees with the gradient of the block. -/
theorem piece_eq (k : Fin k0_t1_loop.trips) (b : Fin 4) (z : S16x2048.Idx) :
    chunk (group arg1 (harg1.unread x) k b) (group arg2 (harg2.unread d) k b) (group arg3 (harg3.unread y) k b) g s z
      = block x d y g s ((Rect.unit (s := S512x2048) (k0_off1 k (BitVec.ofNat 32 b.val)) S16x2048.size (k0_off1_inb k b)).emb z) := by
  obtain ⟨r, j, rfl⟩ : ∃ (r : Fin 16) (j : Fin 2048), z = ValueIdx.ix2 r j := ⟨z 0, z 1, ValueIdx.eq_ix2 z⟩
  obtain ⟨q, h⟩ : ∃ q : Fin 512, ∀ l : Fin 2048, (Rect.unit (s := S512x2048) (k0_off1 k (BitVec.ofNat 32 b.val)) S16x2048.size (k0_off1_inb k b)).emb (ValueIdx.ix2 r l) = ValueIdx.ix2 q l := by
    refine ⟨(Rect.unit (s := S512x2048) (k0_off1 k (BitVec.ofNat 32 b.val)) S16x2048.size (k0_off1_inb k b)).emb (ValueIdx.ix2 r j) 0, fun l => ?_⟩
    funext a; apply Fin.ext
    match a with
    | ⟨0, _⟩ => rfl
    | ⟨1, _⟩ => show 0 + 1 * l.val = l.val; omega
  rw [chunk_eq]
  simp only [read_group, h]
  rfl

/-- Everything the loop writes agrees with the gradient of the block. -/
theorem loop_eq (init) : ∀ n, n ≤ k0_t1_loop.trips →
    ∀ p ∈ (st_k0_t1 (F := 𝔽) 𝒱 c bd i arg1 harg1 arg2 harg2 arg3 harg3 arg4 harg4 arg5 harg5 arg6 harg6 arg7 harg7 arg8 harg8 arg9 harg9 g s (harg1.unread x) (harg2.unread d) (harg3.unread y) init n).2,
      ∀ z : p.1.shape.Idx, p.2 z = block x d y g s (p.1.emb z)
  | 0, _ => fun p hp => absurd hp List.not_mem_nil
  | n + 1, hn => by
    rw [st_k0_t1_succ (F := 𝔽) 𝒱 c bd i arg1 harg1 arg2 harg2 arg3 harg3 arg4 harg4 arg5 harg5 arg6 harg6 arg7 harg7 arg8 harg8 arg9 harg9 g s (harg1.unread x) (harg2.unread d) (harg3.unread y) init ⟨n, hn⟩, trip_eq]
    intro p hp
    rcases List.mem_append.1 hp with h | h
    · simp only [List.mem_cons, List.not_mem_nil, or_false] at h
      rcases h with rfl | rfl | rfl | rfl
      · exact piece_eq arg1 harg1 arg2 harg2 arg3 harg3 x d y g s _ 3
      · exact piece_eq arg1 harg1 arg2 harg2 arg3 harg3 x d y g s _ 2
      · exact piece_eq arg1 harg1 arg2 harg2 arg3 harg3 x d y g s _ 1
      · exact piece_eq arg1 harg1 arg2 harg2 arg3 harg3 x d y g s _ 0
    · exact loop_eq init n (by omega) p h

/-- The scales' part of the modulation's row. -/
def scales (v : Vec 𝔽 S1x6144 .f32) : Vec 𝔽 S1x2048 .f32 := fun p => v (ValueIdx.ix2 0 (⟨2048 + (p 1).val, by have h : (p 1).val < 2048 := (p 1).isLt; omega⟩ : Fin 6144))

/-- What a point reads of the norm's gains and of the modulation. -/
theorem read_row (v : Vec 𝔽 S1x2048 .f32) (inb : ∀ a, (![0, 0] : Fin 2 → ℕ) a + S1x2048.size a ≤ S1x2048.size a) :
    View.readAt (Elt 𝔽) arg4.view (Rect.unit (s := S1x2048) ![0, 0] S1x2048.size inb).toLoadRect (harg4.unread v) = v := by
  rw [View.readAt_unit arg4.view _ inb rfl inb, harg4.read_unread]
  funext p
  refine congrArg v (funext fun a => Fin.ext ?_)
  match a with
  | ⟨0, _⟩ => show 0 + 1 * (p 0).val = (p 0).val; omega
  | ⟨1, _⟩ => show 0 + 1 * (p 1).val = (p 1).val; omega

theorem read_scales (v : Vec 𝔽 S1x6144 .f32) (inb : ∀ a, (![0, 2048] : Fin 2 → ℕ) a + S1x2048.size a ≤ S1x6144.size a) :
    View.readAt (Elt 𝔽) arg5.view (Rect.unit (s := S1x6144) ![0, 2048] S1x2048.size inb).toLoadRect (harg5.unread v) = scales v := by
  rw [View.readAt_unit arg5.view _ inb rfl inb, harg5.read_unread]
  funext p
  refine congrArg v (funext fun a => Fin.ext ?_)
  match a with
  | ⟨0, _⟩ => have h : (p 0).val < 1 := (p 0).isLt; show 0 + 1 * (p 0).val = 0; omega
  | ⟨1, _⟩ => show 2048 + 1 * (p 1).val = 2048 + (p 1).val; omega

/-- What the first point leaves in its block, -/
theorem first_eq (hc0 : cond0_0 i) (hc1 : ¬cond0_1 i) (v : Vec 𝔽 S1x6144 .f32) :
    out0_A_5 (F := 𝔽) c i arg1 harg1 arg2 harg2 arg3 harg3 arg4 harg4 arg5 harg5 arg6 harg6 arg7 harg7 arg8 harg8 arg9 harg9 hc0 hc1 x d y g v = block x d y g (scales v) := by
  funext p
  refine View.read_writes_apply_of_pieces _ _ _ _ ?_ p (cover0_A_5 (F := 𝔽) c i arg1 harg1 arg2 harg2 arg3 harg3 arg4 harg4 arg5 harg5 arg6 harg6 arg7 harg7 arg8 harg8 arg9 harg9 hc0 hc1 x d y g v p)
  have h := loop_eq Variants.none c none i arg1 harg1 arg2 harg2 arg3 harg3 arg4 harg4 arg5 harg5 arg6 harg6 arg7 harg7 arg8 harg8 arg9 harg9 x d y
    (View.readAt (Elt 𝔽) arg4.view (Rect.unit (s := S1x2048) ![0, 0] S1x2048.size inb_S1x2048_S1x2048_0_0).toLoadRect (harg4.unread g))
    (View.readAt (Elt 𝔽) arg5.view (Rect.unit (s := S1x6144) ![0, 2048] S1x2048.size inb_S1x6144_S1x2048_0_2048).toLoadRect (harg5.unread v)) (k0_pay3, k0_pay3) k0_t1_loop.trips le_rfl
  unfold kernelRun0_A
  refine fun q hq z => (h q hq z).trans ?_
  rw [read_row, read_scales]

/-- and what any other point leaves. -/
theorem later_eq (hc0 : ¬cond0_0 i) (hc1 : cond0_1 i) (v : Vec 𝔽 S1x6144 .f32) (a b e : Vec 𝔽 S1x2048 .f32) :
    out0_B_5 (F := 𝔽) c i arg1 harg1 arg2 harg2 arg3 harg3 arg4 harg4 arg5 harg5 arg6 harg6 arg7 harg7 arg8 harg8 arg9 harg9 hc0 hc1 x d y g v a b e = block x d y g (scales v) := by
  funext p
  refine View.read_writes_apply_of_pieces _ _ _ _ ?_ p (cover0_B_5 (F := 𝔽) c i arg1 harg1 arg2 harg2 arg3 harg3 arg4 harg4 arg5 harg5 arg6 harg6 arg7 harg7 arg8 harg8 arg9 harg9 hc0 hc1 x d y g v a b e p)
  have h := loop_eq Variants.none c none i arg1 harg1 arg2 harg2 arg3 harg3 arg4 harg4 arg5 harg5 arg6 harg6 arg7 harg7 arg8 harg8 arg9 harg9 x d y
    (View.readAt (Elt 𝔽) arg4.view (Rect.unit (s := S1x2048) ![0, 0] S1x2048.size inb_S1x2048_S1x2048_0_0).toLoadRect (harg4.unread g))
    (View.readAt (Elt 𝔽) arg5.view (Rect.unit (s := S1x6144) ![0, 2048] S1x2048.size inb_S1x6144_S1x2048_0_2048).toLoadRect (harg5.unread v)) (k0_pay3, k0_pay3) k0_t1_loop.trips le_rfl
  unfold kernelRun0_B
  refine fun q hq z => (h q hq z).trans ?_
  rw [read_row, read_scales]

end Loop

/-- The whole gradient of `x`, as the kernel computes it. -/
def whole (x d y : FVec 𝔽 S8192x2048 .f32) (g : FVec 𝔽 S1x2048 .f32) (v : FVec 𝔽 S1x6144 .f32) : FVec 𝔽 S8192x2048 .f32 :=
  fun p => entry (fun k => x (ValueIdx.ix2 (p 0) k)) (fun k => d (ValueIdx.ix2 (p 0) k)) (fun k => g (ValueIdx.ix2 0 k)) (fun k => scales v (ValueIdx.ix2 0 k)) (y p) (p 1)

/-! ## The kernel's array -/

variable (m : (ℓ : Loc nD τ sig) → Buf (Elt 𝔽) ℓ) (c : Dev nD)

/-- What the host leaves in the arrays that the windows read. -/
theorem staged : V m c main_arg0 = m ((c.tc : Thread nD τ).loc main_arg0)
    ∧ V m c main_v0 = (m ((c.tc : Thread nD τ).loc main_arg1) : FVec 𝔽 S8192x2048 .f32)
    ∧ V m c main_arg2 = m ((c.tc : Thread nD τ).loc main_arg2)
    ∧ V m c main_arg3 = m ((c.tc : Thread nD τ).loc main_arg3)
    ∧ V m c main_arg4 = m ((c.tc : Thread nD τ).loc main_arg4) := by
  refine ⟨?_, ?_, ?_, ?_, ?_⟩ <;>
  · unfold V
    simp only [hostOps0, List.flatten_cons, List.flatten_nil,
      List.append_nil, List.cons_append, List.nil_append, StableHlo.TRef.binary, StableHlo.TRef.nullary, StableHlo.TRef.ternary,
      StableHlo.TRef.unary, StableHlo.TRef.toBuf, StableHlo.TRef.ofBuf, cast_eq]
    after_reads_simp
    try rfl

theorem at0 : ∀ t : Fin grid0.N, win0_0.index t = ![t.val, 0] := by decide +kernel
theorem at1 : ∀ t : Fin grid0.N, win0_1.index t = ![t.val, 0] := by decide +kernel
theorem at2 : ∀ t : Fin grid0.N, win0_2.index t = ![t.val, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![t.val, 0] := by decide +kernel

/-- The row of the arrays that is a point's row `r`. -/
abbrev row (t : Fin cfg0.N) (r : Fin 512) : Fin 8192 :=
  ⟨512 * t.val + r.val, by have := r.isLt; have : t.val < 16 := lt_of_lt_of_eq t.isLt N_0; omega⟩

/-- The blocks that the windows show at a point. -/
theorem shown0 (t : Fin cfg0.N) (r : Fin 512) (k : Fin 2048) :
    iblk m c 0 t (ValueIdx.ix2 r k) = (m ((c.tc : Thread nD τ).loc main_arg0) : FVec 𝔽 S8192x2048 .f32) (ValueIdx.ix2 (row t r) k) := by
  refine (congrArg (V m c main_arg0) (?_ : _ = ValueIdx.ix2 (row t r) k)).trans (congrFun (staged m c).1 _)
  funext a
  apply Fin.ext
  match a with
  | ⟨0, _⟩ => blk_simp [at0]; show t.val * 512 + r.val = 512 * t.val + r.val; omega
  | ⟨1, _⟩ => blk_simp [at0]

theorem shown1 (t : Fin cfg0.N) (r : Fin 512) (k : Fin 2048) :
    iblk m c 1 t (ValueIdx.ix2 r k) = (m ((c.tc : Thread nD τ).loc main_arg1) : FVec 𝔽 S8192x2048 .f32) (ValueIdx.ix2 (row t r) k) := by
  refine (congrArg (V m c main_v0) (?_ : _ = ValueIdx.ix2 (row t r) k)).trans (congrFun (staged m c).2.1 _)
  funext a
  apply Fin.ext
  match a with
  | ⟨0, _⟩ => blk_simp [at1]; show t.val * 512 + r.val = 512 * t.val + r.val; omega
  | ⟨1, _⟩ => blk_simp [at1]

theorem shown2 (t : Fin cfg0.N) (r : Fin 512) (k : Fin 2048) :
    iblk m c 2 t (ValueIdx.ix2 r k) = (m ((c.tc : Thread nD τ).loc main_arg2) : FVec 𝔽 S8192x2048 .f32) (ValueIdx.ix2 (row t r) k) := by
  refine (congrArg (V m c main_arg2) (?_ : _ = ValueIdx.ix2 (row t r) k)).trans (congrFun (staged m c).2.2.1 _)
  funext a
  apply Fin.ext
  match a with
  | ⟨0, _⟩ => blk_simp [at2]; show t.val * 512 + r.val = 512 * t.val + r.val; omega
  | ⟨1, _⟩ => blk_simp [at2]

theorem shown3 (t : Fin cfg0.N) (k : Fin 2048) :
    iblk m c 3 t (ValueIdx.ix2 0 k) = (m ((c.tc : Thread nD τ).loc main_arg3) : FVec 𝔽 S1x2048 .f32) (ValueIdx.ix2 0 k) := by
  refine (congrArg (V m c main_arg3) (?_ : _ = ValueIdx.ix2 0 k)).trans (congrFun (staged m c).2.2.2.1 _)
  funext a
  apply Fin.ext
  match a with
  | ⟨0, _⟩ => blk_simp [at3]
  | ⟨1, _⟩ => blk_simp [at3]

theorem shown4 (t : Fin cfg0.N) (k : Fin 6144) :
    iblk m c 4 t (ValueIdx.ix2 0 k) = (m ((c.tc : Thread nD τ).loc main_arg4) : FVec 𝔽 S1x6144 .f32) (ValueIdx.ix2 0 k) := by
  refine (congrArg (V m c main_arg4) (?_ : _ = ValueIdx.ix2 0 k)).trans (congrFun (staged m c).2.2.2.2 _)
  funext a
  apply Fin.ext
  match a with
  | ⟨0, _⟩ => blk_simp [at4]
  | ⟨1, _⟩ => blk_simp [at4]

/-- What a point leaves is its block of the gradient. -/
theorem point (t : Fin cfg0.N) : (outsAt0 m c t.val t.isLt).1 = block (iblk m c 0 t) (iblk m c 1 t) (iblk m c 2 t) (iblk m c 3 t) (scales (iblk m c 4 t)) := by
  have ht : t.val < 16 := lt_of_lt_of_eq t.isLt N_0
  by_cases h : t.val = 0
  · rw [outsAt0_A m c t (by omega) (by omega)]
    exact first_eq ..
  · rw [outsAt0_B m c t (by omega) (by omega)]
    exact later_eq ..

theorem element (t : Fin cfg0.N) (r : Fin 512) (j : Fin 2048) :
    (outsAt0 m c t.val t.isLt).1 (ValueIdx.ix2 r j)
      = whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (ValueIdx.ix2 (row t r) j) := by
  rw [point]
  show entry (fun k => iblk m c 0 t (ValueIdx.ix2 r k)) (fun k => iblk m c 1 t (ValueIdx.ix2 r k)) (fun k => iblk m c 3 t (ValueIdx.ix2 0 k))
    (fun k => iblk m c 4 t (ValueIdx.ix2 0 (⟨2048 + k.val, by have := k.isLt; omega⟩ : Fin 6144))) (iblk m c 2 t (ValueIdx.ix2 r j)) j = _
  simp only [shown0, shown1, shown2, shown3, shown4]
  rfl

/-- The kernel's array is the gradient. -/
theorem kernel_eq : (dats m 0 c).arrAt 5 cfg0.N
    = whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  refine (dats m 0 c).arrAt_eq_of_covers 5 _ (by decide +kernel) fun t hf y => ?_
  have hp := element m c t
  rw [after0_5]
  generalize (outsAt0 m c t.val t.isLt).1 = X at hp ⊢
  generalize m ((c.tc : Thread nD τ).loc main_arg0) = a0 at hp ⊢
  generalize m ((c.tc : Thread nD τ).loc main_arg1) = a1 at hp ⊢
  generalize m ((c.tc : Thread nD τ).loc main_arg2) = a2 at hp ⊢
  generalize m ((c.tc : Thread nD τ).loc main_arg3) = a3 at hp ⊢
  generalize m ((c.tc : Thread nD τ).loc main_arg4) = a4 at hp ⊢
  obtain ⟨r, j, rfl⟩ : ∃ (r : Fin 512) (j : Fin 2048), y = ValueIdx.ix2 r j := ⟨y 0, y 1, ValueIdx.eq_ix2 y⟩
  have e : (win0_5.blk t).view.emb (ValueIdx.ix2 r j) = (ValueIdx.ix2 (row t r) j : S8192x2048.Idx) := by
    funext a
    apply Fin.ext
    match a with
    | ⟨0, _⟩ => blk_simp [at5]; show t.val * 512 + r.val = 512 * t.val + r.val; omega
    | ⟨1, _⟩ => blk_simp [at5]
  exact (hp r j).trans (congrArg (whole a0 a1 a2 a3 a4) e).symm

end Cert.Norm
-- ==== Proof.NormReference.lean ====
/-
  The gradient of the norm and the modulation, over the extended reals: the reference's result is the kernel's, whatever
  the numbers.
-/
module

public import proofs.«01_k».proof.Proof.Norm
public import proofs.«01_k».proof.Proof.Lift
public import proofs.«01_k».proof.Proof.Gen.Reference9Ideal.Run

@[expose] public section

set_option maxRecDepth 16384

noncomputable section

namespace Cert.Norm

open Idealize.ShloMosaic Idealize.ShloMosaic.TcCoe Idealize.SL.Sem

local notation "𝔽" => Idealize.ShloMosaic.Ideal

/-- A nonnegative real factor leaves a sum, whatever its terms. -/
theorem mul_sum (R : ℝ) (h : 0 ≤ R) (z : Fin 2048 → EReal) : ∑ k, (R : EReal) * z k = R * ∑ k, z k := by
  have hs : ∀ s : Finset (Fin 2048), ∑ k ∈ s, (R : EReal) * z k = R * ∑ k ∈ s, z k := fun s => by
    induction s using Finset.induction_on with
    | empty => simp
    | insert a s ha ih =>
      rw [Finset.sum_insert ha, Finset.sum_insert ha, ih,
        EReal.left_distrib_of_nonneg_of_ne_top (EReal.coe_nonneg.2 h) (EReal.coe_ne_top R)]
  exact hs Finset.univ

theorem twice (z : EReal) : z + z = ((2 : ℝ) : EReal) * z := by
  rw [show ((2 : ℝ) : EReal) = 1 + 1 by rw [← EReal.coe_one, ← EReal.coe_add]; norm_num, EReal.right_distrib_of_nonneg zero_le_one zero_le_one, one_mul]

theorem width_val : Ideal.ofBits .f32 0x45000000#32 = ((2048 : ℝ) : EReal) := by
  simp [Ideal.ofBits, Ideal.ieee, -EReal.coe_mul]; norm_num

theorem half_val : Ideal.ofBits .f32 0xBF000000#32 = ((-(1 / 2) : ℝ) : EReal) := by
  simp [Ideal.ofBits, Ideal.ieee, -EReal.coe_mul]; norm_num

theorem eps_val : ∃ e : ℝ, 0 < e ∧ Ideal.ofBits .f32 0x358637BD#32 = (e : EReal) := by
  refine ⟨(Ideal.ofBits .f32 0x358637BD#32).toReal, ?_, ?_⟩ <;>
  · simp [Ideal.ofBits, Ideal.ieee, -EReal.coe_mul]
    try norm_num

/-- A row's mean square with the small constant. -/
def square (x : Fin 2048 → EReal) : EReal :=
  Ideal.div (∑ k, x k * x k) (Ideal.ofBits .f32 0x45000000#32) + Ideal.ofBits .f32 0x358637BD#32

/-- The factor of `x` in the reference's gradient: half the gradient's part through the mean square. -/
def pull (x a : Fin 2048 → EReal) : EReal :=
  Ideal.div ((∑ k, x k * a k) * (Ideal.ofBits .f32 0xBF000000#32 * Ideal.div (Ideal.rsqrt (square x)) (square x))) (Ideal.ofBits .f32 0x45000000#32)

/-- A row with an infinite entry has an infinite mean square. -/
theorem square_top (x : Fin 2048 → EReal) (k : Fin 2048) (h : x k * x k = ⊤) : square x = ⊤ := by
  obtain ⟨e, he, hv⟩ := eps_val
  have hs : ∑ k, x k * x k = ⊤ := by
    refine top_le_iff.1 (h ▸ Finset.single_le_sum (f := fun k => x k * x k) (fun i _ => ?_) (Finset.mem_univ k))
    induction x i with
    | bot => simp
    | top => simp
    | coe r => rw [← EReal.coe_mul]; exact EReal.coe_nonneg.2 (mul_self_nonneg r)
  unfold square
  rw [hs, hv, width_val, Ideal.div_coe (by norm_num), EReal.top_mul_coe_of_pos (by norm_num), EReal.top_add_coe]

theorem square_real (x : Fin 2048 → ℝ) : ∃ v : ℝ, 0 < v ∧ square (fun k => (x k : EReal)) = (v : EReal) := by
  obtain ⟨e, he, hv⟩ := eps_val
  refine ⟨(∑ k, x k * x k) * (1 / 2048) + e, ?_, ?_⟩
  · have := Finset.sum_nonneg fun k (_ : k ∈ Finset.univ) => mul_self_nonneg (x k)
    positivity
  · unfold square
    rw [hv, width_val, Ideal.div_coe (by norm_num), EReal.coe_add, EReal.coe_mul, Cert.Lift.coe_sum]
    simp only [EReal.coe_mul]

/-- The reference's element is the kernel's, whatever the numbers. -/
theorem entry_eq (x a : Fin 2048 → EReal) (y : EReal) (j : Fin 2048) :
    y + (a j * Ideal.rsqrt (square x) + x j * pull x a + pull x a * x j)
      = y + Ideal.rsqrt (square x) * (a j - x j * Ideal.rsqrt (square x) * Ideal.div (∑ k, a k * (x k * Ideal.rsqrt (square x))) (Ideal.ofBits .f32 0x45000000#32)) := by
  by_cases hx : ∃ k, x k * x k = ⊤
  · obtain ⟨k, hk⟩ := hx
    have hp : pull x a = 0 := by
      unfold pull
      rw [square_top x k hk, Ideal.rsqrt_top, width_val, Ideal.div_coe (by norm_num), show Ideal.div 0 ⊤ = 0 by simp [Ideal.div]]
      simp
    rw [hp, square_top x k hk, Ideal.rsqrt_top]
    simp
  · obtain ⟨X, rfl⟩ : ∃ X : Fin 2048 → ℝ, x = fun k => (X k : EReal) := by
      refine ⟨fun k => (x k).toReal, funext fun k => (EReal.coe_toReal ?_ ?_).symm⟩ <;>
      · intro h
        exact hx ⟨k, by rw [h]; simp⟩
    obtain ⟨v, hv, hs⟩ := square_real X
    have hr : Ideal.rsqrt (v : EReal) = (((Real.sqrt v)⁻¹ : ℝ) : EReal) := by
      rw [Ideal.rsqrt_coe, if_neg hv.not_gt, if_neg hv.ne']
    have hR : 0 < (Real.sqrt v)⁻¹ := inv_pos.2 (Real.sqrt_pos.2 hv)
    have hq : 1 / v = (Real.sqrt v)⁻¹ * (Real.sqrt v)⁻¹ := by
      rw [← mul_inv, Real.mul_self_sqrt hv.le, one_div]
    unfold pull
    rw [hs, hr]
    generalize (Real.sqrt v)⁻¹ = R at hR hq ⊢
    have e1 : ∑ k, a k * ((X k : EReal) * R) = R * ∑ k, (X k : EReal) * a k := by
      rw [← mul_sum R hR.le]
      exact Finset.sum_congr rfl fun k _ => by rw [mul_comm (X k : EReal), mul_left_comm, mul_comm (a k)]
    rw [e1, Ideal.div_coe hv.ne', hq, half_val, width_val, Ideal.div_coe (by norm_num), Ideal.div_coe (by norm_num)]
    generalize ∑ k, (X k : EReal) * a k = S
    rw [sub_eq_add_neg, EReal.left_distrib_of_nonneg_of_ne_top (EReal.coe_nonneg.2 hR.le) (EReal.coe_ne_top R), mul_comm (R : EReal) (a j), add_assoc,
      mul_comm _ (X j : EReal), twice]
    congr 2
    rw [show ∀ z : EReal, -z = ((-1 : ℝ) : EReal) * z from fun z => by simp]
    rw [show ((2 : ℝ) : EReal) * ((X j : EReal) * (S * (((-(1 / 2) : ℝ) : EReal) * ((R : EReal) * ((R * R : ℝ) : EReal))) * ((1 / 2048 : ℝ) : EReal)))
      = (((2 : ℝ) : EReal) * (X j : EReal) * ((-(1 / 2) : ℝ) : EReal) * (R : EReal) * ((R * R : ℝ) : EReal) * ((1 / 2048 : ℝ) : EReal)) * S by ac_rfl,
      show (R : EReal) * (((-1 : ℝ) : EReal) * ((X j : EReal) * (R : EReal) * ((R : EReal) * S * ((1 / 2048 : ℝ) : EReal))))
      = ((R : EReal) * ((-1 : ℝ) : EReal) * (X j : EReal) * (R : EReal) * (R : EReal) * ((1 / 2048 : ℝ) : EReal)) * S by ac_rfl]
    simp only [← EReal.coe_mul]
    congr 2
    ring

variable (m : (ℓ : Loc Cert.Reference9Ideal.nD Cert.Reference9Ideal.τ Cert.Reference9Ideal.sig) → Buf (Elt 𝔽) ℓ) (c : Dev Cert.Reference9Ideal.nD)

open Cert.Reference9Ideal in
theorem reference_at (r : Fin 8192) (j : Fin 2048) : Cert.Reference9Ideal.Value.res_out0 m c (ValueIdx.ix2 r j) =
      whole (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (ValueIdx.ix2 r j) := by
  unfold Cert.Reference9Ideal.Value.res_out0 Cert.Reference9Ideal.Value.res_main_v42
  generalize (m ((c.tc : Thread nD τ).loc main_arg0)) = x
  generalize (m ((c.tc : Thread nD τ).loc main_arg1)) = d
  generalize (m ((c.tc : Thread nD τ).loc main_arg2)) = y
  generalize (m ((c.tc : Thread nD τ).loc main_arg3)) = g
  generalize (m ((c.tc : Thread nD τ).loc main_arg4)) = v
  pointwise
  simp only [ix2_eq_valueIdx]
  simp only [Fintype.sum_unique]
  have e : ∀ (d g s : Fin 2048 → EReal) (k : Fin 2048), inner d g s k = d k * (1 + s k) * g k := fun d g s k => by
    unfold inner
    rw [Ideal.ofBits_one_f32]
    ac_rfl
  refine Eq.trans ?_ (entry_eq (fun k => x (ValueIdx.ix2 r k)) (inner (fun k => d (ValueIdx.ix2 r k)) (fun k => g (ValueIdx.ix2 0 k)) (fun k => scales v (ValueIdx.ix2 0 k)))
    (y (ValueIdx.ix2 r j)) j)
  unfold pull square
  simp only [e]
  rfl

/-- The reference's result is the gradient. -/
theorem reference_eq : Cert.Reference9Ideal.Value.res_out0 m c
    = whole (m ((c.tc : Thread Cert.Reference9Ideal.nD Cert.Reference9Ideal.τ).loc Cert.Reference9Ideal.main_arg0))
        (m ((c.tc : Thread Cert.Reference9Ideal.nD Cert.Reference9Ideal.τ).loc Cert.Reference9Ideal.main_arg1))
        (m ((c.tc : Thread Cert.Reference9Ideal.nD Cert.Reference9Ideal.τ).loc Cert.Reference9Ideal.main_arg2))
        (m ((c.tc : Thread Cert.Reference9Ideal.nD Cert.Reference9Ideal.τ).loc Cert.Reference9Ideal.main_arg3))
        (m ((c.tc : Thread Cert.Reference9Ideal.nD Cert.Reference9Ideal.τ).loc Cert.Reference9Ideal.main_arg4)) := by
  funext p
  obtain ⟨r, j, rfl⟩ : ∃ (r : Fin 8192) (j : Fin 2048), p = ValueIdx.ix2 r j := ⟨p 0, p 1, ValueIdx.eq_ix2 p⟩
  exact reference_at m c r j

end Cert.Norm
-- ==== Proof.TailBlock.lean ====
/-
  The output product, the loss's residual and the way back, over the extended reals: what a point of the kernel computes of
  its block of rows.
-/
module

public import proofs.«01_k».proof.Proof.Gen.Kernel10Ideal.Skeleton
public import proofs.«01_k».proof.Proof.Model
public import Idealize.ShloMosaic.Lib.Pipeline.ValueKit
public import Idealize.ShloMosaic.Lib.StableHlo.ReadAt
public import Idealize.ShloMosaic.Lib.Pointwise
public import Idealize.ShloMosaic.Lib.Pointwise.IndexBridge

@[expose] public section

set_option maxRecDepth 16384

noncomputable section

namespace Cert.Tail

open Cert.Kernel10Ideal Cert.Kernel10Ideal.Gen
open Idealize.ShloMosaic Idealize.ShloMosaic.TcCoe Idealize.SL.Sem

local notation "𝔽" => Idealize.ShloMosaic.Ideal

/-- A number times its logistic function. -/
def silu (z : EReal) : EReal := z * Ideal.div 1 (1 + Ideal.exp (0 - z))

/-- A column of the short convolution's branch, from its three rows, -/
def conv (w2 w1 w0 u2 u1 u0 : EReal) : EReal := w2 * u2 + w1 * u1 + w0 * u0

/-- the branch's output, -/
def convOut (b z s : EReal) : EReal := b * s * silu z

/-- a row of the output product from the row of either branch, -/
def proj (yc ya : Fin 1024 → EReal) (w : Fin 2048 → Fin 2048 → EReal) (j : Fin 2048) : EReal :=
  (∑ n : Fin 1024, ya n * w ⟨1024 + n.val, by have := n.isLt; omega⟩ j) + ∑ n : Fin 1024, yc n * w ⟨n.val, by have := n.isLt; omega⟩ j

/-- the gradient of the loss in the layer's output, -/
def resid (x t g y : EReal) : EReal := (x + g * y - t) * Ideal.ofBits .f32 0x3A000000#32

/-- and the gradient of the branches' outputs. -/
def back (x t g y : Fin 2048 → EReal) (w : Fin 2048 → Fin 2048 → EReal) (n : Fin 2048) : EReal :=
  ∑ k, resid (x k) (t k) (g k) (y k) * g k * w n k

theorem gate_eq (v0 : Vec 𝔽 S256x1152 .bf16) (r : Fin 256) (n : Fin 1024) :
    k0_pay6 v0 (ValueIdx.ix2 r n) = silu (v0 (ValueIdx.ix2 r (⟨64 + n.val, by have := n.isLt; omega⟩ : Fin 1152))) := by
  unfold k0_pay6 k0_pay5 k0_pay3 silu
  pointwise
  simp only [ix2_eq_valueIdx]
  have e : (n.val + 1152 - 1088) % 1152 = 64 + n.val := by have := n.isLt; omega
  have h : (ValueIdx.ix2 r (⟨(n.val + 1152 - 1088) % 1152, by have := n.isLt; omega⟩ : Fin 1152) : S256x1152.Idx) = ValueIdx.ix2 r ⟨64 + n.val, by have := n.isLt; omega⟩ :=
    congrArg (ValueIdx.ix2 r) (Fin.ext e)
  exact congrArg (fun i => v0 i * Ideal.div 1 (1 + Ideal.exp (0 - v0 i))) h

theorem attnOut_eq (v0 : Vec 𝔽 S256x1152 .bf16) (v5 : Vec 𝔽 S256x1024 .bf16) (r : Fin 256) (n : Fin 1024) :
    k0_pay7 v0 v5 (ValueIdx.ix2 r n) = v5 (ValueIdx.ix2 r n) * k0_pay6 v0 (ValueIdx.ix2 r n) := by
  unfold k0_pay7 k0_pay4
  generalize k0_pay6 v0 = a
  pointwise

/-- The row `d` rows before a row of a block: one of the block's, or of the sixteen before the block. -/
def earlier (u : Vec 𝔽 S256x1024 .f32) (before : Vec 𝔽 S16x1024 .f32) (d : ℕ) (hd : d ≤ 16) (r : Fin 256) (n : Fin 1024) : EReal :=
  if h : r.val < d then before (ValueIdx.ix2 (⟨16 + r.val - d, by omega⟩ : Fin 16) n) else u (ValueIdx.ix2 (⟨r.val - d, by have := r.isLt; omega⟩ : Fin 256) n)

theorem earlier_eq (u : Vec 𝔽 S256x1024 .f32) (before : Vec 𝔽 S16x1024 .f32) (d : ℕ) (hd : d ≤ 16) (r : Fin 256) (n : Fin 1024) :
    (if h : (16 + r.val + 272 - d) % 272 < 16 then before (ValueIdx.ix2 (⟨(16 + r.val + 272 - d) % 272, h⟩ : Fin 16) n)
      else u (ValueIdx.ix2 (⟨(16 + r.val + 272 - d) % 272 - 16, by have := Nat.mod_lt (16 + r.val + 272 - d) (show 0 < 272 by omega); omega⟩ : Fin 256) n)) = earlier u before d hd r n := by
  have hr := r.isLt
  have e : (16 + r.val + 272 - d) % 272 = 16 + r.val - d := by omega
  unfold earlier
  by_cases h : r.val < d
  · rw [dif_pos h, dif_pos (by omega)]
    exact congrArg (fun q => before (ValueIdx.ix2 q n)) (Fin.ext e)
  · rw [dif_neg h, dif_neg (by omega)]
    exact congrArg (fun q => u (ValueIdx.ix2 q n)) (Fin.ext (show _ - 16 = r.val - d by omega))

theorem convOut_eq (v28 : Vec 𝔽 S256x1024 .f32) (v37 : Vec 𝔽 S16x1024 .f32) (v43 : Vec 𝔽 S3x1024 .f32) (v55 v58 : Vec 𝔽 S256x1024 .bf16) (r : Fin 256) (n : Fin 1024) :
    k0_pay11 v28 v37 v43 v55 v58 (ValueIdx.ix2 r n)
      = convOut (v58 (ValueIdx.ix2 r n)) (v55 (ValueIdx.ix2 r n)) (conv (v43 (ValueIdx.ix2 0 n)) (v43 (ValueIdx.ix2 1 n)) (v43 (ValueIdx.ix2 2 n))
        (earlier v28 v37 2 (by omega) r n) (earlier v28 v37 1 (by omega) r n) (v28 (ValueIdx.ix2 r n))) := by
  unfold k0_pay11 convOut conv silu
  pointwise
  simp only [ix2_eq_valueIdx]
  congr 2
  congr 1
  congr 1
  · congr 1
    exact earlier_eq v28 v37 2 (by omega) r n
  · congr 1
    exact earlier_eq v28 v37 1 (by omega) r n

theorem proj_eq (v0 : Vec 𝔽 S256x1152 .bf16) (v5 : Vec 𝔽 S256x1024 .bf16) (v18 v72 : Vec 𝔽 S1024x2048 .bf16) (v28 : Vec 𝔽 S256x1024 .f32) (v37 : Vec 𝔽 S16x1024 .f32) (v43 : Vec 𝔽 S3x1024 .f32) (v55 v58 : Vec 𝔽 S256x1024 .bf16) (r : Fin 256) (j : Fin 2048) :
    k0_pay12 (k0_pay8 v0 v5 v18) v28 v37 v43 v55 v58 v72 (ValueIdx.ix2 r j)
      = (∑ n : Fin 1024, k0_pay7 v0 v5 (ValueIdx.ix2 r n) * v18 (ValueIdx.ix2 n j)) + ∑ n : Fin 1024, k0_pay11 v28 v37 v43 v55 v58 (ValueIdx.ix2 r n) * v72 (ValueIdx.ix2 n j) := by
  unfold k0_pay12 k0_pay8
  generalize k0_pay7 v0 v5 = a
  generalize k0_pay11 v28 v37 v43 v55 v58 = b
  pointwise
  simp only [ix2_eq_valueIdx]

theorem resid_eq (y : Vec 𝔽 S256x2048 .f32) (g : Vec 𝔽 S1x2048 .f32) (x t : Vec 𝔽 S256x2048 .f32) (r : Fin 256) (j : Fin 2048) :
    k0_pay15 y g x t (ValueIdx.ix2 r j) = resid (x (ValueIdx.ix2 r j)) (t (ValueIdx.ix2 r j)) (g (ValueIdx.ix2 0 j)) (y (ValueIdx.ix2 r j)) := by
  unfold k0_pay15 k0_pay14 resid
  pointwise
  simp only [ix2_eq_valueIdx]

theorem back_eq (y : Vec 𝔽 S256x2048 .f32) (g : Vec 𝔽 S1x2048 .f32) (x t : Vec 𝔽 S256x2048 .f32) (w : Vec 𝔽 S2048x2048 .bf16) (r : Fin 256) (j : Fin 2048) :
    k0_pay17 y g x t w (ValueIdx.ix2 r j) = back (fun k => x (ValueIdx.ix2 r k)) (fun k => t (ValueIdx.ix2 r k)) (fun k => g (ValueIdx.ix2 0 k)) (fun k => y (ValueIdx.ix2 r k))
      (fun a b => w (ValueIdx.ix2 a b)) j := by
  unfold k0_pay17 k0_pay16 back
  simp only [← resid_eq]
  generalize k0_pay15 y g x t = a
  pointwise
  simp only [ix2_eq_valueIdx]

theorem dyc_eq (y : Vec 𝔽 S256x2048 .f32) (g : Vec 𝔽 S1x2048 .f32) (x t : Vec 𝔽 S256x2048 .f32) (w : Vec 𝔽 S2048x2048 .bf16) (r : Fin 256) (n : Fin 1024) :
    k0_pay18 y g x t w (ValueIdx.ix2 r n) = k0_pay17 y g x t w (ValueIdx.ix2 r (⟨n.val, by have := n.isLt; omega⟩ : Fin 2048)) := by
  unfold k0_pay18
  generalize k0_pay17 y g x t w = a
  pointwise
  rfl

theorem do_eq (s : Vec 𝔽 S256x1024 .f32) (y : Vec 𝔽 S256x2048 .f32) (g : Vec 𝔽 S1x2048 .f32) (x t : Vec 𝔽 S256x2048 .f32) (w : Vec 𝔽 S2048x2048 .bf16) (r : Fin 256) (n : Fin 1024) :
    k0_pay21 s y g x t w (ValueIdx.ix2 r n) = k0_pay17 y g x t w (ValueIdx.ix2 r (⟨1024 + n.val, by have := n.isLt; omega⟩ : Fin 2048)) * s (ValueIdx.ix2 r n) := by
  unfold k0_pay21 k0_pay20 k0_pay19
  generalize k0_pay17 y g x t w = a
  pointwise
  rfl

theorem product_eq (v22 v25 : Vec 𝔽 S256x1024 .bf16) (r : Fin 256) (n : Fin 1024) :
    k0_pay9 v22 v25 (ValueIdx.ix2 r n) = v22 (ValueIdx.ix2 r n) * v25 (ValueIdx.ix2 r n) := by
  unfold k0_pay9
  pointwise

theorem later_point : ∀ k : Fin 32, k.val ≠ 0 → Scalar.cmpi .eq (BitVec.ofNat 32 k.val) 0#32 = 0#1 := by decide

theorem halo_eq (i : grid0.Coords) (v29 v32 : Vec 𝔽 S16x1024 .bf16) (r : Fin 16) (n : Fin 1024) :
    k0_pay10 i v29 v32 (ValueIdx.ix2 r n) = if (i 0).val = 0 then 0 else v29 (ValueIdx.ix2 r n) * v32 (ValueIdx.ix2 r n) := by
  unfold k0_pay10
  pointwise
  by_cases h : (i 0).val = 0
  · rw [if_pos h, h]
    rfl
  · rw [if_neg h]
    rw [later_point (i 0) h]
    rfl

end Cert.Tail
-- ==== Proof.Tail.lean ====
/-
  The output product, the loss's residual and the way back, over the extended reals: the arrays that the kernel leaves.
-/
module

public import proofs.«01_k».proof.Proof.Gen.Kernel10Ideal.Value
public import proofs.«01_k».proof.Proof.TailBlock

@[expose] public section

set_option maxRecDepth 16384

noncomputable section

namespace Cert.Tail

open Cert.Kernel10Ideal Cert.Kernel10Ideal.Gen
open Idealize.ShloMosaic Idealize.ShloMosaic.TcCoe Idealize.SL.Sem

local notation "𝔽" => Idealize.ShloMosaic.Ideal

/-- The columns that a point reads of the block of `u` with the gate of attention's branch, -/
def cols (u : Vec 𝔽 S256x2048 .bf16) : Vec 𝔽 S256x1152 .bf16 := fun p => u (ValueIdx.ix2 (p 0) (⟨768 + (p 1).val, by have h : (p 1).val < 1152 := (p 1).isLt; omega⟩ : Fin 2048))

/-- the rows of the output matrix for the convolution's branch, -/
def upper (w : Vec 𝔽 S2048x2048 .bf16) : Vec 𝔽 S1024x2048 .bf16 := fun p => w (ValueIdx.ix2 (⟨(p 0).val, by have h : (p 0).val < 1024 := (p 0).isLt; omega⟩ : Fin 2048) (p 1))

/-- those for attention's, -/
def lower (w : Vec 𝔽 S2048x2048 .bf16) : Vec 𝔽 S1024x2048 .bf16 := fun p => w (ValueIdx.ix2 (⟨1024 + (p 0).val, by have h : (p 0).val < 1024 := (p 0).isLt; omega⟩ : Fin 2048) (p 1))

/-- and the gates' part of the modulation's row. -/
def gates (v : Vec 𝔽 S1x6144 .f32) : Vec 𝔽 S1x2048 .f32 := fun p => v (ValueIdx.ix2 0 (⟨4096 + (p 1).val, by have h : (p 1).val < 2048 := (p 1).isLt; omega⟩ : Fin 6144))

/-- A whole block read back is the block. -/
theorem read_full {s : Shape} {e : EltTy} (m : Memref sig .tc .vmem s e) (h : m.IsWhole) (v : Vec 𝔽 s e) {off : Fin s.rank → ℕ} (inb : ∀ a, off a + s.size a ≤ s.size a) :
    View.readAt (Elt 𝔽) m.view (Rect.unit (s := s) off s.size inb).toLoadRect (h.unread v) = v :=
  (View.readAt_full m.view _ _).trans (h.read_unread v)

theorem read_cols (m : Memref sig .tc .vmem S256x2048 .bf16) (h : m.IsWhole) (v : Vec 𝔽 S256x2048 .bf16) (inb : ∀ a, (![0, 768] : Fin 2 → ℕ) a + S256x1152.size a ≤ S256x2048.size a) :
    View.readAt (Elt 𝔽) m.view (Rect.unit (s := S256x2048) ![0, 768] S256x1152.size inb).toLoadRect (h.unread v) = cols v := by
  rw [View.readAt_unit m.view _ inb rfl inb, h.read_unread]
  funext p
  refine congrArg v (funext fun a => Fin.ext ?_)
  match a with
  | ⟨0, _⟩ => show 0 + 1 * (p 0).val = (p 0).val; omega
  | ⟨1, _⟩ => show 768 + 1 * (p 1).val = 768 + (p 1).val; omega

theorem read_upper (m : Memref sig .tc .vmem S2048x2048 .bf16) (h : m.IsWhole) (v : Vec 𝔽 S2048x2048 .bf16) (inb : ∀ a, (![0, 0] : Fin 2 → ℕ) a + S1024x2048.size a ≤ S2048x2048.size a) :
    View.readAt (Elt 𝔽) m.view (Rect.unit (s := S2048x2048) ![0, 0] S1024x2048.size inb).toLoadRect (h.unread v) = upper v := by
  rw [View.readAt_unit m.view _ inb rfl inb, h.read_unread]
  funext p
  refine congrArg v (funext fun a => Fin.ext ?_)
  match a with
  | ⟨0, _⟩ => show 0 + 1 * (p 0).val = (p 0).val; omega
  | ⟨1, _⟩ => show 0 + 1 * (p 1).val = (p 1).val; omega

theorem read_lower (m : Memref sig .tc .vmem S2048x2048 .bf16) (h : m.IsWhole) (v : Vec 𝔽 S2048x2048 .bf16) (inb : ∀ a, (![1024, 0] : Fin 2 → ℕ) a + S1024x2048.size a ≤ S2048x2048.size a) :
    View.readAt (Elt 𝔽) m.view (Rect.unit (s := S2048x2048) ![1024, 0] S1024x2048.size inb).toLoadRect (h.unread v) = lower v := by
  rw [View.readAt_unit m.view _ inb rfl inb, h.read_unread]
  funext p
  refine congrArg v (funext fun a => Fin.ext ?_)
  match a with
  | ⟨0, _⟩ => show 1024 + 1 * (p 0).val = 1024 + (p 0).val; omega
  | ⟨1, _⟩ => show 0 + 1 * (p 1).val = (p 1).val; omega

theorem read_gates (m : Memref sig .tc .vmem S1x6144 .f32) (h : m.IsWhole) (v : Vec 𝔽 S1x6144 .f32) (inb : ∀ a, (![0, 4096] : Fin 2 → ℕ) a + S1x2048.size a ≤ S1x6144.size a) :
    View.readAt (Elt 𝔽) m.view (Rect.unit (s := S1x6144) ![0, 4096] S1x2048.size inb).toLoadRect (h.unread v) = gates v := by
  rw [View.readAt_unit m.view _ inb rfl inb, h.read_unread]
  funext p
  refine congrArg v (funext fun a => Fin.ext ?_)
  match a with
  | ⟨0, _⟩ => have h : (p 0).val < 1 := (p 0).isLt; show 0 + 1 * (p 0).val = 0; omega
  | ⟨1, _⟩ => show 4096 + 1 * (p 1).val = 4096 + (p 1).val; omega

section Block

variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S1x6144 .f32) (harg5 : arg5.IsWhole) (arg6 : Memref sig .tc .vmem S2048x2048 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S3x1024 .f32) (harg13 : arg13.IsWhole) (arg14 : Memref sig .tc .vmem S256x2048 .f32) (harg14 : arg14.IsWhole) (arg15 : Memref sig .tc .vmem S256x2048 .bf16) (harg15 : arg15.IsWhole) (arg16 : Memref sig .tc .vmem S2048x256 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S8x1x256 .f32) (harg20 : arg20.IsWhole) (arg21 : Memref sig .tc .vmem S1x2048 .f32) (harg21 : arg21.IsWhole) (arg22 : Memref sig .tc .vmem S1x128 .f32) (harg22 : arg22.IsWhole)
variable (x0 : Vec 𝔽 S256x2048 .f32) (x1 : Vec 𝔽 S256x2048 .f32) (x2 : Vec 𝔽 S256x1024 .bf16) (x3 : Vec 𝔽 S256x2048 .bf16) (x4 : Vec 𝔽 S1x6144 .f32) (x5 : Vec 𝔽 S2048x2048 .bf16) (x6 : Vec 𝔽 S256x1024 .bf16) (x7 : Vec 𝔽 S256x1024 .bf16) (x8 : Vec 𝔽 S256x1024 .bf16) (x9 : Vec 𝔽 S256x1024 .bf16) (x10 : Vec 𝔽 S16x1024 .bf16) (x11 : Vec 𝔽 S16x1024 .bf16) (x12 : Vec 𝔽 S3x1024 .f32)

/-- A block's output product, -/
def blockY : FVec 𝔽 S256x2048 .f32 :=
  k0_pay12 (k0_pay8 (cols x3) x2 (lower x5)) (k0_pay9 x8 x6) (k0_pay10 i x11 x10) x12 x9 x7 (upper x5)

/-- what a point leaves of the residual's gradient, -/
def blockG : FVec 𝔽 S256x2048 .f32 := k0_pay15 (blockY i x2 x3 x5 x6 x7 x8 x9 x10 x11 x12) (gates x4) x0 x1

/-- of the gradient of the convolution's branch, -/
def blockC : FVec 𝔽 S256x1024 .bf16 := k0_pay18 (blockY i x2 x3 x5 x6 x7 x8 x9 x10 x11 x12) (gates x4) x0 x1 x5

/-- and of that of attention's. -/
def blockO : FVec 𝔽 S256x1024 .bf16 := k0_pay21 (k0_pay6 (cols x3)) (blockY i x2 x3 x5 x6 x7 x8 x9 x10 x11 x12) (gates x4) x0 x1 x5

theorem first_eq (hc0 : cond0_0 i) (hc1 : ¬cond0_1 i) :
    out0_A_13 (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 = blockG i x0 x1 x2 x3 x4 x5 x6 x7 x8 x9 x10 x11 x12
      ∧ out0_A_16 (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 = blockC i x0 x1 x2 x3 x4 x5 x6 x7 x8 x9 x10 x11 x12
      ∧ out0_A_17 (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 = blockO i x0 x1 x2 x3 x4 x5 x6 x7 x8 x9 x10 x11 x12 := by
  have hy : kernelRun0_A.sl.r_8 (F := 𝔽) c i arg3 harg3 arg4 harg4 arg6 harg6 arg7 harg7 arg8 harg8 arg9 harg9 arg10 harg10 arg11 harg11 arg12 harg12 arg13 harg13 x2 x3 x5 x6 x7 x8 x9 x10 x11 x12 = blockY i x2 x3 x5 x6 x7 x8 x9 x10 x11 x12 := by
    unfold kernelRun0_A.sl.r_8 kernelRun0_A.sl.r_5 kernelRun0_A.sl.r_6 kernelRun0_A.sl.r_7 blockY
    rw [read_cols arg4 harg4, read_lower arg6 harg6, read_upper arg6 harg6, read_full arg3 harg3, read_full arg7 harg7, read_full arg8 harg8, read_full arg9 harg9,
      read_full arg10 harg10, read_full arg11 harg11, read_full arg12 harg12, read_full arg13 harg13]
  have hs : kernelRun0_A.sl.r_3 (F := 𝔽) c arg4 harg4 x3 = k0_pay6 (cols x3) := by
    unfold kernelRun0_A.sl.r_3
    rw [read_cols arg4 harg4]
  unfold out0_A_13 out0_A_16 out0_A_17 kernelRun0_A blockG blockC blockO
  refine ⟨(View.read_writes_full _ _ _ _ _).trans ?_, (View.read_writes_full _ _ _ _ _).trans ?_, (View.read_writes_full _ _ _ _ _).trans ?_⟩
  · rw [hy, read_gates arg5 harg5, read_full arg1 harg1, read_full arg2 harg2]
  · rw [hy, read_gates arg5 harg5, read_full arg1 harg1, read_full arg2 harg2, read_full arg6 harg6]
  · rw [hy, hs, read_gates arg5 harg5, read_full arg1 harg1, read_full arg2 harg2, read_full arg6 harg6]

theorem later_eq (hc0 : ¬cond0_0 i) (hc1 : cond0_1 i) (a : Vec 𝔽 S1x2048 .f32) (b : Vec 𝔽 S1x128 .f32) :
    out0_B_13 (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 a b = blockG i x0 x1 x2 x3 x4 x5 x6 x7 x8 x9 x10 x11 x12
      ∧ out0_B_16 (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 a b = blockC i x0 x1 x2 x3 x4 x5 x6 x7 x8 x9 x10 x11 x12
      ∧ out0_B_17 (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 a b = blockO i x0 x1 x2 x3 x4 x5 x6 x7 x8 x9 x10 x11 x12 := by
  have hy : kernelRun0_B.sl.r_8 (F := 𝔽) c i arg3 harg3 arg4 harg4 arg6 harg6 arg7 harg7 arg8 harg8 arg9 harg9 arg10 harg10 arg11 harg11 arg12 harg12 arg13 harg13 x2 x3 x5 x6 x7 x8 x9 x10 x11 x12 = blockY i x2 x3 x5 x6 x7 x8 x9 x10 x11 x12 := by
    unfold kernelRun0_B.sl.r_8 kernelRun0_B.sl.r_5 kernelRun0_B.sl.r_6 kernelRun0_B.sl.r_7 blockY
    rw [read_cols arg4 harg4, read_lower arg6 harg6, read_upper arg6 harg6, read_full arg3 harg3, read_full arg7 harg7, read_full arg8 harg8, read_full arg9 harg9,
      read_full arg10 harg10, read_full arg11 harg11, read_full arg12 harg12, read_full arg13 harg13]
  have hs : kernelRun0_B.sl.r_3 (F := 𝔽) c arg4 harg4 x3 = k0_pay6 (cols x3) := by
    unfold kernelRun0_B.sl.r_3
    rw [read_cols arg4 harg4]
  unfold out0_B_13 out0_B_16 out0_B_17 kernelRun0_B blockG blockC blockO
  refine ⟨(View.read_writes_full _ _ _ _ _).trans ?_, (View.read_writes_full _ _ _ _ _).trans ?_, (View.read_writes_full _ _ _ _ _).trans ?_⟩
  · rw [hy, read_gates arg5 harg5, read_full arg1 harg1, read_full arg2 harg2]
  · rw [hy, read_gates arg5 harg5, read_full arg1 harg1, read_full arg2 harg2, read_full arg6 harg6]
  · rw [hy, hs, read_gates arg5 harg5, read_full arg1 harg1, read_full arg2 harg2, read_full arg6 harg6]

end Block

/-! ## The whole arrays -/

/-- A column of `u`. -/
abbrev col (o : ℕ) (n : Fin 1024) (h : o + 1024 ≤ 6144 := by omega) : Fin 6144 := ⟨o + n.val, by have := n.isLt; omega⟩

/-- The convolution's input `d` rows before a row, zero before the first row, -/
def shifted (u : FVec 𝔽 S8192x6144 .f32) (d : ℕ) (i : Fin 8192) (n : Fin 1024) : EReal :=
  if h : i.val < d then 0 else
    u (ValueIdx.ix2 (⟨i.val - d, by have := i.isLt; omega⟩ : Fin 8192) (col 2048 n)) * u (ValueIdx.ix2 (⟨i.val - d, by have := i.isLt; omega⟩ : Fin 8192) (col 0 n))

/-- the convolution's branch, -/
def convAll (u : FVec 𝔽 S8192x6144 .f32) (w : FVec 𝔽 S3x1024 .f32) (i : Fin 8192) (n : Fin 1024) : EReal :=
  convOut (u (ValueIdx.ix2 i (col 1024 n))) (u (ValueIdx.ix2 i (col 3072 n)))
    (conv (w (ValueIdx.ix2 0 n)) (w (ValueIdx.ix2 1 n)) (w (ValueIdx.ix2 2 n)) (shifted u 2 i n) (shifted u 1 i n) (shifted u 0 i n))

/-- attention's branch, -/
def attnAll (o : FVec 𝔽 S8192x1024 .f32) (u : FVec 𝔽 S8192x6144 .f32) (i : Fin 8192) (n : Fin 1024) : EReal :=
  o (ValueIdx.ix2 i n) * silu (u (ValueIdx.ix2 i (col 4928 n)))

/-- the output product, -/
def outAll (o : FVec 𝔽 S8192x1024 .f32) (u : FVec 𝔽 S8192x6144 .f32) (w : FVec 𝔽 S2048x2048 .f32) (cw : FVec 𝔽 S3x1024 .f32) (i : Fin 8192) (j : Fin 2048) : EReal :=
  proj (convAll u cw i) (attnAll o u i) (fun a b => w (ValueIdx.ix2 a b)) j

/-- a gate, -/
abbrev gate (v : FVec 𝔽 S1x6144 .f32) (k : Fin 2048) : EReal := v (ValueIdx.ix2 0 (⟨4096 + k.val, by have := k.isLt; omega⟩ : Fin 6144))

/-- the gradients of the branches' outputs, before the gate of attention's, -/
def backAll (x t : FVec 𝔽 S8192x2048 .f32) (o : FVec 𝔽 S8192x1024 .f32) (u : FVec 𝔽 S8192x6144 .f32) (v : FVec 𝔽 S1x6144 .f32) (w : FVec 𝔽 S2048x2048 .f32) (cw : FVec 𝔽 S3x1024 .f32)
    (i : Fin 8192) (n : Fin 2048) : EReal :=
  back (fun k => x (ValueIdx.ix2 i k)) (fun k => t (ValueIdx.ix2 i k)) (gate v) (outAll o u w cw i) (fun a b => w (ValueIdx.ix2 a b)) n

/-- the gradient of the loss in the layer's output, as the kernel computes it, -/
def wholeG (x t : FVec 𝔽 S8192x2048 .f32) (o : FVec 𝔽 S8192x1024 .f32) (u : FVec 𝔽 S8192x6144 .f32) (v : FVec 𝔽 S1x6144 .f32) (w : FVec 𝔽 S2048x2048 .f32) (cw : FVec 𝔽 S3x1024 .f32) : FVec 𝔽 S8192x2048 .f32 :=
  fun p => resid (x p) (t p) (gate v (p 1)) (outAll o u w cw (p 0) (p 1))

/-- in the convolution's branch, -/
def wholeC (x t : FVec 𝔽 S8192x2048 .f32) (o : FVec 𝔽 S8192x1024 .f32) (u : FVec 𝔽 S8192x6144 .f32) (v : FVec 𝔽 S1x6144 .f32) (w : FVec 𝔽 S2048x2048 .f32) (cw : FVec 𝔽 S3x1024 .f32) : FVec 𝔽 S8192x1024 .bf16 :=
  fun p => backAll x t o u v w cw (p 0) (⟨(p 1).val, by have h : (p 1).val < 1024 := (p 1).isLt; omega⟩ : Fin 2048)

/-- and in attention's output. -/
def wholeO (x t : FVec 𝔽 S8192x2048 .f32) (o : FVec 𝔽 S8192x1024 .f32) (u : FVec 𝔽 S8192x6144 .f32) (v : FVec 𝔽 S1x6144 .f32) (w : FVec 𝔽 S2048x2048 .f32) (cw : FVec 𝔽 S3x1024 .f32) : FVec 𝔽 S8192x1024 .bf16 :=
  fun p => backAll x t o u v w cw (p 0) (⟨1024 + (p 1).val, by have h : (p 1).val < 1024 := (p 1).isLt; omega⟩ : Fin 2048) * silu (u (ValueIdx.ix2 (p 0) (col 4928 (p 1))))

/-! ## The kernel's arrays -/

variable (m : (ℓ : Loc nD τ sig) → Buf (Elt 𝔽) ℓ) (c : Dev nD)

/-- What the host leaves in the arrays that the windows read. -/
theorem staged : V m c main_arg0 = m ((c.tc : Thread nD τ).loc main_arg0)
    ∧ V m c main_arg1 = m ((c.tc : Thread nD τ).loc main_arg1)
    ∧ V m c main_v0 = (m ((c.tc : Thread nD τ).loc main_arg2) : FVec 𝔽 S8192x1024 .f32)
    ∧ V m c main_v1 = (m ((c.tc : Thread nD τ).loc main_arg3) : FVec 𝔽 S8192x6144 .f32)
    ∧ V m c main_arg4 = m ((c.tc : Thread nD τ).loc main_arg4)
    ∧ V m c main_v2 = (m ((c.tc : Thread nD τ).loc main_arg5) : FVec 𝔽 S2048x2048 .f32)
    ∧ V m c main_arg6 = m ((c.tc : Thread nD τ).loc main_arg6) := by
  refine ⟨?_, ?_, ?_, ?_, ?_, ?_, ?_⟩ <;>
  · unfold V
    simp only [hostOps0, List.flatten_cons, List.flatten_nil,
      List.append_nil, List.cons_append, List.nil_append, StableHlo.TRef.binary, StableHlo.TRef.nullary, StableHlo.TRef.ternary,
      StableHlo.TRef.unary, StableHlo.TRef.toBuf, StableHlo.TRef.ofBuf, cast_eq]
    after_reads_simp
    try rfl

theorem rows_at : ∀ t : Fin grid0.N, win0_0.index t = ![t.val, 0] ∧ win0_1.index t = ![t.val, 0] ∧ win0_2.index t = ![t.val, 0]
    ∧ win0_13.index t = ![t.val, 0] ∧ win0_16.index t = ![t.val, 0] ∧ win0_17.index t = ![t.val, 0] := by decide +kernel
theorem cols_at : ∀ t : Fin grid0.N, win0_3.index t = ![t.val, 2] ∧ win0_6.index t = ![t.val, 0] ∧ win0_7.index t = ![t.val, 1] ∧ win0_8.index t = ![t.val, 2]
    ∧ win0_9.index t = ![t.val, 3] ∧ win0_10.index t = ![16 * t.val - 1, 0] ∧ win0_11.index t = ![16 * t.val - 1, 2] := by decide +kernel
theorem same_at : ∀ t : Fin grid0.N, win0_4.index t = ![0, 0] ∧ win0_5.index t = ![0, 0] ∧ win0_12.index t = ![0, 0] := by decide +kernel
theorem coords_at : ∀ t : Fin grid0.N, (grid0.coords t 0).val = t.val := by decide +kernel

/-- The row of the arrays that is a point's row `r`, -/
abbrev row (t : Fin cfg0.N) (r : Fin 256) : Fin 8192 :=
  ⟨256 * t.val + r.val, by have := r.isLt; have : t.val < 32 := lt_of_lt_of_eq t.isLt N_0; omega⟩

/-- and the row that is one of the sixteen before the point's. -/
abbrev rowBefore (t : Fin cfg0.N) (r : Fin 16) : Fin 8192 :=
  ⟨16 * (16 * t.val - 1) + r.val, by have := r.isLt; have : t.val < 32 := lt_of_lt_of_eq t.isLt N_0; omega⟩

/-! The blocks that the windows show at a point. -/

theorem shown0 (t : Fin cfg0.N) (r : Fin 256) (n : Fin 2048) :
    iblk m c 0 t (ValueIdx.ix2 r n) = (m ((c.tc : Thread nD τ).loc main_arg0) : FVec 𝔽 S8192x2048 .f32) (ValueIdx.ix2 (row t r) n) := by
  refine (congrArg (V m c main_arg0) (?_ : _ = ValueIdx.ix2 (row t r) n)).trans (congrFun (staged m c).1 _)
  funext a
  apply Fin.ext
  match a with
  | ⟨0, _⟩ => blk_simp [(rows_at t).1]; show t.val * 256 + r.val = 256 * t.val + r.val; omega
  | ⟨1, _⟩ => blk_simp [(rows_at t).1]

theorem shown1 (t : Fin cfg0.N) (r : Fin 256) (n : Fin 2048) :
    iblk m c 1 t (ValueIdx.ix2 r n) = (m ((c.tc : Thread nD τ).loc main_arg1) : FVec 𝔽 S8192x2048 .f32) (ValueIdx.ix2 (row t r) n) := by
  refine (congrArg (V m c main_arg1) (?_ : _ = ValueIdx.ix2 (row t r) n)).trans (congrFun (staged m c).2.1 _)
  funext a
  apply Fin.ext
  match a with
  | ⟨0, _⟩ => blk_simp [(rows_at t).2.1]; show t.val * 256 + r.val = 256 * t.val + r.val; omega
  | ⟨1, _⟩ => blk_simp [(rows_at t).2.1]

theorem shown2 (t : Fin cfg0.N) (r : Fin 256) (n : Fin 1024) :
    iblk m c 2 t (ValueIdx.ix2 r n) = (m ((c.tc : Thread nD τ).loc main_arg2) : FVec 𝔽 S8192x1024 .f32) (ValueIdx.ix2 (row t r) n) := by
  refine (congrArg (V m c main_v0) (?_ : _ = ValueIdx.ix2 (row t r) n)).trans (congrFun (staged m c).2.2.1 _)
  funext a
  apply Fin.ext
  match a with
  | ⟨0, _⟩ => blk_simp [(rows_at t).2.2.1]; show t.val * 256 + r.val = 256 * t.val + r.val; omega
  | ⟨1, _⟩ => blk_simp [(rows_at t).2.2.1]

theorem shown3 (t : Fin cfg0.N) (r : Fin 256) (n : Fin 2048) :
    iblk m c 3 t (ValueIdx.ix2 r n) = (m ((c.tc : Thread nD τ).loc main_arg3) : FVec 𝔽 S8192x6144 .f32) (ValueIdx.ix2 (row t r) (⟨4096 + n.val, by have := n.isLt; omega⟩ : Fin 6144)) := by
  refine (congrArg (V m c main_v1) (?_ : _ = ValueIdx.ix2 (row t r) (⟨4096 + n.val, by have := n.isLt; omega⟩ : Fin 6144))).trans (congrFun (staged m c).2.2.2.1 _)
  funext a
  apply Fin.ext
  match a with
  | ⟨0, _⟩ => blk_simp [(cols_at t).1]; show t.val * 256 + r.val = 256 * t.val + r.val; omega
  | ⟨1, _⟩ => blk_simp [(cols_at t).1]

theorem shown4 (t : Fin cfg0.N) (n : Fin 6144) :
    iblk m c 4 t (ValueIdx.ix2 0 n) = (m ((c.tc : Thread nD τ).loc main_arg4) : FVec 𝔽 S1x6144 .f32) (ValueIdx.ix2 0 n) := by
  refine (congrArg (V m c main_arg4) (?_ : _ = ValueIdx.ix2 0 n)).trans (congrFun (staged m c).2.2.2.2.1 _)
  funext a
  apply Fin.ext
  match a with
  | ⟨0, _⟩ => blk_simp [(same_at t).1]
  | ⟨1, _⟩ => blk_simp [(same_at t).1]

theorem shown5 (t : Fin cfg0.N) (r n : Fin 2048) :
    iblk m c 5 t (ValueIdx.ix2 r n) = (m ((c.tc : Thread nD τ).loc main_arg5) : FVec 𝔽 S2048x2048 .f32) (ValueIdx.ix2 r n) := by
  refine (congrArg (V m c main_v2) (?_ : _ = ValueIdx.ix2 r n)).trans (congrFun (staged m c).2.2.2.2.2.1 _)
  funext a
  apply Fin.ext
  match a with
  | ⟨0, _⟩ => blk_simp [(same_at t).2.1]
  | ⟨1, _⟩ => blk_simp [(same_at t).2.1]

theorem shown6 (t : Fin cfg0.N) (r : Fin 256) (n : Fin 1024) :
    iblk m c 6 t (ValueIdx.ix2 r n) = (m ((c.tc : Thread nD τ).loc main_arg3) : FVec 𝔽 S8192x6144 .f32) (ValueIdx.ix2 (row t r) (col 0 n)) := by
  refine (congrArg (V m c main_v1) (?_ : _ = ValueIdx.ix2 (row t r) (col 0 n))).trans (congrFun (staged m c).2.2.2.1 _)
  funext a
  apply Fin.ext
  match a with
  | ⟨0, _⟩ => blk_simp [(cols_at t).2.1]; show t.val * 256 + r.val = 256 * t.val + r.val; omega
  | ⟨1, _⟩ => blk_simp [(cols_at t).2.1]; show n.val = 0 + n.val; omega

theorem shown7 (t : Fin cfg0.N) (r : Fin 256) (n : Fin 1024) :
    iblk m c 7 t (ValueIdx.ix2 r n) = (m ((c.tc : Thread nD τ).loc main_arg3) : FVec 𝔽 S8192x6144 .f32) (ValueIdx.ix2 (row t r) (col 1024 n)) := by
  refine (congrArg (V m c main_v1) (?_ : _ = ValueIdx.ix2 (row t r) (col 1024 n))).trans (congrFun (staged m c).2.2.2.1 _)
  funext a
  apply Fin.ext
  match a with
  | ⟨0, _⟩ => blk_simp [(cols_at t).2.2.1]; show t.val * 256 + r.val = 256 * t.val + r.val; omega
  | ⟨1, _⟩ => blk_simp [(cols_at t).2.2.1]

theorem shown8 (t : Fin cfg0.N) (r : Fin 256) (n : Fin 1024) :
    iblk m c 8 t (ValueIdx.ix2 r n) = (m ((c.tc : Thread nD τ).loc main_arg3) : FVec 𝔽 S8192x6144 .f32) (ValueIdx.ix2 (row t r) (col 2048 n)) := by
  refine (congrArg (V m c main_v1) (?_ : _ = ValueIdx.ix2 (row t r) (col 2048 n))).trans (congrFun (staged m c).2.2.2.1 _)
  funext a
  apply Fin.ext
  match a with
  | ⟨0, _⟩ => blk_simp [(cols_at t).2.2.2.1]; show t.val * 256 + r.val = 256 * t.val + r.val; omega
  | ⟨1, _⟩ => blk_simp [(cols_at t).2.2.2.1]

theorem shown9 (t : Fin cfg0.N) (r : Fin 256) (n : Fin 1024) :
    iblk m c 9 t (ValueIdx.ix2 r n) = (m ((c.tc : Thread nD τ).loc main_arg3) : FVec 𝔽 S8192x6144 .f32) (ValueIdx.ix2 (row t r) (col 3072 n)) := by
  refine (congrArg (V m c main_v1) (?_ : _ = ValueIdx.ix2 (row t r) (col 3072 n))).trans (congrFun (staged m c).2.2.2.1 _)
  funext a
  apply Fin.ext
  match a with
  | ⟨0, _⟩ => blk_simp [(cols_at t).2.2.2.2.1]; show t.val * 256 + r.val = 256 * t.val + r.val; omega
  | ⟨1, _⟩ => blk_simp [(cols_at t).2.2.2.2.1]

theorem shown10 (t : Fin cfg0.N) (r : Fin 16) (n : Fin 1024) :
    iblk m c 10 t (ValueIdx.ix2 r n) = (m ((c.tc : Thread nD τ).loc main_arg3) : FVec 𝔽 S8192x6144 .f32) (ValueIdx.ix2 (rowBefore t r) (col 0 n)) := by
  refine (congrArg (V m c main_v1) (?_ : _ = ValueIdx.ix2 (rowBefore t r) (col 0 n))).trans (congrFun (staged m c).2.2.2.1 _)
  funext a
  apply Fin.ext
  match a with
  | ⟨0, _⟩ => blk_simp [(cols_at t).2.2.2.2.2.1]; show (16 * t.val - 1) * 16 + r.val = 16 * (16 * t.val - 1) + r.val; omega
  | ⟨1, _⟩ => blk_simp [(cols_at t).2.2.2.2.2.1]; show n.val = 0 + n.val; omega

theorem shown11 (t : Fin cfg0.N) (r : Fin 16) (n : Fin 1024) :
    iblk m c 11 t (ValueIdx.ix2 r n) = (m ((c.tc : Thread nD τ).loc main_arg3) : FVec 𝔽 S8192x6144 .f32) (ValueIdx.ix2 (rowBefore t r) (col 2048 n)) := by
  refine (congrArg (V m c main_v1) (?_ : _ = ValueIdx.ix2 (rowBefore t r) (col 2048 n))).trans (congrFun (staged m c).2.2.2.1 _)
  funext a
  apply Fin.ext
  match a with
  | ⟨0, _⟩ => blk_simp [(cols_at t).2.2.2.2.2.2]; show (16 * t.val - 1) * 16 + r.val = 16 * (16 * t.val - 1) + r.val; omega
  | ⟨1, _⟩ => blk_simp [(cols_at t).2.2.2.2.2.2]

theorem shown12 (t : Fin cfg0.N) (r : Fin 3) (n : Fin 1024) :
    iblk m c 12 t (ValueIdx.ix2 r n) = (m ((c.tc : Thread nD τ).loc main_arg6) : FVec 𝔽 S3x1024 .f32) (ValueIdx.ix2 r n) := by
  refine (congrArg (V m c main_arg6) (?_ : _ = ValueIdx.ix2 r n)).trans (congrFun (staged m c).2.2.2.2.2.2 _)
  funext a
  apply Fin.ext
  match a with
  | ⟨0, _⟩ => blk_simp [(same_at t).2.2]
  | ⟨1, _⟩ => blk_simp [(same_at t).2.2]

/-- A point's convolution inputs are the rows before, over the block's edge too. -/
theorem earlier_at (t : Fin cfg0.N) (d : ℕ) (hd : d ≤ 16) (r : Fin 256) (n : Fin 1024) :
    earlier (k0_pay9 (iblk m c 8 t) (iblk m c 6 t)) (k0_pay10 (grid0.coords t) (iblk m c 11 t) (iblk m c 10 t)) d hd r n
      = shifted (m ((c.tc : Thread nD τ).loc main_arg3)) d (row t r) n := by
  have hr := r.isLt
  unfold earlier shifted
  by_cases h : r.val < d
  · rw [dif_pos h, halo_eq, coords_at]
    by_cases h0 : t.val = 0
    · rw [if_pos h0, dif_pos (show 256 * t.val + r.val < d by omega)]
    · rw [if_neg h0, dif_neg (show ¬ 256 * t.val + r.val < d by omega), shown10, shown11]
      have e : rowBefore t (⟨16 + r.val - d, by omega⟩ : Fin 16) = (⟨(row t r).val - d, by have := (row t r).isLt; omega⟩ : Fin 8192) :=
        Fin.ext (show 16 * (16 * t.val - 1) + (16 + r.val - d) = 256 * t.val + r.val - d by omega)
      rw [e]
  · rw [dif_neg h, dif_neg (show ¬ 256 * t.val + r.val < d by omega), product_eq, shown6, shown8]
    have e : row t (⟨r.val - d, by omega⟩ : Fin 256) = (⟨(row t r).val - d, by have := (row t r).isLt; omega⟩ : Fin 8192) :=
      Fin.ext (show 256 * t.val + (r.val - d) = 256 * t.val + r.val - d by omega)
    rw [e]

/-- A point's row of the convolution's branch, -/
theorem conv_at (t : Fin cfg0.N) (r : Fin 256) (n : Fin 1024) :
    k0_pay11 (k0_pay9 (iblk m c 8 t) (iblk m c 6 t)) (k0_pay10 (grid0.coords t) (iblk m c 11 t) (iblk m c 10 t)) (iblk m c 12 t) (iblk m c 9 t) (iblk m c 7 t) (ValueIdx.ix2 r n)
      = convAll (m ((c.tc : Thread nD τ).loc main_arg3)) (m ((c.tc : Thread nD τ).loc main_arg6)) (row t r) n := by
  rw [convOut_eq, earlier_at, earlier_at, product_eq, shown7, shown9, shown6, shown8, shown12, shown12, shown12]
  rfl

/-- the gate of attention's, -/
theorem gate_at (t : Fin cfg0.N) (r : Fin 256) (n : Fin 1024) :
    k0_pay6 (cols (iblk m c 3 t)) (ValueIdx.ix2 r n) = silu ((m ((c.tc : Thread nD τ).loc main_arg3) : FVec 𝔽 S8192x6144 .f32) (ValueIdx.ix2 (row t r) (col 4928 n))) := by
  rw [gate_eq]
  refine congrArg silu ((shown3 m c t r (⟨768 + (64 + n.val), by have := n.isLt; omega⟩ : Fin 2048)).trans (congrArg _ (congrArg (ValueIdx.ix2 (row t r)) (Fin.ext ?_))))
  show 4096 + (768 + (64 + n.val)) = 4928 + n.val
  omega

/-- and of the output product. -/
theorem out_at (t : Fin cfg0.N) (r : Fin 256) (j : Fin 2048) :
    blockY (grid0.coords t) (iblk m c 2 t) (iblk m c 3 t) (iblk m c 5 t) (iblk m c 6 t) (iblk m c 7 t) (iblk m c 8 t) (iblk m c 9 t) (iblk m c 10 t) (iblk m c 11 t) (iblk m c 12 t) (ValueIdx.ix2 r j)
      = outAll (m ((c.tc : Thread nD τ).loc main_arg2)) (m ((c.tc : Thread nD τ).loc main_arg3)) (m ((c.tc : Thread nD τ).loc main_arg5)) (m ((c.tc : Thread nD τ).loc main_arg6)) (row t r) j := by
  unfold blockY outAll proj
  rw [proj_eq]
  refine congrArg₂ (fun a b : EReal => a + b) (Finset.sum_congr rfl fun n _ => ?_) (Finset.sum_congr rfl fun n _ => ?_)
  · rw [attnOut_eq, gate_at, shown2]
    exact congrArg (_ * ·) (shown5 m c t _ _)
  · rw [conv_at]
    exact congrArg (_ * ·) (shown5 m c t _ _)

theorem gates_at (t : Fin cfg0.N) (k : Fin 2048) : gates (iblk m c 4 t) (ValueIdx.ix2 0 k) = gate (m ((c.tc : Thread nD τ).loc main_arg4)) k := shown4 m c t _

theorem back_at (t : Fin cfg0.N) (r : Fin 256) (j : Fin 2048) :
    k0_pay17 (blockY (grid0.coords t) (iblk m c 2 t) (iblk m c 3 t) (iblk m c 5 t) (iblk m c 6 t) (iblk m c 7 t) (iblk m c 8 t) (iblk m c 9 t) (iblk m c 10 t) (iblk m c 11 t) (iblk m c 12 t)) (gates (iblk m c 4 t)) (iblk m c 0 t) (iblk m c 1 t) (iblk m c 5 t) (ValueIdx.ix2 r j)
      = backAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (row t r) j := by
  rw [back_eq]
  simp only [out_at, gates_at, shown0, shown1, shown5]
  rfl

/-- What a point leaves. -/
theorem point (t : Fin cfg0.N) : (outsAt0 m c t.val t.isLt).1 = blockG (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    ∧ (outsAt0 m c t.val t.isLt).2.2.2.1 = blockC (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    ∧ (outsAt0 m c t.val t.isLt).2.2.2.2.1 = blockO (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  have ht : t.val < 32 := lt_of_lt_of_eq t.isLt N_0
  by_cases h : t.val = 0
  · rw [outsAt0_A m c t (by omega) (by omega)]
    dsimp only
    exact first_eq ..
  · rw [outsAt0_B m c t (by omega) (by omega)]
    dsimp only
    exact later_eq ..

theorem elementG (t : Fin cfg0.N) (r : Fin 256) (j : Fin 2048) : (outsAt0 m c t.val t.isLt).1 (ValueIdx.ix2 r j) = wholeG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ValueIdx.ix2 (row t r) j) := by
  rw [(point m c t).1, blockG, resid_eq, out_at, gates_at, shown0, shown1]
  rfl

theorem elementC (t : Fin cfg0.N) (r : Fin 256) (n : Fin 1024) : (outsAt0 m c t.val t.isLt).2.2.2.1 (ValueIdx.ix2 r n) = wholeC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ValueIdx.ix2 (row t r) n) := by
  rw [(point m c t).2.1, blockC, dyc_eq, back_at]
  rfl

theorem elementO (t : Fin cfg0.N) (r : Fin 256) (n : Fin 1024) : (outsAt0 m c t.val t.isLt).2.2.2.2.1 (ValueIdx.ix2 r n) = wholeO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ValueIdx.ix2 (row t r) n) := by
  rw [(point m c t).2.2, blockO, do_eq, back_at, gate_at]
  rfl

/-- The kernel's arrays: the gradient in the layer's output, -/
theorem kernelG : (dats m 0 c).arrAt 13 cfg0.N = wholeG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 13 _ (by decide +kernel) fun t hf y => ?_
  have hp := elementG m c t
  rw [after0_13]
  generalize (outsAt0 m c t.val t.isLt).1 = X at hp ⊢
  generalize m ((c.tc : Thread nD τ).loc main_arg0) = a0 at hp ⊢
  generalize m ((c.tc : Thread nD τ).loc main_arg1) = a1 at hp ⊢
  generalize m ((c.tc : Thread nD τ).loc main_arg2) = a2 at hp ⊢
  generalize m ((c.tc : Thread nD τ).loc main_arg3) = a3 at hp ⊢
  generalize m ((c.tc : Thread nD τ).loc main_arg4) = a4 at hp ⊢
  generalize m ((c.tc : Thread nD τ).loc main_arg5) = a5 at hp ⊢
  generalize m ((c.tc : Thread nD τ).loc main_arg6) = a6 at hp ⊢
  obtain ⟨r, j, rfl⟩ : ∃ (r : Fin 256) (j : Fin 2048), y = ValueIdx.ix2 r j := ⟨y 0, y 1, ValueIdx.eq_ix2 y⟩
  have e : (win0_13.blk t).view.emb (ValueIdx.ix2 r j) = (ValueIdx.ix2 (row t r) j : S8192x2048.Idx) := by
    funext a
    apply Fin.ext
    match a with
    | ⟨0, _⟩ => blk_simp [(rows_at t).2.2.2.1]; show t.val * 256 + r.val = 256 * t.val + r.val; omega
    | ⟨1, _⟩ => blk_simp [(rows_at t).2.2.2.1]
  exact (hp r j).trans (congrArg (wholeG a0 a1 a2 a3 a4 a5 a6) e).symm

/-- in the convolution's branch, -/
theorem kernelC : (dats m 0 c).arrAt 16 cfg0.N = wholeC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 16 _ (by decide +kernel) fun t hf y => ?_
  have hp := elementC m c t
  rw [after0_16]
  generalize (outsAt0 m c t.val t.isLt).2.2.2.1 = X at hp ⊢
  generalize m ((c.tc : Thread nD τ).loc main_arg0) = a0 at hp ⊢
  generalize m ((c.tc : Thread nD τ).loc main_arg1) = a1 at hp ⊢
  generalize m ((c.tc : Thread nD τ).loc main_arg2) = a2 at hp ⊢
  generalize m ((c.tc : Thread nD τ).loc main_arg3) = a3 at hp ⊢
  generalize m ((c.tc : Thread nD τ).loc main_arg4) = a4 at hp ⊢
  generalize m ((c.tc : Thread nD τ).loc main_arg5) = a5 at hp ⊢
  generalize m ((c.tc : Thread nD τ).loc main_arg6) = a6 at hp ⊢
  obtain ⟨r, j, rfl⟩ : ∃ (r : Fin 256) (j : Fin 1024), y = ValueIdx.ix2 r j := ⟨y 0, y 1, ValueIdx.eq_ix2 y⟩
  have e : (win0_16.blk t).view.emb (ValueIdx.ix2 r j) = (ValueIdx.ix2 (row t r) j : S8192x1024.Idx) := by
    funext a
    apply Fin.ext
    match a with
    | ⟨0, _⟩ => blk_simp [(rows_at t).2.2.2.2.1]; show t.val * 256 + r.val = 256 * t.val + r.val; omega
    | ⟨1, _⟩ => blk_simp [(rows_at t).2.2.2.2.1]
  exact (hp r j).trans (congrArg (wholeC a0 a1 a2 a3 a4 a5 a6) e).symm

/-- and in attention's output. -/
theorem kernelO : (dats m 0 c).arrAt 17 cfg0.N = wholeO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 17 _ (by decide +kernel) fun t hf y => ?_
  have hp := elementO m c t
  rw [after0_17]
  generalize (outsAt0 m c t.val t.isLt).2.2.2.2.1 = X at hp ⊢
  generalize m ((c.tc : Thread nD τ).loc main_arg0) = a0 at hp ⊢
  generalize m ((c.tc : Thread nD τ).loc main_arg1) = a1 at hp ⊢
  generalize m ((c.tc : Thread nD τ).loc main_arg2) = a2 at hp ⊢
  generalize m ((c.tc : Thread nD τ).loc main_arg3) = a3 at hp ⊢
  generalize m ((c.tc : Thread nD τ).loc main_arg4) = a4 at hp ⊢
  generalize m ((c.tc : Thread nD τ).loc main_arg5) = a5 at hp ⊢
  generalize m ((c.tc : Thread nD τ).loc main_arg6) = a6 at hp ⊢
  obtain ⟨r, j, rfl⟩ : ∃ (r : Fin 256) (j : Fin 1024), y = ValueIdx.ix2 r j := ⟨y 0, y 1, ValueIdx.eq_ix2 y⟩
  have e : (win0_17.blk t).view.emb (ValueIdx.ix2 r j) = (ValueIdx.ix2 (row t r) j : S8192x1024.Idx) := by
    funext a
    apply Fin.ext
    match a with
    | ⟨0, _⟩ => blk_simp [(rows_at t).2.2.2.2.2]; show t.val * 256 + r.val = 256 * t.val + r.val; omega
    | ⟨1, _⟩ => blk_simp [(rows_at t).2.2.2.2.2]
  exact (hp r j).trans (congrArg (wholeO a0 a1 a2 a3 a4 a5 a6) e).symm

end Cert.Tail
-- ==== Proof.TailSums.lean ====
/-
  The sums over all rows that the call keeps: the gate's gradient and the loss.
-/
module

public import proofs.«01_k».proof.Proof.Tail

@[expose] public section

set_option maxRecDepth 16384

noncomputable section

namespace Cert.Tail

open Cert.Kernel10Ideal Cert.Kernel10Ideal.Gen
open Idealize.ShloMosaic Idealize.ShloMosaic.TcCoe Idealize.SL.Sem

local notation "𝔽" => Idealize.ShloMosaic.Ideal

/-- The residual itself. -/
def err (x t g y : EReal) : EReal := x + g * y - t

/-- A block's part of the gate's gradient, -/
theorem gateSum_eq (y d : FVec 𝔽 S256x2048 .f32) (j : Fin 2048) :
    k0_pay33 y d (ValueIdx.ix2 0 j) = ∑ r : Fin 256, d (ValueIdx.ix2 r j) * y (ValueIdx.ix2 r j) := by
  unfold k0_pay33
  pointwise
  simp only [ix2_eq_valueIdx]

/-- and of the loss. -/
theorem lossSum_eq (e : FVec 𝔽 S256x2048 .f32) (l : Fin 128) :
    k0_pay34 e (ValueIdx.ix2 0 l) = (∑ k : Fin 2048, ∑ r : Fin 256, e (ValueIdx.ix2 r k) * e (ValueIdx.ix2 r k)) * Ideal.ofBits .f32 0x39800000#32 := by
  unfold k0_pay34
  pointwise
  simp only [ix2_eq_valueIdx]

theorem err_eq (y : Vec 𝔽 S256x2048 .f32) (g : Vec 𝔽 S1x2048 .f32) (x t : Vec 𝔽 S256x2048 .f32) (r : Fin 256) (j : Fin 2048) :
    k0_pay14 y g x t (ValueIdx.ix2 r j) = err (x (ValueIdx.ix2 r j)) (t (ValueIdx.ix2 r j)) (g (ValueIdx.ix2 0 j)) (y (ValueIdx.ix2 r j)) := by
  unfold k0_pay14 err
  pointwise
  simp only [ix2_eq_valueIdx]

theorem sum_rows (F : ℕ → EReal) : ∑ i : Fin 8192, F i.val = ∑ t ∈ Finset.range 32, ∑ r : Fin 256, F (256 * t + r.val) := by
  rw [← Fin.sum_univ_eq_sum_range (fun t => ∑ r : Fin 256, F (256 * t + r.val)) 32, ← Fintype.sum_prod_type']
  refine (Fintype.sum_equiv (finProdFinEquiv (m := 32) (n := 256)) _ _ fun q => ?_).symm
  show F _ = F (q.2.val + 256 * q.1.val)
  rw [add_comm]

/-- A nonnegative real factor leaves a sum, whatever its terms. -/
theorem sum_mul_coe {ι : Type} (s : Finset ι) (R : ℝ) (h : 0 ≤ R) (z : ι → EReal) : ∑ k ∈ s, z k * (R : EReal) = (∑ k ∈ s, z k) * R := by
  classical
  induction s using Finset.induction_on with
  | empty => simp
  | insert a s ha ih => rw [Finset.sum_insert ha, Finset.sum_insert ha, ih, mul_comm _ (R : EReal), mul_comm _ (R : EReal), mul_comm _ (R : EReal), EReal.left_distrib_of_nonneg_of_ne_top (EReal.coe_nonneg.2 h) (EReal.coe_ne_top R)]

section Block

variable (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x1024 .bf16) (harg3 : arg3.IsWhole) (arg4 : Memref sig .tc .vmem S256x2048 .bf16) (harg4 : arg4.IsWhole) (arg5 : Memref sig .tc .vmem S1x6144 .f32) (harg5 : arg5.IsWhole) (arg6 : Memref sig .tc .vmem S2048x2048 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S16x1024 .bf16) (harg11 : arg11.IsWhole) (arg12 : Memref sig .tc .vmem S16x1024 .bf16) (harg12 : arg12.IsWhole) (arg13 : Memref sig .tc .vmem S3x1024 .f32) (harg13 : arg13.IsWhole) (arg14 : Memref sig .tc .vmem S256x2048 .f32) (harg14 : arg14.IsWhole) (arg15 : Memref sig .tc .vmem S256x2048 .bf16) (harg15 : arg15.IsWhole) (arg16 : Memref sig .tc .vmem S2048x256 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x1024 .bf16) (harg19 : arg19.IsWhole) (arg20 : Memref sig .tc .vmem S8x1x256 .f32) (harg20 : arg20.IsWhole) (arg21 : Memref sig .tc .vmem S1x2048 .f32) (harg21 : arg21.IsWhole) (arg22 : Memref sig .tc .vmem S1x128 .f32) (harg22 : arg22.IsWhole)
variable (x0 : Vec 𝔽 S256x2048 .f32) (x1 : Vec 𝔽 S256x2048 .f32) (x2 : Vec 𝔽 S256x1024 .bf16) (x3 : Vec 𝔽 S256x2048 .bf16) (x4 : Vec 𝔽 S1x6144 .f32) (x5 : Vec 𝔽 S2048x2048 .bf16) (x6 : Vec 𝔽 S256x1024 .bf16) (x7 : Vec 𝔽 S256x1024 .bf16) (x8 : Vec 𝔽 S256x1024 .bf16) (x9 : Vec 𝔽 S256x1024 .bf16) (x10 : Vec 𝔽 S16x1024 .bf16) (x11 : Vec 𝔽 S16x1024 .bf16) (x12 : Vec 𝔽 S3x1024 .f32)

/-- What a point adds to the gate's gradient, -/
def blockS : FVec 𝔽 S1x2048 .f32 := k0_pay33 (blockY i x2 x3 x5 x6 x7 x8 x9 x10 x11 x12) (blockG i x0 x1 x2 x3 x4 x5 x6 x7 x8 x9 x10 x11 x12)

/-- and to the loss. -/
def blockL : FVec 𝔽 S1x128 .f32 := k0_pay34 (k0_pay14 (blockY i x2 x3 x5 x6 x7 x8 x9 x10 x11 x12) (gates x4) x0 x1)

theorem firstSums (hc0 : cond0_0 i) (hc1 : ¬cond0_1 i) :
    out0_A_20 (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 = blockS i x0 x1 x2 x3 x4 x5 x6 x7 x8 x9 x10 x11 x12
      ∧ out0_A_21 (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 = blockL i x0 x1 x2 x3 x4 x5 x6 x7 x8 x9 x10 x11 x12 := by
  have hy : kernelRun0_A.sl.r_8 (F := 𝔽) c i arg3 harg3 arg4 harg4 arg6 harg6 arg7 harg7 arg8 harg8 arg9 harg9 arg10 harg10 arg11 harg11 arg12 harg12 arg13 harg13 x2 x3 x5 x6 x7 x8 x9 x10 x11 x12 = blockY i x2 x3 x5 x6 x7 x8 x9 x10 x11 x12 := by
    unfold kernelRun0_A.sl.r_8 kernelRun0_A.sl.r_5 kernelRun0_A.sl.r_6 kernelRun0_A.sl.r_7 blockY
    rw [read_cols arg4 harg4, read_lower arg6 harg6, read_upper arg6 harg6, read_full arg3 harg3, read_full arg7 harg7, read_full arg8 harg8, read_full arg9 harg9,
      read_full arg10 harg10, read_full arg11 harg11, read_full arg12 harg12, read_full arg13 harg13]
  have he : kernelRun0_A.sl.r_9 (F := 𝔽) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12 = k0_pay14 (blockY i x2 x3 x5 x6 x7 x8 x9 x10 x11 x12) (gates x4) x0 x1 := by
    unfold kernelRun0_A.sl.r_9
    rw [hy, read_gates arg5 harg5, read_full arg1 harg1, read_full arg2 harg2]
  have hg : kernelRun0_A.sl.r_10 (F := 𝔽) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12 = blockG i x0 x1 x2 x3 x4 x5 x6 x7 x8 x9 x10 x11 x12 := by
    unfold kernelRun0_A.sl.r_10 blockG
    rw [hy, read_gates arg5 harg5, read_full arg1 harg1, read_full arg2 harg2]
  unfold out0_A_20 out0_A_21 kernelRun0_A blockS blockL
  refine ⟨(View.read_writes_full _ _ _ _ _).trans ?_, (View.read_writes_full _ _ _ _ _).trans ?_⟩
  · rw [hy, hg]
  · rw [he]

theorem laterSums (hc0 : ¬cond0_0 i) (hc1 : cond0_1 i) (a : Vec 𝔽 S1x2048 .f32) (b : Vec 𝔽 S1x128 .f32) :
    out0_B_20 (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 a b = k0_pay1 (blockS i x0 x1 x2 x3 x4 x5 x6 x7 x8 x9 x10 x11 x12) a
      ∧ out0_B_21 (F := 𝔽) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 x9 x10 x11 x12 a b = k0_pay2 (blockL i x0 x1 x2 x3 x4 x5 x6 x7 x8 x9 x10 x11 x12) b := by
  have hy : kernelRun0_B.sl.r_8 (F := 𝔽) c i arg3 harg3 arg4 harg4 arg6 harg6 arg7 harg7 arg8 harg8 arg9 harg9 arg10 harg10 arg11 harg11 arg12 harg12 arg13 harg13 x2 x3 x5 x6 x7 x8 x9 x10 x11 x12 = blockY i x2 x3 x5 x6 x7 x8 x9 x10 x11 x12 := by
    unfold kernelRun0_B.sl.r_8 kernelRun0_B.sl.r_5 kernelRun0_B.sl.r_6 kernelRun0_B.sl.r_7 blockY
    rw [read_cols arg4 harg4, read_lower arg6 harg6, read_upper arg6 harg6, read_full arg3 harg3, read_full arg7 harg7, read_full arg8 harg8, read_full arg9 harg9,
      read_full arg10 harg10, read_full arg11 harg11, read_full arg12 harg12, read_full arg13 harg13]
  have he : kernelRun0_B.sl.r_9 (F := 𝔽) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12 = k0_pay14 (blockY i x2 x3 x5 x6 x7 x8 x9 x10 x11 x12) (gates x4) x0 x1 := by
    unfold kernelRun0_B.sl.r_9
    rw [hy, read_gates arg5 harg5, read_full arg1 harg1, read_full arg2 harg2]
  have hg : kernelRun0_B.sl.r_10 (F := 𝔽) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12 = blockG i x0 x1 x2 x3 x4 x5 x6 x7 x8 x9 x10 x11 x12 := by
    unfold kernelRun0_B.sl.r_10 blockG
    rw [hy, read_gates arg5 harg5, read_full arg1 harg1, read_full arg2 harg2]
  unfold out0_B_20 out0_B_21 kernelRun0_B blockS blockL
  refine ⟨(View.read_writes_full _ _ _ _ _).trans ?_, (View.read_writes_full _ _ _ _ _).trans ?_⟩
  · unfold kernelRun0_B.sl.r_15
    rw [hy, hg, read_full arg21 harg21]
  · unfold kernelRun0_B.sl.r_16
    rw [he, read_full arg22 harg22]

end Block

/-! ## The whole arrays -/

/-- The residual of a row of the layer's output. -/
def errAll (x t : FVec 𝔽 S8192x2048 .f32) (o : FVec 𝔽 S8192x1024 .f32) (u : FVec 𝔽 S8192x6144 .f32) (v : FVec 𝔽 S1x6144 .f32) (w : FVec 𝔽 S2048x2048 .f32) (cw : FVec 𝔽 S3x1024 .f32) (i : Fin 8192) (j : Fin 2048) : EReal :=
  err (x (ValueIdx.ix2 i j)) (t (ValueIdx.ix2 i j)) (gate v j) (outAll o u w cw i j)

/-- The gate's gradient, -/
def wholeS (x t : FVec 𝔽 S8192x2048 .f32) (o : FVec 𝔽 S8192x1024 .f32) (u : FVec 𝔽 S8192x6144 .f32) (v : FVec 𝔽 S1x6144 .f32) (w : FVec 𝔽 S2048x2048 .f32) (cw : FVec 𝔽 S3x1024 .f32) : FVec 𝔽 S1x2048 .f32 := fun p =>
  ∑ i : Fin 8192, wholeG x t o u v w cw (ValueIdx.ix2 i (p 1)) * outAll o u w cw i (p 1)

/-- and the loss, in every lane. -/
def wholeL (x t : FVec 𝔽 S8192x2048 .f32) (o : FVec 𝔽 S8192x1024 .f32) (u : FVec 𝔽 S8192x6144 .f32) (v : FVec 𝔽 S1x6144 .f32) (w : FVec 𝔽 S2048x2048 .f32) (cw : FVec 𝔽 S3x1024 .f32) : FVec 𝔽 S1x128 .f32 := fun _ =>
  (∑ i : Fin 8192, ∑ j : Fin 2048, errAll x t o u v w cw i j * errAll x t o u v w cw i j) * Ideal.ofBits .f32 0x39800000#32

/-- A row's share of a sum over all rows. -/
def share (f : Fin 8192 → EReal) (k : ℕ) : EReal := if h : k < 8192 then f ⟨k, h⟩ else 0

theorem share_row (f : Fin 8192 → EReal) (t : Fin cfg0.N) (r : Fin 256) : share f (256 * t.val + r.val) = f (row t r) := dif_pos (row t r).isLt

theorem share_all (f : Fin 8192 → EReal) : ∑ i : Fin 8192, f i = ∑ t ∈ Finset.range 32, ∑ r : Fin 256, share f (256 * t + r.val) := by
  rw [← sum_rows]
  exact Finset.sum_congr rfl fun i _ => (show share f i.val = f i from dif_pos i.isLt).symm

variable (m : (ℓ : Loc nD τ sig) → Buf (Elt 𝔽) ℓ) (c : Dev nD)

theorem point_first (t : Fin cfg0.N) (h : t.val = 0) : (outsAt0 m c t.val t.isLt).2.2.2.2.2.2.2.1 = blockS (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    ∧ (outsAt0 m c t.val t.isLt).2.2.2.2.2.2.2.2 = blockL (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by
  rw [outsAt0_A m c t (by omega) (by omega)]
  dsimp only
  exact firstSums ..

theorem point_later (t : Fin cfg0.N) (h : t.val ≠ 0) : (outsAt0 m c t.val t.isLt).2.2.2.2.2.2.2.1 = k0_pay1 (blockS (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (outsAt0 m c (t.val - 1) (Nat.lt_of_le_of_lt (Nat.sub_le _ _) t.isLt)).2.2.2.2.2.2.2.1
    ∧ (outsAt0 m c t.val t.isLt).2.2.2.2.2.2.2.2 = k0_pay2 (blockL (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (outsAt0 m c (t.val - 1) (Nat.lt_of_le_of_lt (Nat.sub_le _ _) t.isLt)).2.2.2.2.2.2.2.2 := by
  have ht : t.val < 32 := lt_of_lt_of_eq t.isLt N_0
  rw [outsAt0_B m c t (by omega) (by omega)]
  dsimp only
  exact laterSums ..

/-- What a point adds, as a sum over its rows: to the gate's gradient, -/
theorem part_gate (t : Fin cfg0.N) (j : Fin 2048) : blockS (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ValueIdx.ix2 0 j)
    = ∑ r : Fin 256, share (fun i => wholeG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ValueIdx.ix2 i j) * outAll (m ((c.tc : Thread nD τ).loc main_arg2)) (m ((c.tc : Thread nD τ).loc main_arg3)) (m ((c.tc : Thread nD τ).loc main_arg5)) (m ((c.tc : Thread nD τ).loc main_arg6)) i j) (256 * t.val + r.val) := by
  rw [blockS, gateSum_eq]
  refine Finset.sum_congr rfl fun r _ => ?_
  rw [share_row, out_at, blockG, resid_eq, out_at, gates_at, shown0, shown1]
  rfl

/-- and to the loss. -/
theorem part_loss (t : Fin cfg0.N) (l : Fin 128) : blockL (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ValueIdx.ix2 0 l)
    = (∑ r : Fin 256, share (fun i => ∑ j : Fin 2048, errAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i j * errAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i j) (256 * t.val + r.val)) * Ideal.ofBits .f32 0x39800000#32 := by
  rw [blockL, lossSum_eq, Finset.sum_comm]
  refine congrArg (fun a : EReal => a * _) (Finset.sum_congr rfl fun r _ => ?_)
  rw [share_row]
  refine Finset.sum_congr rfl fun j _ => ?_
  rw [err_eq, out_at, gates_at, shown0, shown1]
  rfl

theorem add_gate (a b : FVec 𝔽 S1x2048 .f32) (j : Fin 2048) : k0_pay1 a b (ValueIdx.ix2 0 j) = b (ValueIdx.ix2 0 j) + a (ValueIdx.ix2 0 j) := by
  unfold k0_pay1
  pointwise

theorem add_loss (a b : FVec 𝔽 S1x128 .f32) (j : Fin 128) : k0_pay2 a b (ValueIdx.ix2 0 j) = b (ValueIdx.ix2 0 j) + a (ValueIdx.ix2 0 j) := by
  unfold k0_pay2
  pointwise

/-- The sums so far: of the gate's gradient, -/
theorem so_far_gate (j : Fin 2048) : ∀ (n : ℕ) (hn : n < cfg0.N), (outsAt0 m c n hn).2.2.2.2.2.2.2.1 (ValueIdx.ix2 0 j)
    = ∑ t ∈ Finset.range (n + 1), ∑ r : Fin 256, share (fun i => wholeG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ValueIdx.ix2 i j) * outAll (m ((c.tc : Thread nD τ).loc main_arg2)) (m ((c.tc : Thread nD τ).loc main_arg3)) (m ((c.tc : Thread nD τ).loc main_arg5)) (m ((c.tc : Thread nD τ).loc main_arg6)) i j) (256 * t + r.val)
  | 0, hn => by
    rw [(point_first m c ⟨0, hn⟩ rfl).1, part_gate]
    rw [zero_add, Finset.sum_range_one]
  | n + 1, hn => by
    rw [(point_later m c ⟨n + 1, hn⟩ (Nat.succ_ne_zero n)).1, add_gate, part_gate, Finset.sum_range_succ]
    exact congrArg (fun a : EReal => a + _) (so_far_gate j n (Nat.lt_of_succ_lt hn))

/-- and of the loss. -/
theorem so_far_loss (l : Fin 128) : ∀ (n : ℕ) (hn : n < cfg0.N), (outsAt0 m c n hn).2.2.2.2.2.2.2.2 (ValueIdx.ix2 0 l)
    = ∑ t ∈ Finset.range (n + 1), (∑ r : Fin 256, share (fun i => ∑ j : Fin 2048, errAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i j * errAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i j) (256 * t + r.val)) * Ideal.ofBits .f32 0x39800000#32
  | 0, hn => by
    rw [(point_first m c ⟨0, hn⟩ rfl).2, part_loss]
    rw [zero_add, Finset.sum_range_one]
  | n + 1, hn => by
    rw [(point_later m c ⟨n + 1, hn⟩ (Nat.succ_ne_zero n)).2, add_loss, part_loss, Finset.sum_range_succ]
    exact congrArg (fun a : EReal => a + _) (so_far_loss l n (Nat.lt_of_succ_lt hn))

theorem scale_val : Ideal.ofBits .f32 0x39800000#32 = ((1 / 4096 : ℝ) : EReal) := by
  simp [Ideal.ofBits, Ideal.ieee, -EReal.coe_mul]; norm_num

theorem totalS (t : Fin cfg0.N) (h : t.val = 31) (j : Fin 2048) : (outsAt0 m c t.val t.isLt).2.2.2.2.2.2.2.1 (ValueIdx.ix2 0 j) = wholeS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ValueIdx.ix2 0 j) := by
  rw [so_far_gate, h]
  exact (share_all _).symm

theorem totalL (t : Fin cfg0.N) (h : t.val = 31) (l : Fin 128) : (outsAt0 m c t.val t.isLt).2.2.2.2.2.2.2.2 (ValueIdx.ix2 0 l) = wholeL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ValueIdx.ix2 0 l) := by
  rw [so_far_loss, h]
  unfold wholeL
  rw [scale_val, sum_mul_coe _ _ (by norm_num), share_all]

theorem last_of_flush20 : ∀ t : Fin cfg0.N, (cfg0.win 20).flush t = true → t.val = 31 := by decide +kernel
theorem last_of_flush21 : ∀ t : Fin cfg0.N, (cfg0.win 21).flush t = true → t.val = 31 := by decide +kernel
theorem once_at : ∀ t : Fin grid0.N, win0_20.index t = ![0, 0] ∧ win0_21.index t = ![0, 0] := by decide +kernel

/-- The kernel's arrays: the gate's gradient -/
theorem kernelS : (dats m 0 c).arrAt 20 cfg0.N = wholeS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 20 _ (by decide +kernel) fun t hf y => ?_
  have ht : t.val = 31 := last_of_flush20 t hf
  have hp := totalS m c t ht
  rw [after0_20]
  generalize (outsAt0 m c t.val t.isLt).2.2.2.2.2.2.2.1 = X at hp ⊢
  generalize m ((c.tc : Thread nD τ).loc main_arg0) = a0 at hp ⊢
  generalize m ((c.tc : Thread nD τ).loc main_arg1) = a1 at hp ⊢
  generalize m ((c.tc : Thread nD τ).loc main_arg2) = a2 at hp ⊢
  generalize m ((c.tc : Thread nD τ).loc main_arg3) = a3 at hp ⊢
  generalize m ((c.tc : Thread nD τ).loc main_arg4) = a4 at hp ⊢
  generalize m ((c.tc : Thread nD τ).loc main_arg5) = a5 at hp ⊢
  generalize m ((c.tc : Thread nD τ).loc main_arg6) = a6 at hp ⊢
  obtain ⟨j, rfl⟩ : ∃ j : Fin 2048, y = ValueIdx.ix2 0 j := ⟨y 1, (ValueIdx.eq_ix2 y).trans (congrArg (fun a => ValueIdx.ix2 a (y 1)) (Subsingleton.elim (α := Fin 1) _ _))⟩
  have e : (win0_20.blk t).view.emb (ValueIdx.ix2 0 j) = (ValueIdx.ix2 0 j : S1x2048.Idx) := by
    funext a
    apply Fin.ext
    match a with
    | ⟨0, _⟩ => blk_simp [(once_at t).1]
    | ⟨1, _⟩ => blk_simp [(once_at t).1]
  exact (hp j).trans (congrArg (wholeS a0 a1 a2 a3 a4 a5 a6) e).symm

/-- and the loss. -/
theorem kernelL : (dats m 0 c).arrAt 21 cfg0.N = wholeL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 21 _ (by decide +kernel) fun t hf y => ?_
  have ht : t.val = 31 := last_of_flush21 t hf
  have hp := totalL m c t ht
  rw [after0_21]
  generalize (outsAt0 m c t.val t.isLt).2.2.2.2.2.2.2.2 = X at hp ⊢
  generalize m ((c.tc : Thread nD τ).loc main_arg0) = a0 at hp ⊢
  generalize m ((c.tc : Thread nD τ).loc main_arg1) = a1 at hp ⊢
  generalize m ((c.tc : Thread nD τ).loc main_arg2) = a2 at hp ⊢
  generalize m ((c.tc : Thread nD τ).loc main_arg3) = a3 at hp ⊢
  generalize m ((c.tc : Thread nD τ).loc main_arg4) = a4 at hp ⊢
  generalize m ((c.tc : Thread nD τ).loc main_arg5) = a5 at hp ⊢
  generalize m ((c.tc : Thread nD τ).loc main_arg6) = a6 at hp ⊢
  obtain ⟨j, rfl⟩ : ∃ j : Fin 128, y = ValueIdx.ix2 0 j := ⟨y 1, (ValueIdx.eq_ix2 y).trans (congrArg (fun a => ValueIdx.ix2 a (y 1)) (Subsingleton.elim (α := Fin 1) _ _))⟩
  have e : (win0_21.blk t).view.emb (ValueIdx.ix2 0 j) = (ValueIdx.ix2 0 j : S1x128.Idx) := by
    funext a
    apply Fin.ext
    match a with
    | ⟨0, _⟩ => blk_simp [(once_at t).2]
    | ⟨1, _⟩ => blk_simp [(once_at t).2]
  exact (hp j).trans (congrArg (wholeL a0 a1 a2 a3 a4 a5 a6) e).symm

end Cert.Tail
-- ==== Proof.TailReference.lean ====
/-
  The output product, the loss's residual and the way back, over the extended reals: the reference's gradients
  and loss are the kernel's, whatever the numbers.
-/
module

public import proofs.«01_k».proof.Proof.TailSums
public import proofs.«01_k».proof.Proof.NormReference
public import proofs.«01_k».proof.Proof.Gen.Reference10Ideal.Run

@[expose] public section

set_option maxRecDepth 16384

noncomputable section

namespace Cert.Tail

open Cert.Reference10Ideal Cert.Reference10Ideal.Gen
open Idealize.ShloMosaic Idealize.ShloMosaic.TcCoe Idealize.SL.Sem

local notation "𝔽" => Idealize.ShloMosaic.Ideal

/-- The reference's branch of the convolution, -/
def convBranch (u : FVec 𝔽 S8192x6144 .f32) (cw : FVec 𝔽 S3x1024 .f32) : FVec 𝔽 S8192x1024 .f32 :=
  mulf (mulf (extractStridedSlice S8192x1024 ![0, 1024] u slices_S8192x6144_S8192x1024_0_1024) (addf (addf (addf (broadcastInDim S8192x1024 ![] bcast_S_S8192x1024 (constant S_ .f32 0x00000000#32)) (mulf (broadcastInDim S8192x1024 ![0, 1] bcast_S1x1024_S8192x1024_0_1 (broadcastInDim S1x1024 ![1] bcast_S1024_S1x1024_1 (shapeCast _ (extractStridedSlice S1x1024 ![0, 0] cw slices_S3x1024_S1x1024_0_0) shapeCasts_S1x1024_S1024))) (extractStridedSlice S8192x1024 ![0, 0] (pad S8194x1024 ![2, 0] ![0, 0] ![0, 0] (mulf (extractStridedSlice S8192x1024 ![0, 2048] u slices_S8192x6144_S8192x1024_0_2048) (extractStridedSlice S8192x1024 ![0, 0] u slices_S8192x6144_S8192x1024_0_0)) (sitofp .f32 (constantI S_ 32 0#32)) pads_S8192x1024_S8194x1024_200_000 h_S_) slices_S8194x1024_S8192x1024_0_0))) (mulf (broadcastInDim S8192x1024 ![0, 1] bcast_S1x1024_S8192x1024_0_1 (broadcastInDim S1x1024 ![1] bcast_S1024_S1x1024_1 (shapeCast _ (extractStridedSlice S1x1024 ![1, 0] cw slices_S3x1024_S1x1024_1_0) shapeCasts_S1x1024_S1024))) (extractStridedSlice S8192x1024 ![1, 0] (pad S8194x1024 ![2, 0] ![0, 0] ![0, 0] (mulf (extractStridedSlice S8192x1024 ![0, 2048] u slices_S8192x6144_S8192x1024_0_2048) (extractStridedSlice S8192x1024 ![0, 0] u slices_S8192x6144_S8192x1024_0_0)) (sitofp .f32 (constantI S_ 32 0#32)) pads_S8192x1024_S8194x1024_200_000 h_S_) slices_S8194x1024_S8192x1024_1_0))) (mulf (broadcastInDim S8192x1024 ![0, 1] bcast_S1x1024_S8192x1024_0_1 (broadcastInDim S1x1024 ![1] bcast_S1024_S1x1024_1 (shapeCast _ (extractStridedSlice S1x1024 ![2, 0] cw slices_S3x1024_S1x1024_2_0) shapeCasts_S1x1024_S1024))) (extractStridedSlice S8192x1024 ![2, 0] (pad S8194x1024 ![2, 0] ![0, 0] ![0, 0] (mulf (extractStridedSlice S8192x1024 ![0, 2048] u slices_S8192x6144_S8192x1024_0_2048) (extractStridedSlice S8192x1024 ![0, 0] u slices_S8192x6144_S8192x1024_0_0)) (sitofp .f32 (constantI S_ 32 0#32)) pads_S8192x1024_S8194x1024_200_000 h_S_) slices_S8194x1024_S8192x1024_2_0)))) (mulf (extractStridedSlice S8192x1024 ![0, 3072] u slices_S8192x6144_S8192x1024_0_3072) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 3072] u slices_S8192x6144_S8192x1024_0_3072))))))

/-- its branch of attention, -/
def attnBranch (o : FVec 𝔽 S8192x1024 .f32) (u : FVec 𝔽 S8192x6144 .f32) : FVec 𝔽 S8192x1024 .f32 :=
  mulf o (mulf (extractStridedSlice S8192x1024 ![0, 4928] u slices_S8192x6144_S8192x1024_0_4928) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 4928] u slices_S8192x6144_S8192x1024_0_4928))))))

/-- its output product, -/
def outProduct (o : FVec 𝔽 S8192x1024 .f32) (u : FVec 𝔽 S8192x6144 .f32) (w : FVec 𝔽 S2048x2048 .f32) (cw : FVec 𝔽 S3x1024 .f32) : FVec 𝔽 S8192x2048 .f32 :=
  Host.dotGeneral dot_S8192x2048_S2048x2048_S8192x2048_1_0_0_1_n_n none (concatenate S8192x2048 1 [⟨S8192x1024, (convBranch u cw)⟩, ⟨S8192x1024, (attnBranch o u)⟩] concatenates_S8192x1024_S8192x1024_S8192x2048_d1) w

/-- its gradient of the loss in the layer's output, -/
def outGradient (x t : FVec 𝔽 S8192x2048 .f32) (v : FVec 𝔽 S1x6144 .f32) (y : FVec 𝔽 S8192x2048 .f32) : FVec 𝔽 S8192x2048 .f32 :=
  mulf (broadcastInDim S8192x2048 ![0] bcast_S8192_S8192x2048_0 (Host.divf (broadcastInDim S8192 ![] bcast_S_S8192 (mulf (constant S_ .f32 0x3F000000#32) (constant S_ .f32 0x3F800000#32))) (broadcastInDim S8192 ![] bcast_S_S8192 (constant S_ .f32 0x45000000#32)))) (mulf (broadcastInDim S8192x2048 ![] bcast_S_S8192x2048 (constant S_ .f32 0x40000000#32)) (subf (addf x (mulf (broadcastInDim S8192x2048 ![0, 1] bcast_S1x2048_S8192x2048_0_1 (extractStridedSlice S1x2048 ![0, 4096] v slices_S1x6144_S1x2048_0_4096)) y)) t))

/-- and in the branches' outputs. -/
def branchGradient (g : FVec 𝔽 S8192x2048 .f32) (v : FVec 𝔽 S1x6144 .f32) (w : FVec 𝔽 S2048x2048 .f32) : FVec 𝔽 S8192x2048 .f32 :=
  Host.dotGeneral dot_S8192x2048_S2048x2048_S8192x2048_1_1_0_0_n_n none (mulf (broadcastInDim S8192x2048 ![0, 1] bcast_S1x2048_S8192x2048_0_1 (extractStridedSlice S1x2048 ![0, 4096] v slices_S1x6144_S1x2048_0_4096)) g) w

/-- The reference's residual, -/
def outError (x t : FVec 𝔽 S8192x2048 .f32) (v : FVec 𝔽 S1x6144 .f32) (y : FVec 𝔽 S8192x2048 .f32) : FVec 𝔽 S8192x2048 .f32 :=
  subf (addf x (mulf (broadcastInDim S8192x2048 ![0, 1] bcast_S1x2048_S8192x2048_0_1 (extractStridedSlice S1x2048 ![0, 4096] v slices_S1x6144_S1x2048_0_4096)) y)) t

/-- its loss, -/
def lossRow (e : FVec 𝔽 S8192x2048 .f32) : FVec 𝔽 S1x128 .f32 :=
  broadcastInDim S1x128 ![] bcast_S_S1x128 (mulf (constant S_ .f32 0x3F000000#32) (Host.reduceAdd (Host.divf (Host.reduceAdd (mulf e e) (constant S_ .f32 0x00000000#32) reducesTo_S8192x2048_S8192_d1 h_S_) (broadcastInDim S8192 ![] bcast_S_S8192 (constant S_ .f32 0x45000000#32))) (constant S_ .f32 0x00000000#32) reducesTo_S8192_S_d0 h_S_))

/-- and its gate's gradient. -/
def gateGradient (g y : FVec 𝔽 S8192x2048 .f32) : FVec 𝔽 S1x2048 .f32 :=
  shapeCast _ (Host.reduceAdd (mulf g y) (constant S_ .f32 0x00000000#32) reducesTo_S8192x2048_S2048_d0 h_S_) shapeCasts_S2048_S1x2048

theorem attnBranch_eq (o : FVec 𝔽 S8192x1024 .f32) (u : FVec 𝔽 S8192x6144 .f32) (i : Fin 8192) (n : Fin 1024) : attnBranch o u (ValueIdx.ix2 i n) = attnAll o u i n := by
  unfold attnBranch attnAll silu
  pointwise
  simp only [ix2_eq_valueIdx]
  simp only [zero_sub]

theorem zero_int : FloatOps.sitofp (F := 𝔽) FTy.f32 0#32 = (0 : EReal) := by
  show (((0#32 : BitVec 32).toInt : ℝ) : EReal) = 0
  simp

theorem convBranch_eq (u : FVec 𝔽 S8192x6144 .f32) (cw : FVec 𝔽 S3x1024 .f32) (i : Fin 8192) (n : Fin 1024) : convBranch u cw (ValueIdx.ix2 i n) = convAll u cw i n := by
  unfold convBranch convAll convOut conv silu
  pointwise
  simp only [ix2_eq_valueIdx]
  simp only [zero_sub]
  have e : ∀ (d : ℕ) (k : ℕ) (hk : k + d = 2) (q : ℕ) (hq : q = k + i.val),
      (if h : 2 ≤ q ∧ q - 2 < 8192 then u (ValueIdx.ix2 (⟨q - 2, h.2⟩ : Fin 8192) (col 2048 n)) * u (ValueIdx.ix2 (⟨q - 2, h.2⟩ : Fin 8192) (⟨n.val, by have := n.isLt; omega⟩ : Fin 6144))
        else FloatOps.sitofp (F := 𝔽) FTy.f32 0#32) = shifted u d i n := fun d k hk q hq => by
    have hi := i.isLt
    unfold shifted
    by_cases h : i.val < d
    · rw [dif_pos h, dif_neg (by omega)]
      exact zero_int
    · rw [dif_neg h, dif_pos (by omega)]
      have e1 : (⟨q - 2, by omega⟩ : Fin 8192) = ⟨i.val - d, by omega⟩ := Fin.ext (show q - 2 = i.val - d by omega)
      have e2 : (⟨n.val, by have := n.isLt; omega⟩ : Fin 6144) = col 0 n := Fin.ext (show n.val = 0 + n.val by omega)
      rw [e1, e2]
  have e0 : u (ValueIdx.ix2 i (col 2048 n)) * u (ValueIdx.ix2 i (⟨n.val, by have := n.isLt; omega⟩ : Fin 6144)) = shifted u 0 i n := by
    unfold shifted
    rw [dif_neg (Nat.not_lt_zero _)]
    have e2 : (⟨n.val, by have := n.isLt; omega⟩ : Fin 6144) = col 0 n := Fin.ext (show n.val = 0 + n.val by omega)
    rw [e2]
    rfl
  exact congrArg₂ (fun a b : EReal => a * b) (congrArg (fun a : EReal => _ * a) (congrArg₂ (fun a b : EReal => a + b)
    (congrArg₂ (fun a b : EReal => a + b) (congrArg (fun a : EReal => _ * a) (e 2 0 rfl _ (Nat.zero_add i.val).symm)) (congrArg (fun a : EReal => _ * a) (e 1 1 rfl _ rfl)))
    (congrArg (fun a : EReal => _ * a) e0))) rfl

theorem outProduct_eq (o : FVec 𝔽 S8192x1024 .f32) (u : FVec 𝔽 S8192x6144 .f32) (w : FVec 𝔽 S2048x2048 .f32) (cw : FVec 𝔽 S3x1024 .f32) (i : Fin 8192) (j : Fin 2048) :
    outProduct o u w cw (ValueIdx.ix2 i j) = outAll o u w cw i j := by
  have ha := attnBranch_eq o u i
  have hc := convBranch_eq u cw i
  unfold outProduct outAll proj
  simp only [← ha, ← hc]
  generalize attnBranch o u = a
  generalize convBranch u cw = b
  pointwise
  simp only [ix2_eq_valueIdx]
  exact add_comm _ _

theorem point_five : Ideal.ofBits .f32 0x3F000000#32 = ((1 / 2 : ℝ) : EReal) := by
  simp [Ideal.ofBits, Ideal.ieee, -EReal.coe_mul]; norm_num

theorem two_val : Ideal.ofBits .f32 0x40000000#32 = ((2 : ℝ) : EReal) := by
  simp [Ideal.ofBits, Ideal.ieee, -EReal.coe_mul]; norm_num

theorem step_val : Ideal.ofBits .f32 0x3A000000#32 = ((1 / 2048 : ℝ) : EReal) := by
  simp [Ideal.ofBits, Ideal.ieee, -EReal.coe_mul]; norm_num

theorem outGradient_eq (x t : FVec 𝔽 S8192x2048 .f32) (v : FVec 𝔽 S1x6144 .f32) (y : FVec 𝔽 S8192x2048 .f32) (i : Fin 8192) (j : Fin 2048) :
    outGradient x t v y (ValueIdx.ix2 i j) = resid (x (ValueIdx.ix2 i j)) (t (ValueIdx.ix2 i j)) (gate v j) (y (ValueIdx.ix2 i j)) := by
  unfold outGradient resid gate
  pointwise
  simp only [ix2_eq_valueIdx]
  rw [show ∀ z : EReal, Ideal.div (Ideal.ofBits .f32 0x3F000000#32) (Ideal.ofBits .f32 0x45000000#32) * (Ideal.ofBits .f32 0x40000000#32 * z) = z * Ideal.ofBits .f32 0x3A000000#32 from fun z => by
    rw [point_five, two_val, step_val, Cert.Norm.width_val, Ideal.div_coe (by norm_num), ← mul_assoc, ← EReal.coe_mul, ← EReal.coe_mul, mul_comm]
    congr 2
    norm_num]

theorem branchGradient_eq (g : FVec 𝔽 S8192x2048 .f32) (v : FVec 𝔽 S1x6144 .f32) (w : FVec 𝔽 S2048x2048 .f32) (i : Fin 8192) (n : Fin 2048) :
    branchGradient g v w (ValueIdx.ix2 i n) = ∑ k : Fin 2048, g (ValueIdx.ix2 i k) * gate v k * w (ValueIdx.ix2 n k) := by
  unfold branchGradient gate
  pointwise
  simp only [ix2_eq_valueIdx]
  refine Finset.sum_congr rfl fun k _ => ?_
  rw [mul_comm (v _)]

theorem outError_eq (x t : FVec 𝔽 S8192x2048 .f32) (v : FVec 𝔽 S1x6144 .f32) (y : FVec 𝔽 S8192x2048 .f32) (i : Fin 8192) (j : Fin 2048) :
    outError x t v y (ValueIdx.ix2 i j) = err (x (ValueIdx.ix2 i j)) (t (ValueIdx.ix2 i j)) (gate v j) (y (ValueIdx.ix2 i j)) := by
  unfold outError err gate
  pointwise
  simp only [ix2_eq_valueIdx]

theorem gateGradient_eq (g y : FVec 𝔽 S8192x2048 .f32) (j : Fin 2048) :
    gateGradient g y (ValueIdx.ix2 0 j) = ∑ i : Fin 8192, g (ValueIdx.ix2 i j) * y (ValueIdx.ix2 i j) := by
  unfold gateGradient
  pointwise
  simp only [ix2_eq_valueIdx]

theorem lossRow_eq (e : FVec 𝔽 S8192x2048 .f32) (l : Fin 128) :
    lossRow e (ValueIdx.ix2 0 l) = (∑ i : Fin 8192, ∑ j : Fin 2048, e (ValueIdx.ix2 i j) * e (ValueIdx.ix2 i j)) * Ideal.ofBits .f32 0x39800000#32 := by
  have h : lossRow e (ValueIdx.ix2 0 l) = Ideal.ofBits .f32 0x3F000000#32 * ∑ i : Fin 8192, Ideal.div (∑ j : Fin 2048, e (ValueIdx.ix2 i j) * e (ValueIdx.ix2 i j)) (Ideal.ofBits .f32 0x45000000#32) := by
    unfold lossRow
    pointwise
    simp only [ix2_eq_valueIdx]
  rw [h, point_five, scale_val, Cert.Norm.width_val]
  simp only [Ideal.div_coe (show (2048 : ℝ) ≠ 0 by norm_num)]
  rw [sum_mul_coe _ _ (by norm_num), mul_comm, mul_assoc, ← EReal.coe_mul]
  congr 2
  norm_num

variable (m : (ℓ : Loc nD τ sig) → Buf (Elt 𝔽) ℓ) (c : Dev nD)

/-- The reference's gradient in the layer's output is the kernel's, -/
theorem referenceG : Cert.Reference10Ideal.Value.res_out0 m c = wholeG (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show outGradient (m ((c.tc : Thread nD τ).loc main_arg0)) (m ((c.tc : Thread nD τ).loc main_arg1)) (m ((c.tc : Thread nD τ).loc main_arg4)) (outProduct (m ((c.tc : Thread nD τ).loc main_arg2)) (m ((c.tc : Thread nD τ).loc main_arg3)) (m ((c.tc : Thread nD τ).loc main_arg5)) (m ((c.tc : Thread nD τ).loc main_arg6))) = _
  funext p
  obtain ⟨i, j, rfl⟩ : ∃ (i : Fin 8192) (j : Fin 2048), p = ValueIdx.ix2 i j := ⟨p 0, p 1, ValueIdx.eq_ix2 p⟩
  rw [outGradient_eq, outProduct_eq]
  rfl

/-- The branches' gradients side by side, attention's before its gate. -/
theorem branch_at (i : Fin 8192) (n : Fin 2048) :
    branchGradient (outGradient (m ((c.tc : Thread nD τ).loc main_arg0)) (m ((c.tc : Thread nD τ).loc main_arg1)) (m ((c.tc : Thread nD τ).loc main_arg4)) (outProduct (m ((c.tc : Thread nD τ).loc main_arg2)) (m ((c.tc : Thread nD τ).loc main_arg3)) (m ((c.tc : Thread nD τ).loc main_arg5)) (m ((c.tc : Thread nD τ).loc main_arg6)))) (m ((c.tc : Thread nD τ).loc main_arg4)) (m ((c.tc : Thread nD τ).loc main_arg5)) (ValueIdx.ix2 i n) = backAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) i n := by
  rw [branchGradient_eq]
  simp only [outGradient_eq, outProduct_eq]
  rfl

/-- so is the one in the convolution's branch, -/
theorem referenceC : Cert.Reference10Ideal.Value.res_out1 m c = wholeC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have h := branch_at m c
  show truncf .bf16 (extractStridedSlice S8192x1024 ![0, 0] (branchGradient (outGradient (m ((c.tc : Thread nD τ).loc main_arg0)) (m ((c.tc : Thread nD τ).loc main_arg1)) (m ((c.tc : Thread nD τ).loc main_arg4)) (outProduct (m ((c.tc : Thread nD τ).loc main_arg2)) (m ((c.tc : Thread nD τ).loc main_arg3)) (m ((c.tc : Thread nD τ).loc main_arg5)) (m ((c.tc : Thread nD τ).loc main_arg6)))) (m ((c.tc : Thread nD τ).loc main_arg4)) (m ((c.tc : Thread nD τ).loc main_arg5))) slices_S8192x2048_S8192x1024_0_0) bitsLt_bf16_f32 = _
  generalize branchGradient (outGradient (m ((c.tc : Thread nD τ).loc main_arg0)) (m ((c.tc : Thread nD τ).loc main_arg1)) (m ((c.tc : Thread nD τ).loc main_arg4)) (outProduct (m ((c.tc : Thread nD τ).loc main_arg2)) (m ((c.tc : Thread nD τ).loc main_arg3)) (m ((c.tc : Thread nD τ).loc main_arg5)) (m ((c.tc : Thread nD τ).loc main_arg6)))) (m ((c.tc : Thread nD τ).loc main_arg4)) (m ((c.tc : Thread nD τ).loc main_arg5)) = b at h ⊢
  funext p
  obtain ⟨i, n, rfl⟩ : ∃ (i : Fin 8192) (n : Fin 1024), p = ValueIdx.ix2 i n := ⟨p 0, p 1, ValueIdx.eq_ix2 p⟩
  refine Eq.trans ?_ (h i (⟨n.val, by have := n.isLt; omega⟩ : Fin 2048))
  pointwise
  simp only [ix2_eq_valueIdx]
  try rfl

/-- and the one in attention's output. -/
theorem referenceO : Cert.Reference10Ideal.Value.res_out2 m c = wholeO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have h := branch_at m c
  show truncf .bf16 (mulf (extractStridedSlice S8192x1024 ![0, 1024] (branchGradient (outGradient (m ((c.tc : Thread nD τ).loc main_arg0)) (m ((c.tc : Thread nD τ).loc main_arg1)) (m ((c.tc : Thread nD τ).loc main_arg4)) (outProduct (m ((c.tc : Thread nD τ).loc main_arg2)) (m ((c.tc : Thread nD τ).loc main_arg3)) (m ((c.tc : Thread nD τ).loc main_arg5)) (m ((c.tc : Thread nD τ).loc main_arg6)))) (m ((c.tc : Thread nD τ).loc main_arg4)) (m ((c.tc : Thread nD τ).loc main_arg5))) slices_S8192x2048_S8192x1024_0_1024) (mulf (extractStridedSlice S8192x1024 ![0, 4928] (m ((c.tc : Thread nD τ).loc main_arg3)) slices_S8192x6144_S8192x1024_0_4928) (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 4928] (m ((c.tc : Thread nD τ).loc main_arg3)) slices_S8192x6144_S8192x1024_0_4928))))))) bitsLt_bf16_f32 = _
  unfold wholeO
  generalize branchGradient (outGradient (m ((c.tc : Thread nD τ).loc main_arg0)) (m ((c.tc : Thread nD τ).loc main_arg1)) (m ((c.tc : Thread nD τ).loc main_arg4)) (outProduct (m ((c.tc : Thread nD τ).loc main_arg2)) (m ((c.tc : Thread nD τ).loc main_arg3)) (m ((c.tc : Thread nD τ).loc main_arg5)) (m ((c.tc : Thread nD τ).loc main_arg6)))) (m ((c.tc : Thread nD τ).loc main_arg4)) (m ((c.tc : Thread nD τ).loc main_arg5)) = b at h ⊢
  generalize (m ((c.tc : Thread nD τ).loc main_arg3)) = u at h ⊢
  funext p
  obtain ⟨i, n, rfl⟩ : ∃ (i : Fin 8192) (n : Fin 1024), p = ValueIdx.ix2 i n := ⟨p 0, p 1, ValueIdx.eq_ix2 p⟩
  refine Eq.trans ?_ (congrArg (fun a : EReal => a * _) (h i (⟨1024 + n.val, by have := n.isLt; omega⟩ : Fin 2048)))
  unfold silu
  pointwise
  simp only [ix2_eq_valueIdx, zero_sub]
  try rfl

/-- The reference's gradient of the gate is the kernel's, -/
theorem referenceS : Cert.Reference10Ideal.Value.res_out3 m c = wholeS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show gateGradient (outGradient (m ((c.tc : Thread nD τ).loc main_arg0)) (m ((c.tc : Thread nD τ).loc main_arg1)) (m ((c.tc : Thread nD τ).loc main_arg4)) (outProduct (m ((c.tc : Thread nD τ).loc main_arg2)) (m ((c.tc : Thread nD τ).loc main_arg3)) (m ((c.tc : Thread nD τ).loc main_arg5)) (m ((c.tc : Thread nD τ).loc main_arg6)))) (outProduct (m ((c.tc : Thread nD τ).loc main_arg2)) (m ((c.tc : Thread nD τ).loc main_arg3)) (m ((c.tc : Thread nD τ).loc main_arg5)) (m ((c.tc : Thread nD τ).loc main_arg6))) = _
  funext p
  obtain ⟨j, rfl⟩ : ∃ j : Fin 2048, p = ValueIdx.ix2 0 j := ⟨p 1, (ValueIdx.eq_ix2 p).trans (congrArg (fun a => ValueIdx.ix2 a (p 1)) (Subsingleton.elim (α := Fin 1) _ _))⟩
  rw [gateGradient_eq]
  refine Finset.sum_congr rfl fun i _ => ?_
  rw [outGradient_eq, outProduct_eq]
  rfl

/-- and so is its loss. -/
theorem referenceL : Cert.Reference10Ideal.Value.res_out4 m c = wholeL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show lossRow (outError (m ((c.tc : Thread nD τ).loc main_arg0)) (m ((c.tc : Thread nD τ).loc main_arg1)) (m ((c.tc : Thread nD τ).loc main_arg4)) (outProduct (m ((c.tc : Thread nD τ).loc main_arg2)) (m ((c.tc : Thread nD τ).loc main_arg3)) (m ((c.tc : Thread nD τ).loc main_arg5)) (m ((c.tc : Thread nD τ).loc main_arg6)))) = _
  funext p
  obtain ⟨j, rfl⟩ : ∃ j : Fin 128, p = ValueIdx.ix2 0 j := ⟨p 1, (ValueIdx.eq_ix2 p).trans (congrArg (fun a => ValueIdx.ix2 a (p 1)) (Subsingleton.elim (α := Fin 1) _ _))⟩
  rw [lossRow_eq]
  unfold wholeL
  refine congrArg (fun a : EReal => a * _) (Finset.sum_congr rfl fun i _ => Finset.sum_congr rfl fun k _ => ?_)
  rw [outError_eq, outProduct_eq]
  rfl

end Cert.Tail
-- ==== Proof.Modulation.lean ====
/-
  The gradient of the modulation's matrix: what the kernel leaves in its array, and what the reference's result is, as
  the same sums over the extended reals.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.StableHlo.ReadAt
public import Idealize.ShloMosaic.Lib.Pointwise
public import Idealize.ShloMosaic.Lib.Pointwise.IndexBridge

@[expose] public section

set_option maxRecDepth 16384

noncomputable section

namespace Cert.Modulation

open Cert.Kernel4Ideal Cert.Kernel4Ideal.Gen
open Idealize.ShloMosaic Idealize.ShloMosaic.TcCoe Idealize.SL.Sem

local notation "𝔽" => Idealize.ShloMosaic.Ideal

/-- A number by its logistic. -/
def silu (z : EReal) : EReal := z * Ideal.div 1 (1 + Ideal.exp (-z))

/-- One element of the gradient: a column of the first array, each number by its logistic, by a column of the second. -/
def entry (x : FVec 𝔽 S8x2048 .f32) (y : FVec 𝔽 S8x768 .f32) (r : Fin 2048) (c : Fin 768) : EReal :=
  ∑ k : Fin 8, silu (x (ValueIdx.ix2 k r)) * y (ValueIdx.ix2 k c)

/-- The whole gradient. -/
def whole (x : FVec 𝔽 S8x2048 .f32) (y : FVec 𝔽 S8x768 .f32) : FVec 𝔽 S2048x768 .f32 :=
  fun i => entry x y (i 0) (i 1)

/-- The reference's smoothed array, element by element. -/
theorem silu_eq (x : FVec 𝔽 S8x2048 .f32) {h h'} (i : S8x2048.Idx) :
    mulf x (Host.divf (broadcastInDim S8x2048 ![] h (constant ⟨0, ![]⟩ .f32 0x3F800000#32))
      (addf (broadcastInDim S8x2048 ![] h' (constant ⟨0, ![]⟩ .f32 0x3F800000#32)) (Host.exp (Host.negf x)))) i = silu (x i) := by
  show x i * Ideal.div (Ideal.ofBits .f32 0x3F800000#32) (Ideal.ofBits .f32 0x3F800000#32 + Ideal.exp (-(x i))) = _
  rw [Ideal.ofBits_one_f32]
  rfl

/-- The reference's result is the gradient. -/
theorem reference_eq (x z : FVec 𝔽 S8x2048 .f32) (y : FVec 𝔽 S8x768 .f32) (hz : ∀ i, z i = silu (x i)) {w ht} :
    (transpose S2048x768 [1, 0] (Host.dotGeneral (so := ⟨2, ![768, 2048]⟩) ⟨[0], [0], [1], [1], [], [], w⟩ none y z) ht
      : FVec 𝔽 S2048x768 .f32) = whole x y := by
  funext i
  obtain ⟨r, c, rfl⟩ : ∃ (r : Fin 2048) (c : Fin 768), i = ValueIdx.ix2 r c := ⟨i 0, i 1, ValueIdx.eq_ix2 i⟩
  unfold whole entry
  pointwise
  simp only [ix2_eq_valueIdx]
  exact Finset.sum_congr rfl fun k _ => (mul_comm _ _).trans (congrArg (· * _) (hz _))

/-! ## The kernel's block -/

variable (m : (ℓ : Loc nD τ sig) → Buf (Elt 𝔽) ℓ) (c : Dev nD)

/-- What the host leaves in the array that the first window reads: the first array's transpose. -/
theorem staged : V m c main_v0 = (transpose S2048x8 [1, 0] (m ((c.tc : Thread nD τ).loc main_arg0)) transposes_S8x2048_S2048x8_1_0 : FVec 𝔽 S2048x8 .f32) := by
  unfold V
  simp only [hostOps0, List.flatten_cons, List.flatten_nil,
    List.append_nil, List.cons_append, List.nil_append, StableHlo.TRef.binary, StableHlo.TRef.nullary, StableHlo.TRef.ternary,
    StableHlo.TRef.unary, StableHlo.TRef.toBuf, StableHlo.TRef.ofBuf, cast_eq]
  after_reads_simp
  try rfl

theorem at0 : ∀ t : Fin grid0.N, win0_0.index t = ![0, 0] := by decide +kernel
theorem at1 : ∀ t : Fin grid0.N, win0_1.index t = ![0, 0] := by decide +kernel
theorem at2 : ∀ t : Fin grid0.N, win0_2.index t = ![0, 0] := by decide +kernel

/-- The block that the body leaves: the sum of eight products. -/
theorem block_eq (x : Vec 𝔽 S2048x8 .f32) (y : Vec 𝔽 S8x768 .f32) (r : Fin 2048) (j : Fin 768) :
    out0_2 x y (ValueIdx.ix2 r j) = ∑ k : Fin 8, silu (x (ValueIdx.ix2 r k)) * y (ValueIdx.ix2 k j) := by
  unfold out0_2
  rw [View.canon_cons_unit_lit _ _ _ (by decide), View.ld_unit_lit _ _ (by decide)]
  have hs : ∀ i, k0_pay2 x i = silu (x i) := by
    intro i
    unfold k0_pay2
    rw [shapeCast_self]
    show x i * Ideal.div (Ideal.ofBits .f32 0x3F800000#32) (Ideal.ofBits .f32 0x3F800000#32 + Ideal.exp (Ideal.ofBits .f32 0x00000000#32 - x i)) = _
    rw [Ideal.ofBits_one_f32, Ideal.ofBits_zero_f32, zero_sub]
    rfl
  rw [Fin.sum_univ_eight, ← hs, ← hs, ← hs, ← hs, ← hs, ← hs, ← hs, ← hs]
  unfold k0_pay1 k0_pay3 k0_pay4 k0_pay5
  generalize k0_pay2 x = s
  pointwise
  simp only [ix2_eq_valueIdx]

/-- The block that the first window shows. -/
theorem shown0 (t : Fin cfg0.N) (r : Fin 2048) (k : Fin 8) :
    iblk m c 0 t (ValueIdx.ix2 r k) = (m ((c.tc : Thread nD τ).loc main_arg0) : FVec 𝔽 S8x2048 .f32) (ValueIdx.ix2 k r) := by
  refine (congrArg (V m c main_v0) (?_ : _ = ValueIdx.ix2 r k)).trans ((congrFun (staged m c) _).trans ?_)
  · funext a
    apply Fin.ext
    match a with
    | ⟨0, _⟩ => blk_simp [at0]
    | ⟨1, _⟩ => blk_simp [at0]
  · refine congrArg (m ((c.tc : Thread nD τ).loc main_arg0) : FVec 𝔽 S8x2048 .f32) ?_
    funext a
    match a with
    | ⟨0, _⟩ => rfl
    | ⟨1, _⟩ => rfl

/-- The block that the second window shows. -/
theorem shown1 (t : Fin cfg0.N) (k : Fin 8) (j : Fin 768) :
    iblk m c 1 t (ValueIdx.ix2 k j) = (m ((c.tc : Thread nD τ).loc main_arg1) : FVec 𝔽 S8x768 .f32) (ValueIdx.ix2 k j) := by
  refine (congrArg (V m c main_arg1) (?_ : _ = ValueIdx.ix2 k j)).trans (congrFun (V_main_arg1 m c) _)
  funext a
  apply Fin.ext
  match a with
  | ⟨0, _⟩ => blk_simp [at1]
  | ⟨1, _⟩ => blk_simp [at1]

/-- What the point leaves is the gradient. -/
theorem point (t : Fin cfg0.N) (r : Fin 2048) (j : Fin 768) :
    out0_2 (iblk m c 0 t) (iblk m c 1 t) (ValueIdx.ix2 r j)
      = entry (m ((c.tc : Thread nD τ).loc main_arg0)) (m ((c.tc : Thread nD τ).loc main_arg1)) r j := by
  rw [block_eq]
  unfold entry
  refine Finset.sum_congr rfl fun k _ => ?_
  rw [shown0, shown1]

/-- The kernel's array is the gradient. -/
theorem kernel_eq : (dats m 0 c).arrAt 2 cfg0.N
    = whole (m ((c.tc : Thread nD τ).loc main_arg0)) (m ((c.tc : Thread nD τ).loc main_arg1)) := by
  refine (dats m 0 c).arrAt_eq_of_covers 2 _ (by decide +kernel) fun t hf y => ?_
  have hp := point m c t
  rw [after0_2]
  generalize out0_2 (iblk m c 0 t) (iblk m c 1 t) = X at hp ⊢
  generalize m ((c.tc : Thread nD τ).loc main_arg0) = a0 at hp ⊢
  generalize m ((c.tc : Thread nD τ).loc main_arg1) = a1 at hp ⊢
  obtain ⟨r, j, rfl⟩ : ∃ (r : Fin 2048) (j : Fin 768), y = ValueIdx.ix2 r j := ⟨y 0, y 1, ValueIdx.eq_ix2 y⟩
  have e : (win0_2.blk t).view.emb (ValueIdx.ix2 r j) = (ValueIdx.ix2 r j : S2048x768.Idx) := by
    funext a
    apply Fin.ext
    match a with
    | ⟨0, _⟩ => blk_simp [at2]
    | ⟨1, _⟩ => blk_simp [at2]
  exact (hp r j).trans (congrArg (whole a0 a1) e).symm

end Cert.Modulation
end
-- ==== Proof.Modulate.lean ====
/-
  The modulation's forward pass: over the extended reals the kernel's array and the reference's result are the same sums.
-/
module

public import proofs.«01_k».proof.Proof.Modulation
public import proofs.«01_k».proof.Proof.Gen.Kernel11Ideal.Value
public import proofs.«01_k».proof.Proof.Gen.Reference11Ideal.Run

@[expose] public section

set_option maxRecDepth 16384

noncomputable section

namespace Cert.Modulate

open Idealize.ShloMosaic Idealize.ShloMosaic.TcCoe Idealize.SL.Sem

local notation "𝔽" => Idealize.ShloMosaic.Ideal

section Kernel

open Cert.Kernel11Ideal Cert.Kernel11Ideal.Gen

/-- The modulation: the rows of `x`, each number by its logistic, times `w`, and `b` added. -/
def whole (x : FVec 𝔽 S16x2048 .f32) (w : FVec 𝔽 S2048x768 .f32) (b : FVec 𝔽 S1x768 .f32) : FVec 𝔽 S16x768 .f32 := fun p =>
  (∑ k : Fin 2048, Modulation.silu (x (ValueIdx.ix2 (p 0) k)) * w (ValueIdx.ix2 k (p 1))) + b (ValueIdx.ix2 0 (p 1))

/-- The kernel's array is the modulation. -/
theorem kernel_eq (x : FVec 𝔽 S16x2048 .f32) (w : FVec 𝔽 S2048x768 .f32) (b : FVec 𝔽 S1x768 .f32) : Cert.Kernel11Ideal.Value.G3 (F := 𝔽) x w b = whole x w b := by
  funext p
  obtain ⟨r, j, rfl⟩ : ∃ (r : Fin 16) (j : Fin 768), p = ValueIdx.ix2 r j := ⟨p 0, p 1, ValueIdx.eq_ix2 p⟩
  show k0_pay1 (F := 𝔽) x w b (ValueIdx.ix2 r j) = (∑ k : Fin 2048, Modulation.silu (x (ValueIdx.ix2 r k)) * w (ValueIdx.ix2 k j)) + b (ValueIdx.ix2 0 j)
  unfold k0_pay1 Modulation.silu
  pointwise
  simp only [ix2_eq_valueIdx, zero_sub]

end Kernel

section Reference

open Cert.Reference11Ideal Cert.Reference11Ideal.Gen

/-- The reference's result is the modulation. -/
theorem reference_eq (x : FVec 𝔽 S16x2048 .f32) (w : FVec 𝔽 S2048x768 .f32) (b : FVec 𝔽 S1x768 .f32) :
    addf (Host.dotGeneral dot_S16x2048_S2048x768_S16x768_1_0_0_1_n_n none (mulf x (Host.divf (broadcastInDim S16x2048 ![] bcast_S_S16x2048 (constant S_ .f32 0x3F800000#32)) (addf (broadcastInDim S16x2048 ![] bcast_S_S16x2048 (constant S_ .f32 0x3F800000#32)) (Host.exp (Host.negf x))))) w) (broadcastInDim S16x768 ![0, 1] bcast_S1x768_S16x768_0_1 b)
      = (whole x w b : FVec 𝔽 S16x768 .f32) := by
  funext p
  obtain ⟨r, j, rfl⟩ : ∃ (r : Fin 16) (j : Fin 768), p = ValueIdx.ix2 r j := ⟨p 0, p 1, ValueIdx.eq_ix2 p⟩
  show _ = (∑ k : Fin 2048, Modulation.silu (x (ValueIdx.ix2 r k)) * w (ValueIdx.ix2 k j)) + b (ValueIdx.ix2 0 j)
  unfold Modulation.silu
  pointwise
  simp only [ix2_eq_valueIdx]

end Reference

end Cert.Modulate
-- ==== Proof.Adam.lean ====
/-
  The optimiser's step: its three results, number by number, and the matrix of q, which the kernel takes as rows: what
  the kernel leaves in its three arrays.
-/
module

public import proofs.«01_k».proof.Proof.Gen.Kernel8Ideal.Value
public import Idealize.ShloMosaic.Lib.Pipeline.ValueKit
public import Idealize.ShloMosaic.Lib.StableHlo.ReadAt
public import Idealize.ShloMosaic.Lib.Pointwise
public import Idealize.ShloMosaic.Lib.Pointwise.IndexBridge

@[expose] public section

set_option maxRecDepth 16384

noncomputable section

namespace Cert.Adam

open Idealize.ShloMosaic Idealize.ShloMosaic.TcCoe Idealize.SL.Sem

local notation "𝔽" => Idealize.ShloMosaic.Ideal

/-! ## The step of one number -/

/-- The new first moment: nine tenths of the old one and a tenth of the gradient. -/
def first (g m : EReal) : EReal := Ideal.ofBits .f32 0x3F666666#32 * m + Ideal.ofBits .f32 0x3DCCCCCD#32 * g

/-- The new second moment: most of the old one and a thousandth of the gradient's square. -/
def second (g v : EReal) : EReal := Ideal.ofBits .f32 0x3F7FBE77#32 * v + Ideal.ofBits .f32 0x3A83126F#32 * (g * g)

/-- The update: the corrected first moment over the corrected second moment's root, and the decay, by the negated rate. -/
def delta (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32)
    + Ideal.ofBits .f32 0x3C23D70A#32 * w)

/-! ## The matrix of q -/

open Cert.Kernel8Ideal Cert.Kernel8Ideal.Gen

variable (m : (ℓ : Loc nD τ sig) → Buf (Elt 𝔽) ℓ) (c : Dev nD)

/-- A device's columns as rows. -/
def rows (x : FVec 𝔽 S512x192 .f32) : FVec 𝔽 S192x512 .f32 := transpose S192x512 [1, 0] x transposes_S512x192_S192x512_1_0

/-- What the host leaves in the four arrays that the windows read: the arguments as rows. -/
theorem staged : V m c main_v0 = rows (m ((c.tc : Thread nD τ).loc main_arg0)) ∧ V m c main_v1 = rows (m ((c.tc : Thread nD τ).loc main_arg1))
    ∧ V m c main_v2 = rows (m ((c.tc : Thread nD τ).loc main_arg2)) ∧ V m c main_v3 = rows (m ((c.tc : Thread nD τ).loc main_arg3)) := by
  refine ⟨?_, ?_, ?_, ?_⟩ <;>
  · unfold V
    simp only [hostOps0, List.flatten_cons, List.flatten_nil,
      List.append_nil, List.cons_append, List.nil_append, StableHlo.TRef.binary, StableHlo.TRef.nullary, StableHlo.TRef.ternary,
      StableHlo.TRef.unary, StableHlo.TRef.toBuf, StableHlo.TRef.ofBuf, cast_eq]
    after_reads_simp
    try rfl

theorem at0 : ∀ t : Fin grid0.N, win0_0.index t = ![0, 0] := by decide +kernel
theorem at1 : ∀ t : Fin grid0.N, win0_1.index t = ![0, 0] := by decide +kernel
theorem at2 : ∀ t : Fin grid0.N, win0_2.index t = ![0, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![0, 0] := by decide +kernel
theorem at6 : ∀ t : Fin grid0.N, win0_6.index t = ![0, 0] := by decide +kernel

/-- Every window shows its whole array. -/
theorem shown (t : Fin cfg0.N) (y : S192x512.Idx) :
    iblk m c 0 t y = rows (m ((c.tc : Thread nD τ).loc main_arg0)) y ∧ iblk m c 1 t y = rows (m ((c.tc : Thread nD τ).loc main_arg1)) y
    ∧ iblk m c 2 t y = rows (m ((c.tc : Thread nD τ).loc main_arg2)) y ∧ iblk m c 3 t y = rows (m ((c.tc : Thread nD τ).loc main_arg3)) y := by
  obtain ⟨s0, s1, s2, s3⟩ := staged m c
  refine ⟨(congrArg (V m c main_v0) (?_ : _ = y)).trans (congrFun s0 y), (congrArg (V m c main_v1) (?_ : _ = y)).trans (congrFun s1 y),
    (congrArg (V m c main_v2) (?_ : _ = y)).trans (congrFun s2 y), (congrArg (V m c main_v3) (?_ : _ = y)).trans (congrFun s3 y)⟩ <;>
  · funext a
    apply Fin.ext
    match a with
    | ⟨0, _⟩ => blk_simp [at0, at1, at2, at3]
    | ⟨1, _⟩ => blk_simp [at0, at1, at2, at3]

/-- Every output window's block is its whole array. -/
theorem own (t : Fin cfg0.N) (y : S192x512.Idx) :
    (win0_4.blk t).view.emb y = y ∧ (win0_5.blk t).view.emb y = y ∧ (win0_6.blk t).view.emb y = y := by
  refine ⟨?_, ?_, ?_⟩ <;>
  · funext a
    apply Fin.ext
    match a with
    | ⟨0, _⟩ => blk_simp [at4, at5, at6]
    | ⟨1, _⟩ => blk_simp [at4, at5, at6]

/-- What the body leaves in the three output windows, number by number. -/
theorem body (w g p q : Vec 𝔽 S192x512 .f32) (y : S192x512.Idx) :
    out0_4 w g p q y = delta (w y) (g y) (p y) (q y) ∧ out0_5 w g p q y = first (g y) (p y) ∧ out0_6 w g p q y = second (g y) (q y) := by
  unfold out0_4 out0_5 out0_6
  rw [View.canon_cons_unit_lit _ _ _ (by decide), View.canon_cons_unit_lit _ _ _ (by decide), View.canon_cons_unit_lit _ _ _ (by decide)]
  have hl : ∀ x : Vec 𝔽 S192x512 .f32, View.ld x r0_0 = x := fun x => View.ld_unit_lit _ _ (by decide)
  simp only [hl]
  unfold k0_pay4 k0_pay3 k0_pay2 k0_pay1
  simp only [shapeCast_self]
  exact ⟨rfl, rfl, rfl⟩

/-- The three arrays at the end. -/
theorem kernel_eq :
    (dats m 0 c).arrAt 4 cfg0.N = (fun y => delta (rows (m ((c.tc : Thread nD τ).loc main_arg0)) y) (rows (m ((c.tc : Thread nD τ).loc main_arg1)) y)
      (rows (m ((c.tc : Thread nD τ).loc main_arg2)) y) (rows (m ((c.tc : Thread nD τ).loc main_arg3)) y))
    ∧ (dats m 0 c).arrAt 5 cfg0.N = (fun y => first (rows (m ((c.tc : Thread nD τ).loc main_arg1)) y) (rows (m ((c.tc : Thread nD τ).loc main_arg2)) y))
    ∧ (dats m 0 c).arrAt 6 cfg0.N = (fun y => second (rows (m ((c.tc : Thread nD τ).loc main_arg1)) y) (rows (m ((c.tc : Thread nD τ).loc main_arg3)) y)) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_⟩
  all_goals
    have hb := body (iblk m c 0 t) (iblk m c 1 t) (iblk m c 2 t) (iblk m c 3 t) y
    rw [(shown m c t y).1, (shown m c t y).2.1, (shown m c t y).2.2.1, (shown m c t y).2.2.2] at hb
    generalize rows (m ((c.tc : Thread nD τ).loc main_arg0)) = w at hb ⊢
    generalize rows (m ((c.tc : Thread nD τ).loc main_arg1)) = g at hb ⊢
    generalize rows (m ((c.tc : Thread nD τ).loc main_arg2)) = p at hb ⊢
    generalize rows (m ((c.tc : Thread nD τ).loc main_arg3)) = q at hb ⊢
  · rw [after0_4]
    generalize out0_4 (iblk m c 0 t) (iblk m c 1 t) (iblk m c 2 t) (iblk m c 3 t) = X at hb ⊢
    exact hb.1.trans (congrArg (fun y : S192x512.Idx => delta (w y) (g y) (p y) (q y)) (own t y).1.symm)
  · rw [after0_5]
    generalize out0_5 (iblk m c 0 t) (iblk m c 1 t) (iblk m c 2 t) (iblk m c 3 t) = X at hb ⊢
    exact hb.2.1.trans (congrArg (fun y : S192x512.Idx => first (g y) (p y)) (own t y).2.1.symm)
  · rw [after0_6]
    generalize out0_6 (iblk m c 0 t) (iblk m c 1 t) (iblk m c 2 t) (iblk m c 3 t) = X at hb ⊢
    exact hb.2.2.trans (congrArg (fun y : S192x512.Idx => second (g y) (q y)) (own t y).2.2.symm)

end Cert.Adam
end
-- ==== Proof.lean ====
/-
  The certificate's claims, put together from the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.ValueFwd
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel11
public import proofs.«01_k».proof.Proof.Gen.Kernel10.Frame
public import proofs.«01_k».proof.Proof.Gen.Kernel11.Frame
public import proofs.«01_k».proof.Proof.Gen.Kernel10Ideal
public import proofs.«01_k».proof.Proof.Gen.Kernel11Ideal
public import proofs.«01_k».proof.Proof.Gen.Kernel10Ideal.Value
public import proofs.«01_k».proof.Proof.Gen.Kernel11Ideal.Value
public import proofs.«01_k».proof.Proof.Gen.Reference10Ideal
public import proofs.«01_k».proof.Proof.Gen.Reference11Ideal
public import proofs.«01_k».proof.Proof.Gen.Reference10Ideal.Run
public import proofs.«01_k».proof.Proof.Gen.Reference11Ideal.Run
public import proofs.«01_k».proof.Proof.Product
public import proofs.«01_k».proof.Proof.NormReference
public import proofs.«01_k».proof.Proof.TailReference
public import proofs.«01_k».proof.Proof.Modulation
public import proofs.«01_k».proof.Proof.Modulate
public import proofs.«01_k».proof.Proof.Adam
public import Idealize.ShloMosaic.Lib.Quiescent

@[expose] public section

noncomputable section

namespace Cert.Proof

open Idealize.ShloMosaic Idealize.SL.Sem

/-- The reference's run leaves its arguments as they were; it has no counters. -/
theorem reference_quiescent : Cert.quiescent_ReferenceIdeal := fun m ρ _ =>
  (θ_run _ _ _).mono (fun r h => ⟨fun c => (h c).2.2.2, sem_eq_zero_of_no_sems (by decide) r.2⟩) (Cert.ReferenceIdeal.Value.run (F := Ideal) m ρ)

/-- With finite arguments the kernel and the reference return the same three arrays. -/
theorem algebraic : Cert.algebraic_KernelIdeal_ReferenceIdeal_pre_finite (hPre_finite := Value.pre_facts) := fun m g m' g' hpre hagree =>
  have e := fun c => Value.results m m' hpre c (hagree c).1 (hagree c).2.1 (hagree c).2.2.1 (hagree c).2.2.2
  ⟨fun c => Cert.ReferenceIdeal.Value.res_main_v64 m' c, fun c => Cert.ReferenceIdeal.Value.res_main_v67 m' c,
    fun c => Cert.ReferenceIdeal.Value.res_main_v69 m' c,
    (θ_run _ _ _).mono (fun r h c => ⟨((h.1.1 c).1 6).trans (e c).1, ((h.1.1 c).1 7).trans (e c).2.1, ((h.1.1 c).1 8).trans (e c).2.2, h.2.1 c⟩)
      (θ_run_and (Cert.KernelIdeal.Launched.run_main m g) (Cert.KernelIdeal.Launched.quiescent m g)),
    Cert.ReferenceIdeal.Value.run (F := Ideal) m' g'⟩

/-- The forward reference's run leaves its arguments as they were; it has no counters. -/
theorem reference_quiescent2 : Cert.quiescent_Reference2Ideal := fun m ρ _ =>
  (θ_run _ _ _).mono (fun r h => ⟨fun c => (h c).2.2, sem_eq_zero_of_no_sems (by decide) r.2⟩) (Cert.Reference2Ideal.Value.run (F := Ideal) m ρ)

/-- With finite arguments the forward kernel and its reference return the same two arrays. -/
theorem algebraic2 : Cert.algebraic_Kernel2Ideal_Reference2Ideal_pre_finite2 (hPre_finite2 := Value.pre_facts2) := fun m g m' g' hpre hagree =>
  have e := fun c => Value.results2 m m' hpre c (hagree c).1 (hagree c).2.1 (hagree c).2.2
  ⟨_, _,
    (θ_run _ _ _).mono (fun r h c => ⟨(h c).1.trans (e c).1, (h c).2.1.trans (e c).2, (h c).2.2⟩)
      (Cert.Kernel2Ideal.Value.run_blocks (F := Ideal) m g),
    (θ_run _ _ _).mono (fun r h c => ⟨(h c).1.trans rfl, (h c).2.1.trans rfl, (h c).2.2⟩)
      (Cert.Reference2Ideal.Value.run (F := Ideal) m' g')⟩

/-- The input projection's product's reference leaves its arguments as they were; it has no counters. -/
theorem reference_quiescent3 : Cert.quiescent_Reference3Ideal := fun m ρ _ =>
  (θ_run _ _ _).mono (fun r h => ⟨fun c => (h c).2, sem_eq_zero_of_no_sems (by decide) r.2⟩) (Cert.Reference3Ideal.Value.run (F := Ideal) m ρ)

/-- The kernel and the reference return the same product. -/
theorem algebraic3 : Cert.algebraic_Kernel3Ideal_Reference3Ideal := fun m g m' g' _ hagree =>
  ⟨fun c => Product.whole (m ((c.tc : Thread _ _).loc Cert.Kernel3Ideal.main_arg0)) (m ((c.tc : Thread _ _).loc Cert.Kernel3Ideal.main_arg1)),
    (θ_run _ _ _).mono (fun r h c => ⟨(h c).1.trans (Product.kernel_eq m c), (h c).2⟩) (Cert.Kernel3Ideal.Value.run_blocks (F := Ideal) m g),
    (θ_run _ _ _).mono (fun r h c => ⟨(h c).1.trans (by rw [(hagree c).1, (hagree c).2]; exact Product.reference_eq _ _), (h c).2⟩)
      (Cert.Reference3Ideal.Value.run (F := Ideal) m' g')⟩

/-- The modulation's gradient's reference leaves its arguments as they were; it has no counters. -/
theorem reference_quiescent4 : Cert.quiescent_Reference4Ideal := fun m ρ _ =>
  (θ_run _ _ _).mono (fun r h => ⟨fun c => (h c).2, sem_eq_zero_of_no_sems (by decide) r.2⟩) (Cert.Reference4Ideal.Value.run (F := Ideal) m ρ)

/-- The kernel and the reference return the same gradient of the modulation's matrix. -/
theorem algebraic4 : Cert.algebraic_Kernel4Ideal_Reference4Ideal := fun m g m' g' _ hagree =>
  ⟨fun c => Modulation.whole (m ((c.tc : Thread _ _).loc Cert.Kernel4Ideal.main_arg0)) (m ((c.tc : Thread _ _).loc Cert.Kernel4Ideal.main_arg1)),
    (θ_run _ _ _).mono (fun r h c => ⟨(h c).1.trans (Modulation.kernel_eq m c), (h c).2⟩) (Cert.Kernel4Ideal.Value.run_blocks (F := Ideal) m g),
    (θ_run _ _ _).mono (fun r h c => ⟨(h c).1.trans (by rw [(hagree c).1, (hagree c).2]; exact Modulation.reference_eq _ _ _ (Modulation.silu_eq _)), (h c).2⟩)
      (Cert.Reference4Ideal.Value.run (F := Ideal) m' g')⟩

/-- The modulation's step's reference leaves its arguments as they were; it has no counters. -/
theorem reference_quiescent5 : Cert.quiescent_Reference5Ideal := fun m ρ _ =>
  (θ_run _ _ _).mono (fun r h => ⟨fun c => (h c).2.2.2, sem_eq_zero_of_no_sems (by decide) r.2⟩) (Cert.Reference5Ideal.Value.run (F := Ideal) m ρ)

/-- The kernel and the reference return the same step of the modulation's matrix. -/
theorem algebraic5 : Cert.algebraic_Kernel5Ideal_Reference5Ideal := fun m g m' g' _ hagree =>
  ⟨_, _, _,
    Cert.Kernel5Ideal.Value.run (F := Ideal) m g,
    (θ_run _ _ _).mono (fun r h c => ⟨(h c).1.trans (by rw [(hagree c).1, (hagree c).2.1, (hagree c).2.2.1, (hagree c).2.2.2]; rfl),
        (h c).2.1.trans (by rw [(hagree c).2.1, (hagree c).2.2.1]; rfl), (h c).2.2.1.trans (by rw [(hagree c).2.1, (hagree c).2.2.2]; rfl), (h c).2.2.2⟩)
      (Cert.Reference5Ideal.Value.run (F := Ideal) m' g')⟩

/-- The step of k and v's reference leaves its arguments as they were; it has no counters. -/
theorem reference_quiescent6 : Cert.quiescent_Reference6Ideal := fun m ρ _ =>
  (θ_run _ _ _).mono (fun r h => ⟨fun c => (h c).2.2.2, sem_eq_zero_of_no_sems (by decide) r.2⟩) (Cert.Reference6Ideal.Value.run (F := Ideal) m ρ)

/-- The kernel and the reference return the same step of the matrix of k and v. -/
theorem algebraic6 : Cert.algebraic_Kernel6Ideal_Reference6Ideal := fun m g m' g' _ hagree =>
  ⟨_, _, _,
    Cert.Kernel6Ideal.Value.run (F := Ideal) m g,
    (θ_run _ _ _).mono (fun r h c => ⟨(h c).1.trans (by rw [(hagree c).1, (hagree c).2.1, (hagree c).2.2.1, (hagree c).2.2.2]; rfl),
        (h c).2.1.trans (by rw [(hagree c).2.1, (hagree c).2.2.1]; rfl), (h c).2.2.1.trans (by rw [(hagree c).2.1, (hagree c).2.2.2]; rfl), (h c).2.2.2⟩)
      (Cert.Reference6Ideal.Value.run (F := Ideal) m' g')⟩

/-- The output's step's reference leaves its arguments as they were; it has no counters. -/
theorem reference_quiescent7 : Cert.quiescent_Reference7Ideal := fun m ρ _ =>
  (θ_run _ _ _).mono (fun r h => ⟨fun c => (h c).2.2.2, sem_eq_zero_of_no_sems (by decide) r.2⟩) (Cert.Reference7Ideal.Value.run (F := Ideal) m ρ)

/-- The kernel and the reference return the same step of the output's matrix. -/
theorem algebraic7 : Cert.algebraic_Kernel7Ideal_Reference7Ideal := fun m g m' g' _ hagree =>
  ⟨_, _, _,
    Cert.Kernel7Ideal.Value.run (F := Ideal) m g,
    (θ_run _ _ _).mono (fun r h c => ⟨(h c).1.trans (by rw [(hagree c).1, (hagree c).2.1, (hagree c).2.2.1, (hagree c).2.2.2]; rfl),
        (h c).2.1.trans (by rw [(hagree c).2.1, (hagree c).2.2.1]; rfl), (h c).2.2.1.trans (by rw [(hagree c).2.1, (hagree c).2.2.2]; rfl), (h c).2.2.2⟩)
      (Cert.Reference7Ideal.Value.run (F := Ideal) m' g')⟩

/-- The step of q's reference leaves its arguments as they were; it has no counters. -/
theorem reference_quiescent8 : Cert.quiescent_Reference8Ideal := fun m ρ _ =>
  (θ_run _ _ _).mono (fun r h => ⟨fun c => (h c).2.2.2, sem_eq_zero_of_no_sems (by decide) r.2⟩) (Cert.Reference8Ideal.Value.run (F := Ideal) m ρ)

/-- The kernel and the reference return the same step of the matrix of q. -/
theorem algebraic8 : Cert.algebraic_Kernel8Ideal_Reference8Ideal := fun m g m' g' _ hagree =>
  ⟨_, _, _,
    (θ_run _ _ _).mono (fun r h c => ⟨(h c).1.trans (Adam.kernel_eq m c).1, (h c).2.1.trans (Adam.kernel_eq m c).2.1,
        (h c).2.2.1.trans (Adam.kernel_eq m c).2.2, (h c).2.2.2⟩) (Cert.Kernel8Ideal.Value.run_blocks (F := Ideal) m g),
    (θ_run _ _ _).mono (fun r h c => ⟨(h c).1.trans (by rw [(hagree c).1, (hagree c).2.1, (hagree c).2.2.1, (hagree c).2.2.2]; rfl),
        (h c).2.1.trans (by rw [(hagree c).2.1, (hagree c).2.2.1]; rfl), (h c).2.2.1.trans (by rw [(hagree c).2.1, (hagree c).2.2.2]; rfl), (h c).2.2.2⟩)
      (Cert.Reference8Ideal.Value.run (F := Ideal) m' g')⟩

/-- The reference of the gradient of the norm leaves its arguments as they were; it has no counters. -/
theorem reference_quiescent9 : Cert.quiescent_Reference9Ideal := fun m ρ _ =>
  (θ_run _ _ _).mono (fun r h => ⟨fun c => (h c).2, sem_eq_zero_of_no_sems (by decide) r.2⟩) (Cert.Reference9Ideal.Value.run (F := Ideal) m ρ)

/-- The kernel and the reference return the same gradient of `x` through the norm and the modulation. -/
theorem algebraic9 : Cert.algebraic_Kernel9Ideal_Reference9Ideal := fun m g m' g' _ hagree =>
  ⟨_,
    (θ_run _ _ _).mono (fun r h c => ⟨(h c).1.trans (Norm.kernel_eq m c), (h c).2.2.2.2⟩) (Cert.Kernel9Ideal.Value.run_blocks (F := Ideal) m g),
    (θ_run _ _ _).mono (fun r h c => ⟨(h c).1.trans ((Norm.reference_eq m' c).trans (by
        rw [(hagree c).1, (hagree c).2.1, (hagree c).2.2.1, (hagree c).2.2.2.1, (hagree c).2.2.2.2])), (h c).2⟩)
      (Cert.Reference9Ideal.Value.run (F := Ideal) m' g')⟩

/-- The tail's reference leaves its arguments as they were; it has no counters. -/
theorem reference_quiescent10 : Cert.quiescent_Reference10Ideal := fun m ρ _ =>
  (θ_run _ _ _).mono (fun r h => ⟨fun c => (h c).2.2.2.2.2, sem_eq_zero_of_no_sems (by decide) r.2⟩) (Cert.Reference10Ideal.Value.run (F := Ideal) m ρ)

/-- The kernel and the reference return the same gradients of the residual, of the branches' outputs and of the gate, and the same loss. -/
theorem algebraic10 : Cert.algebraic_Kernel10Ideal_Reference10Ideal := fun m g m' g' _ hagree =>
  ⟨_, _, _, _, _,
    (θ_run _ _ _).mono (fun r h c => ⟨(h c).1.trans (Tail.kernelG m c), (h c).2.2.2.1.trans (Tail.kernelC m c), (h c).2.2.2.2.1.trans (Tail.kernelO m c),
        (h c).2.2.2.2.2.2.2.1.trans (Tail.kernelS m c), (h c).2.2.2.2.2.2.2.2.1.trans (Tail.kernelL m c), (h c).2.2.2.2.2.2.2.2.2⟩)
      (Cert.Kernel10Ideal.Value.run_blocks (F := Ideal) m g),
    (θ_run _ _ _).mono (fun r h c => ⟨(h c).1.trans ((Tail.referenceG m' c).trans (by rw [(hagree c).1, (hagree c).2.1, (hagree c).2.2.1, (hagree c).2.2.2.1, (hagree c).2.2.2.2.1, (hagree c).2.2.2.2.2.1, (hagree c).2.2.2.2.2.2])),
        (h c).2.1.trans ((Tail.referenceC m' c).trans (by rw [(hagree c).1, (hagree c).2.1, (hagree c).2.2.1, (hagree c).2.2.2.1, (hagree c).2.2.2.2.1, (hagree c).2.2.2.2.2.1, (hagree c).2.2.2.2.2.2])), (h c).2.2.1.trans ((Tail.referenceO m' c).trans (by rw [(hagree c).1, (hagree c).2.1, (hagree c).2.2.1, (hagree c).2.2.2.1, (hagree c).2.2.2.2.1, (hagree c).2.2.2.2.2.1, (hagree c).2.2.2.2.2.2])),
        (h c).2.2.2.1.trans ((Tail.referenceS m' c).trans (by rw [(hagree c).1, (hagree c).2.1, (hagree c).2.2.1, (hagree c).2.2.2.1, (hagree c).2.2.2.2.1, (hagree c).2.2.2.2.2.1, (hagree c).2.2.2.2.2.2])), (h c).2.2.2.2.1.trans ((Tail.referenceL m' c).trans (by rw [(hagree c).1, (hagree c).2.1, (hagree c).2.2.1, (hagree c).2.2.2.1, (hagree c).2.2.2.2.1, (hagree c).2.2.2.2.2.1, (hagree c).2.2.2.2.2.2])), (h c).2.2.2.2.2⟩)
      (Cert.Reference10Ideal.Value.run (F := Ideal) m' g')⟩

/-- The modulation's reference keeps its arguments and leaves no semaphore raised. -/
theorem reference_quiescent11 : Cert.quiescent_Reference11Ideal := fun m ρ _ =>
  (θ_run _ _ _).mono (fun r h => ⟨fun c => (h c).2, sem_eq_zero_of_no_sems (by decide) r.2⟩) (Cert.Reference11Ideal.Value.run (F := Ideal) m ρ)

/-- The kernel and the reference return the same modulation. -/
theorem algebraic11 : Cert.algebraic_Kernel11Ideal_Reference11Ideal := fun m g m' g' _ hagree =>
  ⟨_, (θ_run _ _ _).mono (fun r h c => ⟨(h c).1.trans (Modulate.kernel_eq _ _ _), (h c).2⟩) (Cert.Kernel11Ideal.Value.run (F := Ideal) m g),
    (θ_run _ _ _).mono (fun r h c => ⟨(h c).1.trans (by rw [(hagree c).1, (hagree c).2.1, (hagree c).2.2]; exact Modulate.reference_eq _ _ _), (h c).2⟩)
      (Cert.Reference11Ideal.Value.run (F := Ideal) m' g')⟩

/-- All the claims together: the facts of the programs, their frames, the preservations and the equalities over the reals. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Value.pre_facts, Value.pre_facts2,
  fun m ρ _ => Same.quiescent m ρ, fun m ρ _ => Cert.KernelIdeal.Launched.quiescent m ρ,
  fun m ρ _ => Cert.KernelIdeal.Launched.quiescent m ρ, reference_quiescent, fun m ρ _ => reference_quiescent m ρ trivial,
  fun m ρ _ => Cert.Kernel2.Gen.frame m ρ, fun m ρ _ => Cert.Kernel2Ideal.Gen.frame m ρ,
  fun m ρ _ => Cert.Kernel2Ideal.Gen.frame m ρ, reference_quiescent2, fun m ρ _ => reference_quiescent2 m ρ trivial,
  fun m ρ _ => Cert.Kernel3.Gen.frame m ρ, fun m ρ _ => Cert.Kernel3Ideal.Gen.frame m ρ, reference_quiescent3,
  fun m ρ _ => Cert.Kernel4.Gen.frame m ρ, fun m ρ _ => Cert.Kernel4Ideal.Gen.frame m ρ, reference_quiescent4,
  fun m ρ _ => Cert.Kernel5.Gen.frame m ρ, fun m ρ _ => Cert.Kernel5Ideal.Gen.frame m ρ, reference_quiescent5,
  fun m ρ _ => Cert.Kernel6.Gen.frame m ρ, fun m ρ _ => Cert.Kernel6Ideal.Gen.frame m ρ, reference_quiescent6,
  fun m ρ _ => Cert.Kernel7.Gen.frame m ρ, fun m ρ _ => Cert.Kernel7Ideal.Gen.frame m ρ, reference_quiescent7,
  fun m ρ _ => Cert.Kernel8.Gen.frame m ρ, fun m ρ _ => Cert.Kernel8Ideal.Gen.frame m ρ, reference_quiescent8,
  fun m ρ _ => Cert.Kernel9.Gen.frame m ρ, fun m ρ _ => Cert.Kernel9Ideal.Gen.frame m ρ, reference_quiescent9,
  fun m ρ _ => Cert.Kernel10.Gen.frame m ρ, fun m ρ _ => Cert.Kernel10Ideal.Gen.frame m ρ, reference_quiescent10,
  fun m ρ _ => Cert.Kernel11.Gen.frame m ρ, fun m ρ _ => Cert.Kernel11Ideal.Gen.frame m ρ, reference_quiescent11,
  IdealRules.named_const.statement _ _ _ _ _ rfl, algebraic,
  ⟨IdealRules.named_const.statement _ _ _ _ _ rfl, IdealRules.named_const.statement _ _ _ _ _ rfl⟩, algebraic2,
  trivial, algebraic3, trivial, algebraic4, trivial, algebraic5, trivial, algebraic6, trivial, algebraic7, trivial, algebraic8,
  trivial, algebraic9, trivial, algebraic10, trivial, algebraic11⟩

end Cert.Proof

end
